-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v100_0)) (v1 : (c : Dev Cert.KernelIdeal.nD) → Buf (Elt Ideal) ((c.tc : Thread Cert.KernelIdeal.nD Cert.KernelIdeal.τ).loc Cert.KernelIdeal.main_v100_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100_0) = v0 c
          ∧ r.2.mem ((c.tc : Thread Cert.KernelIdeal.nD Cert.KernelIdeal.τ).loc Cert.KernelIdeal.main_v100_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v22)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_v5) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S3x4096x1024 : Shape := ⟨3, ![3, 4096, 1024]⟩
abbrev S16 : Shape := ⟨1, ![16]⟩
abbrev S4096x1024 : Shape := ⟨2, ![4096, 1024]⟩
abbrev S_ : Shape := ⟨0, ![]⟩

class Facts : Prop where
  bcast_S_S3x4096x1024 : S_.BroadcastsInDim S3x4096x1024 (![] : Fin 0 → Fin S3x4096x1024.rank)
  reducesTo_S3x4096x1024_S_d0_1_2 : S3x4096x1024.ReducesTo [0, 1, 2] S_
  h_S_ : 0 < S_.numel
  bcast_S_S16 : S_.BroadcastsInDim S16 (![] : Fin 0 → Fin S16.rank)
  reducesTo_S16_S_d0 : S16.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S3x4096x1024 .f32) (main_arg1 : FVec F S16 .f32) (main_arg2 : FVec F S4096x1024 .f32) : IVec S_ 1 :=
  let main_v0 : FVec F S3x4096x1024 .f32 := Host.absf main_arg0
  let main_cst : FVec F S_ .f32 := constant S_ .f32 0x7F800000#32
  let main_v1 : FVec F S3x4096x1024 .f32 := broadcastInDim S3x4096x1024 ![] bcast_S_S3x4096x1024 main_cst
  let main_v2 : IVec S3x4096x1024 1 := cmpf .olt main_v0 main_v1
  let main_c : IVec S_ 1 := constantI S_ 1 1#1
  let main_v3 : IVec S_ 1 := (fun x v => Host.reduce IntOp.andi x v reducesTo_S3x4096x1024_S_d0_1_2 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_finite2.lean ====
abbrev S4096x1024 : Shape := ⟨2, ![4096, 1024]⟩
abbrev S1024x5632 : Shape := ⟨2, ![1024, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S4096x1024 .f32) (main_arg1 : FVec F S1024x5632 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  main_v8
-- ==== Pre_finite5.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x2816 .f32) (main_arg1 : FVec F S4096x2816 .f32) (main_arg2 : FVec F S2816x1024 .f32) (main_arg3 : FVec F S4096x1024 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S4096x2816 .f32 := Host.absf main_arg1
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Kernel.lean ====
abbrev S3x4096x1024 : Shape := ⟨3, ![3, 4096, 1024]⟩
abbrev S16 : Shape := ⟨1, ![16]⟩
abbrev S4096x1024 : Shape := ⟨2, ![4096, 1024]⟩
abbrev S16x1 : Shape := ⟨2, ![16, 1]⟩
abbrev S1x4096x1024 : Shape := ⟨3, ![1, 4096, 1024]⟩
abbrev S1x4096x16x1x64 : Shape := ⟨5, ![1, 4096, 16, 1, 64]⟩
abbrev S1x4096x16x64 : Shape := ⟨4, ![1, 4096, 16, 64]⟩
abbrev S1x32x128x16x1x64 : Shape := ⟨6, ![1, 32, 128, 16, 1, 64]⟩
abbrev S1x32x128x16x64 : Shape := ⟨5, ![1, 32, 128, 16, 64]⟩
abbrev S1x1x128x16x64 : Shape := ⟨5, ![1, 1, 128, 16, 64]⟩
abbrev S_ : Shape := ⟨0, ![]⟩
abbrev S1x31x128x16x64 : Shape := ⟨5, ![1, 31, 128, 16, 64]⟩
abbrev S1x32x256x16x64 : Shape := ⟨5, ![1, 32, 256, 16, 64]⟩
abbrev S1x32x16x256x128x1 : Shape := ⟨6, ![1, 32, 16, 256, 128, 1]⟩
abbrev S1x32x16x1x128x256 : Shape := ⟨6, ![1, 32, 16, 1, 128, 256]⟩
abbrev S128x256 : Shape := ⟨2, ![128, 256]⟩
abbrev S32x1x1 : Shape := ⟨3, ![32, 1, 1]⟩
abbrev S1x128x256 : Shape := ⟨3, ![1, 128, 256]⟩
abbrev S32x128x256 : Shape := ⟨3, ![32, 128, 256]⟩
abbrev S16x1x1x1 : Shape := ⟨4, ![16, 1, 1, 1]⟩
abbrev S1x1x128x256 : Shape := ⟨4, ![1, 1, 128, 256]⟩
abbrev S16x1x128x256 : Shape := ⟨4, ![16, 1, 128, 256]⟩
abbrev S1x32x1x1x128x256 : Shape := ⟨6, ![1, 32, 1, 1, 128, 256]⟩
abbrev S1x1x16x1x128x256 : Shape := ⟨6, ![1, 1, 16, 1, 128, 256]⟩
abbrev S1x32x16x1x128 : Shape := ⟨5, ![1, 32, 16, 1, 128]⟩
abbrev S1x32x16x1x128x1 : Shape := ⟨6, ![1, 32, 16, 1, 128, 1]⟩
abbrev S1x1x16x1x1x1 : Shape := ⟨6, ![1, 1, 16, 1, 1, 1]⟩
abbrev S1x32x16x64x1x128 : Shape := ⟨6, ![1, 32, 16, 64, 1, 128]⟩
abbrev S1x32x128x16x1 : Shape := ⟨5, ![1, 32, 128, 16, 1]⟩
abbrev S1x4096x16x1 : Shape := ⟨4, ![1, 4096, 16, 1]⟩
abbrev S4096x16 : Shape := ⟨2, ![4096, 16]⟩
abbrev S4096x8x2x1 : Shape := ⟨4, ![4096, 8, 2, 1]⟩
abbrev S4096x8x2x64 : Shape := ⟨4, ![4096, 8, 2, 64]⟩
abbrev S4096x8x128 : Shape := ⟨3, ![4096, 8, 128]⟩
abbrev S8x4096x128 : Shape := ⟨3, ![8, 4096, 128]⟩
abbrev S8x8x128 : Shape := ⟨3, ![8, 8, 128]⟩
abbrev S3x4096x128 : Shape := ⟨3, ![3, 4096, 128]⟩
abbrev S4096x128 : Shape := ⟨2, ![4096, 128]⟩
abbrev S1x4096x128 : Shape := ⟨3, ![1, 4096, 128]⟩
abbrev S1x8x128 : Shape := ⟨3, ![1, 8, 128]⟩
abbrev S128x128 : Shape := ⟨2, ![128, 128]⟩
abbrev S256x128 : Shape := ⟨2, ![256, 128]⟩
abbrev S256x1 : Shape := ⟨2, ![256, 1]⟩
abbrev S1 : Shape := ⟨1, ![1]⟩
abbrev S3x256x128 : Shape := ⟨3, ![3, 256, 128]⟩
abbrev S1x256x128 : Shape := ⟨3, ![1, 256, 128]⟩
abbrev S256x256 : Shape := ⟨2, ![256, 256]⟩
abbrev S1x128x128 : Shape := ⟨3, ![1, 128, 128]⟩
abbrev S128x1 : Shape := ⟨2, ![128, 1]⟩
abbrev S128 : Shape := ⟨1, ![128]⟩
abbrev S1x128 : Shape := ⟨2, ![1, 128]⟩
abbrev S8x128 : Shape := ⟨2, ![8, 128]⟩

abbrev nBuf : Space → Nat
  | .hbm => 125
  | .vmem => 16
  | .smem => 2
  | _ => 0

abbrev bufTy : (tb : Table) → Fin (tcTables nBuf tb) → BufTy
  | .hbm, ⟨0, _⟩ => ⟨S3x4096x1024, .f32⟩
  | .hbm, ⟨1, _⟩ => ⟨S16, .f32⟩
  | .hbm, ⟨2, _⟩ => ⟨S4096x1024, .f32⟩
  | .hbm, ⟨3, _⟩ => ⟨S16, .f32⟩
  | .hbm, ⟨4, _⟩ => ⟨S16, .f32⟩
  | .hbm, ⟨5, _⟩ => ⟨S16x1, .f32⟩
  | .hbm, ⟨6, _⟩ => ⟨S1x4096x1024, .f32⟩
  | .hbm, ⟨7, _⟩ => ⟨S4096x1024, .f32⟩
  | .hbm, ⟨8, _⟩ => ⟨S1x4096x16x1x64, .f32⟩
  | .hbm, ⟨9, _⟩ => ⟨S1x4096x1024, .f32⟩
  | .hbm, ⟨10, _⟩ => ⟨S4096x1024, .f32⟩
  | .hbm, ⟨11, _⟩ => ⟨S1x4096x16x64, .f32⟩
  | .hbm, ⟨12, _⟩ => ⟨S1x4096x1024, .f32⟩
  | .hbm, ⟨13, _⟩ => ⟨S4096x1024, .f32⟩
  | .hbm, ⟨14, _⟩ => ⟨S1x4096x16x64, .f32⟩
  | .hbm, ⟨15, _⟩ => ⟨S16x1, .f32⟩
  | .hbm, ⟨16, _⟩ => ⟨S1x32x128x16x1x64, .f32⟩
  | .hbm, ⟨17, _⟩ => ⟨S1x32x128x16x64, .f32⟩
  | .hbm, ⟨18, _⟩ => ⟨S1x1x128x16x64, .f32⟩
  | .hbm, ⟨19, _⟩ => ⟨S_, .f32⟩
  | .hbm, ⟨20, _⟩ => ⟨S1x1x128x16x64, .f32⟩
  | .hbm, ⟨21, _⟩ => ⟨S1x31x128x16x64, .f32⟩
  | .hbm, ⟨22, _⟩ => ⟨S1x32x128x16x64, .f32⟩
  | .hbm, ⟨23, _⟩ => ⟨S1x32x256x16x64, .f32⟩
  | .hbm, ⟨24, _⟩ => ⟨S1x32x128x16x64, .f32⟩
  | .hbm, ⟨25, _⟩ => ⟨S1x1x128x16x64, .f32⟩
  | .hbm, ⟨26, _⟩ => ⟨S_, .f32⟩
  | .hbm, ⟨27, _⟩ => ⟨S1x1x128x16x64, .f32⟩
  | .hbm, ⟨28, _⟩ => ⟨S1x31x128x16x64, .f32⟩
  | .hbm, ⟨29, _⟩ => ⟨S1x32x128x16x64, .f32⟩
  | .hbm, ⟨30, _⟩ => ⟨S1x32x256x16x64, .f32⟩
  | .hbm, ⟨31, _⟩ => ⟨S1x32x16x256x128x1, .f32⟩
  | .hbm, ⟨32, _⟩ => ⟨S1x32x16x1x128x256, .f32⟩
  | .hbm, ⟨33, _⟩ => ⟨S_, .f32⟩
  | .hbm, ⟨34, _⟩ => ⟨S1x32x16x1x128x256, .f32⟩
  | .hbm, ⟨35, _⟩ => ⟨S1x32x16x1x128x256, .f32⟩
  | .hbm, ⟨36, _⟩ => ⟨S128x256, .i32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i32⟩
  | .hbm, ⟨41, _⟩ => ⟨S128x256, .i32⟩
  | .hbm, ⟨42, _⟩ => ⟨S32x1x1, .i32⟩
  | .hbm, ⟨43, _⟩ => ⟨S_, .i32⟩
  | .hbm, ⟨44, _⟩ => ⟨S32x1x1, .i32⟩
  | .hbm, ⟨45, _⟩ => ⟨S32x1x1, .i32⟩
  | .hbm, ⟨46, _⟩ => ⟨S_, .i32⟩
  | .hbm, ⟨47, _⟩ => ⟨S32x1x1, .i32⟩
  | .hbm, ⟨48, _⟩ => ⟨S32x1x1, .i32⟩
  | .hbm, ⟨49, _⟩ => ⟨S1x128x256, .i32⟩
  | .hbm, ⟨50, _⟩ => ⟨S32x128x256, .i32⟩
  | .hbm, ⟨51, _⟩ => ⟨S32x128x256, .i32⟩
  | .hbm, ⟨52, _⟩ => ⟨S32x128x256, .i32⟩
  | .hbm, ⟨53, _⟩ => ⟨S_, .i32⟩
  | .hbm, ⟨54, _⟩ => ⟨S128x256, .i32⟩
  | .hbm, ⟨55, _⟩ => ⟨S128x256, .i1⟩
  | .hbm, ⟨56, _⟩ => ⟨S_, .i32⟩
  | .hbm, ⟨57, _⟩ => ⟨S128x256, .i32⟩
  | .hbm, ⟨58, _⟩ => ⟨S128x256, .i1⟩
  | .hbm, ⟨59, _⟩ => ⟨S128x256, .i1⟩
  | .hbm, ⟨60, _⟩ => ⟨S_, .i32⟩
  | .hbm, ⟨61, _⟩ => ⟨S32x128x256, .i32⟩
  | .hbm, ⟨62, _⟩ => ⟨S32x128x256, .i1⟩
  | .hbm, ⟨63, _⟩ => ⟨S1x128x256, .i1⟩
  | .hbm, ⟨64, _⟩ => ⟨S32x128x256, .i1⟩
  | .hbm, ⟨65, _⟩ => ⟨S32x128x256, .i1⟩
  | .hbm, ⟨66, _⟩ => ⟨S16x1x1x1, .f32⟩
  | .hbm, ⟨67, _⟩ => ⟨S_, .i32⟩
  | .hbm, ⟨68, _⟩ => ⟨S128x256, .i32⟩
  | .hbm, ⟨69, _⟩ => ⟨S128x256, .i32⟩
  | .hbm, ⟨70, _⟩ => ⟨S128x256, .f32⟩
  | .hbm, ⟨71, _⟩ => ⟨S1x1x128x256, .f32⟩
  | .hbm, ⟨72, _⟩ => ⟨S16x1x128x256, .f32⟩
  | .hbm, ⟨73, _⟩ => ⟨S16x1x128x256, .f32⟩
  | .hbm, ⟨74, _⟩ => ⟨S16x1x128x256, .f32⟩
  | .hbm, ⟨75, _⟩ => ⟨S16x1x128x256, .f32⟩
  | .hbm, ⟨76, _⟩ => ⟨S1x32x1x1x128x256, .i1⟩
  | .hbm, ⟨77, _⟩ => ⟨S1x1x16x1x128x256, .f32⟩
  | .hbm, ⟨78, _⟩ => ⟨S1x32x16x1x128x256, .f32⟩
  | .hbm, ⟨79, _⟩ => ⟨S1x32x16x1x128x256, .f32⟩
  | .hbm, ⟨80, _⟩ => ⟨S_, .f32⟩
  | .hbm, ⟨81, _⟩ => ⟨S_, .f32⟩
  | .hbm, ⟨82, _⟩ => ⟨S1x32x16x1x128x256, .i1⟩
  | .hbm, ⟨83, _⟩ => ⟨S1x32x16x1x128x256, .f32⟩
  | .hbm, ⟨84, _⟩ => ⟨S1x32x16x1x128x256, .f32⟩
  | .hbm, ⟨85, _⟩ => ⟨S_, .f32⟩
  | .hbm, ⟨86, _⟩ => ⟨S1x32x16x1x128, .f32⟩
  | .hbm, ⟨87, _⟩ => ⟨S1x32x16x1x128x1, .f32⟩
  | .hbm, ⟨88, _⟩ => ⟨S16x1x1x1, .f32⟩
  | .hbm, ⟨89, _⟩ => ⟨S1x1x16x1x1x1, .f32⟩
  | .hbm, ⟨90, _⟩ => ⟨S1x32x16x1x128x1, .f32⟩
  | .hbm, ⟨91, _⟩ => ⟨S1x32x16x1x128x1, .f32⟩
  | .hbm, ⟨92, _⟩ => ⟨S1x32x16x1x128x256, .f32⟩
  | .hbm, ⟨93, _⟩ => ⟨S1x32x16x1x128x256, .f32⟩
  | .hbm, ⟨94, _⟩ => ⟨S1x32x16x1x128x256, .f32⟩
  | .hbm, ⟨95, _⟩ => ⟨S_, .f32⟩
  | .hbm, ⟨96, _⟩ => ⟨S1x32x16x1x128, .f32⟩
  | .hbm, ⟨97, _⟩ => ⟨S1x32x16x1x128x1, .f32⟩
  | .hbm, ⟨98, _⟩ => ⟨S1x1x16x1x1x1, .f32⟩
  | .hbm, ⟨99, _⟩ => ⟨S1x32x16x1x128x1, .f32⟩
  | .hbm, ⟨100, _⟩ => ⟨S1x32x16x1x128x1, .f32⟩
  | .hbm, ⟨101, _⟩ => ⟨S1x32x16x1x128x1, .f32⟩
  | .hbm, ⟨102, _⟩ => ⟨S1x32x16x1x128x1, .f32⟩
  | .hbm, ⟨103, _⟩ => ⟨S1x32x16x1x128x256, .f32⟩
  | .hbm, ⟨104, _⟩ => ⟨S1x32x16x1x128x256, .f32⟩
  | .hbm, ⟨105, _⟩ => ⟨S1x32x16x64x1x128, .f32⟩
  | .hbm, ⟨106, _⟩ => ⟨S1x32x128x16x1x64, .f32⟩
  | .hbm, ⟨107, _⟩ => ⟨S1x32x16x1x128x1, .f32⟩
  | .hbm, ⟨108, _⟩ => ⟨S1x32x16x1x128x1, .f32⟩
  | .hbm, ⟨109, _⟩ => ⟨S1x32x16x1x128, .f32⟩
  | .hbm, ⟨110, _⟩ => ⟨S1x32x128x16x1, .f32⟩
  | .hbm, ⟨111, _⟩ => ⟨S1x4096x16x1x64, .f32⟩
  | .hbm, ⟨112, _⟩ => ⟨S1x4096x16x1, .f32⟩
  | .hbm, ⟨113, _⟩ => ⟨S4096x1024, .f32⟩
  | .hbm, ⟨114, _⟩ => ⟨S4096x16, .f32⟩
  | .hbm, ⟨115, _⟩ => ⟨S4096x8x2x1, .f32⟩
  | .hbm, ⟨116, _⟩ => ⟨S_, .i32⟩
  | .hbm, ⟨117, _⟩ => ⟨S_, .f32⟩
  | .hbm, ⟨118, _⟩ => ⟨S4096x8x2x64, .f32⟩
  | .hbm, ⟨119, _⟩ => ⟨S4096x8x128, .f32⟩
  | .hbm, ⟨120, _⟩ => ⟨S8x4096x128, .f32⟩
  | .hbm, ⟨121, _⟩ => ⟨S4096x1024, .bf16⟩
  | .hbm, ⟨122, _⟩ => ⟨S1x4096x1024, .bf16⟩
  | .hbm, ⟨123, _⟩ => ⟨S3x4096x1024, .bf16⟩
  | .hbm, ⟨124, _⟩ => ⟨S8x8x128, .f32⟩
  | .local _ .vmem, ⟨0, _⟩ => ⟨S3x4096x128, .f32⟩
  | .local _ .vmem, ⟨1, _⟩ => ⟨S3x4096x128, .f32⟩
  | .local _ .vmem, ⟨2, _⟩ => ⟨S4096x128, .f32⟩
  | .local _ .vmem, ⟨3, _⟩ => ⟨S4096x128, .f32⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .f32⟩
  | .local _ .vmem, ⟨7, _⟩ => ⟨S1x4096x128, .f32⟩
  | .local _ .vmem, ⟨8, _⟩ => ⟨S3x4096x128, .bf16⟩
  | .local _ .vmem, ⟨9, _⟩ => ⟨S3x4096x128, .bf16⟩
  | .local _ .vmem, ⟨10, _⟩ => ⟨S1x8x128, .f32⟩
  | .local _ .vmem, ⟨11, _⟩ => ⟨S1x8x128, .f32⟩
  | .local _ .vmem, ⟨12, _⟩ => ⟨S4096x128, .f32⟩
  | .local _ .vmem, ⟨13, _⟩ => ⟨S128x128, .f32⟩
  | .local _ .vmem, ⟨14, _⟩ => ⟨S1x4096x128, .f32⟩
  | .local _ .vmem, ⟨15, _⟩ => ⟨S3x4096x128, .f32⟩
  | .local _ .smem, ⟨0, _⟩ => ⟨S16, .f32⟩
  | .local _ .smem, ⟨1, _⟩ => ⟨S16, .f32⟩
  | _, _ => ⟨S3x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_4 : Ref sig .tc := ⟨.hbm, 43, rfl⟩
abbrev main_v34 : Ref sig .tc := ⟨.hbm, 44, rfl⟩
abbrev main_v35 : Ref sig .tc := ⟨.hbm, 45, rfl⟩
abbrev main_c_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_6 : Ref sig .tc := ⟨.hbm, 53, rfl⟩
abbrev main_v42 : Ref sig .tc := ⟨.hbm, 54, rfl⟩
abbrev main_v43 : Ref sig .tc := ⟨.hbm, 55, rfl⟩
abbrev main_c_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_10 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_v65 : Ref sig .tc := ⟨.hbm, 84, rfl⟩
abbrev main_cst_11 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_12 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_c_13 : Ref sig .tc := ⟨.hbm, 116, rfl⟩
abbrev main_call1_v0 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100_0 : Ref sig .tc := ⟨.hbm, 123, rfl⟩
abbrev main_v100_1 : Ref sig .tc := ⟨.hbm, 124, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def k0_off1 (i : grid0.Coords) : Fin 1 → Nat :=
  let c2_i32 : BitVec 32 := 2#32
  let arg0 : BitVec 32 := BitVec.ofNat 32 (i 0).val
  let v9 : BitVec 32 := Scalar.muli c2_i32 arg0
  let v10 : Index := Scalar.indexCast v9
  ![v10.toNat]
def k0_off2 (i : grid0.Coords) : Fin 1 → Nat :=
  let c2_i32_1 : BitVec 32 := 2#32
  let arg0 : BitVec 32 := BitVec.ofNat 32 (i 0).val
  let v12 : BitVec 32 := Scalar.muli c2_i32_1 arg0
  let c1_i32 : BitVec 32 := 1#32
  let v13 : BitVec 32 := Scalar.addi v12 c1_i32
  let v14 : Index := Scalar.indexCast v13
  ![v14.toNat]
@[reducible] def k0_t1_loop : Scf.Loop 32 :=
  let c0_i32 : BitVec 32 := 0#32
  let c16_i32 : BitVec 32 := 16#32
  let v19 : BitVec 32 := Scalar.addi c0_i32 c16_i32
  let c1_i32_2 : BitVec 32 := 1#32
  ⟨c0_i32, v19, c1_i32_2⟩
def k0_mult1 (k0_t1 : Fin k0_t1_loop.trips) : BitVec 32 :=
  let c0_i32 : BitVec 32 := 0#32
  let c1_i32_2 : BitVec 32 := 1#32
  let arg13 : BitVec 32 := Scf.iv c0_i32 c1_i32_2 k0_t1
  let c256_i32 : BitVec 32 := 256#32
  let v69 : BitVec 32 := Scalar.muli arg13 c256_i32
  v69
def k0_off3 (k0_t1 : Fin k0_t1_loop.trips) : Fin 2 → Nat :=
  let c0_i32 : BitVec 32 := 0#32
  let c1_i32_2 : BitVec 32 := 1#32
  let arg13 : BitVec 32 := Scf.iv c0_i32 c1_i32_2 k0_t1
  let c256_i32 : BitVec 32 := 256#32
  let v69 : BitVec 32 := Scalar.muli arg13 c256_i32
  let v70 : BitVec 32 := v69
  let v71 : Index := Scalar.indexCast v70
  let c0_29 : Index := 0#32
  ![v71.toNat, 0]
def k0_off4 (k0_t1 : Fin k0_t1_loop.trips) : Fin 3 → Nat :=
  let c0_31 : Index := 0#32
  let c0_i32 : BitVec 32 := 0#32
  let c1_i32_2 : BitVec 32 := 1#32
  let arg13 : BitVec 32 := Scf.iv c0_i32 c1_i32_2 k0_t1
  let c256_i32 : BitVec 32 := 256#32
  let v69 : BitVec 32 := Scalar.muli arg13 c256_i32
  let v70 : BitVec 32 := v69
  let v74 : Index := Scalar.indexCast v70
  let c0_32 : Index := 0#32
  ![0, v74.toNat, 0]
def k0_off5 (k0_t1 : Fin k0_t1_loop.trips) : Fin 3 → Nat :=
  let c0_33 : Index := 0#32
  let c0_i32 : BitVec 32 := 0#32
  let c1_i32_2 : BitVec 32 := 1#32
  let arg13 : BitVec 32 := Scf.iv c0_i32 c1_i32_2 k0_t1
  let c256_i32 : BitVec 32 := 256#32
  let v69 : BitVec 32 := Scalar.muli arg13 c256_i32
  let v70 : BitVec 32 := v69
  let v78 : Index := Scalar.indexCast v70
  let c0_34 : Index := 0#32
  ![0, v78.toNat, 0]
@[reducible] def k0_t2_loop : Scf.Loop 32 :=
  let c0_i32_16 : BitVec 32 := 0#32
  let c32_i32 : BitVec 32 := 32#32
  let v59 : BitVec 32 := Scalar.addi c0_i32_16 c32_i32
  let c1_i32_17 : BitVec 32 := 1#32
  ⟨c0_i32_16, v59, c1_i32_17⟩
def k0_mult2 (k0_t2 : Fin k0_t2_loop.trips) : BitVec 32 :=
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c128_i32_37 : BitVec 32 := 128#32
  let c32_i32_36 : BitVec 32 := 32#32
  let v86 : BitVec 32 := Scalar.muli v85 c32_i32_36
  let v87 : BitVec 32 := Scalar.subi arg13 v86
  let v88 : BitVec 32 := Scalar.muli c128_i32_37 v87
  let v89 : BitVec 32 := Scalar.addi v85 v88
  v89
def k0_off6 (k0_t2 : Fin k0_t2_loop.trips) : Fin 3 → Nat :=
  let c0_40 : Index := 0#32
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c128_i32_37 : BitVec 32 := 128#32
  let c32_i32_36 : BitVec 32 := 32#32
  let v86 : BitVec 32 := Scalar.muli v85 c32_i32_36
  let v87 : BitVec 32 := Scalar.subi arg13 v86
  let v88 : BitVec 32 := Scalar.muli c128_i32_37 v87
  let v89 : BitVec 32 := Scalar.addi v85 v88
  let v93 : BitVec 32 := v89
  let v94 : Index := Scalar.indexCast v93
  let c0_41 : Index := 0#32
  ![0, v94.toNat, 0]
def k0_mult3 (k0_t2 : Fin k0_t2_loop.trips) : BitVec 32 :=
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c32_i32_36 : BitVec 32 := 32#32
  let v86 : BitVec 32 := Scalar.muli v85 c32_i32_36
  let v87 : BitVec 32 := Scalar.subi arg13 v86
  let c0_i32_38 : BitVec 32 := 0#32
  let v90 : BitVec 1 := Scalar.cmpi .sgt v87 c0_i32_38
  let c128_i32_37 : BitVec 32 := 128#32
  let v88 : BitVec 32 := Scalar.muli c128_i32_37 v87
  let v89 : BitVec 32 := Scalar.addi v85 v88
  let c128_i32_39 : BitVec 32 := 128#32
  let v91 : BitVec 32 := Scalar.subi v89 c128_i32_39
  let v92 : BitVec 32 := Scalar.select v90 v91 v89
  v92
def k0_off7 (k0_t2 : Fin k0_t2_loop.trips) : Fin 3 → Nat :=
  let c1 : Index := 1#32
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c32_i32_36 : BitVec 32 := 32#32
  let v86 : BitVec 32 := Scalar.muli v85 c32_i32_36
  let v87 : BitVec 32 := Scalar.subi arg13 v86
  let c0_i32_38 : BitVec 32 := 0#32
  let v90 : BitVec 1 := Scalar.cmpi .sgt v87 c0_i32_38
  let c128_i32_37 : BitVec 32 := 128#32
  let v88 : BitVec 32 := Scalar.muli c128_i32_37 v87
  let v89 : BitVec 32 := Scalar.addi v85 v88
  let c128_i32_39 : BitVec 32 := 128#32
  let v91 : BitVec 32 := Scalar.subi v89 c128_i32_39
  let v92 : BitVec 32 := Scalar.select v90 v91 v89
  let v103 : BitVec 32 := v92
  let v104 : Index := Scalar.indexCast v103
  let c0_44 : Index := 0#32
  ![1, v104.toNat, 0]
def k0_mult4 (k0_t2 : Fin k0_t2_loop.trips) : BitVec 32 :=
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c128_i32_37 : BitVec 32 := 128#32
  let c32_i32_36 : BitVec 32 := 32#32
  let v86 : BitVec 32 := Scalar.muli v85 c32_i32_36
  let v87 : BitVec 32 := Scalar.subi arg13 v86
  let v88 : BitVec 32 := Scalar.muli c128_i32_37 v87
  let v89 : BitVec 32 := Scalar.addi v85 v88
  v89
def k0_off8 (k0_t2 : Fin k0_t2_loop.trips) : Fin 3 → Nat :=
  let c1_45 : Index := 1#32
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c128_i32_37 : BitVec 32 := 128#32
  let c32_i32_36 : BitVec 32 := 32#32
  let v86 : BitVec 32 := Scalar.muli v85 c32_i32_36
  let v87 : BitVec 32 := Scalar.subi arg13 v86
  let v88 : BitVec 32 := Scalar.muli c128_i32_37 v87
  let v89 : BitVec 32 := Scalar.addi v85 v88
  let v107 : BitVec 32 := v89
  let v108 : Index := Scalar.indexCast v107
  let c0_46 : Index := 0#32
  ![1, v108.toNat, 0]
def k0_mult5 (k0_t2 : Fin k0_t2_loop.trips) : BitVec 32 :=
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c32_i32_36 : BitVec 32 := 32#32
  let v86 : BitVec 32 := Scalar.muli v85 c32_i32_36
  let v87 : BitVec 32 := Scalar.subi arg13 v86
  let c0_i32_38 : BitVec 32 := 0#32
  let v90 : BitVec 1 := Scalar.cmpi .sgt v87 c0_i32_38
  let c128_i32_37 : BitVec 32 := 128#32
  let v88 : BitVec 32 := Scalar.muli c128_i32_37 v87
  let v89 : BitVec 32 := Scalar.addi v85 v88
  let c128_i32_39 : BitVec 32 := 128#32
  let v91 : BitVec 32 := Scalar.subi v89 c128_i32_39
  let v92 : BitVec 32 := Scalar.select v90 v91 v89
  v92
def k0_off9 (k0_t2 : Fin k0_t2_loop.trips) : Fin 3 → Nat :=
  let c2 : Index := 2#32
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c32_i32_36 : BitVec 32 := 32#32
  let v86 : BitVec 32 := Scalar.muli v85 c32_i32_36
  let v87 : BitVec 32 := Scalar.subi arg13 v86
  let c0_i32_38 : BitVec 32 := 0#32
  let v90 : BitVec 1 := Scalar.cmpi .sgt v87 c0_i32_38
  let c128_i32_37 : BitVec 32 := 128#32
  let v88 : BitVec 32 := Scalar.muli c128_i32_37 v87
  let v89 : BitVec 32 := Scalar.addi v85 v88
  let c128_i32_39 : BitVec 32 := 128#32
  let v91 : BitVec 32 := Scalar.subi v89 c128_i32_39
  let v92 : BitVec 32 := Scalar.select v90 v91 v89
  let v113 : BitVec 32 := v92
  let v114 : Index := Scalar.indexCast v113
  let c0_47 : Index := 0#32
  ![2, v114.toNat, 0]
def k0_mult6 (k0_t2 : Fin k0_t2_loop.trips) : BitVec 32 :=
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c128_i32_37 : BitVec 32 := 128#32
  let c32_i32_36 : BitVec 32 := 32#32
  let v86 : BitVec 32 := Scalar.muli v85 c32_i32_36
  let v87 : BitVec 32 := Scalar.subi arg13 v86
  let v88 : BitVec 32 := Scalar.muli c128_i32_37 v87
  let v89 : BitVec 32 := Scalar.addi v85 v88
  v89
def k0_off10 (k0_t2 : Fin k0_t2_loop.trips) : Fin 3 → Nat :=
  let c2_48 : Index := 2#32
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c128_i32_37 : BitVec 32 := 128#32
  let c32_i32_36 : BitVec 32 := 32#32
  let v86 : BitVec 32 := Scalar.muli v85 c32_i32_36
  let v87 : BitVec 32 := Scalar.subi arg13 v86
  let v88 : BitVec 32 := Scalar.muli c128_i32_37 v87
  let v89 : BitVec 32 := Scalar.addi v85 v88
  let v117 : BitVec 32 := v89
  let v118 : Index := Scalar.indexCast v117
  let c0_49 : Index := 0#32
  ![2, v118.toNat, 0]
def k0_mult7 (k0_t2 : Fin k0_t2_loop.trips) : BitVec 32 :=
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c128_i32_37 : BitVec 32 := 128#32
  let c32_i32_36 : BitVec 32 := 32#32
  let v86 : BitVec 32 := Scalar.muli v85 c32_i32_36
  let v87 : BitVec 32 := Scalar.subi arg13 v86
  let v88 : BitVec 32 := Scalar.muli c128_i32_37 v87
  let v89 : BitVec 32 := Scalar.addi v85 v88
  v89
def k0_off11 (k0_t2 : Fin k0_t2_loop.trips) : Fin 3 → Nat :=
  let c0_50 : Index := 0#32
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c128_i32_37 : BitVec 32 := 128#32
  let c32_i32_36 : BitVec 32 := 32#32
  let v86 : BitVec 32 := Scalar.muli v85 c32_i32_36
  let v87 : BitVec 32 := Scalar.subi arg13 v86
  let v88 : BitVec 32 := Scalar.muli c128_i32_37 v87
  let v89 : BitVec 32 := Scalar.addi v85 v88
  let v123 : BitVec 32 := v89
  let v124 : Index := Scalar.indexCast v123
  let c0_51 : Index := 0#32
  ![0, v124.toNat, 0]
def k0_mult8 (k0_t2 : Fin k0_t2_loop.trips) : BitVec 32 :=
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c128_i32_37 : BitVec 32 := 128#32
  let c32_i32_36 : BitVec 32 := 32#32
  let v86 : BitVec 32 := Scalar.muli v85 c32_i32_36
  let v87 : BitVec 32 := Scalar.subi arg13 v86
  let v88 : BitVec 32 := Scalar.muli c128_i32_37 v87
  let v89 : BitVec 32 := Scalar.addi v85 v88
  v89
def k0_off12 (k0_t2 : Fin k0_t2_loop.trips) : Fin 2 → Nat :=
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c128_i32_37 : BitVec 32 := 128#32
  let c32_i32_36 : BitVec 32 := 32#32
  let v86 : BitVec 32 := Scalar.muli v85 c32_i32_36
  let v87 : BitVec 32 := Scalar.subi arg13 v86
  let v88 : BitVec 32 := Scalar.muli c128_i32_37 v87
  let v89 : BitVec 32 := Scalar.addi v85 v88
  let v127 : BitVec 32 := v89
  let v128 : Index := Scalar.indexCast v127
  let c0_52 : Index := 0#32
  ![v128.toNat, 0]
def k0_mult9 (k0_t2 : Fin k0_t2_loop.trips) : BitVec 32 :=
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c128_i32_37 : BitVec 32 := 128#32
  let c32_i32_36 : BitVec 32 := 32#32
  let v86 : BitVec 32 := Scalar.muli v85 c32_i32_36
  let v87 : BitVec 32 := Scalar.subi arg13 v86
  let v88 : BitVec 32 := Scalar.muli c128_i32_37 v87
  let v89 : BitVec 32 := Scalar.addi v85 v88
  v89
def k0_mult10 (k0_t2 : Fin k0_t2_loop.trips) : BitVec 32 :=
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c128_i32_37 : BitVec 32 := 128#32
  let c32_i32_36 : BitVec 32 := 32#32
  let v86 : BitVec 32 := Scalar.muli v85 c32_i32_36
  let v87 : BitVec 32 := Scalar.subi arg13 v86
  let v88 : BitVec 32 := Scalar.muli c128_i32_37 v87
  let v89 : BitVec 32 := Scalar.addi v85 v88
  v89
def k0_mult11 (k0_t2 : Fin k0_t2_loop.trips) : BitVec 32 :=
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c128_i32_37 : BitVec 32 := 128#32
  let c32_i32_36 : BitVec 32 := 32#32
  let v86 : BitVec 32 := Scalar.muli v85 c32_i32_36
  let v87 : BitVec 32 := Scalar.subi arg13 v86
  let v88 : BitVec 32 := Scalar.muli c128_i32_37 v87
  let v89 : BitVec 32 := Scalar.addi v85 v88
  v89
def k0_mult12 (k0_t2 : Fin k0_t2_loop.trips) : BitVec 32 :=
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c32_i32_36 : BitVec 32 := 32#32
  let v86 : BitVec 32 := Scalar.muli v85 c32_i32_36
  let v87 : BitVec 32 := Scalar.subi arg13 v86
  let c0_i32_38 : BitVec 32 := 0#32
  let v90 : BitVec 1 := Scalar.cmpi .sgt v87 c0_i32_38
  let c128_i32_37 : BitVec 32 := 128#32
  let v88 : BitVec 32 := Scalar.muli c128_i32_37 v87
  let v89 : BitVec 32 := Scalar.addi v85 v88
  let c128_i32_39 : BitVec 32 := 128#32
  let v91 : BitVec 32 := Scalar.subi v89 c128_i32_39
  let v92 : BitVec 32 := Scalar.select v90 v91 v89
  v92
def k0_mult13 (k0_t2 : Fin k0_t2_loop.trips) : BitVec 32 :=
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c32_i32_36 : BitVec 32 := 32#32
  let v86 : BitVec 32 := Scalar.muli v85 c32_i32_36
  let v87 : BitVec 32 := Scalar.subi arg13 v86
  let c0_i32_38 : BitVec 32 := 0#32
  let v90 : BitVec 1 := Scalar.cmpi .sgt v87 c0_i32_38
  let c128_i32_37 : BitVec 32 := 128#32
  let v88 : BitVec 32 := Scalar.muli c128_i32_37 v87
  let v89 : BitVec 32 := Scalar.addi v85 v88
  let c128_i32_39 : BitVec 32 := 128#32
  let v91 : BitVec 32 := Scalar.subi v89 c128_i32_39
  let v92 : BitVec 32 := Scalar.select v90 v91 v89
  v92
def k0_mult14 (k0_t2 : Fin k0_t2_loop.trips) : BitVec 32 :=
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c128_i32_37 : BitVec 32 := 128#32
  let c32_i32_36 : BitVec 32 := 32#32
  let v86 : BitVec 32 := Scalar.muli v85 c32_i32_36
  let v87 : BitVec 32 := Scalar.subi arg13 v86
  let v88 : BitVec 32 := Scalar.muli c128_i32_37 v87
  let v89 : BitVec 32 := Scalar.addi v85 v88
  v89
def k0_mult15 (k0_t2 : Fin k0_t2_loop.trips) : BitVec 32 :=
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c128_i32_37 : BitVec 32 := 128#32
  let c32_i32_36 : BitVec 32 := 32#32
  let v86 : BitVec 32 := Scalar.muli v85 c32_i32_36
  let v87 : BitVec 32 := Scalar.subi arg13 v86
  let v88 : BitVec 32 := Scalar.muli c128_i32_37 v87
  let v89 : BitVec 32 := Scalar.addi v85 v88
  v89
def k0_mult16 (k0_t2 : Fin k0_t2_loop.trips) : BitVec 32 :=
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c32_i32_36 : BitVec 32 := 32#32
  let v86 : BitVec 32 := Scalar.muli v85 c32_i32_36
  let v87 : BitVec 32 := Scalar.subi arg13 v86
  let c0_i32_38 : BitVec 32 := 0#32
  let v90 : BitVec 1 := Scalar.cmpi .sgt v87 c0_i32_38
  let c128_i32_37 : BitVec 32 := 128#32
  let v88 : BitVec 32 := Scalar.muli c128_i32_37 v87
  let v89 : BitVec 32 := Scalar.addi v85 v88
  let c128_i32_39 : BitVec 32 := 128#32
  let v91 : BitVec 32 := Scalar.subi v89 c128_i32_39
  let v92 : BitVec 32 := Scalar.select v90 v91 v89
  v92
def k0_mult17 (k0_t2 : Fin k0_t2_loop.trips) : BitVec 32 :=
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c32_i32_36 : BitVec 32 := 32#32
  let v86 : BitVec 32 := Scalar.muli v85 c32_i32_36
  let v87 : BitVec 32 := Scalar.subi arg13 v86
  let c0_i32_38 : BitVec 32 := 0#32
  let v90 : BitVec 1 := Scalar.cmpi .sgt v87 c0_i32_38
  let c128_i32_37 : BitVec 32 := 128#32
  let v88 : BitVec 32 := Scalar.muli c128_i32_37 v87
  let v89 : BitVec 32 := Scalar.addi v85 v88
  let c128_i32_39 : BitVec 32 := 128#32
  let v91 : BitVec 32 := Scalar.subi v89 c128_i32_39
  let v92 : BitVec 32 := Scalar.select v90 v91 v89
  v92
def k0_mult18 (k0_t2 : Fin k0_t2_loop.trips) : BitVec 32 :=
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c128_i32_37 : BitVec 32 := 128#32
  let c32_i32_36 : BitVec 32 := 32#32
  let v86 : BitVec 32 := Scalar.muli v85 c32_i32_36
  let v87 : BitVec 32 := Scalar.subi arg13 v86
  let v88 : BitVec 32 := Scalar.muli c128_i32_37 v87
  let v89 : BitVec 32 := Scalar.addi v85 v88
  v89
def k0_mult19 (k0_t2 : Fin k0_t2_loop.trips) : BitVec 32 :=
  let c0_i32_16 : BitVec 32 := 0#32
  let c1_i32_17 : BitVec 32 := 1#32
  let arg13 : BitVec 32 := Scf.iv c0_i32_16 c1_i32_17 k0_t2
  let c0_i32_30 : BitVec 32 := 0#32
  let v70 : BitVec 1 := Scalar.cmpi .sgt arg13 c0_i32_30
  let v71 : BitVec 32 := Scalar.extui v70
  let c0_i32_31 : BitVec 32 := 0#32
  let v72 : BitVec 1 := Scalar.cmpi .slt arg13 c0_i32_31
  let v73 : BitVec 32 := Scalar.extui v72
  let v74 : BitVec 32 := Scalar.subi v71 v73
  let c32_i32_29 : BitVec 32 := 32#32
  let c0_i32_32 : BitVec 32 := 0#32
  let v75 : BitVec 1 := Scalar.cmpi .sgt c32_i32_29 c0_i32_32
  let v76 : BitVec 32 := Scalar.extui v75
  let c0_i32_33 : BitVec 32 := 0#32
  let v77 : BitVec 1 := Scalar.cmpi .slt c32_i32_29 c0_i32_33
  let v78 : BitVec 32 := Scalar.extui v77
  let v79 : BitVec 32 := Scalar.subi v76 v78
  let v80 : BitVec 1 := Scalar.cmpi .ne v74 v79
  let v81 : BitVec 32 := Scalar.remsi arg13 c32_i32_29
  let c0_i32_34 : BitVec 32 := 0#32
  let v82 : BitVec 1 := Scalar.cmpi .ne v81 c0_i32_34
  let v83 : BitVec 1 := Scalar.andi v80 v82
  let v69 : BitVec 32 := Scalar.divsi arg13 c32_i32_29
  let c1_i32_35 : BitVec 32 := 1#32
  let v84 : BitVec 32 := Scalar.subi v69 c1_i32_35
  let v85 : BitVec 32 := Scalar.select v83 v84 v69
  let c128_i32_37 : BitVec 32 := 128#32
  let c32_i32_36 : BitVec 32 := 32#32
  let v86 : BitVec 32 := Scalar.muli v85 c32_i32_36
  let v87 : BitVec 32 := Scalar.subi arg13 v86
  let v88 : BitVec 32 := Scalar.muli c128_i32_37 v87
  let v89 : BitVec 32 := Scalar.addi v85 v88
  v89
@[reducible] def k0_t3_loop : Scf.Loop 32 :=
  let c0_i32_25 : BitVec 32 := 0#32
  let c16_i32_26 : BitVec 32 := 16#32
  let v68 : BitVec 32 := Scalar.addi c0_i32_25 c16_i32_26
  let c1_i32_27 : BitVec 32 := 1#32
  ⟨c0_i32_25, v68, c1_i32_27⟩
def k0_mult20 (k0_t3 : Fin k0_t3_loop.trips) : BitVec 32 :=
  let c0_i32_25 : BitVec 32 := 0#32
  let c1_i32_27 : BitVec 32 := 1#32
  let arg13 : BitVec 32 := Scf.iv c0_i32_25 c1_i32_27 k0_t3
  let c256_i32 : BitVec 32 := 256#32
  let v69 : BitVec 32 := Scalar.muli arg13 c256_i32
  v69
def k0_off13 (k0_t3 : Fin k0_t3_loop.trips) : Fin 3 → Nat :=
  let c0_29 : Index := 0#32
  let c0_i32_25 : BitVec 32 := 0#32
  let c1_i32_27 : BitVec 32 := 1#32
  let arg13 : BitVec 32 := Scf.iv c0_i32_25 c1_i32_27 k0_t3
  let c256_i32 : BitVec 32 := 256#32
  let v69 : BitVec 32 := Scalar.muli arg13 c256_i32
  let v70 : BitVec 32 := v69
  let v71 : Index := Scalar.indexCast v70
  let c0_30 : Index := 0#32
  ![0, v71.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S3x4096x1024 : Shape := ⟨3, ![3, 4096, 1024]⟩
abbrev S16 : Shape := ⟨1, ![16]⟩
abbrev S4096x1024 : Shape := ⟨2, ![4096, 1024]⟩
abbrev S1x4096x1024 : Shape := ⟨3, ![1, 4096, 1024]⟩
abbrev S4096x16x64 : Shape := ⟨3, ![4096, 16, 64]⟩
abbrev S4096x4096 : Shape := ⟨2, ![4096, 4096]⟩
abbrev S16x4096x4096 : Shape := ⟨3, ![16, 4096, 4096]⟩
abbrev S_ : Shape := ⟨0, ![]⟩
abbrev S16x1x1 : Shape := ⟨3, ![16, 1, 1]⟩
abbrev S1x4096x4096 : Shape := ⟨3, ![1, 4096, 4096]⟩
abbrev S16x4096 : Shape := ⟨2, ![16, 4096]⟩
abbrev S16x4096x1 : Shape := ⟨3, ![16, 4096, 1]⟩
abbrev S16x64x4096 : Shape := ⟨3, ![16, 64, 4096]⟩
abbrev S16x1 : Shape := ⟨2, ![16, 1]⟩
abbrev S16x4096x64 : Shape := ⟨3, ![16, 4096, 64]⟩
abbrev S8x1x2x1 : Shape := ⟨4, ![8, 1, 2, 1]⟩
abbrev S8x8x2x64 : Shape := ⟨4, ![8, 8, 2, 64]⟩
abbrev S8x8x128 : Shape := ⟨3, ![8, 8, 128]⟩

abbrev nBuf : Space → Nat
  | .hbm => 111
  | .vmem => 0
  | .smem => 0
  | _ => 0

abbrev bufTy : (tb : Table) → Fin (tcTables nBuf tb) → BufTy
  | .hbm, ⟨0, _⟩ => ⟨S3x4096x1024, .f32⟩
  | .hbm, ⟨1, _⟩ => ⟨S16, .f32⟩
  | .hbm, ⟨2, _⟩ => ⟨S4096x1024, .f32⟩
  | .hbm, ⟨3, _⟩ => ⟨S16, .f32⟩
  | .hbm, ⟨4, _⟩ => ⟨S1x4096x1024, .f32⟩
  | .hbm, ⟨5, _⟩ => ⟨S4096x1024, .f32⟩
  | .hbm, ⟨6, _⟩ => ⟨S4096x16x64, .f32⟩
  | .hbm, ⟨7, _⟩ => ⟨S1x4096x1024, .f32⟩
  | .hbm, ⟨8, _⟩ => ⟨S4096x1024, .f32⟩
  | .hbm, ⟨9, _⟩ => ⟨S4096x16x64, .f32⟩
  | .hbm, ⟨10, _⟩ => ⟨S1x4096x1024, .f32⟩
  | .hbm, ⟨11, _⟩ => ⟨S4096x1024, .f32⟩
  | .hbm, ⟨12, _⟩ => ⟨S4096x16x64, .f32⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S16x4096x4096, .f32⟩
  | .hbm, ⟨17, _⟩ => ⟨S_, .f32⟩
  | .hbm, ⟨18, _⟩ => ⟨S16x4096x4096, .f32⟩
  | .hbm, ⟨19, _⟩ => ⟨S16x4096x4096, .f32⟩
  | .hbm, ⟨20, _⟩ => ⟨S16x1x1, .f32⟩
  | .hbm, ⟨21, _⟩ => ⟨S4096x4096, .f32⟩
  | .hbm, ⟨22, _⟩ => ⟨S1x4096x4096, .f32⟩
  | .hbm, ⟨23, _⟩ => ⟨S16x4096x4096, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S_, .i32⟩
  | .hbm, ⟨28, _⟩ => ⟨S4096x4096, .i32⟩
  | .hbm, ⟨29, _⟩ => ⟨S4096x4096, .i1⟩
  | .hbm, ⟨30, _⟩ => ⟨S_, .i32⟩
  | .hbm, ⟨31, _⟩ => ⟨S4096x4096, .i32⟩
  | .hbm, ⟨32, _⟩ => ⟨S4096x4096, .i1⟩
  | .hbm, ⟨33, _⟩ => ⟨S4096x4096, .i1⟩
  | .hbm, ⟨34, _⟩ => ⟨S_, .f32⟩
  | .hbm, ⟨35, _⟩ => ⟨S_, .f32⟩
  | .hbm, ⟨36, _⟩ => ⟨S16x4096x4096, .i1⟩
  | .hbm, ⟨37, _⟩ => ⟨S16x4096x4096, .f32⟩
  | .hbm, ⟨38, _⟩ => ⟨S16x4096x4096, .f32⟩
  | .hbm, ⟨39, _⟩ => ⟨S_, .f32⟩
  | .hbm, ⟨40, _⟩ => ⟨S16x4096x4096, .f32⟩
  | .hbm, ⟨41, _⟩ => ⟨S16x4096x4096, .f32⟩
  | .hbm, ⟨42, _⟩ => ⟨S_, .f32⟩
  | .hbm, ⟨43, _⟩ => ⟨S16x4096, .f32⟩
  | .hbm, ⟨44, _⟩ => ⟨S16x4096x1, .f32⟩
  | .hbm, ⟨45, _⟩ => ⟨S16, .f32⟩
  | .hbm, ⟨46, _⟩ => ⟨S16x1x1, .f32⟩
  | .hbm, ⟨47, _⟩ => ⟨S16x4096x1, .f32⟩
  | .hbm, ⟨48, _⟩ => ⟨S16x4096x1, .f32⟩
  | .hbm, ⟨49, _⟩ => ⟨S16x4096x4096, .f32⟩
  | .hbm, ⟨50, _⟩ => ⟨S16x4096x4096, .f32⟩
  | .hbm, ⟨51, _⟩ => ⟨S16x4096x1, .f32⟩
  | .hbm, ⟨52, _⟩ => ⟨S_, .f32⟩
  | .hbm, ⟨53, _⟩ => ⟨S16x4096x1, .f32⟩
  | .hbm, ⟨54, _⟩ => ⟨S16x4096x1, .f32⟩
  | .hbm, ⟨55, _⟩ => ⟨S16x64x4096, .f32⟩
  | .hbm, ⟨56, _⟩ => ⟨S4096x16x64, .f32⟩
  | .hbm, ⟨57, _⟩ => ⟨S4096x1024, .f32⟩
  | .hbm, ⟨58, _⟩ => ⟨S4096x16x64, .f32⟩
  | .hbm, ⟨59, _⟩ => ⟨S16x64x4096, .f32⟩
  | .hbm, ⟨60, _⟩ => ⟨S16x4096x4096, .f32⟩
  | .hbm, ⟨61, _⟩ => ⟨S16x64x4096, .f32⟩
  | .hbm, ⟨62, _⟩ => ⟨S4096x16x64, .f32⟩
  | .hbm, ⟨63, _⟩ => ⟨S16x4096x4096, .f32⟩
  | .hbm, ⟨64, _⟩ => ⟨S16x4096x4096, .f32⟩
  | .hbm, ⟨65, _⟩ => ⟨S16x4096x4096, .f32⟩
  | .hbm, ⟨66, _⟩ => ⟨S_, .f32⟩
  | .hbm, ⟨67, _⟩ => ⟨S16x4096, .f32⟩
  | .hbm, ⟨68, _⟩ => ⟨S16x4096x1, .f32⟩
  | .hbm, ⟨69, _⟩ => ⟨S16x4096x1, .f32⟩
  | .hbm, ⟨70, _⟩ => ⟨S16x4096x4096, .f32⟩
  | .hbm, ⟨71, _⟩ => ⟨S16x4096x4096, .f32⟩
  | .hbm, ⟨72, _⟩ => ⟨S_, .f32⟩
  | .hbm, ⟨73, _⟩ => ⟨S16x1, .f32⟩
  | .hbm, ⟨74, _⟩ => ⟨S16x1x1, .f32⟩
  | .hbm, ⟨75, _⟩ => ⟨S_, .f32⟩
  | .hbm, ⟨76, _⟩ => ⟨S16, .f32⟩
  | .hbm, ⟨77, _⟩ => ⟨S16, .f32⟩
  | .hbm, ⟨78, _⟩ => ⟨S_, .f32⟩
  | .hbm, ⟨79, _⟩ => ⟨S16x4096, .f32⟩
  | .hbm, ⟨80, _⟩ => ⟨S16x4096x4096, .f32⟩
  | .hbm, ⟨81, _⟩ => ⟨S16x4096x4096, .f32⟩
  | .hbm, ⟨82, _⟩ => ⟨S16x4096x4096, .f32⟩
  | .hbm, ⟨83, _⟩ => ⟨S_, .f32⟩
  | .hbm, ⟨84, _⟩ => ⟨S16x4096x4096, .f32⟩
  | .hbm, ⟨85, _⟩ => ⟨S16x4096x4096, .f32⟩
  | .hbm, ⟨86, _⟩ => ⟨S_, .f32⟩
  | .hbm, ⟨87, _⟩ => ⟨S16x4096x4096, .f32⟩
  | .hbm, ⟨88, _⟩ => ⟨S16x4096x4096, .f32⟩
  | .hbm, ⟨89, _⟩ => ⟨S16x4096x64, .f32⟩
  | .hbm, ⟨90, _⟩ => ⟨S4096x16x64, .f32⟩
  | .hbm, ⟨91, _⟩ => ⟨S16x4096x64, .f32⟩
  | .hbm, ⟨92, _⟩ => ⟨S4096x16x64, .f32⟩
  | .hbm, ⟨93, _⟩ => ⟨S4096x1024, .f32⟩
  | .hbm, ⟨94, _⟩ => ⟨S1x4096x1024, .f32⟩
  | .hbm, ⟨95, _⟩ => ⟨S_, .f32⟩
  | .hbm, ⟨96, _⟩ => ⟨S3x4096x1024, .f32⟩
  | .hbm, ⟨97, _⟩ => ⟨S4096x1024, .f32⟩
  | .hbm, ⟨98, _⟩ => ⟨S1x4096x1024, .f32⟩
  | .hbm, ⟨99, _⟩ => ⟨S_, .f32⟩
  | .hbm, ⟨100, _⟩ => ⟨S3x4096x1024, .f32⟩
  | .hbm, ⟨101, _⟩ => ⟨S3x4096x1024, .f32⟩
  | .hbm, ⟨102, _⟩ => ⟨S4096x1024, .f32⟩
  | .hbm, ⟨103, _⟩ => ⟨S1x4096x1024, .f32⟩
  | .hbm, ⟨104, _⟩ => ⟨S_, .f32⟩
  | .hbm, ⟨105, _⟩ => ⟨S3x4096x1024, .f32⟩
  | .hbm, ⟨106, _⟩ => ⟨S3x4096x1024, .f32⟩
  | .hbm, ⟨107, _⟩ => ⟨S8x1x2x1, .f32⟩
  | .hbm, ⟨108, _⟩ => ⟨S8x8x2x64, .f32⟩
  | .hbm, ⟨109, _⟩ => ⟨S3x4096x1024, .bf16⟩
  | .hbm, ⟨110, _⟩ => ⟨S8x8x128, .f32⟩
  | _, _ => ⟨S3x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c : Ref sig .tc := ⟨.hbm, 27, rfl⟩
abbrev main_v22 : Ref sig .tc := ⟨.hbm, 28, rfl⟩
abbrev main_v23 : Ref sig .tc := ⟨.hbm, 29, rfl⟩
abbrev main_c_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_call0_v0 : Ref sig .tc := ⟨.hbm, 35, rfl⟩
abbrev main_v27_1 : Ref sig .tc := ⟨.hbm, 36, rfl⟩
abbrev main_call0_v2 : Ref sig .tc := ⟨.hbm, 37, rfl⟩
abbrev main_v27_0 : Ref sig .tc := ⟨.hbm, 38, rfl⟩
abbrev main_call0_cst : Ref sig .tc := ⟨.hbm, 39, rfl⟩
abbrev main_v27_2 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_5 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_call1_cst : Ref sig .tc := ⟨.hbm, 83, rfl⟩
abbrev main_call1_v0 : Ref sig .tc := ⟨.hbm, 84, rfl⟩
abbrev main_v64 : Ref sig .tc := ⟨.hbm, 85, rfl⟩
abbrev main_cst_9 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_10 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_12 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩

abbrev nD : Nat := 1
abbrev τ : Topo := Topo.v7x

variable {F : FTy → Type} [FloatOps F]
-- ==== Kernel2.lean ====
abbrev S4096x1024 : Shape := ⟨2, ![4096, 1024]⟩
abbrev S1024x5632 : Shape := ⟨2, ![1024, 5632]⟩
abbrev S1024x1408 : Shape := ⟨2, ![1024, 1408]⟩
abbrev S4096x5632 : Shape := ⟨2, ![4096, 5632]⟩
abbrev S4096x2816 : Shape := ⟨2, ![4096, 2816]⟩
abbrev S512x1024 : Shape := ⟨2, ![512, 1024]⟩
abbrev S1024x2816 : Shape := ⟨2, ![1024, 2816]⟩
abbrev S512x2816 : Shape := ⟨2, ![512, 2816]⟩
abbrev S512x1408 : Shape := ⟨2, ![512, 1408]⟩

abbrev nBuf : Space → Nat
  | .hbm => 10
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S1024x5632, .bf16⟩
  | .hbm, ⟨3, _⟩ => ⟨S1024x1408, .bf16⟩
  | .hbm, ⟨4, _⟩ => ⟨S1024x1408, .bf16⟩
  | .hbm, ⟨5, _⟩ => ⟨S1024x1408, .bf16⟩
  | .hbm, ⟨6, _⟩ => ⟨S1024x1408, .bf16⟩
  | .hbm, ⟨7, _⟩ => ⟨S1024x5632, .bf16⟩
  | .hbm, ⟨8, _⟩ => ⟨S4096x5632, .bf16⟩
  | .hbm, ⟨9, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S512x2816, .bf16⟩
  | .local _ .vmem, ⟨5, _⟩ => ⟨S512x2816, .bf16⟩
  | .local _ .vmem, ⟨6, _⟩ => ⟨S512x1408, .bf16⟩
  | .local _ .vmem, ⟨7, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩
abbrev S4096x1408 : Shape := ⟨2, ![4096, 1408]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S4096x1408, .f32⟩
  | .hbm, ⟨31, _⟩ => ⟨S4096x5632, .f32⟩
  | .hbm, ⟨32, _⟩ => ⟨S4096x5632, .bf16⟩
  | .hbm, ⟨33, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x5632, .bf16⟩
  | .hbm, ⟨3, _⟩ => ⟨S1024x5632, .bf16⟩
  | .local _ .vmem, ⟨0, _⟩ => ⟨S2048x1024, .f32⟩
  | .local _ .vmem, ⟨1, _⟩ => ⟨S2048x1024, .f32⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x5632 : Shape := ⟨2, ![4096, 5632]⟩
abbrev S1024x5632 : Shape := ⟨2, ![1024, 5632]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S1024x5632, .f32⟩
  | .hbm, ⟨3, _⟩ => ⟨S1024x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2816 : Shape := ⟨2, ![4096, 2816]⟩
abbrev S4096x1024 : Shape := ⟨2, ![4096, 1024]⟩
abbrev S2816x1024 : Shape := ⟨2, ![2816, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S2816x1024, .f32⟩
  | .hbm, ⟨3, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096x1408 : Shape := ⟨2, ![4096, 1408]⟩
abbrev S4096x5632 : Shape := ⟨2, ![4096, 5632]⟩
abbrev S512x1024 : Shape := ⟨2, ![512, 1024]⟩
abbrev S1408x1024 : Shape := ⟨2, ![1408, 1024]⟩
abbrev S512x2816 : Shape := ⟨2, ![512, 2816]⟩
abbrev S512x1408 : Shape := ⟨2, ![512, 1408]⟩

abbrev nBuf : Space → Nat
  | .hbm => 31
  | .vmem => 8
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1408, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S4096x5632, .f32⟩
  | .hbm, ⟨27, _⟩ => ⟨S4096x5632, .bf16⟩
  | .hbm, ⟨28, _⟩ => ⟨S4096x1024, .bf16⟩
  | .hbm, ⟨29, _⟩ => ⟨S2816x1024, .bf16⟩
  | .hbm, ⟨30, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096x1408 : Shape := ⟨2, ![4096, 1408]⟩
abbrev S4096x5632 : Shape := ⟨2, ![4096, 5632]⟩

abbrev nBuf : Space → Nat
  | .hbm => 32
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x1408, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S4096x5632, .f32⟩
  | .hbm, ⟨31, _⟩ => ⟨S4096x5632, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel6.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x2816, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel7.lean ====
abbrev S4096x5632 : Shape := ⟨2, ![4096, 5632]⟩
abbrev S1024x5632 : Shape := ⟨2, ![1024, 5632]⟩
abbrev S4096x1024 : Shape := ⟨2, ![4096, 1024]⟩
abbrev S512x5632 : Shape := ⟨2, ![512, 5632]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S4096x5632, .bf16⟩
  | .hbm, ⟨4, _⟩ => ⟨S1024x5632, .bf16⟩
  | .hbm, ⟨5, _⟩ => ⟨S4096x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x5632 : Shape := ⟨2, ![4096, 5632]⟩
abbrev S1024x5632 : Shape := ⟨2, ![1024, 5632]⟩
abbrev S4096x1024 : Shape := ⟨2, ![4096, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x5632, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Blocks.lean ====
module

public import proofs.«01_k».proof.Proof.Gen.KernelIdeal.Skeleton
public import Idealize.ShloMosaic.Lib.ValueIdxCore
public import Idealize.ShloMosaic.Lib.WholeRead
public import Idealize.ShloMosaic.Lib.Writes

/-!
# Blocks of rows

The kernel reads and writes its buffers in blocks of 128 or 256 rows. This file names the block a load reads and the
buffer a store leaves, as plain functions of the index, and says that a whole memref held at known entries is read and
written accordingly.
-/

@[expose] public section

noncomputable section

namespace Cert.Blocks

open Idealize.ShloMosaic Idealize.ShloMosaic.ValueIdx

variable {α : Type}

/-- Rows `r b, …, r b + r - 1` of plane `p`. -/
def row3 {P N r : ℕ} (X : (⟨3, ![P, N, 128]⟩ : Shape).Idx → α) (p : Fin P) (b : ℕ) (hb : r * b + r ≤ N) :
    (⟨3, ![1, r, 128]⟩ : Shape).Idx → α :=
  fun j => X (ix3 p ⟨r * b + (j 1).val, by have : (j 1).val < r := (j 1).isLt; omega⟩ (j 2))

/-- `X` with rows `r b, …, r b + r - 1` of plane `p` replaced by `v`. -/
def put3 {P N r : ℕ} (hr : 0 < r) (X : (⟨3, ![P, N, 128]⟩ : Shape).Idx → α) (p : Fin P) (b : ℕ) (v : (⟨3, ![1, r, 128]⟩ : Shape).Idx → α) :
    (⟨3, ![P, N, 128]⟩ : Shape).Idx → α :=
  fun y => if (y 0).val = p.val ∧ (y 1).val / r = b then v (ix3 0 ⟨(y 1).val % r, Nat.mod_lt _ hr⟩ (y 2)) else X y

/-- Rows `r b, …, r b + r - 1` of a matrix. -/
def row2 {N r : ℕ} (X : (⟨2, ![N, 128]⟩ : Shape).Idx → α) (b : ℕ) (hb : r * b + r ≤ N) : (⟨2, ![r, 128]⟩ : Shape).Idx → α :=
  fun j => X (ix2 ⟨r * b + (j 0).val, by have : (j 0).val < r := (j 0).isLt; omega⟩ (j 1))

/-- Rows `r b, …, r b + r - 1` of every plane. -/
def rowsP {P N r : ℕ} (X : (⟨3, ![P, N, 128]⟩ : Shape).Idx → α) (b : ℕ) (hb : r * b + r ≤ N) :
    (⟨3, ![P, r, 128]⟩ : Shape).Idx → α :=
  fun j => X (ix3 (j 0) ⟨r * b + (j 1).val, by have : (j 1).val < r := (j 1).isLt; omega⟩ (j 2))

section Mem

variable {sig : RefSig} {Val : EltTy → Type} {κ : Kind} {sp : Space} {e : EltTy} {P N r : ℕ}

/-- A load of rows `r b, …` of plane `p`. -/
theorem readAt_row3 (m : Memref sig κ sp ⟨3, ![P, N, 128]⟩ e) (h : m.IsWhole) (X : (⟨3, ![P, N, 128]⟩ : Shape).Idx → Val e)
    (off : Fin 3 → ℕ) (p : Fin P) (b : ℕ) (eo : off = ![p.val, r * b, 0]) (hb : r * b + r ≤ N)
    (hin : ∀ a, off a + (⟨3, ![1, r, 128]⟩ : Shape).size a ≤ (⟨3, ![P, N, 128]⟩ : Shape).size a) :
    m.view.readAt Val (Rect.unit (s := ⟨3, ![P, N, 128]⟩) off (⟨3, ![1, r, 128]⟩ : Shape).size hin).toLoadRect (h.unread X)
      = row3 X p b hb := by
  subst eo
  funext j
  rw [Memref.IsWhole.readAt_unread]
  unfold row3
  congr 1
  funext a
  match a with
  | ⟨0, _⟩ =>
    apply Fin.ext
    have : (j 0).val < 1 := (j 0).isLt
    show p.val + 1 * (j 0).val = p.val
    omega
  | ⟨1, _⟩ => exact Fin.ext (by show r * b + 1 * (j 1).val = _; rw [Nat.one_mul])
  | ⟨2, _⟩ => exact Fin.ext (by show 0 + 1 * (j 2).val = (j 2).val; omega)

/-- A load of rows `r b, …` of a matrix. -/
theorem readAt_row2 (m : Memref sig κ sp ⟨2, ![N, 128]⟩ e) (h : m.IsWhole) (X : (⟨2, ![N, 128]⟩ : Shape).Idx → Val e)
    (off : Fin 2 → ℕ) (b : ℕ) (eo : off = ![r * b, 0]) (hb : r * b + r ≤ N)
    (hin : ∀ a, off a + (⟨2, ![r, 128]⟩ : Shape).size a ≤ (⟨2, ![N, 128]⟩ : Shape).size a) :
    m.view.readAt Val (Rect.unit (s := ⟨2, ![N, 128]⟩) off (⟨2, ![r, 128]⟩ : Shape).size hin).toLoadRect (h.unread X)
      = row2 X b hb := by
  subst eo
  funext j
  rw [Memref.IsWhole.readAt_unread]
  unfold row2
  congr 1
  funext a
  match a with
  | ⟨0, _⟩ => exact Fin.ext (by show r * b + 1 * (j 0).val = _; rw [Nat.one_mul])
  | ⟨1, _⟩ => exact Fin.ext (by show 0 + 1 * (j 1).val = (j 1).val; omega)

/-- A whole memref's contents are told by what it reads. -/
theorem eq_unread {s : Shape} (m : Memref sig κ sp s e) (h : m.IsWhole) (f : m.view.ty.Contents Val) (X : s.Idx → Val e)
    (hx : ∀ y, m.view.read Val f y = X y) : f = h.unread X := h.eq_unread (funext hx)

/-- A store of rows `r b, …` of plane `p`. -/
theorem writes_row3 (hr : 0 < r) (m : Memref sig κ sp ⟨3, ![P, N, 128]⟩ e) (h : m.IsWhole) (X : (⟨3, ![P, N, 128]⟩ : Shape).Idx → Val e)
    (off : Fin 3 → ℕ) (p : Fin P) (b : ℕ) (eo : off = ![p.val, r * b, 0])
    (hin : ∀ a, off a + (⟨3, ![1, r, 128]⟩ : Shape).size a ≤ (⟨3, ![P, N, 128]⟩ : Shape).size a)
    (v : (⟨3, ![1, r, 128]⟩ : Shape).Idx → Val e) :
    m.view.writes Val (h.unread X) [⟨Rect.unit (s := ⟨3, ![P, N, 128]⟩) off (⟨3, ![1, r, 128]⟩ : Shape).size hin, v⟩]
      = h.unread (put3 hr X p b v) := by
  subst eo
  apply eq_unread
  intro y
  by_cases hy : (y 0).val = p.val ∧ (y 1).val / r = b
  · rw [View.read_writes_cons_hit_of_coords m.view (h.unread X) (Rect.unit (s := ⟨3, ![P, N, 128]⟩) _ (⟨3, ![1, r, 128]⟩ : Shape).size hin) v [] (ix3 0 ⟨(y 1).val % r, Nat.mod_lt _ hr⟩ (y 2)) y]
    · unfold put3; rw [if_pos hy]
    · intro a
      match a with
      | ⟨0, _⟩ => show (y 0).val = p.val + 1 * 0; omega
      | ⟨1, _⟩ =>
        show (y 1).val = r * b + 1 * ((y 1).val % r)
        have := Nat.div_add_mod (y 1).val r
        rw [hy.2] at this; omega
      | ⟨2, _⟩ => show (y 2).val = 0 + 1 * (y 2).val; omega
  · rw [put3, if_neg hy]
    by_cases h0 : (y 0).val = p.val
    · rw [View.read_writes_cons_miss_of_axis m.view (h.unread X) _ [] y 1 (r * b) r rfl rfl rfl ?_]
      · exact congrFun (h.read_unread X) y
      · have h1 : (y 1).val / r ≠ b := fun h => hy ⟨h0, h⟩
        by_contra hc
        push Not at hc
        apply h1
        rw [Nat.div_eq_iff hr]
        constructor
        · rw [Nat.mul_comm]; exact hc.1
        · have := hc.2; rw [Nat.mul_comm]; omega
    · rw [View.read_writes_cons_miss_of_axis m.view (h.unread X) _ [] y 0 p.val 1 rfl rfl rfl ?_]
      · exact congrFun (h.read_unread X) y
      · omega

/-- A store over the whole of a matrix. -/
theorem writes_all2 {A B : ℕ} (m : Memref sig κ sp ⟨2, ![A, B]⟩ e) (h : m.IsWhole) (f : m.view.ty.Contents Val)
    (hin : ∀ a, (![0, 0] : Fin 2 → ℕ) a + (⟨2, ![A, B]⟩ : Shape).size a ≤ (⟨2, ![A, B]⟩ : Shape).size a)
    (v : (⟨2, ![A, B]⟩ : Shape).Idx → Val e) (L : List (View.Piece Val ⟨2, ![A, B]⟩ e)) :
    m.view.writes Val f (⟨Rect.unit (s := ⟨2, ![A, B]⟩) ![0, 0] (⟨2, ![A, B]⟩ : Shape).size hin, v⟩ :: L) = h.unread v := by
  apply eq_unread
  intro y
  refine View.read_writes_cons_hit_of_coords m.view f (Rect.unit (s := ⟨2, ![A, B]⟩) ![0, 0] (⟨2, ![A, B]⟩ : Shape).size hin) v L y y ?_
  intro a
  match a with
  | ⟨0, _⟩ => show (y 0).val = 0 + 1 * (y 0).val; omega
  | ⟨1, _⟩ => show (y 1).val = 0 + 1 * (y 1).val; omega

/-- A store over the whole of an array of three axes. -/
theorem writes_all3 {A B C : ℕ} (m : Memref sig κ sp ⟨3, ![A, B, C]⟩ e) (h : m.IsWhole) (f : m.view.ty.Contents Val)
    (hin : ∀ a, (![0, 0, 0] : Fin 3 → ℕ) a + (⟨3, ![A, B, C]⟩ : Shape).size a ≤ (⟨3, ![A, B, C]⟩ : Shape).size a)
    (v : (⟨3, ![A, B, C]⟩ : Shape).Idx → Val e) (L : List (View.Piece Val ⟨3, ![A, B, C]⟩ e)) :
    m.view.writes Val f (⟨Rect.unit (s := ⟨3, ![A, B, C]⟩) ![0, 0, 0] (⟨3, ![A, B, C]⟩ : Shape).size hin, v⟩ :: L) = h.unread v := by
  apply eq_unread
  intro y
  refine View.read_writes_cons_hit_of_coords m.view f (Rect.unit (s := ⟨3, ![A, B, C]⟩) ![0, 0, 0] (⟨3, ![A, B, C]⟩ : Shape).size hin) v L y y ?_
  intro a
  match a with
  | ⟨0, _⟩ => show (y 0).val = 0 + 1 * (y 0).val; omega
  | ⟨1, _⟩ => show (y 1).val = 0 + 1 * (y 1).val; omega
  | ⟨2, _⟩ => show (y 2).val = 0 + 1 * (y 2).val; omega

/-- A load of one entry of a vector. -/
theorem readAt_one {A : ℕ} (m : Memref sig κ sp ⟨1, ![A]⟩ e) (h : m.IsWhole) (X : (⟨1, ![A]⟩ : Shape).Idx → Val e)
    (off : Fin 1 → ℕ) (k : ℕ) (eo : off 0 = k) (hk : k < A)
    (hin : ∀ a, off a + (⟨1, ![1]⟩ : Shape).size a ≤ (⟨1, ![A]⟩ : Shape).size a) (j) :
    m.view.readAt Val (Rect.unit (s := ⟨1, ![A]⟩) off (⟨1, ![1]⟩ : Shape).size hin).toLoadRect (h.unread X) j = X (ix1 ⟨k, hk⟩) := by
  rw [Memref.IsWhole.readAt_unread]
  congr 1
  funext a
  match a with
  | ⟨0, _⟩ =>
    apply Fin.ext
    have : (j 0).val < 1 := (j 0).isLt
    show off 0 + 1 * (j 0).val = k
    omega

/-- A load of the whole of a matrix. -/
theorem readAt_all2 {A B : ℕ} (m : Memref sig κ sp ⟨2, ![A, B]⟩ e) (h : m.IsWhole) (X : (⟨2, ![A, B]⟩ : Shape).Idx → Val e)
    (hin : ∀ a, (![0, 0] : Fin 2 → ℕ) a + (⟨2, ![A, B]⟩ : Shape).size a ≤ (⟨2, ![A, B]⟩ : Shape).size a) :
    m.view.readAt Val (Rect.unit (s := ⟨2, ![A, B]⟩) ![0, 0] (⟨2, ![A, B]⟩ : Shape).size hin).toLoadRect (h.unread X) = X := by
  funext j
  rw [Memref.IsWhole.readAt_unread]
  congr 1
  funext a
  match a with
  | ⟨0, _⟩ => exact Fin.ext (by show 0 + 1 * (j 0).val = (j 0).val; omega)
  | ⟨1, _⟩ => exact Fin.ext (by show 0 + 1 * (j 1).val = (j 1).val; omega)

/-- Stores of `r` rows of every plane, block after block, leave each row what its own block's store put there. -/
theorem tiles3 {n : ℕ} (hr : 0 < r) (m : Memref sig κ sp ⟨3, ![P, N, 128]⟩ e) (h : m.IsWhole) (G : m.view.ty.Contents Val) (hN : N = r * n)
    (L : ℕ → List (View.Piece Val ⟨3, ![P, N, 128]⟩ e)) (off : Fin n → Fin 3 → ℕ) (eo : ∀ k, off k = ![0, r * k.val, 0])
    (hin : ∀ k, ∀ a, off k a + (⟨3, ![P, r, 128]⟩ : Shape).size a ≤ (⟨3, ![P, N, 128]⟩ : Shape).size a)
    (v : Fin n → (⟨3, ![P, r, 128]⟩ : Shape).Idx → Val e) (h0 : L 0 = [])
    (hs : ∀ k : Fin n, L (k.val + 1) = ⟨Rect.unit (s := ⟨3, ![P, N, 128]⟩) (off k) (⟨3, ![P, r, 128]⟩ : Shape).size (hin k), v k⟩ :: L k.val) :
    m.view.writes Val G (L n) = h.unread (fun y => v ⟨(y 1).val / r, by
      have : (y 1).val < N := (y 1).isLt
      rw [Nat.div_lt_iff_lt_mul hr, Nat.mul_comm]; omega⟩ (ix3 (y 0) ⟨(y 1).val % r, Nat.mod_lt _ hr⟩ (y 2))) := by
  have key : ∀ j (hj : j ≤ n) (y : (⟨3, ![P, N, 128]⟩ : Shape).Idx) (hy : (y 1).val / r < j),
      m.view.read Val (m.view.writes Val G (L j)) y
        = v ⟨(y 1).val / r, Nat.lt_of_lt_of_le hy hj⟩ (ix3 (y 0) ⟨(y 1).val % r, Nat.mod_lt _ hr⟩ (y 2)) := by
    intro j
    induction j with
    | zero => intro _ y hy; exact absurd hy (Nat.not_lt_zero _)
    | succ j ih =>
      intro hj y hy
      have hdm := Nat.div_add_mod (y 1).val r
      have hml := Nat.mod_lt (y 1).val hr
      rw [hs ⟨j, hj⟩]
      by_cases hy' : (y 1).val / r < j
      · rw [View.read_writes_cons_miss_of_axis m.view G _ (L j) y 1 (r * j) r (show off ⟨j, hj⟩ 1 = r * j by rw [eo]; rfl) rfl rfl ?_]
        · exact ih (by omega) y hy'
        · left
          rw [Nat.div_lt_iff_lt_mul hr, Nat.mul_comm] at hy'
          exact hy'
      · have hyj : (y 1).val / r = j := by omega
        have := View.read_writes_cons_hit_of_coords m.view G (Rect.unit (s := ⟨3, ![P, N, 128]⟩) (off ⟨j, hj⟩) (⟨3, ![P, r, 128]⟩ : Shape).size (hin ⟨j, hj⟩)) (v ⟨j, hj⟩) (L j)
          (ix3 (y 0) ⟨(y 1).val % r, Nat.mod_lt _ hr⟩ (y 2)) y (by
            intro a
            match a with
            | ⟨0, _⟩ => show (y 0).val = off ⟨j, hj⟩ 0 + 1 * (y 0).val; rw [eo]; show (y 0).val = 0 + 1 * (y 0).val; omega
            | ⟨1, _⟩ =>
              show (y 1).val = off ⟨j, hj⟩ 1 + 1 * ((y 1).val % r)
              rw [eo]
              show (y 1).val = r * j + 1 * ((y 1).val % r)
              rw [hyj] at hdm; omega
            | ⟨2, _⟩ => show (y 2).val = off ⟨j, hj⟩ 2 + 1 * (y 2).val; rw [eo]; show (y 2).val = 0 + 1 * (y 2).val; omega)
        rw [this]
        exact congrFun (congrArg v (Fin.ext hyj.symm)) _
  apply eq_unread
  intro y
  exact key n le_rfl y (by
    have : (y 1).val < N := (y 1).isLt
    rw [Nat.div_lt_iff_lt_mul hr, Nat.mul_comm]; omega)

/-- `tiles3` for a matrix. -/
theorem tiles2 {n : ℕ} (hr : 0 < r) (m : Memref sig κ sp ⟨2, ![N, 128]⟩ e) (h : m.IsWhole) (G : m.view.ty.Contents Val) (hN : N = r * n)
    (L : ℕ → List (View.Piece Val ⟨2, ![N, 128]⟩ e)) (off : Fin n → Fin 2 → ℕ) (eo : ∀ k, off k = ![r * k.val, 0])
    (hin : ∀ k, ∀ a, off k a + (⟨2, ![r, 128]⟩ : Shape).size a ≤ (⟨2, ![N, 128]⟩ : Shape).size a)
    (v : Fin n → (⟨2, ![r, 128]⟩ : Shape).Idx → Val e) (h0 : L 0 = [])
    (hs : ∀ k : Fin n, L (k.val + 1) = ⟨Rect.unit (s := ⟨2, ![N, 128]⟩) (off k) (⟨2, ![r, 128]⟩ : Shape).size (hin k), v k⟩ :: L k.val) :
    m.view.writes Val G (L n) = h.unread (fun y => v ⟨(y 0).val / r, by
      have : (y 0).val < N := (y 0).isLt
      rw [Nat.div_lt_iff_lt_mul hr, Nat.mul_comm]; omega⟩ (ix2 ⟨(y 0).val % r, Nat.mod_lt _ hr⟩ (y 1))) := by
  have key : ∀ j (hj : j ≤ n) (y : (⟨2, ![N, 128]⟩ : Shape).Idx) (hy : (y 0).val / r < j),
      m.view.read Val (m.view.writes Val G (L j)) y
        = v ⟨(y 0).val / r, Nat.lt_of_lt_of_le hy hj⟩ (ix2 ⟨(y 0).val % r, Nat.mod_lt _ hr⟩ (y 1)) := by
    intro j
    induction j with
    | zero => intro _ y hy; exact absurd hy (Nat.not_lt_zero _)
    | succ j ih =>
      intro hj y hy
      have hdm := Nat.div_add_mod (y 0).val r
      have hml := Nat.mod_lt (y 0).val hr
      rw [hs ⟨j, hj⟩]
      by_cases hy' : (y 0).val / r < j
      · rw [View.read_writes_cons_miss_of_axis m.view G _ (L j) y 0 (r * j) r (show off ⟨j, hj⟩ 0 = r * j by rw [eo]; rfl) rfl rfl ?_]
        · exact ih (by omega) y hy'
        · left
          rw [Nat.div_lt_iff_lt_mul hr, Nat.mul_comm] at hy'
          exact hy'
      · have hyj : (y 0).val / r = j := by omega
        have := View.read_writes_cons_hit_of_coords m.view G (Rect.unit (s := ⟨2, ![N, 128]⟩) (off ⟨j, hj⟩) (⟨2, ![r, 128]⟩ : Shape).size (hin ⟨j, hj⟩)) (v ⟨j, hj⟩) (L j)
          (ix2 ⟨(y 0).val % r, Nat.mod_lt _ hr⟩ (y 1)) y (by
            intro a
            match a with
            | ⟨0, _⟩ =>
              show (y 0).val = off ⟨j, hj⟩ 0 + 1 * ((y 0).val % r)
              rw [eo]
              show (y 0).val = r * j + 1 * ((y 0).val % r)
              rw [hyj] at hdm; omega
            | ⟨1, _⟩ => show (y 1).val = off ⟨j, hj⟩ 1 + 1 * (y 1).val; rw [eo]; show (y 1).val = 0 + 1 * (y 1).val; omega)
        rw [this]
        exact congrFun (congrArg v (Fin.ext hyj.symm)) _
  apply eq_unread
  intro y
  exact key n le_rfl y (by
    have : (y 0).val < N := (y 0).isLt
    rw [Nat.div_lt_iff_lt_mul hr, Nat.mul_comm]; omega)

/-- A load of rows `r b, …` of every plane. -/
theorem readAt_rowsP (m : Memref sig κ sp ⟨3, ![P, N, 128]⟩ e) (h : m.IsWhole) (X : (⟨3, ![P, N, 128]⟩ : Shape).Idx → Val e)
    (off : Fin 3 → ℕ) (b : ℕ) (eo : off = ![0, r * b, 0]) (hb : r * b + r ≤ N)
    (hin : ∀ a, off a + (⟨3, ![P, r, 128]⟩ : Shape).size a ≤ (⟨3, ![P, N, 128]⟩ : Shape).size a) :
    m.view.readAt Val (Rect.unit (s := ⟨3, ![P, N, 128]⟩) off (⟨3, ![P, r, 128]⟩ : Shape).size hin).toLoadRect (h.unread X)
      = rowsP X b hb := by
  subst eo
  funext j
  rw [Memref.IsWhole.readAt_unread]
  unfold rowsP
  congr 1
  funext a
  match a with
  | ⟨0, _⟩ => exact Fin.ext (by show 0 + 1 * (j 0).val = (j 0).val; omega)
  | ⟨1, _⟩ => exact Fin.ext (by show r * b + 1 * (j 1).val = _; rw [Nat.one_mul])
  | ⟨2, _⟩ => exact Fin.ext (by show 0 + 1 * (j 2).val = (j 2).val; omega)

theorem writes_two {s : Shape} (v : View sig κ sp s e) (f : v.ty.Contents Val) (p q : View.Piece Val s e) (L : List (View.Piece Val s e)) :
    v.writes Val f (p :: q :: L) = v.writes Val (v.writes Val f (q :: L)) [p] := rfl

end Mem

end Cert.Blocks

end
-- ==== Proof.Loop.lean ====
module

public import proofs.«01_k».proof.Proof.Gen.KernelIdeal.Loops
public import proofs.«01_k».proof.Proof.Blocks

@[expose] public section

set_option maxRecDepth 16384
set_option maxHeartbeats 4000000

noncomputable section

namespace Cert.KernelIdeal.Loop

open Cert.KernelIdeal Cert.KernelIdeal.Gen Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Where a trip reads and writes -/

theorem off6_eq : ∀ k : Fin k0_t2_loop.trips, k0_off6 k = ![0, 128 * k.val, 0] := by decide +kernel
instance (k : Fin k0_t2_loop.trips) : ClosedOff (k0_off6 k) := ⟨_, off6_eq k⟩
/-- The block before: block 0 stands in for it at trip 0. -/
theorem off7_eq : ∀ k : Fin k0_t2_loop.trips, k0_off7 k = ![1, 128 * (k.val - 1), 0] := by decide +kernel
instance (k : Fin k0_t2_loop.trips) : ClosedOff (k0_off7 k) := ⟨_, off7_eq k⟩
theorem off8_eq : ∀ k : Fin k0_t2_loop.trips, k0_off8 k = ![1, 128 * k.val, 0] := by decide +kernel
instance (k : Fin k0_t2_loop.trips) : ClosedOff (k0_off8 k) := ⟨_, off8_eq k⟩
theorem off9_eq : ∀ k : Fin k0_t2_loop.trips, k0_off9 k = ![2, 128 * (k.val - 1), 0] := by decide +kernel
instance (k : Fin k0_t2_loop.trips) : ClosedOff (k0_off9 k) := ⟨_, off9_eq k⟩
theorem off10_eq : ∀ k : Fin k0_t2_loop.trips, k0_off10 k = ![2, 128 * k.val, 0] := by decide +kernel
instance (k : Fin k0_t2_loop.trips) : ClosedOff (k0_off10 k) := ⟨_, off10_eq k⟩
theorem off11_eq : ∀ k : Fin k0_t2_loop.trips, k0_off11 k = ![0, 128 * k.val, 0] := by decide +kernel
instance (k : Fin k0_t2_loop.trips) : ClosedOff (k0_off11 k) := ⟨_, off11_eq k⟩
theorem off12_eq : ∀ k : Fin k0_t2_loop.trips, k0_off12 k = ![128 * k.val, 0] := by decide +kernel
instance (k : Fin k0_t2_loop.trips) : ClosedOff (k0_off12 k) := ⟨_, off12_eq k⟩

/-! ## One trip -/

/-- One trip's resources: the five buffers it reads, and the two it adds into. -/
abbrev Trip (c : Dev nD) (arg3 : Memref sig .tc .vmem S3x4096x128 .f32) (arg4 : Memref sig .tc .vmem S4096x128 .f32) (arg9 : Memref sig .tc .vmem S4096x128 .f32)
    (arg11 : Memref sig .tc .vmem S1x4096x128 .f32) (arg10 : Memref sig .tc .vmem S128x128 .f32) (arg12 : Memref sig .tc .vmem S3x4096x128 .f32)
    (X3 : BufTy.Contents (Elt F) arg3.view.ty) (X4 : BufTy.Contents (Elt F) arg4.view.ty) (X9 : BufTy.Contents (Elt F) arg9.view.ty)
    (X11 : BufTy.Contents (Elt F) arg11.view.ty) (f10 : BufTy.Contents (Elt F) arg10.view.ty) (f12 : BufTy.Contents (Elt F) arg12.view.ty) : sProp 𝕄 :=
  iprop((arg3.view.loc (c : Thread nD τ) ↦[arg3.view.set]{fullShare} X3) ∗ (arg4.view.loc (c : Thread nD τ) ↦[arg4.view.set]{fullShare} X4)
    ∗ (arg9.view.loc (c : Thread nD τ) ↦[arg9.view.set]{fullShare} X9) ∗ (arg11.view.loc (c : Thread nD τ) ↦[arg11.view.set]{fullShare} X11)
    ∗ (arg10.view.loc (c : Thread nD τ) ↦[arg10.view.set]{fullShare} f10) ∗ (arg12.view.loc (c : Thread nD τ) ↦[arg12.view.set]{fullShare} f12))

/-- One trip over any contents: the stores it makes are the run's own finds. -/
@[irreducible] def trip (𝒱 : Variants) (c : Dev nD) (bd : Option 𝒱.V) (i : grid0.Coords) (arg1 : Memref sig .tc .smem S16 .f32) (harg1 : arg1.IsWhole) (arg2 : Memref sig .tc .smem S16 .f32) (harg2 : arg2.IsWhole) (arg3 : Memref sig .tc .vmem S3x4096x128 .f32) (harg3 : arg3.IsWhole) (arg4 : Memref sig .tc .vmem S4096x128 .f32) (harg4 : arg4.IsWhole) (arg5 : Memref sig .tc .vmem S1x4096x128 .bf16) (harg5 : arg5.IsWhole) (arg6 : Memref sig .tc .vmem S1x4096x128 .f32) (harg6 : arg6.IsWhole) (arg7 : Memref sig .tc .vmem S3x4096x128 .bf16) (harg7 : arg7.IsWhole) (arg8 : Memref sig .tc .vmem S1x8x128 .f32) (harg8 : arg8.IsWhole) (arg9 : Memref sig .tc .vmem S4096x128 .f32) (harg9 : arg9.IsWhole) (arg10 : Memref sig .tc .vmem S128x128 .f32) (harg10 : arg10.IsWhole) (arg11 : Memref sig .tc .vmem S1x4096x128 .f32) (harg11 : arg11.IsWhole) (arg12 : Memref sig .tc .vmem S3x4096x128 .f32) (harg12 : arg12.IsWhole) (v2 : IVec S128x128 1) (v18 : FVec F S256x1 .f32) (v26 : Elt F .f32) (v30 : Elt F .f32) (v32 : IVec S256x256 32) (v34 : IVec S256x256 1) (v37 : IVec S256x256 32) (c128_i32_10 : BitVec 32)
    (X3 : BufTy.Contents (Elt F) arg3.view.ty) (X4 : BufTy.Contents (Elt F) arg4.view.ty) (X9 : BufTy.Contents (Elt F) arg9.view.ty)
    (X11 : BufTy.Contents (Elt F) arg11.view.ty) (k : Fin k0_t2_loop.trips)
    (f10 : BufTy.Contents (Elt F) arg10.view.ty) (f12 : BufTy.Contents (Elt F) arg12.view.ty) :
    Σ' (L10 : List (View.Piece (Elt F) S128x128 .f32)), { L12 : List (View.Piece (Elt F) S3x4096x128 .f32) // ∀ (E : Set ℕ),
      Trip (F := F) c arg3 arg4 arg9 arg11 arg10 arg12 X3 X4 X9 X11 f10 f12
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 v2 v18 v26 v30 v32 v34 v37 c128_i32_10 k PUnit.unit)
          (fun _ => Trip (F := F) c arg3 arg4 arg9 arg11 arg10 arg12 X3 X4 X9 X11 (arg10.view.writes (Elt F) f10 L10) (arg12.view.writes (Elt F) f12 L12)) } := by
  have hk : k.val < 32 := Nat.lt_of_lt_of_le k.isLt k0_t2_abs.2.1
  refine ⟨?_, ?_, fun E => ?run⟩
  case run =>
    unfold k0_t2_body
    iintro ⟨H3, H4, H9, H11, H10, H12⟩
    sl_exec_parts
    sl_step
    sl_close

/-! ## What a trip computes

The buffers are held at known entries; a trip adds the block's gradients into the three planes of `dx` and into the
accumulator of the sinks' gradient. -/

section Step

variable (v2 : IVec S128x128 1) (v18 : FVec F S256x1 .f32) (v26 v30 : Elt F .f32) (v32 : IVec S256x256 32) (v34 : IVec S256x256 1)
  (v37 : IVec S256x256 32) (c128_i32_10 : BitVec 32)
  (X3 : Vec F S3x4096x128 .f32) (X4 X9 : Vec F S4096x128 .f32) (X11 : Vec F S1x4096x128 .f32) (k : Fin 32)

/-- The block before, block 0 standing in for it at block 0. -/
def prev : ℕ := k.val - 1

theorem cur_le : 128 * k.val + 128 ≤ 4096 := by omega
theorem prev_le : 128 * prev k + 128 ≤ 4096 := by unfold prev; omega

/-- Whether this is block 0, which has no block before it. -/
def first : BitVec 1 := if k.val = 0 then 1#1 else 0#1

/-- The block's queries, stacked head over head. -/
def tQ : FVec F S256x128 .bf16 := k0_pay9 v2 (row3 X3 0 k.val (cur_le k))
/-- The keys of the block before, over the block's own. -/
def tK : FVec F S256x128 .bf16 := k0_pay11 (k0_pay10 (row3 X3 1 (prev k) (prev_le k))) (row3 X3 1 k.val (cur_le k))
/-- The values of the block before, over the block's own. -/
def tV : FVec F S256x128 .bf16 := k0_pay12 (row3 X3 2 (prev k) (prev_le k)) (row3 X3 2 k.val (cur_le k))
/-- The cotangent of the block's output, stacked head over head. -/
def tD : FVec F S256x128 .bf16 := k0_pay13 v2 (row2 X4 k.val (cur_le k))
/-- The rows' log of the sum of exponentials. -/
def tL : FVec F S256x1 .f32 := k0_pay14 (row3 X11 0 k.val (cur_le k))
/-- The rows' inner products of output and cotangent. -/
def tB : FVec F S256x1 .f32 := k0_pay15 (row2 X9 k.val (cur_le k))
/-- The scores. -/
def tS : FVec F S256x256 .f32 :=
  k0_pay16 (k0_pay1 v26 v30 v32 v34 v37 c128_i32_10) (tQ v2 X3 k) (k0_pay10 (row3 X3 1 (prev k) (prev_le k))) (row3 X3 1 k.val (cur_le k))

/-- The planes after one trip. -/
def step12 (Z : Vec F S3x4096x128 .f32) : Vec F S3x4096x128 .f32 :=
  let S := tS v2 v26 v30 v32 v34 v37 c128_i32_10 X3 k
  let Z1 := put3 (r := 128) (by decide) Z 0 k.val (k0_pay21 v2 (k0_pay2 v32) (tK X3 k) (tV X3 k) (tD v2 X4 k) (tL X11 k) (tB X9 k) (first k) S (row3 Z 0 k.val (cur_le k)))
  let Z2 := put3 (r := 128) (by decide) Z1 1 (prev k) (k0_pay22 (k0_pay2 v32) (tQ v2 X3 k) (tV X3 k) (tD v2 X4 k) (tL X11 k) (tB X9 k) (first k) S (row3 Z 1 (prev k) (prev_le k)))
  let Z3 := put3 (r := 128) (by decide) Z2 1 k.val (k0_pay24 (k0_pay23 (k0_pay2 v32) (tQ v2 X3 k) (tV X3 k) (tD v2 X4 k) (tL X11 k) (tB X9 k) (first k) S) (row3 Z2 1 k.val (cur_le k)))
  let Z4 := put3 (r := 128) (by decide) Z3 2 (prev k) (k0_pay25 (k0_pay20 (k0_pay2 v32) (tD v2 X4 k) (tL X11 k) (first k) S) (row3 Z 2 (prev k) (prev_le k)))
  put3 (r := 128) (by decide) Z4 2 k.val (k0_pay26 (k0_pay20 (k0_pay2 v32) (tD v2 X4 k) (tL X11 k) (first k) S) (row3 Z4 2 k.val (cur_le k)))

/-- The accumulator of the sinks' gradient after one trip. -/
def step10 (A : Vec F S128x128 .f32) : Vec F S128x128 .f32 :=
  k0_pay3 v2 A (k0_pay28 v18 (tL X11 k) (tB X9 k)) (k0_pay29 v18 (tL X11 k) (tB X9 k))

end Step

/-- The word the body tests block 0 by. -/
theorem first_eq : ∀ k : Fin k0_t2_loop.trips,
    Scalar.cmpi .eq (Scalar.subi (Scf.iv 0#32 1#32 k) 0#32) 0#32 = first (k.cast (by decide : k0_t2_loop.trips = 32)) := by decide +kernel

theorem trips_eq : k0_t2_loop.trips = 32 := by decide

section Unread

variable (𝒱 : Variants) (c : Dev nD) (bd : Option 𝒱.V) (i : grid0.Coords) (arg1 : Memref sig .tc .smem S16 .f32) (harg1 : arg1.IsWhole) (arg2 : Memref sig .tc .smem S16 .f32) (harg2 : arg2.IsWhole) (arg3 : Memref sig .tc .vmem S3x4096x128 .f32) (harg3 : arg3.IsWhole) (arg4 : Memref sig .tc .vmem S4096x128 .f32) (harg4 : arg4.IsWhole) (arg5 : Memref sig .tc .vmem S1x4096x128 .bf16) (harg5 : arg5.IsWhole) (arg6 : Memref sig .tc .vmem S1x4096x128 .f32) (harg6 : arg6.IsWhole) (arg7 : Memref sig .tc .vmem S3x4096x128 .bf16) (harg7 : arg7.IsWhole) (arg8 : Memref sig .tc .vmem S1x8x128 .f32) (harg8 : arg8.IsWhole) (arg9 : Memref sig .tc .vmem S4096x128 .f32) (harg9 : arg9.IsWhole) (arg10 : Memref sig .tc .vmem S128x128 .f32) (harg10 : arg10.IsWhole) (arg11 : Memref sig .tc .vmem S1x4096x128 .f32) (harg11 : arg11.IsWhole) (arg12 : Memref sig .tc .vmem S3x4096x128 .f32) (harg12 : arg12.IsWhole) (v2 : IVec S128x128 1) (v18 : FVec F S256x1 .f32) (v26 : Elt F .f32) (v30 : Elt F .f32) (v32 : IVec S256x256 32) (v34 : IVec S256x256 1) (v37 : IVec S256x256 32) (c128_i32_10 : BitVec 32)
  (X3 : Vec F S3x4096x128 .f32) (X4 X9 : Vec F S4096x128 .f32) (X11 : Vec F S1x4096x128 .f32) (k : Fin k0_t2_loop.trips)
  (A : Vec F S128x128 .f32) (Z : Vec F S3x4096x128 .f32)

set_option backward.isDefEq.respectTransparency.types false in
theorem trip10_eq :
    arg10.view.writes (Elt F) (harg10.unread A) (trip 𝒱 c bd i arg1 harg1 arg2 harg2 arg3 harg3 arg4 harg4 arg5 harg5 arg6 harg6 arg7 harg7 arg8 harg8 arg9 harg9 arg10 harg10 arg11 harg11 arg12 harg12 v2 v18 v26 v30 v32 v34 v37 c128_i32_10 (harg3.unread X3) (harg4.unread X4) (harg9.unread X9) (harg11.unread X11) k (harg10.unread A) (harg12.unread Z)).1
      = harg10.unread (step10 v2 v18 X9 X11 (k.cast trips_eq) A) := by
  unfold trip
  have h11 : _ = row3 X11 0 (k.cast trips_eq).val (cur_le (k.cast trips_eq)) := readAt_row3 arg11 harg11 X11 (k0_off11 k) 0 k.val (off11_eq k) (cur_le (k.cast trips_eq)) (k0_off11_inb k)
  have h9 : _ = row2 X9 (k.cast trips_eq).val (cur_le (k.cast trips_eq)) := readAt_row2 arg9 harg9 X9 (k0_off12 k) k.val (off12_eq k) (cur_le (k.cast trips_eq)) (k0_off12_inb k)
  have h10 := readAt_all2 arg10 harg10 A inb_S128x128_S128x128_0_0
  refine (writes_all2 arg10 harg10 _ inb_S128x128_S128x128_0_0 _ []).trans (congrArg harg10.unread ?_)
  unfold step10 tL tB
  rw [← h11, ← h9]
  conv_rhs => rw [← h10]
  rfl

/-- The five stores of a trip, over any values computed before them. -/
theorem stores12 (Q K V D : FVec F S256x128 .bf16) (L B : FVec F S256x1 .f32) (f : BitVec 1) (S : FVec F S256x256 .f32) :
    arg12.view.writes (Elt F) (harg12.unread Z)
      [⟨(Rect.unit (s := S3x4096x128) (k0_off10 k) S1x128x128.size (k0_off10_inb k)), k0_pay26 (k0_pay20 (k0_pay2 v32) D L f S) (arg12.view.readAt (Elt F) (Rect.unit (s := S3x4096x128) (k0_off10 k) S1x128x128.size (k0_off10_inb k)).toLoadRect (arg12.view.writes (Elt F) (harg12.unread Z) [⟨(Rect.unit (s := S3x4096x128) (k0_off9 k) S1x128x128.size (k0_off9_inb k)), k0_pay25 (k0_pay20 (k0_pay2 v32) D L f S) (arg12.view.readAt (Elt F) (Rect.unit (s := S3x4096x128) (k0_off9 k) S1x128x128.size (k0_off9_inb k)).toLoadRect (harg12.unread Z))⟩, ⟨(Rect.unit (s := S3x4096x128) (k0_off8 k) S1x128x128.size (k0_off8_inb k)), k0_pay24 (k0_pay23 (k0_pay2 v32) Q V D L B f S) (arg12.view.readAt (Elt F) (Rect.unit (s := S3x4096x128) (k0_off8 k) S1x128x128.size (k0_off8_inb k)).toLoadRect (arg12.view.writes (Elt F) (harg12.unread Z) [⟨(Rect.unit (s := S3x4096x128) (k0_off7 k) S1x128x128.size (k0_off7_inb k)), k0_pay22 (k0_pay2 v32) Q V D L B f S (arg12.view.readAt (Elt F) (Rect.unit (s := S3x4096x128) (k0_off7 k) S1x128x128.size (k0_off7_inb k)).toLoadRect (harg12.unread Z))⟩, ⟨(Rect.unit (s := S3x4096x128) (k0_off6 k) S1x128x128.size (k0_off6_inb k)), k0_pay21 v2 (k0_pay2 v32) K V D L B f S (arg12.view.readAt (Elt F) (Rect.unit (s := S3x4096x128) (k0_off6 k) S1x128x128.size (k0_off6_inb k)).toLoadRect (harg12.unread Z))⟩]))⟩, ⟨(Rect.unit (s := S3x4096x128) (k0_off7 k) S1x128x128.size (k0_off7_inb k)), k0_pay22 (k0_pay2 v32) Q V D L B f S (arg12.view.readAt (Elt F) (Rect.unit (s := S3x4096x128) (k0_off7 k) S1x128x128.size (k0_off7_inb k)).toLoadRect (harg12.unread Z))⟩, ⟨(Rect.unit (s := S3x4096x128) (k0_off6 k) S1x128x128.size (k0_off6_inb k)), k0_pay21 v2 (k0_pay2 v32) K V D L B f S (arg12.view.readAt (Elt F) (Rect.unit (s := S3x4096x128) (k0_off6 k) S1x128x128.size (k0_off6_inb k)).toLoadRect (harg12.unread Z))⟩]))⟩,
       ⟨(Rect.unit (s := S3x4096x128) (k0_off9 k) S1x128x128.size (k0_off9_inb k)), k0_pay25 (k0_pay20 (k0_pay2 v32) D L f S) (arg12.view.readAt (Elt F) (Rect.unit (s := S3x4096x128) (k0_off9 k) S1x128x128.size (k0_off9_inb k)).toLoadRect (harg12.unread Z))⟩,
       ⟨(Rect.unit (s := S3x4096x128) (k0_off8 k) S1x128x128.size (k0_off8_inb k)), k0_pay24 (k0_pay23 (k0_pay2 v32) Q V D L B f S) (arg12.view.readAt (Elt F) (Rect.unit (s := S3x4096x128) (k0_off8 k) S1x128x128.size (k0_off8_inb k)).toLoadRect (arg12.view.writes (Elt F) (harg12.unread Z) [⟨(Rect.unit (s := S3x4096x128) (k0_off7 k) S1x128x128.size (k0_off7_inb k)), k0_pay22 (k0_pay2 v32) Q V D L B f S (arg12.view.readAt (Elt F) (Rect.unit (s := S3x4096x128) (k0_off7 k) S1x128x128.size (k0_off7_inb k)).toLoadRect (harg12.unread Z))⟩, ⟨(Rect.unit (s := S3x4096x128) (k0_off6 k) S1x128x128.size (k0_off6_inb k)), k0_pay21 v2 (k0_pay2 v32) K V D L B f S (arg12.view.readAt (Elt F) (Rect.unit (s := S3x4096x128) (k0_off6 k) S1x128x128.size (k0_off6_inb k)).toLoadRect (harg12.unread Z))⟩]))⟩,
       ⟨(Rect.unit (s := S3x4096x128) (k0_off7 k) S1x128x128.size (k0_off7_inb k)), k0_pay22 (k0_pay2 v32) Q V D L B f S (arg12.view.readAt (Elt F) (Rect.unit (s := S3x4096x128) (k0_off7 k) S1x128x128.size (k0_off7_inb k)).toLoadRect (harg12.unread Z))⟩,
       ⟨(Rect.unit (s := S3x4096x128) (k0_off6 k) S1x128x128.size (k0_off6_inb k)), k0_pay21 v2 (k0_pay2 v32) K V D L B f S (arg12.view.readAt (Elt F) (Rect.unit (s := S3x4096x128) (k0_off6 k) S1x128x128.size (k0_off6_inb k)).toLoadRect (harg12.unread Z))⟩]
      = harg12.unread
        (let Z1 := put3 (r := 128) (by decide) Z 0 (k.cast trips_eq).val (k0_pay21 v2 (k0_pay2 v32) K V D L B f S (row3 Z 0 (k.cast trips_eq).val (cur_le _)))
         let Z2 := put3 (r := 128) (by decide) Z1 1 (prev (k.cast trips_eq)) (k0_pay22 (k0_pay2 v32) Q V D L B f S (row3 Z 1 (prev (k.cast trips_eq)) (prev_le _)))
         let Z3 := put3 (r := 128) (by decide) Z2 1 (k.cast trips_eq).val (k0_pay24 (k0_pay23 (k0_pay2 v32) Q V D L B f S) (row3 Z2 1 (k.cast trips_eq).val (cur_le _)))
         let Z4 := put3 (r := 128) (by decide) Z3 2 (prev (k.cast trips_eq)) (k0_pay25 (k0_pay20 (k0_pay2 v32) D L f S) (row3 Z 2 (prev (k.cast trips_eq)) (prev_le _)))
         put3 (r := 128) (by decide) Z4 2 (k.cast trips_eq).val (k0_pay26 (k0_pay20 (k0_pay2 v32) D L f S) (row3 Z4 2 (k.cast trips_eq).val (cur_le _)))) := by
  have r6 (X : Vec F S3x4096x128 .f32) : _ = row3 X 0 (k.cast trips_eq).val (cur_le (k.cast trips_eq)) := readAt_row3 arg12 harg12 X (k0_off6 k) 0 k.val (off6_eq k) (cur_le (k.cast trips_eq)) (k0_off6_inb k)
  have r7 (X : Vec F S3x4096x128 .f32) : _ = row3 X 1 (prev (k.cast trips_eq)) (prev_le (k.cast trips_eq)) := readAt_row3 arg12 harg12 X (k0_off7 k) 1 (k.val - 1) (off7_eq k) (prev_le (k.cast trips_eq)) (k0_off7_inb k)
  have r8 (X : Vec F S3x4096x128 .f32) : _ = row3 X 1 (k.cast trips_eq).val (cur_le (k.cast trips_eq)) := readAt_row3 arg12 harg12 X (k0_off8 k) 1 k.val (off8_eq k) (cur_le (k.cast trips_eq)) (k0_off8_inb k)
  have r9 (X : Vec F S3x4096x128 .f32) : _ = row3 X 2 (prev (k.cast trips_eq)) (prev_le (k.cast trips_eq)) := readAt_row3 arg12 harg12 X (k0_off9 k) 2 (k.val - 1) (off9_eq k) (prev_le (k.cast trips_eq)) (k0_off9_inb k)
  have r10 (X : Vec F S3x4096x128 .f32) : _ = row3 X 2 (k.cast trips_eq).val (cur_le (k.cast trips_eq)) := readAt_row3 arg12 harg12 X (k0_off10 k) 2 k.val (off10_eq k) (cur_le (k.cast trips_eq)) (k0_off10_inb k)
  have w6 (X : Vec F S3x4096x128 .f32) (v) := writes_row3 (r := 128) (by decide) arg12 harg12 X (k0_off6 k) 0 (k.cast trips_eq).val (off6_eq k) (k0_off6_inb k) v
  have w7 (X : Vec F S3x4096x128 .f32) (v) := writes_row3 (r := 128) (by decide) arg12 harg12 X (k0_off7 k) 1 (prev (k.cast trips_eq)) (off7_eq k) (k0_off7_inb k) v
  have w8 (X : Vec F S3x4096x128 .f32) (v) := writes_row3 (r := 128) (by decide) arg12 harg12 X (k0_off8 k) 1 (k.cast trips_eq).val (off8_eq k) (k0_off8_inb k) v
  have w9 (X : Vec F S3x4096x128 .f32) (v) := writes_row3 (r := 128) (by decide) arg12 harg12 X (k0_off9 k) 2 (prev (k.cast trips_eq)) (off9_eq k) (k0_off9_inb k) v
  have w10 (X : Vec F S3x4096x128 .f32) (v) := writes_row3 (r := 128) (by decide) arg12 harg12 X (k0_off10 k) 2 (k.cast trips_eq).val (off10_eq k) (k0_off10_inb k) v
  simp only [writes_two, r6, r7, r9, w6, w7, r8, w8, w9, r10, w10]

set_option backward.isDefEq.respectTransparency.types false in
theorem trip12_eq :
    arg12.view.writes (Elt F) (harg12.unread Z) (trip 𝒱 c bd i arg1 harg1 arg2 harg2 arg3 harg3 arg4 harg4 arg5 harg5 arg6 harg6 arg7 harg7 arg8 harg8 arg9 harg9 arg10 harg10 arg11 harg11 arg12 harg12 v2 v18 v26 v30 v32 v34 v37 c128_i32_10 (harg3.unread X3) (harg4.unread X4) (harg9.unread X9) (harg11.unread X11) k (harg10.unread A) (harg12.unread Z)).2.1
      = harg12.unread (step12 v2 v26 v30 v32 v34 v37 c128_i32_10 X3 X4 X9 X11 (k.cast trips_eq) Z) := by
  unfold trip
  have h6 : _ = row3 X3 0 (k.cast trips_eq).val (cur_le (k.cast trips_eq)) := readAt_row3 arg3 harg3 X3 (k0_off6 k) 0 k.val (off6_eq k) (cur_le (k.cast trips_eq)) (k0_off6_inb k)
  have h7 : _ = row3 X3 1 (prev (k.cast trips_eq)) (prev_le (k.cast trips_eq)) := readAt_row3 arg3 harg3 X3 (k0_off7 k) 1 (k.val - 1) (off7_eq k) (prev_le (k.cast trips_eq)) (k0_off7_inb k)
  have h8 : _ = row3 X3 1 (k.cast trips_eq).val (cur_le (k.cast trips_eq)) := readAt_row3 arg3 harg3 X3 (k0_off8 k) 1 k.val (off8_eq k) (cur_le (k.cast trips_eq)) (k0_off8_inb k)
  have h9 : _ = row3 X3 2 (prev (k.cast trips_eq)) (prev_le (k.cast trips_eq)) := readAt_row3 arg3 harg3 X3 (k0_off9 k) 2 (k.val - 1) (off9_eq k) (prev_le (k.cast trips_eq)) (k0_off9_inb k)
  have h10 : _ = row3 X3 2 (k.cast trips_eq).val (cur_le (k.cast trips_eq)) := readAt_row3 arg3 harg3 X3 (k0_off10 k) 2 k.val (off10_eq k) (cur_le (k.cast trips_eq)) (k0_off10_inb k)
  have h11 : _ = row3 X11 0 (k.cast trips_eq).val (cur_le (k.cast trips_eq)) := readAt_row3 arg11 harg11 X11 (k0_off11 k) 0 k.val (off11_eq k) (cur_le (k.cast trips_eq)) (k0_off11_inb k)
  have h12 : _ = row2 X9 (k.cast trips_eq).val (cur_le (k.cast trips_eq)) := readAt_row2 arg9 harg9 X9 (k0_off12 k) k.val (off12_eq k) (cur_le (k.cast trips_eq)) (k0_off12_inb k)
  have h4 : _ = row2 X4 (k.cast trips_eq).val (cur_le (k.cast trips_eq)) := readAt_row2 arg4 harg4 X4 (k0_off12 k) k.val (off12_eq k) (cur_le (k.cast trips_eq)) (k0_off12_inb k)
  refine Eq.trans ?_ (stores12 arg12 harg12 v2 v32 k Z (tQ v2 X3 (k.cast trips_eq)) (tK X3 (k.cast trips_eq)) (tV X3 (k.cast trips_eq)) (tD v2 X4 (k.cast trips_eq))
    (tL X11 (k.cast trips_eq)) (tB X9 (k.cast trips_eq)) (first (k.cast trips_eq)) (tS v2 v26 v30 v32 v34 v37 c128_i32_10 X3 (k.cast trips_eq)))
  rw [← first_eq]
  unfold tS tQ tK tV tD tL tB
  rw [← h6, ← h7, ← h8, ← h9, ← h10, ← h11, ← h12, ← h4]
  rfl

end Unread

section Raw

variable (𝒱 : Variants) (c : Dev nD) (bd : Option 𝒱.V) (i : grid0.Coords) (arg1 : Memref sig .tc .smem S16 .f32) (harg1 : arg1.IsWhole) (arg2 : Memref sig .tc .smem S16 .f32) (harg2 : arg2.IsWhole) (arg3 : Memref sig .tc .vmem S3x4096x128 .f32) (harg3 : arg3.IsWhole) (arg4 : Memref sig .tc .vmem S4096x128 .f32) (harg4 : arg4.IsWhole) (arg5 : Memref sig .tc .vmem S1x4096x128 .bf16) (harg5 : arg5.IsWhole) (arg6 : Memref sig .tc .vmem S1x4096x128 .f32) (harg6 : arg6.IsWhole) (arg7 : Memref sig .tc .vmem S3x4096x128 .bf16) (harg7 : arg7.IsWhole) (arg8 : Memref sig .tc .vmem S1x8x128 .f32) (harg8 : arg8.IsWhole) (arg9 : Memref sig .tc .vmem S4096x128 .f32) (harg9 : arg9.IsWhole) (arg10 : Memref sig .tc .vmem S128x128 .f32) (harg10 : arg10.IsWhole) (arg11 : Memref sig .tc .vmem S1x4096x128 .f32) (harg11 : arg11.IsWhole) (arg12 : Memref sig .tc .vmem S3x4096x128 .f32) (harg12 : arg12.IsWhole) (v2 : IVec S128x128 1) (v18 : FVec F S256x1 .f32) (v26 : Elt F .f32) (v30 : Elt F .f32) (v32 : IVec S256x256 32) (v34 : IVec S256x256 1) (v37 : IVec S256x256 32) (c128_i32_10 : BitVec 32)
    (X3 : BufTy.Contents (Elt F) arg3.view.ty) (X4 : BufTy.Contents (Elt F) arg4.view.ty) (X9 : BufTy.Contents (Elt F) arg9.view.ty)
    (X11 : BufTy.Contents (Elt F) arg11.view.ty) (k : Fin k0_t2_loop.trips) (f10 : BufTy.Contents (Elt F) arg10.view.ty) (f12 : BufTy.Contents (Elt F) arg12.view.ty)

/-- What a trip leaves in the accumulator, over any contents. -/
theorem trip10_raw :
    arg10.view.writes (Elt F) f10 (trip 𝒱 c bd i arg1 harg1 arg2 harg2 arg3 harg3 arg4 harg4 arg5 harg5 arg6 harg6 arg7 harg7 arg8 harg8 arg9 harg9 arg10 harg10 arg11 harg11 arg12 harg12 v2 v18 v26 v30 v32 v34 v37 c128_i32_10 X3 X4 X9 X11 k f10 f12).1
      = harg10.unread (step10 v2 v18 (arg9.view.read (Elt F) X9) (arg11.view.read (Elt F) X11) (k.cast trips_eq) (arg10.view.read (Elt F) f10)) := by
  obtain ⟨Y3, rfl⟩ : ∃ X, harg3.unread X = X3 := ⟨_, harg3.unread_read X3⟩
  obtain ⟨Y4, rfl⟩ : ∃ X, harg4.unread X = X4 := ⟨_, harg4.unread_read X4⟩
  obtain ⟨Y9, rfl⟩ : ∃ X, harg9.unread X = X9 := ⟨_, harg9.unread_read X9⟩
  obtain ⟨Y11, rfl⟩ : ∃ X, harg11.unread X = X11 := ⟨_, harg11.unread_read X11⟩
  obtain ⟨A, rfl⟩ : ∃ X, harg10.unread X = f10 := ⟨_, harg10.unread_read f10⟩
  obtain ⟨Z, rfl⟩ : ∃ X, harg12.unread X = f12 := ⟨_, harg12.unread_read f12⟩
  rw [trip10_eq, harg9.read_unread, harg11.read_unread, harg10.read_unread]

/-- What a trip leaves in the planes, over any contents. -/
theorem trip12_raw :
    arg12.view.writes (Elt F) f12 (trip 𝒱 c bd i arg1 harg1 arg2 harg2 arg3 harg3 arg4 harg4 arg5 harg5 arg6 harg6 arg7 harg7 arg8 harg8 arg9 harg9 arg10 harg10 arg11 harg11 arg12 harg12 v2 v18 v26 v30 v32 v34 v37 c128_i32_10 X3 X4 X9 X11 k f10 f12).2.1
      = harg12.unread (step12 v2 v26 v30 v32 v34 v37 c128_i32_10 (arg3.view.read (Elt F) X3) (arg4.view.read (Elt F) X4) (arg9.view.read (Elt F) X9)
          (arg11.view.read (Elt F) X11) (k.cast trips_eq) (arg12.view.read (Elt F) f12)) := by
  obtain ⟨Y3, rfl⟩ : ∃ X, harg3.unread X = X3 := ⟨_, harg3.unread_read X3⟩
  obtain ⟨Y4, rfl⟩ : ∃ X, harg4.unread X = X4 := ⟨_, harg4.unread_read X4⟩
  obtain ⟨Y9, rfl⟩ : ∃ X, harg9.unread X = X9 := ⟨_, harg9.unread_read X9⟩
  obtain ⟨Y11, rfl⟩ : ∃ X, harg11.unread X = X11 := ⟨_, harg11.unread_read X11⟩
  obtain ⟨A, rfl⟩ : ∃ X, harg10.unread X = f10 := ⟨_, harg10.unread_read f10⟩
  obtain ⟨Z, rfl⟩ : ∃ X, harg12.unread X = f12 := ⟨_, harg12.unread_read f12⟩
  rw [trip12_eq, harg3.read_unread, harg4.read_unread, harg9.read_unread, harg11.read_unread, harg12.read_unread]

end Raw

/-! ## The loop over the blocks -/

/-- The accumulator and the planes before trip `n`. -/
def st (v2 : IVec S128x128 1) (v18 : FVec F S256x1 .f32) (v26 v30 : Elt F .f32) (v32 : IVec S256x256 32) (v34 : IVec S256x256 1)
    (v37 : IVec S256x256 32) (c128_i32_10 : BitVec 32)
    (X3 : Vec F S3x4096x128 .f32) (X4 X9 : Vec F S4096x128 .f32) (X11 : Vec F S1x4096x128 .f32) (A : Vec F S128x128 .f32) (Z : Vec F S3x4096x128 .f32) :
    ℕ → Vec F S128x128 .f32 × Vec F S3x4096x128 .f32
  | 0 => (A, Z)
  | n + 1 =>
    let p := st v2 v18 v26 v30 v32 v34 v37 c128_i32_10 X3 X4 X9 X11 A Z n
    if h : n < 32 then
      (step10 v2 v18 X9 X11 ⟨n, h⟩ p.1, step12 v2 v26 v30 v32 v34 v37 c128_i32_10 X3 X4 X9 X11 ⟨n, h⟩ p.2)
    else p

theorem st_succ (v2 : IVec S128x128 1) (v18 : FVec F S256x1 .f32) (v26 v30 : Elt F .f32) (v32 : IVec S256x256 32) (v34 : IVec S256x256 1)
    (v37 : IVec S256x256 32) (c128_i32_10 : BitVec 32)
    (X3 : Vec F S3x4096x128 .f32) (X4 X9 : Vec F S4096x128 .f32) (X11 : Vec F S1x4096x128 .f32) (A : Vec F S128x128 .f32) (Z : Vec F S3x4096x128 .f32) (k : Fin 32) :
    st v2 v18 v26 v30 v32 v34 v37 c128_i32_10 X3 X4 X9 X11 A Z (k.val + 1)
      = (step10 v2 v18 X9 X11 k (st v2 v18 v26 v30 v32 v34 v37 c128_i32_10 X3 X4 X9 X11 A Z k.val).1,
          step12 v2 v26 v30 v32 v34 v37 c128_i32_10 X3 X4 X9 X11 k (st v2 v18 v26 v30 v32 v34 v37 c128_i32_10 X3 X4 X9 X11 A Z k.val).2) := by
  rw [st]; exact dif_pos k.isLt

/-- The contents at entry before the first trip, `X` after it. -/
def hold {α : Type} (G : α) (X : ℕ → α) : ℕ → α
  | 0 => G
  | n + 1 => X (n + 1)

theorem read_hold {sp : Space} {s : Shape} {e : EltTy} (m : Memref sig .tc sp s e) (h : m.IsWhole) (G : m.view.ty.Contents (Elt F)) (X : ℕ → s.Idx → Elt F e)
    (h0 : m.view.read (Elt F) G = X 0) : ∀ n, m.view.read (Elt F) (hold G (fun k => h.unread (X k)) n) = X n
  | 0 => h0
  | n + 1 => h.read_unread _

/-- Before trip `k` the buffers read are as at entry, and the two accumulators are `st`'s. -/
abbrev inv (𝒱 : Variants) (c : Dev nD) (bd : Option 𝒱.V) (i : grid0.Coords) (arg1 : Memref sig .tc .smem S16 .f32) (harg1 : arg1.IsWhole) (arg2 : Memref sig .tc .smem S16 .f32) (harg2 : arg2.IsWhole) (arg3 : Memref sig .tc .vmem S3x4096x128 .f32) (harg3 : arg3.IsWhole) (arg4 : Memref sig .tc .vmem S4096x128 .f32) (harg4 : arg4.IsWhole) (arg5 : Memref sig .tc .vmem S1x4096x128 .bf16) (harg5 : arg5.IsWhole) (arg6 : Memref sig .tc .vmem S1x4096x128 .f32) (harg6 : arg6.IsWhole) (arg7 : Memref sig .tc .vmem S3x4096x128 .bf16) (harg7 : arg7.IsWhole) (arg8 : Memref sig .tc .vmem S1x8x128 .f32) (harg8 : arg8.IsWhole) (arg9 : Memref sig .tc .vmem S4096x128 .f32) (harg9 : arg9.IsWhole) (arg10 : Memref sig .tc .vmem S128x128 .f32) (harg10 : arg10.IsWhole) (arg11 : Memref sig .tc .vmem S1x4096x128 .f32) (harg11 : arg11.IsWhole) (arg12 : Memref sig .tc .vmem S3x4096x128 .f32) (harg12 : arg12.IsWhole) (v2 : IVec S128x128 1) (v18 : FVec F S256x1 .f32) (v26 : Elt F .f32) (v30 : Elt F .f32) (v32 : IVec S256x256 32) (v34 : IVec S256x256 1) (v37 : IVec S256x256 32) (c128_i32_10 : BitVec 32)
    (X3 : BufTy.Contents (Elt F) arg3.view.ty) (X4 : BufTy.Contents (Elt F) arg4.view.ty) (X9 : BufTy.Contents (Elt F) arg9.view.ty)
    (X11 : BufTy.Contents (Elt F) arg11.view.ty) (G10 : BufTy.Contents (Elt F) arg10.view.ty) (G12 : BufTy.Contents (Elt F) arg12.view.ty) (k : ℕ) (_u : PUnit) : sProp 𝕄 :=
  iprop((arg3.view.loc (c : Thread nD τ) ↦[arg3.view.set]{fullShare} X3) ∗ (arg4.view.loc (c : Thread nD τ) ↦[arg4.view.set]{fullShare} X4)
    ∗ (arg9.view.loc (c : Thread nD τ) ↦[arg9.view.set]{fullShare} X9) ∗ (arg11.view.loc (c : Thread nD τ) ↦[arg11.view.set]{fullShare} X11)
    ∗ (∃ f, (arg10.view.loc (c : Thread nD τ) ↦[arg10.view.set]{fullShare} f) ∗ ⌜f = hold G10 (fun k => harg10.unread (st v2 v18 v26 v30 v32 v34 v37 c128_i32_10
        (arg3.view.read (Elt F) X3) (arg4.view.read (Elt F) X4) (arg9.view.read (Elt F) X9) (arg11.view.read (Elt F) X11) (arg10.view.read (Elt F) G10) (arg12.view.read (Elt F) G12) k).1) k⌝)
    ∗ (∃ f, (arg12.view.loc (c : Thread nD τ) ↦[arg12.view.set]{fullShare} f) ∗ ⌜f = hold G12 (fun k => harg12.unread (st v2 v18 v26 v30 v32 v34 v37 c128_i32_10
        (arg3.view.read (Elt F) X3) (arg4.view.read (Elt F) X4) (arg9.view.read (Elt F) X9) (arg11.view.read (Elt F) X11) (arg10.view.read (Elt F) G10) (arg12.view.read (Elt F) G12) k).2) k⌝))

set_option warn.classDefReducibility false in
@[sl_loop] def loopInv_k0_t2 (𝒱 : Variants) (c : Dev nD) (bd : Option 𝒱.V) (E : Set ℕ) (i : grid0.Coords) (arg1 : Memref sig .tc .smem S16 .f32) (harg1 : arg1.IsWhole) (arg2 : Memref sig .tc .smem S16 .f32) (harg2 : arg2.IsWhole) (arg3 : Memref sig .tc .vmem S3x4096x128 .f32) (harg3 : arg3.IsWhole) (arg4 : Memref sig .tc .vmem S4096x128 .f32) (harg4 : arg4.IsWhole) (arg5 : Memref sig .tc .vmem S1x4096x128 .bf16) (harg5 : arg5.IsWhole) (arg6 : Memref sig .tc .vmem S1x4096x128 .f32) (harg6 : arg6.IsWhole) (arg7 : Memref sig .tc .vmem S3x4096x128 .bf16) (harg7 : arg7.IsWhole) (arg8 : Memref sig .tc .vmem S1x8x128 .f32) (harg8 : arg8.IsWhole) (arg9 : Memref sig .tc .vmem S4096x128 .f32) (harg9 : arg9.IsWhole) (arg10 : Memref sig .tc .vmem S128x128 .f32) (harg10 : arg10.IsWhole) (arg11 : Memref sig .tc .vmem S1x4096x128 .f32) (harg11 : arg11.IsWhole) (arg12 : Memref sig .tc .vmem S3x4096x128 .f32) (harg12 : arg12.IsWhole) (v2 : IVec S128x128 1) (v18 : FVec F S256x1 .f32) (v26 : Elt F .f32) (v30 : Elt F .f32) (v32 : IVec S256x256 32) (v34 : IVec S256x256 1) (v37 : IVec S256x256 32) (c128_i32_10 : BitVec 32)
    (X3 : BufTy.Contents (Elt F) arg3.view.ty) (X4 : BufTy.Contents (Elt F) arg4.view.ty) (X9 : BufTy.Contents (Elt F) arg9.view.ty)
    (X11 : BufTy.Contents (Elt F) arg11.view.ty) (G10 : BufTy.Contents (Elt F) arg10.view.ty) (G12 : BufTy.Contents (Elt F) arg12.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 v2 v18 v26 v30 v32 v34 v37 c128_i32_10 where
  inv := inv (F := F) 𝒱 c bd i arg1 harg1 arg2 harg2 arg3 harg3 arg4 harg4 arg5 harg5 arg6 harg6 arg7 harg7 arg8 harg8 arg9 harg9 arg10 harg10 arg11 harg11 arg12 harg12 v2 v18 v26 v30 v32 v34 v37 c128_i32_10 X3 X4 X9 X11 G10 G12
  step k acc := by
    iintro ⟨H3, H4, H9, H11, ⟨%f10, H10, %h10⟩, ⟨%f12, H12, %h12⟩⟩
    iapply (wp_wand_r Idealize.ShloMosaic.frame (wpE (defs₀ (F := F)) 𝒱 (c : Thread nD τ) bd) E)
    isplitl [H3 H4 H9 H11 H10 H12]
    · iapply ((trip (F := F) 𝒱 c bd i arg1 harg1 arg2 harg2 arg3 harg3 arg4 harg4 arg5 harg5 arg6 harg6 arg7 harg7 arg8 harg8 arg9 harg9 arg10 harg10 arg11 harg11 arg12 harg12 v2 v18 v26 v30 v32 v34 v37 c128_i32_10 X3 X4 X9 X11 k f10 f12).2.2 E)
      isplitl [H3]; · iexact H3
      isplitl [H4]; · iexact H4
      isplitl [H9]; · iexact H9
      isplitl [H11]; · iexact H11
      isplitl [H10]; · iexact H10
      iexact H12
    · iintro %_ ⟨H3, H4, H9, H11, H10, H12⟩
      isplitl [H3]; · iexact H3
      isplitl [H4]; · iexact H4
      isplitl [H9]; · iexact H9
      isplitl [H11]; · iexact H11
      have e10 := trip10_raw (F := F) 𝒱 c bd i arg1 harg1 arg2 harg2 arg3 harg3 arg4 harg4 arg5 harg5 arg6 harg6 arg7 harg7 arg8 harg8 arg9 harg9 arg10 harg10 arg11 harg11 arg12 harg12 v2 v18 v26 v30 v32 v34 v37 c128_i32_10 X3 X4 X9 X11 k f10 f12
      have e12 := trip12_raw (F := F) 𝒱 c bd i arg1 harg1 arg2 harg2 arg3 harg3 arg4 harg4 arg5 harg5 arg6 harg6 arg7 harg7 arg8 harg8 arg9 harg9 arg10 harg10 arg11 harg11 arg12 harg12 v2 v18 v26 v30 v32 v34 v37 c128_i32_10 X3 X4 X9 X11 k f10 f12
      have s := st_succ (F := F) v2 v18 v26 v30 v32 v34 v37 c128_i32_10
        (arg3.view.read (Elt F) X3) (arg4.view.read (Elt F) X4) (arg9.view.read (Elt F) X9) (arg11.view.read (Elt F) X11) (arg10.view.read (Elt F) G10) (arg12.view.read (Elt F) G12) (k.cast trips_eq)
      isplitl [H10]
      · iexists _; isplitl [H10]; · iexact H10
        ipureintro
        refine e10.trans (congrArg harg10.unread ?_)
        refine Eq.trans ?_ (congrArg Prod.fst s).symm
        refine congrArg (step10 _ _ _ _ _) ?_
        rw [h10]
        exact read_hold arg10 harg10 G10 _ rfl k.val
      · iexists _; isplitl [H12]; · iexact H12
        ipureintro
        refine e12.trans (congrArg harg12.unread ?_)
        refine Eq.trans ?_ (congrArg Prod.snd s).symm
        refine congrArg (step12 _ _ _ _ _ _ _ _ _ _ _ _) ?_
        rw [h12]
        exact read_hold arg12 harg12 G12 _ rfl k.val

end Cert.KernelIdeal.Loop

end
-- ==== Proof.Tiles.lean ====
module

public import proofs.«01_k».proof.Proof.Gen.KernelIdeal.Loops
public import proofs.«01_k».proof.Proof.Blocks

/-!
# The loops before and after the pass over the blocks

The first loop clears the gradients' planes, copies the rows' log-sums and computes the rows' inner products of output
and cotangent; the last rounds the planes to the result's type. Each trip stores 256 rows of its own.
-/

@[expose] public section

set_option maxRecDepth 16384
set_option maxHeartbeats 4000000

noncomputable section

namespace Cert.KernelIdeal.Loop

open Cert.KernelIdeal Cert.KernelIdeal.Gen Cert.Blocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

theorem off3_eq : ∀ k : Fin k0_t1_loop.trips, k0_off3 k = ![256 * k.val, 0] := by decide +kernel
theorem off4_eq : ∀ k : Fin k0_t1_loop.trips, k0_off4 k = ![0, 256 * k.val, 0] := by decide +kernel
theorem off5_eq : ∀ k : Fin k0_t1_loop.trips, k0_off5 k = ![0, 256 * k.val, 0] := by decide +kernel
theorem off13_eq : ∀ k : Fin k0_t3_loop.trips, k0_off13 k = ![0, 256 * k.val, 0] := by decide +kernel
theorem trips1_eq : k0_t1_loop.trips = 16 := by decide
theorem trips3_eq : k0_t3_loop.trips = 16 := by decide

theorem tile_le {k n : ℕ} (hn : n = 16) (k : Fin n) : 256 * k.val + 256 ≤ 4096 := by omega

/-- The 256 rows a row of the array lies in. -/
def tileOf {A C : ℕ} (y : (⟨3, ![A, 4096, C]⟩ : Shape).Idx) : Fin 16 := ⟨(y 1).val / 256, by have : (y 1).val < 4096 := (y 1).isLt; omega⟩
def tileOf2 {C : ℕ} (y : (⟨2, ![4096, C]⟩ : Shape).Idx) : Fin 16 := ⟨(y 0).val / 256, by have : (y 0).val < 4096 := (y 0).isLt; omega⟩

/-- The rows' inner products of output and cotangent, spread over each head's lanes. -/
def dbar (x4 : Vec F S4096x128 .f32) (x5 : Vec F S1x4096x128 .bf16) : Vec F S4096x128 .f32 := fun y =>
  k0_pay33 (k0_pay8 (row2 (r := 256) x4 (tileOf2 y).val (by omega)) (row3 (r := 256) x5 0 (tileOf2 y).val (by omega)))
    (ix2 ⟨(y 0).val % 256, Nat.mod_lt _ (by decide)⟩ (y 1))
/-- The rows' log-sums, spread over each head's lanes. -/
def lrow (x6 : Vec F S1x4096x128 .f32) : Vec F S1x4096x128 .f32 := fun y =>
  k0_pay7 k0_pay31 (row3 (r := 256) x6 0 (tileOf y).val (by omega)) (ix3 (y 0) ⟨(y 1).val % 256, Nat.mod_lt _ (by decide)⟩ (y 2))
/-- The cleared planes. -/
def cleared : Vec F S3x4096x128 .f32 := fun y => k0_pay6 (F := F) (ix3 (y 0) ⟨(y 1).val % 256, Nat.mod_lt _ (by decide)⟩ (y 2))
/-- The planes rounded to the result's type. -/
def rounded (Z : Vec F S3x4096x128 .f32) : Vec F S3x4096x128 .bf16 := fun y =>
  k0_pay5 (rowsP (r := 256) Z (tileOf y).val (by omega)) (ix3 (y 0) ⟨(y 1).val % 256, Nat.mod_lt _ (by decide)⟩ (y 2))

section

variable (𝒱 : Variants) (c : Dev nD) (bd : Option 𝒱.V) (i : grid0.Coords) (arg1 : Memref sig .tc .smem S16 .f32) (harg1 : arg1.IsWhole) (arg2 : Memref sig .tc .smem S16 .f32) (harg2 : arg2.IsWhole) (arg3 : Memref sig .tc .vmem S3x4096x128 .f32) (harg3 : arg3.IsWhole) (arg4 : Memref sig .tc .vmem S4096x128 .f32) (harg4 : arg4.IsWhole) (arg5 : Memref sig .tc .vmem S1x4096x128 .bf16) (harg5 : arg5.IsWhole) (arg6 : Memref sig .tc .vmem S1x4096x128 .f32) (harg6 : arg6.IsWhole) (arg7 : Memref sig .tc .vmem S3x4096x128 .bf16) (harg7 : arg7.IsWhole) (arg8 : Memref sig .tc .vmem S1x8x128 .f32) (harg8 : arg8.IsWhole) (arg9 : Memref sig .tc .vmem S4096x128 .f32) (harg9 : arg9.IsWhole) (arg10 : Memref sig .tc .vmem S128x128 .f32) (harg10 : arg10.IsWhole) (arg11 : Memref sig .tc .vmem S1x4096x128 .f32) (harg11 : arg11.IsWhole) (arg12 : Memref sig .tc .vmem S3x4096x128 .f32) (harg12 : arg12.IsWhole)

theorem trip1_9 (X4 X5 X6) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 X4 X5 X6 k).1 = [⟨Rect.unit (s := S4096x128) (k0_off3 k) S256x128.size (k0_off3_inb k), k0_pay33 (k0_pay8 (arg4.view.readAt (Elt F) (Rect.unit (s := S4096x128) (k0_off3 k) S256x128.size (k0_off3_inb k)).toLoadRect X4) (arg5.view.readAt (Elt F) (Rect.unit (s := S1x4096x128) (k0_off5 k) S1x256x128.size (k0_off5_inb k)).toLoadRect X5))⟩] := by
  unfold tripL_k0_t1 trip_k0_t1; rfl

set_option backward.isDefEq.respectTransparency.types false in
theorem loop1_9 (x4 : Vec F S4096x128 .f32) (x5 : Vec F S1x4096x128 .bf16) (x6 : Vec F S1x4096x128 .f32) (G) :
    arg9.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 (harg4.unread x4) (harg5.unread x5) (harg6.unread x6) k0_t1_loop.trips).1 = harg9.unread (dbar x4 x5) := by
  have h4 (k : Fin k0_t1_loop.trips) := readAt_row2 (r := 256) arg4 harg4 x4 (k0_off3 k) k.val (off3_eq k) (by have := trips1_eq; omega) (k0_off3_inb k)
  have h5 (k : Fin k0_t1_loop.trips) := readAt_row3 (r := 256) arg5 harg5 x5 (k0_off5 k) 0 k.val (off5_eq k) (by have := trips1_eq; omega) (k0_off5_inb k)
  have h6 (k : Fin k0_t1_loop.trips) := readAt_row3 (r := 256) arg6 harg6 x6 (k0_off5 k) 0 k.val (off5_eq k) (by have := trips1_eq; omega) (k0_off5_inb k)
  refine (tiles2 (n := k0_t1_loop.trips) (r := 256) (by decide) arg9 harg9 G (by decide)
    (fun n => (pb_k0_t1 (F := F) 𝒱 c bd i arg1 harg1 arg2 harg2 arg3 harg3 arg4 harg4 arg5 harg5 arg6 harg6 arg7 harg7 arg8 harg8 arg9 harg9 arg10 harg10 arg11 harg11 arg12 harg12 (harg4.unread x4) (harg5.unread x5) (harg6.unread x6) n).1)
    k0_off3 off3_eq k0_off3_inb _ rfl (fun k => by rw [pb_k0_t1_succ]; exact congrArg (· ++ _) (trip1_9 𝒱 c bd i arg1 harg1 arg2 harg2 arg3 harg3 arg4 harg4 arg5 harg5 arg6 harg6 arg7 harg7 arg8 harg8 arg9 harg9 arg10 harg10 arg11 harg11 arg12 harg12 _ _ _ k))).trans ?_
  refine congrArg harg9.unread (funext fun y => ?_)
  unfold dbar
  rw [h4, h5]; rfl

theorem trip1_11 (X4 X5 X6) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 X4 X5 X6 k).2.1 = [⟨Rect.unit (s := S1x4096x128) (k0_off5 k) S1x256x128.size (k0_off5_inb k), k0_pay7 k0_pay31 (arg6.view.readAt (Elt F) (Rect.unit (s := S1x4096x128) (k0_off5 k) S1x256x128.size (k0_off5_inb k)).toLoadRect X6)⟩] := by
  unfold tripL_k0_t1 trip_k0_t1; rfl

set_option backward.isDefEq.respectTransparency.types false in
theorem loop1_11 (x4 : Vec F S4096x128 .f32) (x5 : Vec F S1x4096x128 .bf16) (x6 : Vec F S1x4096x128 .f32) (G) :
    arg11.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 (harg4.unread x4) (harg5.unread x5) (harg6.unread x6) k0_t1_loop.trips).2.1 = harg11.unread (lrow x6) := by
  have h4 (k : Fin k0_t1_loop.trips) := readAt_row2 (r := 256) arg4 harg4 x4 (k0_off3 k) k.val (off3_eq k) (by have := trips1_eq; omega) (k0_off3_inb k)
  have h5 (k : Fin k0_t1_loop.trips) := readAt_row3 (r := 256) arg5 harg5 x5 (k0_off5 k) 0 k.val (off5_eq k) (by have := trips1_eq; omega) (k0_off5_inb k)
  have h6 (k : Fin k0_t1_loop.trips) := readAt_row3 (r := 256) arg6 harg6 x6 (k0_off5 k) 0 k.val (off5_eq k) (by have := trips1_eq; omega) (k0_off5_inb k)
  refine (tiles3 (n := k0_t1_loop.trips) (r := 256) (by decide) arg11 harg11 G (by decide)
    (fun n => (pb_k0_t1 (F := F) 𝒱 c bd i arg1 harg1 arg2 harg2 arg3 harg3 arg4 harg4 arg5 harg5 arg6 harg6 arg7 harg7 arg8 harg8 arg9 harg9 arg10 harg10 arg11 harg11 arg12 harg12 (harg4.unread x4) (harg5.unread x5) (harg6.unread x6) n).2.1)
    k0_off5 off5_eq k0_off5_inb _ rfl (fun k => by rw [pb_k0_t1_succ]; exact congrArg (· ++ _) (trip1_11 𝒱 c bd i arg1 harg1 arg2 harg2 arg3 harg3 arg4 harg4 arg5 harg5 arg6 harg6 arg7 harg7 arg8 harg8 arg9 harg9 arg10 harg10 arg11 harg11 arg12 harg12 _ _ _ k))).trans ?_
  refine congrArg harg11.unread (funext fun y => ?_)
  unfold lrow
  rw [h6]; rfl

theorem trip1_12 (X4 X5 X6) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 X4 X5 X6 k).2.2 = [⟨Rect.unit (s := S3x4096x128) (k0_off4 k) S3x256x128.size (k0_off4_inb k), (k0_pay6 (F := F))⟩] := by
  unfold tripL_k0_t1 trip_k0_t1; rfl

set_option backward.isDefEq.respectTransparency.types false in
theorem loop1_12 (x4 : Vec F S4096x128 .f32) (x5 : Vec F S1x4096x128 .bf16) (x6 : Vec F S1x4096x128 .f32) (G) :
    arg12.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 (harg4.unread x4) (harg5.unread x5) (harg6.unread x6) k0_t1_loop.trips).2.2 = harg12.unread (cleared (F := F)) := by
  have h4 (k : Fin k0_t1_loop.trips) := readAt_row2 (r := 256) arg4 harg4 x4 (k0_off3 k) k.val (off3_eq k) (by have := trips1_eq; omega) (k0_off3_inb k)
  have h5 (k : Fin k0_t1_loop.trips) := readAt_row3 (r := 256) arg5 harg5 x5 (k0_off5 k) 0 k.val (off5_eq k) (by have := trips1_eq; omega) (k0_off5_inb k)
  have h6 (k : Fin k0_t1_loop.trips) := readAt_row3 (r := 256) arg6 harg6 x6 (k0_off5 k) 0 k.val (off5_eq k) (by have := trips1_eq; omega) (k0_off5_inb k)
  refine (tiles3 (n := k0_t1_loop.trips) (r := 256) (by decide) arg12 harg12 G (by decide)
    (fun n => (pb_k0_t1 (F := F) 𝒱 c bd i arg1 harg1 arg2 harg2 arg3 harg3 arg4 harg4 arg5 harg5 arg6 harg6 arg7 harg7 arg8 harg8 arg9 harg9 arg10 harg10 arg11 harg11 arg12 harg12 (harg4.unread x4) (harg5.unread x5) (harg6.unread x6) n).2.2)
    k0_off4 off4_eq k0_off4_inb _ rfl (fun k => by rw [pb_k0_t1_succ]; exact congrArg (· ++ _) (trip1_12 𝒱 c bd i arg1 harg1 arg2 harg2 arg3 harg3 arg4 harg4 arg5 harg5 arg6 harg6 arg7 harg7 arg8 harg8 arg9 harg9 arg10 harg10 arg11 harg11 arg12 harg12 _ _ _ k))).trans ?_
  refine congrArg harg12.unread (funext fun y => ?_)
  rfl

theorem trip3_7 (X12) (k : Fin k0_t3_loop.trips) :
    tripL_k0_t3 (F := F) 𝒱 c bd i arg1 harg1 arg2 harg2 arg3 harg3 arg4 harg4 arg5 harg5 arg6 harg6 arg7 harg7 arg8 harg8 arg9 harg9 arg10 harg10 arg11 harg11 arg12 harg12 X12 k = [⟨Rect.unit (s := S3x4096x128) (k0_off13 k) S3x256x128.size (k0_off13_inb k),
      k0_pay5 (arg12.view.readAt (Elt F) (Rect.unit (s := S3x4096x128) (k0_off13 k) S3x256x128.size (k0_off13_inb k)).toLoadRect X12)⟩] := by
  unfold tripL_k0_t3 trip_k0_t3; rfl

set_option backward.isDefEq.respectTransparency.types false in
theorem loop3_7 (Z : Vec F S3x4096x128 .f32) (G) :
    arg7.view.writes (Elt F) G (pb_k0_t3 (F := F) 𝒱 c bd i arg1 harg1 arg2 harg2 arg3 harg3 arg4 harg4 arg5 harg5 arg6 harg6 arg7 harg7 arg8 harg8 arg9 harg9 arg10 harg10 arg11 harg11 arg12 harg12 (harg12.unread Z) k0_t3_loop.trips) = harg7.unread (rounded Z) := by
  have h12 (k : Fin k0_t3_loop.trips) := readAt_rowsP (r := 256) arg12 harg12 Z (k0_off13 k) k.val (off13_eq k) (by have := trips3_eq; omega) (k0_off13_inb k)
  refine (tiles3 (n := k0_t3_loop.trips) (r := 256) (by decide) arg7 harg7 G (by decide)
    (fun n => pb_k0_t3 (F := F) 𝒱 c bd i arg1 harg1 arg2 harg2 arg3 harg3 arg4 harg4 arg5 harg5 arg6 harg6 arg7 harg7 arg8 harg8 arg9 harg9 arg10 harg10 arg11 harg11 arg12 harg12 (harg12.unread Z) n)
    k0_off13 off13_eq k0_off13_inb _ rfl (fun k => by rw [pb_k0_t3_succ]; exact congrArg (· ++ _) (trip3_7 𝒱 c bd i arg1 harg1 arg2 harg2 arg3 harg3 arg4 harg4 arg5 harg5 arg6 harg6 arg7 harg7 arg8 harg8 arg9 harg9 arg10 harg10 arg11 harg11 arg12 harg12 _ k))).trans ?_
  refine congrArg harg7.unread (funext fun y => ?_)
  unfold rounded
  rw [h12]; rfl

end

end Cert.KernelIdeal.Loop

end
-- ==== Proof.Body.lean ====
module

public import proofs.«01_k».proof.Proof.Gen.KernelIdeal.Frame
public import proofs.«01_k».proof.Proof.Loop
public import proofs.«01_k».proof.Proof.Tiles

/-!
# The kernel's body and its run

What the body leaves in the two results' blocks is a function of the blocks it is given: the first loop's tables, the
pass over the 32 blocks of rows from zeros, the sinks' rows summed, the planes rounded.
-/

@[expose] public section

set_option maxRecDepth 16384
set_option maxHeartbeats 4000000

noncomputable section

namespace Cert.KernelIdeal.Loop

open Cert.KernelIdeal Cert.KernelIdeal.Gen Cert.Blocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The two results before the last rounding: the accumulator of the sinks' gradient, and the planes. -/
def fin (i : grid0.Coords) (x1 x2 : Vec F S16 .f32) (x3 : Vec F S3x4096x128 .f32) (x4 : Vec F S4096x128 .f32)
    (x5 : Vec F S1x4096x128 .bf16) (x6 : Vec F S1x4096x128 .f32) : Vec F S128x128 .f32 × Vec F S3x4096x128 .f32 :=
  let h0 : Fin 16 := ⟨2 * (i 0).val, by have : (i 0).val < 8 := (i 0).isLt; omega⟩
  let h1 : Fin 16 := ⟨2 * (i 0).val + 1, by have : (i 0).val < 8 := (i 0).isLt; omega⟩
  st k0_pay30 (k0_pay32 (x2 (ix1 h0)) (x2 (ix1 h1))) (x1 (ix1 h0)) (x1 (ix1 h1)) (iota .tc S256x256 32 [1] iota_S256x256_d1_w32) k0_pay35 k0_pay36 128#32
    x3 x4 (dbar x4 x5) (lrow x6) k0_pay34 cleared 32

def out7 (i : grid0.Coords) (x1 x2 : Vec F S16 .f32) (x3 : Vec F S3x4096x128 .f32) (x4 : Vec F S4096x128 .f32)
    (x5 : Vec F S1x4096x128 .bf16) (x6 : Vec F S1x4096x128 .f32) : Vec F S3x4096x128 .bf16 := rounded (fin i x1 x2 x3 x4 x5 x6).2
def out8 (i : grid0.Coords) (x1 x2 : Vec F S16 .f32) (x3 : Vec F S3x4096x128 .f32) (x4 : Vec F S4096x128 .f32)
    (x5 : Vec F S1x4096x128 .bf16) (x6 : Vec F S1x4096x128 .f32) : Vec F S1x8x128 .f32 := k0_pay4 (fin i x1 x2 x3 x4 x5 x6).1

theorem off1_eq : ∀ i : grid0.Coords, k0_off1 i 0 = 2 * (i 0).val := by decide +kernel
theorem off2_eq : ∀ i : grid0.Coords, k0_off2 i 0 = 2 * (i 0).val + 1 := by decide +kernel

theorem hold_trips {α : Type} (G : α) (X : ℕ → α) : hold G X (Scf.trips k0_t2_loop.lb k0_t2_loop.ub k0_t2_loop.st) = X 32 := by
  rw [show Scf.trips k0_t2_loop.lb k0_t2_loop.ub k0_t2_loop.st = 31 + 1 from by decide]; rfl

theorem sound_kernel (c : Dev nD) (E : Set ℕ) (i : grid0.Coords) (arg1 : Memref sig .tc .smem S16 .f32) (harg1 : arg1.IsWhole) (arg2 : Memref sig .tc .smem S16 .f32) (harg2 : arg2.IsWhole) (arg3 : Memref sig .tc .vmem S3x4096x128 .f32) (harg3 : arg3.IsWhole) (arg4 : Memref sig .tc .vmem S4096x128 .f32) (harg4 : arg4.IsWhole) (arg5 : Memref sig .tc .vmem S1x4096x128 .bf16) (harg5 : arg5.IsWhole) (arg6 : Memref sig .tc .vmem S1x4096x128 .f32) (harg6 : arg6.IsWhole) (arg7 : Memref sig .tc .vmem S3x4096x128 .bf16) (harg7 : arg7.IsWhole) (arg8 : Memref sig .tc .vmem S1x8x128 .f32) (harg8 : arg8.IsWhole) (arg9 : Memref sig .tc .vmem S4096x128 .f32) (harg9 : arg9.IsWhole) (arg10 : Memref sig .tc .vmem S128x128 .f32) (harg10 : arg10.IsWhole) (arg11 : Memref sig .tc .vmem S1x4096x128 .f32) (harg11 : arg11.IsWhole) (arg12 : Memref sig .tc .vmem S3x4096x128 .f32) (harg12 : arg12.IsWhole)
    (x1 x2 : Vec F S16 .f32) (x3 : Vec F S3x4096x128 .f32) (x4 : Vec F S4096x128 .f32) (x5 : Vec F S1x4096x128 .bf16) (x6 : Vec F S1x4096x128 .f32)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out7 i x1 x2 x3 x4 x5 x6) ∗ owns (c : Thread nD τ) arg8 fullShare (out8 i x1 x2 x3 x4 x5 x6) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none (c : Thread nD τ) none) E (cc0_attn_b_bwd i arg1 harg1 arg2 harg2 arg3 harg3 arg4 harg4 arg5 harg5 arg6 harg6 arg7 harg7 arg8 harg8 arg9 harg9 arg10 harg10 arg11 harg11 arg12 harg12) K := by
  rw [cc0_attn_b_bwd_eq_skeleton]; unfold cc0_attn_b_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl : f1 = harg1.unread x1 := harg1.eq_unread hf1
  obtain rfl : f2 = harg2.unread x2 := harg2.eq_unread hf2
  obtain rfl : f3 = harg3.unread x3 := harg3.eq_unread hf3
  obtain rfl : f4 = harg4.unread x4 := harg4.eq_unread hf4
  obtain rfl : f5 = harg5.unread x5 := harg5.eq_unread hf5
  obtain rfl : f6 = harg6.unread x6 := harg6.eq_unread hf6
  sl_exec_parts
  rw [show (pb_k0_t1 (F := F) Variants.none c none i arg1 harg1 arg2 harg2 arg3 harg3 arg4 harg4 arg5 harg5 arg6 harg6 arg7 harg7 arg8 harg8 arg9 harg9 arg10 harg10 arg11 harg11 arg12 harg12 (harg4.unread x4) (harg5.unread x5) (harg6.unread x6) (Scf.trips k0_t1_loop.lb k0_t1_loop.ub k0_t1_loop.st)) = pb_k0_t1 (F := F) Variants.none c none i arg1 harg1 arg2 harg2 arg3 harg3 arg4 harg4 arg5 harg5 arg6 harg6 arg7 harg7 arg8 harg8 arg9 harg9 arg10 harg10 arg11 harg11 arg12 harg12 (harg4.unread x4) (harg5.unread x5) (harg6.unread x6) k0_t1_loop.trips from rfl,
    loop1_9, loop1_11, loop1_12]
  sl_exec
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  have hi : (i 0).val < 8 := (i 0).isLt
  have s0 : sound_kernel.sl.r c i arg2 harg2 x2 = x2 (ix1 ⟨2 * (i 0).val, by omega⟩) :=
    readAt_one arg2 harg2 x2 (k0_off1 i) _ (off1_eq i) (by omega) (k0_off1_inb i) _
  have s1 : sound_kernel.sl.r_1 c i arg2 harg2 x2 = x2 (ix1 ⟨2 * (i 0).val + 1, by omega⟩) :=
    readAt_one arg2 harg2 x2 (k0_off2 i) _ (off2_eq i) (by omega) (k0_off2_inb i) _
  have s2 : sound_kernel.sl.r_2 c i arg1 harg1 x1 = x1 (ix1 ⟨2 * (i 0).val, by omega⟩) :=
    readAt_one arg1 harg1 x1 (k0_off1 i) _ (off1_eq i) (by omega) (k0_off1_inb i) _
  have s3 : sound_kernel.sl.r_3 c i arg1 harg1 x1 = x1 (ix1 ⟨2 * (i 0).val + 1, by omega⟩) :=
    readAt_one arg1 harg1 x1 (k0_off2 i) _ (off2_eq i) (by omega) (k0_off2_inb i) _
  have e10 : arg10.view.read (Elt F) (arg10.view.writes (Elt F) arg10.view.junk sound_kernel.sl.H10_1) = k0_pay34 (F := F) :=
    (congrArg (arg10.view.read (Elt F)) (writes_all2 (Val := Elt F) arg10 harg10 arg10.view.junk inb_S128x128_S128x128_0_0 (k0_pay34 (F := F)) [])).trans (harg10.read_unread _)
  have ef : fin i x1 x2 x3 x4 x5 x6 = st (cmpi CmpIPredicate.slt sound_kernel.sl.v0 sound_kernel.sl.v1) (sound_kernel.sl.v18 c i arg2 harg2 x2)
      (sound_kernel.sl.r_2 c i arg1 harg1 x1) (sound_kernel.sl.r_3 c i arg1 harg1 x1) sound_kernel.sl.v32
      (cmpi CmpIPredicate.slt sound_kernel.sl.v31 sound_kernel.sl.v33) sound_kernel.sl.v37 (128#32)
      (View.read (Elt F) arg3.view (harg3.unread x3)) (View.read (Elt F) arg4.view (harg4.unread x4))
      (View.read (Elt F) arg9.view (harg9.unread (dbar x4 x5))) (View.read (Elt F) arg11.view (harg11.unread (lrow x6)))
      (arg10.view.read (Elt F) (arg10.view.writes (Elt F) arg10.view.junk sound_kernel.sl.H10_1)) (View.read (Elt F) arg12.view (harg12.unread cleared)) 32 := by
    rw [e10, harg3.read_unread, harg4.read_unread, harg9.read_unread, harg11.read_unread, harg12.read_unread, s2, s3,
      show sound_kernel.sl.v18 c i arg2 harg2 x2 = k0_pay32 (sound_kernel.sl.r c i arg2 harg2 x2) (sound_kernel.sl.r_1 c i arg2 harg2 x2) from rfl,
      s0, s1]
    rfl
  isplitl [H7]
  · iexists _; isplitr; swap; · iexact H7
    ipureintro
    rw [hold_trips]
    refine (congrArg _ (loop3_7 Variants.none c none i arg1 harg1 arg2 harg2 arg3 harg3 arg4 harg4 arg5 harg5 arg6 harg6 arg7 harg7 arg8 harg8 arg9 harg9 arg10 harg10 arg11 harg11 arg12 harg12 _ f7)).trans ((harg7.read_unread _).trans ?_)
    unfold out7
    rw [ef]; rfl
  isplitl [H8]
  · iexists _; isplitr; swap; · iexact H8
    ipureintro
    refine (congrArg _ (writes_all3 arg8 harg8 _ inb_S1x8x128_S1x8x128_0_0_0 _ _)).trans ((harg8.read_unread _).trans ?_)
    refine Eq.trans ?_ (congrArg (fun p : Vec F S128x128 .f32 × Vec F S3x4096x128 .f32 => k0_pay4 (F := F) p.1) ef.symm)
    unfold sound_kernel.sl.v60
    rw [show (pb_k0_t1 (F := F) Variants.none c none i arg1 harg1 arg2 harg2 arg3 harg3 arg4 harg4 arg5 harg5 arg6 harg6 arg7 harg7 arg8 harg8 arg9 harg9 arg10 harg10 arg11 harg11 arg12 harg12 (harg4.unread x4) (harg5.unread x5) (harg6.unread x6) (Scf.trips k0_t1_loop.lb k0_t1_loop.ub k0_t1_loop.st)) = pb_k0_t1 (F := F) Variants.none c none i arg1 harg1 arg2 harg2 arg3 harg3 arg4 harg4 arg5 harg5 arg6 harg6 arg7 harg7 arg8 harg8 arg9 harg9 arg10 harg10 arg11 harg11 arg12 harg12 (harg4.unread x4) (harg5.unread x5) (harg6.unread x6) k0_t1_loop.trips from rfl,
      loop1_9, loop1_11, loop1_12, hold_trips]
    exact congrArg (k0_pay4 (F := F)) (readAt_all2 arg10 harg10 _ inb_S128x128_S128x128_0_0)
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  iexists _; iexists _; isplitr
  swap; · iexact H12
  ipureintro; rfl

variable (m : (ℓ : Loc nD τ sig) → Buf (Elt F) ℓ) (ρ : Dev nD → PrngReg)

/-- The pipeline's proof data: each operand's block stays, each result's block is the body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out7 (grid0.coords t) (iblk m c 0 t) (iblk m c 1 t) (iblk m c 2 t) (iblk m c 3 t) (iblk m c 4 t) (iblk m c 5 t)
    | ⟨7, _⟩ => out8 (grid0.coords t) (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out7 (grid0.coords t) (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out8 (grid0.coords t) (iblk m c 0 t) (iblk m c 1 t) (iblk m c 2 t) (iblk m c 3 t) (iblk m c 4 t) (iblk m c 5 t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

/-- A whole buffer at some contents is the whole memref at some entries, and back. -/
theorem scratch_in (c : Dev nD) (b : Ref sig .tc) : (iprop(∃ f : Buf (Elt F) ((c : Thread nD τ).loc b), ((c : Thread nD τ).loc b) ↦{fullShare} f) : sProp 𝕄)
    ⊢ iprop(∃ d, owns (c : Thread nD τ) (Memref.whole b) fullShare d) := by
  iintro ⟨%f, H⟩
  iexists f
  rw [owns_whole]
  iexact H

theorem scratch_out (c : Dev nD) (b : Ref sig .tc) : (iprop(∃ d, owns (c : Thread nD τ) (Memref.whole b) fullShare d) : sProp 𝕄)
    ⊢ iprop(∃ f : Buf (Elt F) ((c : Thread nD τ).loc b), ((c : Thread nD τ).loc b) ↦{fullShare} f) := by
  simp only [owns_whole]
  exact .rfl

theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7,
    show (dats (F := F) m 0 c).Φ t.castSucc = Pipeline.ΦA spec0 c from rfl]
  unfold Pipeline.ΦA
  rw [scopedRest0_eq]
  iintro ⟨⟨⟨HS0, HS1, HS2, HS3⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iapply (scratch_in c cc0_scratch0); iexact HS0
  isplitl [HS1]; · iapply (scratch_in c cc0_scratch1); iexact HS1
  isplitl [HS2]; · iapply (scratch_in c cc0_scratch2); iexact HS2
  isplitl [HS3]; · iapply (scratch_in c cc0_scratch3); iexact HS3
  iintro ⟨H0, H1, H2, H3, H4, H5, H6, H7, HS0, HS1, HS2, HS3⟩
  isplitl [HS0 HS1 HS2 HS3 Hr]
  · isplitl [HS0 HS1 HS2 HS3]
    · isplitl [HS0]; · iapply (scratch_out c cc0_scratch0); iexact HS0
      isplitl [HS1]; · iapply (scratch_out c cc0_scratch1); iexact HS1
      isplitl [HS2]; · iapply (scratch_out c cc0_scratch2); iexact HS2
      iapply (scratch_out c cc0_scratch3); iexact HS3
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

-- the run's theorem is found by unifying its conclusion with this one, which takes unfolding plain definitions in a
-- metavariable's type
set_option backward.isDefEq.respectTransparency.types false in
/-- Every run of the program ends with the arrays at what the proof data say. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The run with its post read at the three arguments, the counters beside it. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

end Cert.KernelIdeal.Loop

end
-- ==== Proof.HostV.lean ====
module

public import proofs.«01_k».proof.Proof.Body
public import Idealize.ShloMosaic.Lib.Claim

/-!
# What the host's operations leave

The host's list, cut into stretches; each buffer that is read later, in terms of the buffers before its stretch.
-/

@[expose] public section

set_option maxRecDepth 16384
set_option maxHeartbeats 4000000

noncomputable section

namespace Cert.KernelIdeal.HostV

open Cert.KernelIdeal Cert.KernelIdeal.Gen Cert.KernelIdeal.Loop
open Idealize.ShloMosaic Idealize.ShloMosaic.TcCoe Idealize.SL.Sem

section Lists

variable {F : FTy → Type} [FloatOps F] [Named F]

abbrev ops1 : List (HloOp τ sig (Elt F)) :=
  [ StableHlo.nullary main_cst (fun i => FloatOps.ofBits .f32 (lit0 (S16.rowMajor i))),
    StableHlo.nullary main_cst_0 (fun i => FloatOps.ofBits .f32 (lit1 (S16.rowMajor i))),
    StableHlo.reshape main_cst_0 main_v0 (rfl : (.f32 : EltTy) = .f32) shapeCasts_S16_S16x1,
    StableHlo.unary main_arg0 main_v1 ((extractStridedSlice S1x4096x1024 ![0, 0, 0] · slices_S3x4096x1024_S1x4096x1024_0_0_0) : (⟨S3x4096x1024, .f32⟩ : BufTy).Contents (Elt F) → (⟨S1x4096x1024, .f32⟩ : BufTy).Contents (Elt F)),
    StableHlo.reshape main_v1 main_v2 (rfl : (.f32 : EltTy) = .f32) shapeCasts_S1x4096x1024_S4096x1024,
    StableHlo.reshape main_v2 main_v3 (rfl : (.f32 : EltTy) = .f32) shapeCasts_S4096x1024_S1x4096x16x1x64,
    StableHlo.unary main_arg0 main_v4 ((extractStridedSlice S1x4096x1024 ![1, 0, 0] · slices_S3x4096x1024_S1x4096x1024_1_0_0) : (⟨S3x4096x1024, .f32⟩ : BufTy).Contents (Elt F) → (⟨S1x4096x1024, .f32⟩ : BufTy).Contents (Elt F)),
    StableHlo.reshape main_v4 main_v5 (rfl : (.f32 : EltTy) = .f32) shapeCasts_S1x4096x1024_S4096x1024,
    StableHlo.reshape main_v5 main_v6 (rfl : (.f32 : EltTy) = .f32) shapeCasts_S4096x1024_S1x4096x16x64,
    StableHlo.unary main_arg0 main_v7 ((extractStridedSlice S1x4096x1024 ![2, 0, 0] · slices_S3x4096x1024_S1x4096x1024_2_0_0) : (⟨S3x4096x1024, .f32⟩ : BufTy).Contents (Elt F) → (⟨S1x4096x1024, .f32⟩ : BufTy).Contents (Elt F)),
    StableHlo.reshape main_v7 main_v8 (rfl : (.f32 : EltTy) = .f32) shapeCasts_S1x4096x1024_S4096x1024,
    StableHlo.reshape main_v8 main_v9 (rfl : (.f32 : EltTy) = .f32) shapeCasts_S4096x1024_S1x4096x16x64,
    StableHlo.reshape main_arg1 main_v10 (rfl : (.f32 : EltTy) = .f32) shapeCasts_S16_S16x1,
    StableHlo.reshape main_v3 main_v11 (rfl : (.f32 : EltTy) = .f32) shapeCasts_S1x4096x16x1x64_S1x32x128x16x1x64,
    StableHlo.reshape main_v6 main_v12 (rfl : (.f32 : EltTy) = .f32) shapeCasts_S1x4096x16x64_S1x32x128x16x64,
    StableHlo.unary main_v12 main_v13 ((extractStridedSlice S1x1x128x16x64 ![0, 0, 0, 0, 0] · slices_S1x32x128x16x64_S1x1x128x16x64_0_0_0_0_0) : (⟨S1x32x128x16x64, .f32⟩ : BufTy).Contents (Elt F) → (⟨S1x1x128x16x64, .f32⟩ : BufTy).Contents (Elt F)),
    StableHlo.nullary main_cst_1 (constant S_ .f32 0x00000000#32),
    StableHlo.unary main_cst_1 main_v14 (broadcastInDim S1x1x128x16x64 ![] bcast_S_S1x1x128x16x64 : (⟨S_, .f32⟩ : BufTy).Contents (Elt F) → (⟨S1x1x128x16x64, .f32⟩ : BufTy).Contents (Elt F)),
    StableHlo.unary main_v12 main_v15 ((extractStridedSlice S1x31x128x16x64 ![0, 0, 0, 0, 0] · slices_S1x32x128x16x64_S1x31x128x16x64_0_0_0_0_0) : (⟨S1x32x128x16x64, .f32⟩ : BufTy).Contents (Elt F) → (⟨S1x31x128x16x64, .f32⟩ : BufTy).Contents (Elt F)),
    StableHlo.binary main_v14 main_v15 main_v16 ((fun a b => concatenate S1x32x128x16x64 1 [⟨S1x1x128x16x64, a⟩, ⟨S1x31x128x16x64, b⟩] concatenates_S1x1x128x16x64_S1x31x128x16x64_S1x32x128x16x64_d1) : (⟨S1x1x128x16x64, .f32⟩ : BufTy).Contents (Elt F) → (⟨S1x31x128x16x64, .f32⟩ : BufTy).Contents (Elt F) → (⟨S1x32x128x16x64, .f32⟩ : BufTy).Contents (Elt F)),
    StableHlo.binary main_v16 main_v12 main_v17 ((fun a b => concatenate S1x32x256x16x64 2 [⟨S1x32x128x16x64, a⟩, ⟨S1x32x128x16x64, b⟩] concatenates_S1x32x128x16x64_S1x32x128x16x64_S1x32x256x16x64_d2) : (⟨S1x32x128x16x64, .f32⟩ : BufTy).Contents (Elt F) → (⟨S1x32x128x16x64, .f32⟩ : BufTy).Contents (Elt F) → (⟨S1x32x256x16x64, .f32⟩ : BufTy).Contents (Elt F)),
    StableHlo.reshape main_v9 main_v18 (rfl : (.f32 : EltTy) = .f32) shapeCasts_S1x4096x16x64_S1x32x128x16x64,
    StableHlo.unary main_v18 main_v19 ((extractStridedSlice S1x1x128x16x64 ![0, 0, 0, 0, 0] · slices_S1x32x128x16x64_S1x1x128x16x64_0_0_0_0_0) : (⟨S1x32x128x16x64, .f32⟩ : BufTy).Contents (Elt F) → (⟨S1x1x128x16x64, .f32⟩ : BufTy).Contents (Elt F)),
    StableHlo.nullary main_cst_2 (constant S_ .f32 0x00000000#32),
    StableHlo.unary main_cst_2 main_v20 (broadcastInDim S1x1x128x16x64 ![] bcast_S_S1x1x128x16x64 : (⟨S_, .f32⟩ : BufTy).Contents (Elt F) → (⟨S1x1x128x16x64, .f32⟩ : BufTy).Contents (Elt F)),
    StableHlo.unary main_v18 main_v21 ((extractStridedSlice S1x31x128x16x64 ![0, 0, 0, 0, 0] · slices_S1x32x128x16x64_S1x31x128x16x64_0_0_0_0_0) : (⟨S1x32x128x16x64, .f32⟩ : BufTy).Contents (Elt F) → (⟨S1x31x128x16x64, .f32⟩ : BufTy).Contents (Elt F)),
    StableHlo.binary main_v20 main_v21 main_v22 ((fun a b => concatenate S1x32x128x16x64 1 [⟨S1x1x128x16x64, a⟩, ⟨S1x31x128x16x64, b⟩] concatenates_S1x1x128x16x64_S1x31x128x16x64_S1x32x128x16x64_d1) : (⟨S1x1x128x16x64, .f32⟩ : BufTy).Contents (Elt F) → (⟨S1x31x128x16x64, .f32⟩ : BufTy).Contents (Elt F) → (⟨S1x32x128x16x64, .f32⟩ : BufTy).Contents (Elt F)),
    StableHlo.binary main_v22 main_v18 main_v23 ((fun a b => concatenate S1x32x256x16x64 2 [⟨S1x32x128x16x64, a⟩, ⟨S1x32x128x16x64, b⟩] concatenates_S1x32x128x16x64_S1x32x128x16x64_S1x32x256x16x64_d2) : (⟨S1x32x128x16x64, .f32⟩ : BufTy).Contents (Elt F) → (⟨S1x32x128x16x64, .f32⟩ : BufTy).Contents (Elt F) → (⟨S1x32x256x16x64, .f32⟩ : BufTy).Contents (Elt F)) ]

abbrev ops2 : List (HloOp τ sig (Elt F)) :=
  [ StableHlo.binary main_v17 main_v11 main_v24 ((fun l r => Host.dotGeneral dot_S1x32x256x16x64_S1x32x128x16x1x64_S1x32x16x256x128x1_4_5_2_24_013_013 none l r) : (⟨S1x32x256x16x64, .f32⟩ : BufTy).Contents (Elt F) → (⟨S1x32x128x16x1x64, .f32⟩ : BufTy).Contents (Elt F) → (⟨S1x32x16x256x128x1, .f32⟩ : BufTy).Contents (Elt F)),
    StableHlo.unary main_v24 main_v25 ((transpose S1x32x16x1x128x256 [0, 1, 2, 5, 4, 3] · transposes_S1x32x16x256x128x1_S1x32x16x1x128x256_0_1_2_5_4_3) : (⟨S1x32x16x256x128x1, .f32⟩ : BufTy).Contents (Elt F) → (⟨S1x32x16x1x128x256, .f32⟩ : BufTy).Contents (Elt F)),
    StableHlo.nullary main_cst_3 (constant S_ .f32 0x3E000000#32),
    StableHlo.unary main_cst_3 main_v26 (broadcastInDim S1x32x16x1x128x256 ![] bcast_S_S1x32x16x1x128x256 : (⟨S_, .f32⟩ : BufTy).Contents (Elt F) → (⟨S1x32x16x1x128x256, .f32⟩ : BufTy).Contents (Elt F)),
    StableHlo.binary main_v25 main_v26 main_v27 (mulf : (⟨S1x32x16x1x128x256, .f32⟩ : BufTy).Contents (Elt F) → (⟨S1x32x16x1x128x256, .f32⟩ : BufTy).Contents (Elt F) → (⟨S1x32x16x1x128x256, .f32⟩ : BufTy).Contents (Elt F)) ]

abbrev ops3 : List (HloOp τ sig (Elt F)) :=
  [ StableHlo.nullary main_v28 (iotaInDim S128x256 32 0),
    StableHlo.nullary main_v29 (iotaInDim S128x256 32 1),
    StableHlo.nullary main_c (constantI S_ 32 128#32),
    StableHlo.unary main_c main_v30 (broadcastInDim S128x256 ![] bcast_S_S128x256 : (⟨S_, .i32⟩ : BufTy).Contents (Elt F) → (⟨S128x256, .i32⟩ : BufTy).Contents (Elt F)),
    StableHlo.binary main_v30 main_v28 main_v31 (addi : (⟨S128x256, .i32⟩ : BufTy).Contents (Elt F) → (⟨S128x256, .i32⟩ : BufTy).Contents (Elt F) → (⟨S128x256, .i32⟩ : BufTy).Contents (Elt F)),
    StableHlo.binary main_v31 main_v29 main_v32 (subi : (⟨S128x256, .i32⟩ : BufTy).Contents (Elt F) → (⟨S128x256, .i32⟩ : BufTy).Contents (Elt F) → (⟨S128x256, .i32⟩ : BufTy).Contents (Elt F)),
    StableHlo.nullary main_v33 (iotaInDim S32x1x1 32 0),
    StableHlo.nullary main_c_4 (constantI S_ 32 1#32),
    StableHlo.unary main_c_4 main_v34 (broadcastInDim S32x1x1 ![] bcast_S_S32x1x1 : (⟨S_, .i32⟩ : BufTy).Contents (Elt F) → (⟨S32x1x1, .i32⟩ : BufTy).Contents (Elt F)),
    StableHlo.binary main_v33 main_v34 main_v35 (subi : (⟨S32x1x1, .i32⟩ : BufTy).Contents (Elt F) → (⟨S32x1x1, .i32⟩ : BufTy).Contents (Elt F) → (⟨S32x1x1, .i32⟩ : BufTy).Contents (Elt F)),
    StableHlo.nullary main_c_5 (constantI S_ 32 128#32),
    StableHlo.unary main_c_5 main_v36 (broadcastInDim S32x1x1 ![] bcast_S_S32x1x1 : (⟨S_, .i32⟩ : BufTy).Contents (Elt F) → (⟨S32x1x1, .i32⟩ : BufTy).Contents (Elt F)),
    StableHlo.binary main_v35 main_v36 main_v37 (muli : (⟨S32x1x1, .i32⟩ : BufTy).Contents (Elt F) → (⟨S32x1x1, .i32⟩ : BufTy).Contents (Elt F) → (⟨S32x1x1, .i32⟩ : BufTy).Contents (Elt F)),
    StableHlo.unary main_v29 main_v38 (broadcastInDim S1x128x256 ![1, 2] bcast_S128x256_S1x128x256_1_2 : (⟨S128x256, .i32⟩ : BufTy).Contents (Elt F) → (⟨S1x128x256, .i32⟩ : BufTy).Contents (Elt F)),
    StableHlo.unary main_v37 main_v39 (broadcastInDim S32x128x256 ![0, 1, 2] bcast_S32x1x1_S32x128x256_0_1_2 : (⟨S32x1x1, .i32⟩ : BufTy).Contents (Elt F) → (⟨S32x128x256, .i32⟩ : BufTy).Contents (Elt F)),
    StableHlo.unary main_v38 main_v40 (broadcastInDim S32x128x256 ![0, 1, 2] bcast_S1x128x256_S32x128x256_0_1_2 : (⟨S1x128x256, .i32⟩ : BufTy).Contents (Elt F) → (⟨S32x128x256, .i32⟩ : BufTy).Contents (Elt F)),
    StableHlo.binary main_v39 main_v40 main_v41 (addi : (⟨S32x128x256, .i32⟩ : BufTy).Contents (Elt F) → (⟨S32x128x256, .i32⟩ : BufTy).Contents (Elt F) → (⟨S32x128x256, .i32⟩ : BufTy).Contents (Elt F)),
    StableHlo.nullary main_c_6 (constantI S_ 32 0#32),
    StableHlo.unary main_c_6 main_v42 (broadcastInDim S128x256 ![] bcast_S_S128x256 : (⟨S_, .i32⟩ : BufTy).Contents (Elt F) → (⟨S128x256, .i32⟩ : BufTy).Contents (Elt F)),
    StableHlo.binary main_v32 main_v42 main_v43 (cmpi .sge : (⟨S128x256, .i32⟩ : BufTy).Contents (Elt F) → (⟨S128x256, .i32⟩ : BufTy).Contents (Elt F) → (⟨S128x256, .i1⟩ : BufTy).Contents (Elt F)),
    StableHlo.nullary main_c_7 (constantI S_ 32 127#32),
    StableHlo.unary main_c_7 main_v44 (broadcastInDim S128x256 ![] bcast_S_S128x256 : (⟨S_, .i32⟩ : BufTy).Contents (Elt F) → (⟨S128x256, .i32⟩ : BufTy).Contents (Elt F)),
    StableHlo.binary main_v32 main_v44 main_v45 (cmpi .sle : (⟨S128x256, .i32⟩ : BufTy).Contents (Elt F) → (⟨S128x256, .i32⟩ : BufTy).Contents (Elt F) → (⟨S128x256, .i1⟩ : BufTy).Contents (Elt F)),
    StableHlo.binary main_v43 main_v45 main_v46 (andi : (⟨S128x256, .i1⟩ : BufTy).Contents (Elt F) → (⟨S128x256, .i1⟩ : BufTy).Contents (Elt F) → (⟨S128x256, .i1⟩ : BufTy).Contents (Elt F)),
    StableHlo.nullary main_c_8 (constantI S_ 32 0#32),
    StableHlo.unary main_c_8 main_v47 (broadcastInDim S32x128x256 ![] bcast_S_S32x128x256 : (⟨S_, .i32⟩ : BufTy).Contents (Elt F) → (⟨S32x128x256, .i32⟩ : BufTy).Contents (Elt F)),
    StableHlo.binary main_v41 main_v47 main_v48 (cmpi .sge : (⟨S32x128x256, .i32⟩ : BufTy).Contents (Elt F) → (⟨S32x128x256, .i32⟩ : BufTy).Contents (Elt F) → (⟨S32x128x256, .i1⟩ : BufTy).Contents (Elt F)),
    StableHlo.unary main_v46 main_v49 (broadcastInDim S1x128x256 ![1, 2] bcast_S128x256_S1x128x256_1_2 : (⟨S128x256, .i1⟩ : BufTy).Contents (Elt F) → (⟨S1x128x256, .i1⟩ : BufTy).Contents (Elt F)),
    StableHlo.unary main_v49 main_v50 (broadcastInDim S32x128x256 ![0, 1, 2] bcast_S1x128x256_S32x128x256_0_1_2 : (⟨S1x128x256, .i1⟩ : BufTy).Contents (Elt F) → (⟨S32x128x256, .i1⟩ : BufTy).Contents (Elt F)),
    StableHlo.binary main_v50 main_v48 main_v51 (andi : (⟨S32x128x256, .i1⟩ : BufTy).Contents (Elt F) → (⟨S32x128x256, .i1⟩ : BufTy).Contents (Elt F) → (⟨S32x128x256, .i1⟩ : BufTy).Contents (Elt F)) ]

abbrev ops4 : List (HloOp τ sig (Elt F)) :=
  [ StableHlo.unary main_v0 main_v52 (broadcastInDim S16x1x1x1 ![0, 1] bcast_S16x1_S16x1x1x1_0_1 : (⟨S16x1, .f32⟩ : BufTy).Contents (Elt F) → (⟨S16x1x1x1, .f32⟩ : BufTy).Contents (Elt F)),
    StableHlo.nullary main_c_9 (constantI S_ 32 1#32),
    StableHlo.unary main_c_9 main_v53 (broadcastInDim S128x256 ![] bcast_S_S128x256 : (⟨S_, .i32⟩ : BufTy).Contents (Elt F) → (⟨S128x256, .i32⟩ : BufTy).Contents (Elt F)),
    StableHlo.binary main_v32 main_v53 main_v54 (muli : (⟨S128x256, .i32⟩ : BufTy).Contents (Elt F) → (⟨S128x256, .i32⟩ : BufTy).Contents (Elt F) → (⟨S128x256, .i32⟩ : BufTy).Contents (Elt F)),
    StableHlo.unary main_v54 main_v55 (sitofp .f32 : (⟨S128x256, .i32⟩ : BufTy).Contents (Elt F) → (⟨S128x256, .f32⟩ : BufTy).Contents (Elt F)),
    StableHlo.unary main_v55 main_v56 (broadcastInDim S1x1x128x256 ![2, 3] bcast_S128x256_S1x1x128x256_2_3 : (⟨S128x256, .f32⟩ : BufTy).Contents (Elt F) → (⟨S1x1x128x256, .f32⟩ : BufTy).Contents (Elt F)),
    StableHlo.unary main_v52 main_v57 (broadcastInDim S16x1x128x256 ![0, 1, 2, 3] bcast_S16x1x1x1_S16x1x128x256_0_1_2_3 : (⟨S16x1x1x1, .f32⟩ : BufTy).Contents (Elt F) → (⟨S16x1x128x256, .f32⟩ : BufTy).Contents (Elt F)),
    StableHlo.unary main_v56 main_v58 (broadcastInDim S16x1x128x256 ![0, 1, 2, 3] bcast_S1x1x128x256_S16x1x128x256_0_1_2_3 : (⟨S1x1x128x256, .f32⟩ : BufTy).Contents (Elt F) → (⟨S16x1x128x256, .f32⟩ : BufTy).Contents (Elt F)),
    StableHlo.binary main_v57 main_v58 main_v59 (mulf : (⟨S16x1x128x256, .f32⟩ : BufTy).Contents (Elt F) → (⟨S16x1x128x256, .f32⟩ : BufTy).Contents (Elt F) → (⟨S16x1x128x256, .f32⟩ : BufTy).Contents (Elt F)),
    StableHlo.unary main_v59 main_v60 (Host.negf : (⟨S16x1x128x256, .f32⟩ : BufTy).Contents (Elt F) → (⟨S16x1x128x256, .f32⟩ : BufTy).Contents (Elt F)),
    StableHlo.unary main_v51 main_v61 (broadcastInDim S1x32x1x1x128x256 ![1, 4, 5] bcast_S32x128x256_S1x32x1x1x128x256_1_4_5 : (⟨S32x128x256, .i1⟩ : BufTy).Contents (Elt F) → (⟨S1x32x1x1x128x256, .i1⟩ : BufTy).Contents (Elt F)),
    StableHlo.unary main_v60 main_v62 (broadcastInDim S1x1x16x1x128x256 ![2, 3, 4, 5] bcast_S16x1x128x256_S1x1x16x1x128x256_2_3_4_5 : (⟨S16x1x128x256, .f32⟩ : BufTy).Contents (Elt F) → (⟨S1x1x16x1x128x256, .f32⟩ : BufTy).Contents (Elt F)),
    StableHlo.unary main_v62 main_v63 (broadcastInDim S1x32x16x1x128x256 ![0, 1, 2, 3, 4, 5] bcast_S1x1x16x1x128x256_S1x32x16x1x128x256_0_1_2_3_4_5 : (⟨S1x1x16x1x128x256, .f32⟩ : BufTy).Contents (Elt F) → (⟨S1x32x16x1x128x256, .f32⟩ : BufTy).Contents (Elt F)),
    StableHlo.binary main_v27 main_v63 main_v64 (addf : (⟨S1x32x16x1x128x256, .f32⟩ : BufTy).Contents (Elt F) → (⟨S1x32x16x1x128x256, .f32⟩ : BufTy).Contents (Elt F) → (⟨S1x32x16x1x128x256, .f32⟩ : BufTy).Contents (Elt F)),
    StableHlo.nullary main_cst_10 (constant S_ .f32 0xFF800000#32) ]

abbrev opsB1 : List (HloOp τ sig (Elt F)) :=
  [ StableHlo.nullary main_cst_11 (constant S_ .f32 0xFF800000#32),
    StableHlo.binary main_v65 main_cst_11 main_v66 ((fun x v => Host.reduce FloatOps.maximumf x v reducesTo_S1x32x16x1x128x256_S1x32x16x1x128_d5 h_S_) : (⟨S1x32x16x1x128x256, .f32⟩ : BufTy).Contents (Elt F) → (⟨S_, .f32⟩ : BufTy).Contents (Elt F) → (⟨S1x32x16x1x128, .f32⟩ : BufTy).Contents (Elt F)),
    StableHlo.unary main_v66 main_v67 (broadcastInDim S1x32x16x1x128x1 ![0, 1, 2, 3, 4] bcast_S1x32x16x1x128_S1x32x16x1x128x1_0_1_2_3_4 : (⟨S1x32x16x1x128, .f32⟩ : BufTy).Contents (Elt F) → (⟨S1x32x16x1x128x1, .f32⟩ : BufTy).Contents (Elt F)),
    StableHlo.unary main_v10 main_v68 (broadcastInDim S16x1x1x1 ![0, 1] bcast_S16x1_S16x1x1x1_0_1 : (⟨S16x1, .f32⟩ : BufTy).Contents (Elt F) → (⟨S16x1x1x1, .f32⟩ : BufTy).Contents (Elt F)),
    StableHlo.unary main_v68 main_v69 (broadcastInDim S1x1x16x1x1x1 ![2, 3, 4, 5] bcast_S16x1x1x1_S1x1x16x1x1x1_2_3_4_5 : (⟨S16x1x1x1, .f32⟩ : BufTy).Contents (Elt F) → (⟨S1x1x16x1x1x1, .f32⟩ : BufTy).Contents (Elt F)),
    StableHlo.unary main_v69 main_v70 (broadcastInDim S1x32x16x1x128x1 ![0, 1, 2, 3, 4, 5] bcast_S1x1x16x1x1x1_S1x32x16x1x128x1_0_1_2_3_4_5 : (⟨S1x1x16x1x1x1, .f32⟩ : BufTy).Contents (Elt F) → (⟨S1x32x16x1x128x1, .f32⟩ : BufTy).Contents (Elt F)),
    StableHlo.binary main_v67 main_v70 main_v71 (maximumf : (⟨S1x32x16x1x128x1, .f32⟩ : BufTy).Contents (Elt F) → (⟨S1x32x16x1x128x1, .f32⟩ : BufTy).Contents (Elt F) → (⟨S1x32x16x1x128x1, .f32⟩ : BufTy).Contents (Elt F)) ]

abbrev opsB2 : List (HloOp τ sig (Elt F)) :=
  [ StableHlo.unary main_v71 main_v72 (broadcastInDim S1x32x16x1x128x256 ![0, 1, 2, 3, 4, 5] bcast_S1x32x16x1x128x1_S1x32x16x1x128x256_0_1_2_3_4_5 : (⟨S1x32x16x1x128x1, .f32⟩ : BufTy).Contents (Elt F) → (⟨S1x32x16x1x128x256, .f32⟩ : BufTy).Contents (Elt F)),
    StableHlo.binary main_v65 main_v72 main_v73 (subf : (⟨S1x32x16x1x128x256, .f32⟩ : BufTy).Contents (Elt F) → (⟨S1x32x16x1x128x256, .f32⟩ : BufTy).Contents (Elt F) → (⟨S1x32x16x1x128x256, .f32⟩ : BufTy).Contents (Elt F)),
    StableHlo.unary main_v73 main_v74 (Host.exp : (⟨S1x32x16x1x128x256, .f32⟩ : BufTy).Contents (Elt F) → (⟨S1x32x16x1x128x256, .f32⟩ : BufTy).Contents (Elt F)),
    StableHlo.nullary main_cst_12 (constant S_ .f32 0x00000000#32),
    StableHlo.binary main_v74 main_cst_12 main_v75 ((fun x v => Host.reduceAdd x v reducesTo_S1x32x16x1x128x256_S1x32x16x1x128_d5 h_S_) : (⟨S1x32x16x1x128x256, .f32⟩ : BufTy).Contents (Elt F) → (⟨S_, .f32⟩ : BufTy).Contents (Elt F) → (⟨S1x32x16x1x128, .f32⟩ : BufTy).Contents (Elt F)),
    StableHlo.unary main_v75 main_v76 (broadcastInDim S1x32x16x1x128x1 ![0, 1, 2, 3, 4] bcast_S1x32x16x1x128_S1x32x16x1x128x1_0_1_2_3_4 : (⟨S1x32x16x1x128, .f32⟩ : BufTy).Contents (Elt F) → (⟨S1x32x16x1x128x1, .f32⟩ : BufTy).Contents (Elt F)),
    StableHlo.unary main_v68 main_v77 (broadcastInDim S1x1x16x1x1x1 ![2, 3, 4, 5] bcast_S16x1x1x1_S1x1x16x1x1x1_2_3_4_5 : (⟨S16x1x1x1, .f32⟩ : BufTy).Contents (Elt F) → (⟨S1x1x16x1x1x1, .f32⟩ : BufTy).Contents (Elt F)),
    StableHlo.unary main_v77 main_v78 (broadcastInDim S1x32x16x1x128x1 ![0, 1, 2, 3, 4, 5] bcast_S1x1x16x1x1x1_S1x32x16x1x128x1_0_1_2_3_4_5 : (⟨S1x1x16x1x1x1, .f32⟩ : BufTy).Contents (Elt F) → (⟨S1x32x16x1x128x1, .f32⟩ : BufTy).Contents (Elt F)),
    StableHlo.binary main_v78 main_v71 main_v79 (subf : (⟨S1x32x16x1x128x1, .f32⟩ : BufTy).Contents (Elt F) → (⟨S1x32x16x1x128x1, .f32⟩ : BufTy).Contents (Elt F) → (⟨S1x32x16x1x128x1, .f32⟩ : BufTy).Contents (Elt F)),
    StableHlo.unary main_v79 main_v80 (Host.exp : (⟨S1x32x16x1x128x1, .f32⟩ : BufTy).Contents (Elt F) → (⟨S1x32x16x1x128x1, .f32⟩ : BufTy).Contents (Elt F)),
    StableHlo.binary main_v76 main_v80 main_v81 (addf : (⟨S1x32x16x1x128x1, .f32⟩ : BufTy).Contents (Elt F) → (⟨S1x32x16x1x128x1, .f32⟩ : BufTy).Contents (Elt F) → (⟨S1x32x16x1x128x1, .f32⟩ : BufTy).Contents (Elt F)) ]

abbrev opsB3 : List (HloOp τ sig (Elt F)) :=
  [ StableHlo.unary main_v81 main_v82 (broadcastInDim S1x32x16x1x128x256 ![0, 1, 2, 3, 4, 5] bcast_S1x32x16x1x128x1_S1x32x16x1x128x256_0_1_2_3_4_5 : (⟨S1x32x16x1x128x1, .f32⟩ : BufTy).Contents (Elt F) → (⟨S1x32x16x1x128x256, .f32⟩ : BufTy).Contents (Elt F)),
    StableHlo.binary main_v74 main_v82 main_v83 (Host.divf : (⟨S1x32x16x1x128x256, .f32⟩ : BufTy).Contents (Elt F) → (⟨S1x32x16x1x128x256, .f32⟩ : BufTy).Contents (Elt F) → (⟨S1x32x16x1x128x256, .f32⟩ : BufTy).Contents (Elt F)),
    StableHlo.binary main_v23 main_v83 main_v84 ((fun l r => Host.dotGeneral dot_S1x32x256x16x64_S1x32x16x1x128x256_S1x32x16x64x1x128_2_5_4_34_013_012 none l r) : (⟨S1x32x256x16x64, .f32⟩ : BufTy).Contents (Elt F) → (⟨S1x32x16x1x128x256, .f32⟩ : BufTy).Contents (Elt F) → (⟨S1x32x16x64x1x128, .f32⟩ : BufTy).Contents (Elt F)),
    StableHlo.unary main_v84 main_v85 ((transpose S1x32x128x16x1x64 [0, 1, 5, 2, 4, 3] · transposes_S1x32x16x64x1x128_S1x32x128x16x1x64_0_1_5_2_4_3) : (⟨S1x32x16x64x1x128, .f32⟩ : BufTy).Contents (Elt F) → (⟨S1x32x128x16x1x64, .f32⟩ : BufTy).Contents (Elt F)) ]

abbrev opsB4 : List (HloOp τ sig (Elt F)) :=
  [ StableHlo.unary main_v81 main_v86 (Host.log : (⟨S1x32x16x1x128x1, .f32⟩ : BufTy).Contents (Elt F) → (⟨S1x32x16x1x128x1, .f32⟩ : BufTy).Contents (Elt F)),
    StableHlo.binary main_v71 main_v86 main_v87 (addf : (⟨S1x32x16x1x128x1, .f32⟩ : BufTy).Contents (Elt F) → (⟨S1x32x16x1x128x1, .f32⟩ : BufTy).Contents (Elt F) → (⟨S1x32x16x1x128x1, .f32⟩ : BufTy).Contents (Elt F)),
    StableHlo.reshape main_v87 main_v88 (rfl : (.f32 : EltTy) = .f32) shapeCasts_S1x32x16x1x128x1_S1x32x16x1x128,
    StableHlo.unary main_v88 main_v89 ((transpose S1x32x128x16x1 [0, 1, 4, 2, 3] · transposes_S1x32x16x1x128_S1x32x128x16x1_0_1_4_2_3) : (⟨S1x32x16x1x128, .f32⟩ : BufTy).Contents (Elt F) → (⟨S1x32x128x16x1, .f32⟩ : BufTy).Contents (Elt F)),
    StableHlo.reshape main_v85 main_v90 (rfl : (.f32 : EltTy) = .f32) shapeCasts_S1x32x128x16x1x64_S1x4096x16x1x64,
    StableHlo.reshape main_v89 main_v91 (rfl : (.f32 : EltTy) = .f32) shapeCasts_S1x32x128x16x1_S1x4096x16x1,
    StableHlo.reshape main_v90 main_v92 (rfl : (.f32 : EltTy) = .f32) shapeCasts_S1x4096x16x1x64_S4096x1024,
    StableHlo.reshape main_v91 main_v93 (rfl : (.f32 : EltTy) = .f32) shapeCasts_S1x4096x16x1_S4096x16,
    StableHlo.reshape main_v93 main_v94 (rfl : (.f32 : EltTy) = .f32) shapeCasts_S4096x16_S4096x8x2x1,
    StableHlo.nullary main_c_13 (constantI S_ 32 0#32) ]

theorem hostOps0_2_eq : (hostOps0_2 : List (HloOp τ sig (Elt F))) = opsB1 ++ (opsB2 ++ (opsB3 ++ opsB4)) := rfl

theorem hostOps0_eq : (hostOps0 : List (HloOp τ sig (Elt F))) = ops1 ++ (ops2 ++ (ops3 ++ ops4)) := rfl

/-! ## The arrays, each from those before its stretch -/

def a_cst  : (⟨S16, .f32⟩ : BufTy).Contents (Elt F) :=
  ((fun i => FloatOps.ofBits .f32 (lit0 (S16.rowMajor i))) : (⟨S16, .f32⟩ : BufTy).Contents (Elt F))

def a_cst_0  : (⟨S16, .f32⟩ : BufTy).Contents (Elt F) :=
  ((fun i => FloatOps.ofBits .f32 (lit1 (S16.rowMajor i))) : (⟨S16, .f32⟩ : BufTy).Contents (Elt F))

def a_v0  : (⟨S16x1, .f32⟩ : BufTy).Contents (Elt F) :=
  shapeCast S16x1 (a_cst_0 (F := F)) shapeCasts_S16_S16x1

def a_v1 (x_arg0 : (⟨S3x4096x1024, .f32⟩ : BufTy).Contents (Elt F)) : (⟨S1x4096x1024, .f32⟩ : BufTy).Contents (Elt F) :=
  ((extractStridedSlice S1x4096x1024 ![0, 0, 0] · slices_S3x4096x1024_S1x4096x1024_0_0_0) : (⟨S3x4096x1024, .f32⟩ : BufTy).Contents (Elt F) → (⟨S1x4096x1024, .f32⟩ : BufTy).Contents (Elt F)) x_arg0

def a_v2 (x_arg0 : (⟨S3x4096x1024, .f32⟩ : BufTy).Contents (Elt F)) : (⟨S4096x1024, .f32⟩ : BufTy).Contents (Elt F) :=
  shapeCast S4096x1024 (a_v1 (F := F) x_arg0) shapeCasts_S1x4096x1024_S4096x1024

def a_v3 (x_arg0 : (⟨S3x4096x1024, .f32⟩ : BufTy).Contents (Elt F)) : (⟨S1x4096x16x1x64, .f32⟩ : BufTy).Contents (Elt F) :=
  shapeCast S1x4096x16x1x64 (a_v2 (F := F) x_arg0) shapeCasts_S4096x1024_S1x4096x16x1x64

def a_v4 (x_arg0 : (⟨S3x4096x1024, .f32⟩ : BufTy).Contents (Elt F)) : (⟨S1x4096x1024, .f32⟩ : BufTy).Contents (Elt F) :=
  ((extractStridedSlice S1x4096x1024 ![1, 0, 0] · slices_S3x4096x1024_S1x4096x1024_1_0_0) : (⟨S3x4096x1024, .f32⟩ : BufTy).Contents (Elt F) → (⟨S1x4096x1024, .f32⟩ : BufTy).Contents (Elt F)) x_arg0

def a_v5 (x_arg0 : (⟨S3x4096x1024, .f32⟩ : BufTy).Contents (Elt F)) : (⟨S4096x1024, .f32⟩ : BufTy).Contents (Elt F) :=
  shapeCast S4096x1024 (a_v4 (F := F) x_arg0) shapeCasts_S1x4096x1024_S4096x1024

def a_v6 (x_arg0 : (⟨S3x4096x1024, .f32⟩ : BufTy).Contents (Elt F)) : (⟨S1x4096x16x64, .f32⟩ : BufTy).Contents (Elt F) :=
  shapeCast S1x4096x16x64 (a_v5 (F := F) x_arg0) shapeCasts_S4096x1024_S1x4096x16x64

def a_v7 (x_arg0 : (⟨S3x4096x1024, .f32⟩ : BufTy).Contents (Elt F)) : (⟨S1x4096x1024, .f32⟩ : BufTy).Contents (Elt F) :=
  ((extractStridedSlice S1x4096x1024 ![2, 0, 0] · slices_S3x4096x1024_S1x4096x1024_2_0_0) : (⟨S3x4096x1024, .f32⟩ : BufTy).Contents (Elt F) → (⟨S1x4096x1024, .f32⟩ : BufTy).Contents (Elt F)) x_arg0

def a_v8 (x_arg0 : (⟨S3x4096x1024, .f32⟩ : BufTy).Contents (Elt F)) : (⟨S4096x1024, .f32⟩ : BufTy).Contents (Elt F) :=
  shapeCast S4096x1024 (a_v7 (F := F) x_arg0) shapeCasts_S1x4096x1024_S4096x1024

def a_v9 (x_arg0 : (⟨S3x4096x1024, .f32⟩ : BufTy).Contents (Elt F)) : (⟨S1x4096x16x64, .f32⟩ : BufTy).Contents (Elt F) :=
  shapeCast S1x4096x16x64 (a_v8 (F := F) x_arg0) shapeCasts_S4096x1024_S1x4096x16x64

def a_v10 (x_arg1 : (⟨S16, .f32⟩ : BufTy).Contents (Elt F)) : (⟨S16x1, .f32⟩ : BufTy).Contents (Elt F) :=
  shapeCast S16x1 x_arg1 shapeCasts_S16_S16x1

def a_v11 (x_arg0 : (⟨S3x4096x1024, .f32⟩ : BufTy).Contents (Elt F)) : (⟨S1x32x128x16x1x64, .f32⟩ : BufTy).Contents (Elt F) :=
  shapeCast S1x32x128x16x1x64 (a_v3 (F := F) x_arg0) shapeCasts_S1x4096x16x1x64_S1x32x128x16x1x64

def a_v12 (x_arg0 : (⟨S3x4096x1024, .f32⟩ : BufTy).Contents (Elt F)) : (⟨S1x32x128x16x64, .f32⟩ : BufTy).Contents (Elt F) :=
  shapeCast S1x32x128x16x64 (a_v6 (F := F) x_arg0) shapeCasts_S1x4096x16x64_S1x32x128x16x64

def a_v13 (x_arg0 : (⟨S3x4096x1024, .f32⟩ : BufTy).Contents (Elt F)) : (⟨S1x1x128x16x64, .f32⟩ : BufTy).Contents (Elt F) :=
  ((extractStridedSlice S1x1x128x16x64 ![0, 0, 0, 0, 0] · slices_S1x32x128x16x64_S1x1x128x16x64_0_0_0_0_0) : (⟨S1x32x128x16x64, .f32⟩ : BufTy).Contents (Elt F) → (⟨S1x1x128x16x64, .f32⟩ : BufTy).Contents (Elt F)) (a_v12 (F := F) x_arg0)

def a_cst_1  : (⟨S_, .f32⟩ : BufTy).Contents (Elt F) :=
  ((constant S_ .f32 0x00000000#32) : (⟨S_, .f32⟩ : BufTy).Contents (Elt F))

def a_v14  : (⟨S1x1x128x16x64, .f32⟩ : BufTy).Contents (Elt F) :=
  (broadcastInDim S1x1x128x16x64 ![] bcast_S_S1x1x128x16x64 : (⟨S_, .f32⟩ : BufTy).Contents (Elt F) → (⟨S1x1x128x16x64, .f32⟩ : BufTy).Contents (Elt F)) (a_cst_1 (F := F))

def a_v15 (x_arg0 : (⟨S3x4096x1024, .f32⟩ : BufTy).Contents (Elt F)) : (⟨S1x31x128x16x64, .f32⟩ : BufTy).Contents (Elt F) :=
  ((extractStridedSlice S1x31x128x16x64 ![0, 0, 0, 0, 0] · slices_S1x32x128x16x64_S1x31x128x16x64_0_0_0_0_0) : (⟨S1x32x128x16x64, .f32⟩ : BufTy).Contents (Elt F) → (⟨S1x31x128x16x64, .f32⟩ : BufTy).Contents (Elt F)) (a_v12 (F := F) x_arg0)

def a_v16 (x_arg0 : (⟨S3x4096x1024, .f32⟩ : BufTy).Contents (Elt F)) : (⟨S1x32x128x16x64, .f32⟩ : BufTy).Contents (Elt F) :=
  ((fun a b => concatenate S1x32x128x16x64 1 [⟨S1x1x128x16x64, a⟩, ⟨S1x31x128x16x64, b⟩] concatenates_S1x1x128x16x64_S1x31x128x16x64_S1x32x128x16x64_d1) : (⟨S1x1x128x16x64, .f32⟩ : BufTy).Contents (Elt F) → (⟨S1x31x128x16x64, .f32⟩ : BufTy).Contents (Elt F) → (⟨S1x32x128x16x64, .f32⟩ : BufTy).Contents (Elt F)) (a_v14 (F := F)) (a_v15 (F := F) x_arg0)

def a_v17 (x_arg0 : (⟨S3x4096x1024, .f32⟩ : BufTy).Contents (Elt F)) : (⟨S1x32x256x16x64, .f32⟩ : BufTy).Contents (Elt F) :=
  ((fun a b => concatenate S1x32x256x16x64 2 [⟨S1x32x128x16x64, a⟩, ⟨S1x32x128x16x64, b⟩] concatenates_S1x32x128x16x64_S1x32x128x16x64_S1x32x256x16x64_d2) : (⟨S1x32x128x16x64, .f32⟩ : BufTy).Contents (Elt F) → (⟨S1x32x128x16x64, .f32⟩ : BufTy).Contents (Elt F) → (⟨S1x32x256x16x64, .f32⟩ : BufTy).Contents (Elt F)) (a_v16 (F := F) x_arg0) (a_v12 (F := F) x_arg0)

def a_v18 (x_arg0 : (⟨S3x4096x1024, .f32⟩ : BufTy).Contents (Elt F)) : (⟨S1x32x128x16x64, .f32⟩ : BufTy).Contents (Elt F) :=
  shapeCast S1x32x128x16x64 (a_v9 (F := F) x_arg0) shapeCasts_S1x4096x16x64_S1x32x128x16x64

def a_v19 (x_arg0 : (⟨S3x4096x1024, .f32⟩ : BufTy).Contents (Elt F)) : (⟨S1x1x128x16x64, .f32⟩ : BufTy).Contents (Elt F) :=
  ((extractStridedSlice S1x1x128x16x64 ![0, 0, 0, 0, 0] · slices_S1x32x128x16x64_S1x1x128x16x64_0_0_0_0_0) : (⟨S1x32x128x16x64, .f32⟩ : BufTy).Contents (Elt F) → (⟨S1x1x128x16x64, .f32⟩ : BufTy).Contents (Elt F)) (a_v18 (F := F) x_arg0)

def a_cst_2  : (⟨S_, .f32⟩ : BufTy).Contents (Elt F) :=
  ((constant S_ .f32 0x00000000#32) : (⟨S_, .f32⟩ : BufTy).Contents (Elt F))

def a_v20  : (⟨S1x1x128x16x64, .f32⟩ : BufTy).Contents (Elt F) :=
  (broadcastInDim S1x1x128x16x64 ![] bcast_S_S1x1x128x16x64 : (⟨S_, .f32⟩ : BufTy).Contents (Elt F) → (⟨S1x1x128x16x64, .f32⟩ : BufTy).Contents (Elt F)) (a_cst_2 (F := F))

def a_v21 (x_arg0 : (⟨S3x4096x1024, .f32⟩ : BufTy).Contents (Elt F)) : (⟨S1x31x128x16x64, .f32⟩ : BufTy).Contents (Elt F) :=
  ((extractStridedSlice S1x31x128x16x64 ![0, 0, 0, 0, 0] · slices_S1x32x128x16x64_S1x31x128x16x64_0_0_0_0_0) : (⟨S1x32x128x16x64, .f32⟩ : BufTy).Contents (Elt F) → (⟨S1x31x128x16x64, .f32⟩ : BufTy).Contents (Elt F)) (a_v18 (F := F) x_arg0)

def a_v22 (x_arg0 : (⟨S3x4096x1024, .f32⟩ : BufTy).Contents (Elt F)) : (⟨S1x32x128x16x64, .f32⟩ : BufTy).Contents (Elt F) :=
  ((fun a b => concatenate S1x32x128x16x64 1 [⟨S1x1x128x16x64, a⟩, ⟨S1x31x128x16x64, b⟩] concatenates_S1x1x128x16x64_S1x31x128x16x64_S1x32x128x16x64_d1) : (⟨S1x1x128x16x64, .f32⟩ : BufTy).Contents (Elt F) → (⟨S1x31x128x16x64, .f32⟩ : BufTy).Contents (Elt F) → (⟨S1x32x128x16x64, .f32⟩ : BufTy).Contents (Elt F)) (a_v20 (F := F)) (a_v21 (F := F) x_arg0)

def a_v23 (x_arg0 : (⟨S3x4096x1024, .f32⟩ : BufTy).Contents (Elt F)) : (⟨S1x32x256x16x64, .f32⟩ : BufTy).Contents (Elt F) :=
  ((fun a b => concatenate S1x32x256x16x64 2 [⟨S1x32x128x16x64, a⟩, ⟨S1x32x128x16x64, b⟩] concatenates_S1x32x128x16x64_S1x32x128x16x64_S1x32x256x16x64_d2) : (⟨S1x32x128x16x64, .f32⟩ : BufTy).Contents (Elt F) → (⟨S1x32x128x16x64, .f32⟩ : BufTy).Contents (Elt F) → (⟨S1x32x256x16x64, .f32⟩ : BufTy).Contents (Elt F)) (a_v22 (F := F) x_arg0) (a_v18 (F := F) x_arg0)

def a_v24 (x_v11 : (⟨S1x32x128x16x1x64, .f32⟩ : BufTy).Contents (Elt F)) (x_v17 : (⟨S1x32x256x16x64, .f32⟩ : BufTy).Contents (Elt F)) : (⟨S1x32x16x256x128x1, .f32⟩ : BufTy).Contents (Elt F) :=
  ((fun l r => Host.dotGeneral dot_S1x32x256x16x64_S1x32x128x16x1x64_S1x32x16x256x128x1_4_5_2_24_013_013 none l r) : (⟨S1x32x256x16x64, .f32⟩ : BufTy).Contents (Elt F) → (⟨S1x32x128x16x1x64, .f32⟩ : BufTy).Contents (Elt F) → (⟨S1x32x16x256x128x1, .f32⟩ : BufTy).Contents (Elt F)) x_v17 x_v11

def a_v25 (x_v11 : (⟨S1x32x128x16x1x64, .f32⟩ : BufTy).Contents (Elt F)) (x_v17 : (⟨S1x32x256x16x64, .f32⟩ : BufTy).Contents (Elt F)) : (⟨S1x32x16x1x128x256, .f32⟩ : BufTy).Contents (Elt F) :=
  ((transpose S1x32x16x1x128x256 [0, 1, 2, 5, 4, 3] · transposes_S1x32x16x256x128x1_S1x32x16x1x128x256_0_1_2_5_4_3) : (⟨S1x32x16x256x128x1, .f32⟩ : BufTy).Contents (Elt F) → (⟨S1x32x16x1x128x256, .f32⟩ : BufTy).Contents (Elt F)) (a_v24 (F := F) x_v11 x_v17)

def a_cst_3  : (⟨S_, .f32⟩ : BufTy).Contents (Elt F) :=
  ((constant S_ .f32 0x3E000000#32) : (⟨S_, .f32⟩ : BufTy).Contents (Elt F))

def a_v26  : (⟨S1x32x16x1x128x256, .f32⟩ : BufTy).Contents (Elt F) :=
  (broadcastInDim S1x32x16x1x128x256 ![] bcast_S_S1x32x16x1x128x256 : (⟨S_, .f32⟩ : BufTy).Contents (Elt F) → (⟨S1x32x16x1x128x256, .f32⟩ : BufTy).Contents (Elt F)) (a_cst_3 (F := F))

def a_v27 (x_v11 : (⟨S1x32x128x16x1x64, .f32⟩ : BufTy).Contents (Elt F)) (x_v17 : (⟨S1x32x256x16x64, .f32⟩ : BufTy).Contents (Elt F)) : (⟨S1x32x16x1x128x256, .f32⟩ : BufTy).Contents (Elt F) :=
  (mulf : (⟨S1x32x16x1x128x256, .f32⟩ : BufTy).Contents (Elt F) → (⟨S1x32x16x1x128x256, .f32⟩ : BufTy).Contents (Elt F) → (⟨S1x32x16x1x128x256, .f32⟩ : BufTy).Contents (Elt F)) (a_v25 (F := F) x_v11 x_v17) (a_v26 (F := F))

def a_v28  : (⟨S128x256, .i32⟩ : BufTy).Contents (Elt F) :=
  ((iotaInDim S128x256 32 0) : (⟨S128x256, .i32⟩ : BufTy).Contents (Elt F))

def a_v29  : (⟨S128x256, .i32⟩ : BufTy).Contents (Elt F) :=
  ((iotaInDim S128x256 32 1) : (⟨S128x256, .i32⟩ : BufTy).Contents (Elt F))

def a_c  : (⟨S_, .i32⟩ : BufTy).Contents (Elt F) :=
  ((constantI S_ 32 128#32) : (⟨S_, .i32⟩ : BufTy).Contents (Elt F))

def a_v30  : (⟨S128x256, .i32⟩ : BufTy).Contents (Elt F) :=
  (broadcastInDim S128x256 ![] bcast_S_S128x256 : (⟨S_, .i32⟩ : BufTy).Contents (Elt F) → (⟨S128x256, .i32⟩ : BufTy).Contents (Elt F)) (a_c (F := F))

def a_v31  : (⟨S128x256, .i32⟩ : BufTy).Contents (Elt F) :=
  (addi : (⟨S128x256, .i32⟩ : BufTy).Contents (Elt F) → (⟨S128x256, .i32⟩ : BufTy).Contents (Elt F) → (⟨S128x256, .i32⟩ : BufTy).Contents (Elt F)) (a_v30 (F := F)) (a_v28 (F := F))

def a_v32  : (⟨S128x256, .i32⟩ : BufTy).Contents (Elt F) :=
  (subi : (⟨S128x256, .i32⟩ : BufTy).Contents (Elt F) → (⟨S128x256, .i32⟩ : BufTy).Contents (Elt F) → (⟨S128x256, .i32⟩ : BufTy).Contents (Elt F)) (a_v31 (F := F)) (a_v29 (F := F))

def a_v33  : (⟨S32x1x1, .i32⟩ : BufTy).Contents (Elt F) :=
  ((iotaInDim S32x1x1 32 0) : (⟨S32x1x1, .i32⟩ : BufTy).Contents (Elt F))

def a_c_4  : (⟨S_, .i32⟩ : BufTy).Contents (Elt F) :=
  ((constantI S_ 32 1#32) : (⟨S_, .i32⟩ : BufTy).Contents (Elt F))

def a_v34  : (⟨S32x1x1, .i32⟩ : BufTy).Contents (Elt F) :=
  (broadcastInDim S32x1x1 ![] bcast_S_S32x1x1 : (⟨S_, .i32⟩ : BufTy).Contents (Elt F) → (⟨S32x1x1, .i32⟩ : BufTy).Contents (Elt F)) (a_c_4 (F := F))

def a_v35  : (⟨S32x1x1, .i32⟩ : BufTy).Contents (Elt F) :=
  (subi : (⟨S32x1x1, .i32⟩ : BufTy).Contents (Elt F) → (⟨S32x1x1, .i32⟩ : BufTy).Contents (Elt F) → (⟨S32x1x1, .i32⟩ : BufTy).Contents (Elt F)) (a_v33 (F := F)) (a_v34 (F := F))

def a_c_5  : (⟨S_, .i32⟩ : BufTy).Contents (Elt F) :=
  ((constantI S_ 32 128#32) : (⟨S_, .i32⟩ : BufTy).Contents (Elt F))

def a_v36  : (⟨S32x1x1, .i32⟩ : BufTy).Contents (Elt F) :=
  (broadcastInDim S32x1x1 ![] bcast_S_S32x1x1 : (⟨S_, .i32⟩ : BufTy).Contents (Elt F) → (⟨S32x1x1, .i32⟩ : BufTy).Contents (Elt F)) (a_c_5 (F := F))

def a_v37  : (⟨S32x1x1, .i32⟩ : BufTy).Contents (Elt F) :=
  (muli : (⟨S32x1x1, .i32⟩ : BufTy).Contents (Elt F) → (⟨S32x1x1, .i32⟩ : BufTy).Contents (Elt F) → (⟨S32x1x1, .i32⟩ : BufTy).Contents (Elt F)) (a_v35 (F := F)) (a_v36 (F := F))

def a_v38  : (⟨S1x128x256, .i32⟩ : BufTy).Contents (Elt F) :=
  (broadcastInDim S1x128x256 ![1, 2] bcast_S128x256_S1x128x256_1_2 : (⟨S128x256, .i32⟩ : BufTy).Contents (Elt F) → (⟨S1x128x256, .i32⟩ : BufTy).Contents (Elt F)) (a_v29 (F := F))

def a_v39  : (⟨S32x128x256, .i32⟩ : BufTy).Contents (Elt F) :=
  (broadcastInDim S32x128x256 ![0, 1, 2] bcast_S32x1x1_S32x128x256_0_1_2 : (⟨S32x1x1, .i32⟩ : BufTy).Contents (Elt F) → (⟨S32x128x256, .i32⟩ : BufTy).Contents (Elt F)) (a_v37 (F := F))

def a_v40  : (⟨S32x128x256, .i32⟩ : BufTy).Contents (Elt F) :=
  (broadcastInDim S32x128x256 ![0, 1, 2] bcast_S1x128x256_S32x128x256_0_1_2 : (⟨S1x128x256, .i32⟩ : BufTy).Contents (Elt F) → (⟨S32x128x256, .i32⟩ : BufTy).Contents (Elt F)) (a_v38 (F := F))

def a_v41  : (⟨S32x128x256, .i32⟩ : BufTy).Contents (Elt F) :=
  (addi : (⟨S32x128x256, .i32⟩ : BufTy).Contents (Elt F) → (⟨S32x128x256, .i32⟩ : BufTy).Contents (Elt F) → (⟨S32x128x256, .i32⟩ : BufTy).Contents (Elt F)) (a_v39 (F := F)) (a_v40 (F := F))

def a_c_6  : (⟨S_, .i32⟩ : BufTy).Contents (Elt F) :=
  ((constantI S_ 32 0#32) : (⟨S_, .i32⟩ : BufTy).Contents (Elt F))

def a_v42  : (⟨S128x256, .i32⟩ : BufTy).Contents (Elt F) :=
  (broadcastInDim S128x256 ![] bcast_S_S128x256 : (⟨S_, .i32⟩ : BufTy).Contents (Elt F) → (⟨S128x256, .i32⟩ : BufTy).Contents (Elt F)) (a_c_6 (F := F))

def a_v43  : (⟨S128x256, .i1⟩ : BufTy).Contents (Elt F) :=
  (cmpi .sge : (⟨S128x256, .i32⟩ : BufTy).Contents (Elt F) → (⟨S128x256, .i32⟩ : BufTy).Contents (Elt F) → (⟨S128x256, .i1⟩ : BufTy).Contents (Elt F)) (a_v32 (F := F)) (a_v42 (F := F))

def a_c_7  : (⟨S_, .i32⟩ : BufTy).Contents (Elt F) :=
  ((constantI S_ 32 127#32) : (⟨S_, .i32⟩ : BufTy).Contents (Elt F))

def a_v44  : (⟨S128x256, .i32⟩ : BufTy).Contents (Elt F) :=
  (broadcastInDim S128x256 ![] bcast_S_S128x256 : (⟨S_, .i32⟩ : BufTy).Contents (Elt F) → (⟨S128x256, .i32⟩ : BufTy).Contents (Elt F)) (a_c_7 (F := F))

def a_v45  : (⟨S128x256, .i1⟩ : BufTy).Contents (Elt F) :=
  (cmpi .sle : (⟨S128x256, .i32⟩ : BufTy).Contents (Elt F) → (⟨S128x256, .i32⟩ : BufTy).Contents (Elt F) → (⟨S128x256, .i1⟩ : BufTy).Contents (Elt F)) (a_v32 (F := F)) (a_v44 (F := F))

def a_v46  : (⟨S128x256, .i1⟩ : BufTy).Contents (Elt F) :=
  (andi : (⟨S128x256, .i1⟩ : BufTy).Contents (Elt F) → (⟨S128x256, .i1⟩ : BufTy).Contents (Elt F) → (⟨S128x256, .i1⟩ : BufTy).Contents (Elt F)) (a_v43 (F := F)) (a_v45 (F := F))

def a_c_8  : (⟨S_, .i32⟩ : BufTy).Contents (Elt F) :=
  ((constantI S_ 32 0#32) : (⟨S_, .i32⟩ : BufTy).Contents (Elt F))

def a_v47  : (⟨S32x128x256, .i32⟩ : BufTy).Contents (Elt F) :=
  (broadcastInDim S32x128x256 ![] bcast_S_S32x128x256 : (⟨S_, .i32⟩ : BufTy).Contents (Elt F) → (⟨S32x128x256, .i32⟩ : BufTy).Contents (Elt F)) (a_c_8 (F := F))

def a_v48  : (⟨S32x128x256, .i1⟩ : BufTy).Contents (Elt F) :=
  (cmpi .sge : (⟨S32x128x256, .i32⟩ : BufTy).Contents (Elt F) → (⟨S32x128x256, .i32⟩ : BufTy).Contents (Elt F) → (⟨S32x128x256, .i1⟩ : BufTy).Contents (Elt F)) (a_v41 (F := F)) (a_v47 (F := F))

def a_v49  : (⟨S1x128x256, .i1⟩ : BufTy).Contents (Elt F) :=
  (broadcastInDim S1x128x256 ![1, 2] bcast_S128x256_S1x128x256_1_2 : (⟨S128x256, .i1⟩ : BufTy).Contents (Elt F) → (⟨S1x128x256, .i1⟩ : BufTy).Contents (Elt F)) (a_v46 (F := F))

def a_v50  : (⟨S32x128x256, .i1⟩ : BufTy).Contents (Elt F) :=
  (broadcastInDim S32x128x256 ![0, 1, 2] bcast_S1x128x256_S32x128x256_0_1_2 : (⟨S1x128x256, .i1⟩ : BufTy).Contents (Elt F) → (⟨S32x128x256, .i1⟩ : BufTy).Contents (Elt F)) (a_v49 (F := F))

def a_v51  : (⟨S32x128x256, .i1⟩ : BufTy).Contents (Elt F) :=
  (andi : (⟨S32x128x256, .i1⟩ : BufTy).Contents (Elt F) → (⟨S32x128x256, .i1⟩ : BufTy).Contents (Elt F) → (⟨S32x128x256, .i1⟩ : BufTy).Contents (Elt F)) (a_v50 (F := F)) (a_v48 (F := F))

def a_v52 (x_v0 : (⟨S16x1, .f32⟩ : BufTy).Contents (Elt F)) : (⟨S16x1x1x1, .f32⟩ : BufTy).Contents (Elt F) :=
  (broadcastInDim S16x1x1x1 ![0, 1] bcast_S16x1_S16x1x1x1_0_1 : (⟨S16x1, .f32⟩ : BufTy).Contents (Elt F) → (⟨S16x1x1x1, .f32⟩ : BufTy).Contents (Elt F)) x_v0

def a_c_9  : (⟨S_, .i32⟩ : BufTy).Contents (Elt F) :=
  ((constantI S_ 32 1#32) : (⟨S_, .i32⟩ : BufTy).Contents (Elt F))

def a_v53  : (⟨S128x256, .i32⟩ : BufTy).Contents (Elt F) :=
  (broadcastInDim S128x256 ![] bcast_S_S128x256 : (⟨S_, .i32⟩ : BufTy).Contents (Elt F) → (⟨S128x256, .i32⟩ : BufTy).Contents (Elt F)) (a_c_9 (F := F))

def a_v54 (x_v32 : (⟨S128x256, .i32⟩ : BufTy).Contents (Elt F)) : (⟨S128x256, .i32⟩ : BufTy).Contents (Elt F) :=
  (muli : (⟨S128x256, .i32⟩ : BufTy).Contents (Elt F) → (⟨S128x256, .i32⟩ : BufTy).Contents (Elt F) → (⟨S128x256, .i32⟩ : BufTy).Contents (Elt F)) x_v32 (a_v53 (F := F))

def a_v55 (x_v32 : (⟨S128x256, .i32⟩ : BufTy).Contents (Elt F)) : (⟨S128x256, .f32⟩ : BufTy).Contents (Elt F) :=
  (sitofp .f32 : (⟨S128x256, .i32⟩ : BufTy).Contents (Elt F) → (⟨S128x256, .f32⟩ : BufTy).Contents (Elt F)) (a_v54 (F := F) x_v32)

def a_v56 (x_v32 : (⟨S128x256, .i32⟩ : BufTy).Contents (Elt F)) : (⟨S1x1x128x256, .f32⟩ : BufTy).Contents (Elt F) :=
  (broadcastInDim S1x1x128x256 ![2, 3] bcast_S128x256_S1x1x128x256_2_3 : (⟨S128x256, .f32⟩ : BufTy).Contents (Elt F) → (⟨S1x1x128x256, .f32⟩ : BufTy).Contents (Elt F)) (a_v55 (F := F) x_v32)

def a_v57 (x_v0 : (⟨S16x1, .f32⟩ : BufTy).Contents (Elt F)) : (⟨S16x1x128x256, .f32⟩ : BufTy).Contents (Elt F) :=
  (broadcastInDim S16x1x128x256 ![0, 1, 2, 3] bcast_S16x1x1x1_S16x1x128x256_0_1_2_3 : (⟨S16x1x1x1, .f32⟩ : BufTy).Contents (Elt F) → (⟨S16x1x128x256, .f32⟩ : BufTy).Contents (Elt F)) (a_v52 (F := F) x_v0)

def a_v58 (x_v32 : (⟨S128x256, .i32⟩ : BufTy).Contents (Elt F)) : (⟨S16x1x128x256, .f32⟩ : BufTy).Contents (Elt F) :=
  (broadcastInDim S16x1x128x256 ![0, 1, 2, 3] bcast_S1x1x128x256_S16x1x128x256_0_1_2_3 : (⟨S1x1x128x256, .f32⟩ : BufTy).Contents (Elt F) → (⟨S16x1x128x256, .f32⟩ : BufTy).Contents (Elt F)) (a_v56 (F := F) x_v32)

def a_v59 (x_v0 : (⟨S16x1, .f32⟩ : BufTy).Contents (Elt F)) (x_v32 : (⟨S128x256, .i32⟩ : BufTy).Contents (Elt F)) : (⟨S16x1x128x256, .f32⟩ : BufTy).Contents (Elt F) :=
  (mulf : (⟨S16x1x128x256, .f32⟩ : BufTy).Contents (Elt F) → (⟨S16x1x128x256, .f32⟩ : BufTy).Contents (Elt F) → (⟨S16x1x128x256, .f32⟩ : BufTy).Contents (Elt F)) (a_v57 (F := F) x_v0) (a_v58 (F := F) x_v32)

def a_v60 (x_v0 : (⟨S16x1, .f32⟩ : BufTy).Contents (Elt F)) (x_v32 : (⟨S128x256, .i32⟩ : BufTy).Contents (Elt F)) : (⟨S16x1x128x256, .f32⟩ : BufTy).Contents (Elt F) :=
  (Host.negf : (⟨S16x1x128x256, .f32⟩ : BufTy).Contents (Elt F) → (⟨S16x1x128x256, .f32⟩ : BufTy).Contents (Elt F)) (a_v59 (F := F) x_v0 x_v32)

def a_v61 (x_v51 : (⟨S32x128x256, .i1⟩ : BufTy).Contents (Elt F)) : (⟨S1x32x1x1x128x256, .i1⟩ : BufTy).Contents (Elt F) :=
  (broadcastInDim S1x32x1x1x128x256 ![1, 4, 5] bcast_S32x128x256_S1x32x1x1x128x256_1_4_5 : (⟨S32x128x256, .i1⟩ : BufTy).Contents (Elt F) → (⟨S1x32x1x1x128x256, .i1⟩ : BufTy).Contents (Elt F)) x_v51

def a_v62 (x_v0 : (⟨S16x1, .f32⟩ : BufTy).Contents (Elt F)) (x_v32 : (⟨S128x256, .i32⟩ : BufTy).Contents (Elt F)) : (⟨S1x1x16x1x128x256, .f32⟩ : BufTy).Contents (Elt F) :=
  (broadcastInDim S1x1x16x1x128x256 ![2, 3, 4, 5] bcast_S16x1x128x256_S1x1x16x1x128x256_2_3_4_5 : (⟨S16x1x128x256, .f32⟩ : BufTy).Contents (Elt F) → (⟨S1x1x16x1x128x256, .f32⟩ : BufTy).Contents (Elt F)) (a_v60 (F := F) x_v0 x_v32)

def a_v63 (x_v0 : (⟨S16x1, .f32⟩ : BufTy).Contents (Elt F)) (x_v32 : (⟨S128x256, .i32⟩ : BufTy).Contents (Elt F)) : (⟨S1x32x16x1x128x256, .f32⟩ : BufTy).Contents (Elt F) :=
  (broadcastInDim S1x32x16x1x128x256 ![0, 1, 2, 3, 4, 5] bcast_S1x1x16x1x128x256_S1x32x16x1x128x256_0_1_2_3_4_5 : (⟨S1x1x16x1x128x256, .f32⟩ : BufTy).Contents (Elt F) → (⟨S1x32x16x1x128x256, .f32⟩ : BufTy).Contents (Elt F)) (a_v62 (F := F) x_v0 x_v32)

def a_v64 (x_v0 : (⟨S16x1, .f32⟩ : BufTy).Contents (Elt F)) (x_v27 : (⟨S1x32x16x1x128x256, .f32⟩ : BufTy).Contents (Elt F)) (x_v32 : (⟨S128x256, .i32⟩ : BufTy).Contents (Elt F)) : (⟨S1x32x16x1x128x256, .f32⟩ : BufTy).Contents (Elt F) :=
  (addf : (⟨S1x32x16x1x128x256, .f32⟩ : BufTy).Contents (Elt F) → (⟨S1x32x16x1x128x256, .f32⟩ : BufTy).Contents (Elt F) → (⟨S1x32x16x1x128x256, .f32⟩ : BufTy).Contents (Elt F)) x_v27 (a_v63 (F := F) x_v0 x_v32)

def a_cst_10  : (⟨S_, .f32⟩ : BufTy).Contents (Elt F) :=
  ((constant S_ .f32 0xFF800000#32) : (⟨S_, .f32⟩ : BufTy).Contents (Elt F))

def a_v65 (x_v61 : (⟨S1x32x1x1x128x256, .i1⟩ : BufTy).Contents (Elt F)) (x_v64 : (⟨S1x32x16x1x128x256, .f32⟩ : BufTy).Contents (Elt F)) (x_cst_10 : (⟨S_, .f32⟩ : BufTy).Contents (Elt F)) : (⟨S1x32x16x1x128x256, .f32⟩ : BufTy).Contents (Elt F) :=
  select (broadcastInDim S1x32x16x1x128x256 ![0, 1, 2, 3, 4, 5] bcast_S1x32x1x1x128x256_S1x32x16x1x128x256_0_1_2_3_4_5 x_v61) x_v64 (broadcastInDim S1x32x16x1x128x256 ![] bcast_S_S1x32x16x1x128x256 x_cst_10)

def a_cst_11  : (⟨S_, .f32⟩ : BufTy).Contents (Elt F) :=
  ((constant S_ .f32 0xFF800000#32) : (⟨S_, .f32⟩ : BufTy).Contents (Elt F))

def a_v66 (x_v65 : (⟨S1x32x16x1x128x256, .f32⟩ : BufTy).Contents (Elt F)) : (⟨S1x32x16x1x128, .f32⟩ : BufTy).Contents (Elt F) :=
  ((fun x v => Host.reduce FloatOps.maximumf x v reducesTo_S1x32x16x1x128x256_S1x32x16x1x128_d5 h_S_) : (⟨S1x32x16x1x128x256, .f32⟩ : BufTy).Contents (Elt F) → (⟨S_, .f32⟩ : BufTy).Contents (Elt F) → (⟨S1x32x16x1x128, .f32⟩ : BufTy).Contents (Elt F)) x_v65 (a_cst_11 (F := F))

def a_v67 (x_v65 : (⟨S1x32x16x1x128x256, .f32⟩ : BufTy).Contents (Elt F)) : (⟨S1x32x16x1x128x1, .f32⟩ : BufTy).Contents (Elt F) :=
  (broadcastInDim S1x32x16x1x128x1 ![0, 1, 2, 3, 4] bcast_S1x32x16x1x128_S1x32x16x1x128x1_0_1_2_3_4 : (⟨S1x32x16x1x128, .f32⟩ : BufTy).Contents (Elt F) → (⟨S1x32x16x1x128x1, .f32⟩ : BufTy).Contents (Elt F)) (a_v66 (F := F) x_v65)

def a_v68 (x_v10 : (⟨S16x1, .f32⟩ : BufTy).Contents (Elt F)) : (⟨S16x1x1x1, .f32⟩ : BufTy).Contents (Elt F) :=
  (broadcastInDim S16x1x1x1 ![0, 1] bcast_S16x1_S16x1x1x1_0_1 : (⟨S16x1, .f32⟩ : BufTy).Contents (Elt F) → (⟨S16x1x1x1, .f32⟩ : BufTy).Contents (Elt F)) x_v10

def a_v69 (x_v10 : (⟨S16x1, .f32⟩ : BufTy).Contents (Elt F)) : (⟨S1x1x16x1x1x1, .f32⟩ : BufTy).Contents (Elt F) :=
  (broadcastInDim S1x1x16x1x1x1 ![2, 3, 4, 5] bcast_S16x1x1x1_S1x1x16x1x1x1_2_3_4_5 : (⟨S16x1x1x1, .f32⟩ : BufTy).Contents (Elt F) → (⟨S1x1x16x1x1x1, .f32⟩ : BufTy).Contents (Elt F)) (a_v68 (F := F) x_v10)

def a_v70 (x_v10 : (⟨S16x1, .f32⟩ : BufTy).Contents (Elt F)) : (⟨S1x32x16x1x128x1, .f32⟩ : BufTy).Contents (Elt F) :=
  (broadcastInDim S1x32x16x1x128x1 ![0, 1, 2, 3, 4, 5] bcast_S1x1x16x1x1x1_S1x32x16x1x128x1_0_1_2_3_4_5 : (⟨S1x1x16x1x1x1, .f32⟩ : BufTy).Contents (Elt F) → (⟨S1x32x16x1x128x1, .f32⟩ : BufTy).Contents (Elt F)) (a_v69 (F := F) x_v10)

def a_v71 (x_v10 : (⟨S16x1, .f32⟩ : BufTy).Contents (Elt F)) (x_v65 : (⟨S1x32x16x1x128x256, .f32⟩ : BufTy).Contents (Elt F)) : (⟨S1x32x16x1x128x1, .f32⟩ : BufTy).Contents (Elt F) :=
  (maximumf : (⟨S1x32x16x1x128x1, .f32⟩ : BufTy).Contents (Elt F) → (⟨S1x32x16x1x128x1, .f32⟩ : BufTy).Contents (Elt F) → (⟨S1x32x16x1x128x1, .f32⟩ : BufTy).Contents (Elt F)) (a_v67 (F := F) x_v65) (a_v70 (F := F) x_v10)

def a_v72 (x_v71 : (⟨S1x32x16x1x128x1, .f32⟩ : BufTy).Contents (Elt F)) : (⟨S1x32x16x1x128x256, .f32⟩ : BufTy).Contents (Elt F) :=
  (broadcastInDim S1x32x16x1x128x256 ![0, 1, 2, 3, 4, 5] bcast_S1x32x16x1x128x1_S1x32x16x1x128x256_0_1_2_3_4_5 : (⟨S1x32x16x1x128x1, .f32⟩ : BufTy).Contents (Elt F) → (⟨S1x32x16x1x128x256, .f32⟩ : BufTy).Contents (Elt F)) x_v71

def a_v73 (x_v65 : (⟨S1x32x16x1x128x256, .f32⟩ : BufTy).Contents (Elt F)) (x_v71 : (⟨S1x32x16x1x128x1, .f32⟩ : BufTy).Contents (Elt F)) : (⟨S1x32x16x1x128x256, .f32⟩ : BufTy).Contents (Elt F) :=
  (subf : (⟨S1x32x16x1x128x256, .f32⟩ : BufTy).Contents (Elt F) → (⟨S1x32x16x1x128x256, .f32⟩ : BufTy).Contents (Elt F) → (⟨S1x32x16x1x128x256, .f32⟩ : BufTy).Contents (Elt F)) x_v65 (a_v72 (F := F) x_v71)

def a_v74 (x_v65 : (⟨S1x32x16x1x128x256, .f32⟩ : BufTy).Contents (Elt F)) (x_v71 : (⟨S1x32x16x1x128x1, .f32⟩ : BufTy).Contents (Elt F)) : (⟨S1x32x16x1x128x256, .f32⟩ : BufTy).Contents (Elt F) :=
  (Host.exp : (⟨S1x32x16x1x128x256, .f32⟩ : BufTy).Contents (Elt F) → (⟨S1x32x16x1x128x256, .f32⟩ : BufTy).Contents (Elt F)) (a_v73 (F := F) x_v65 x_v71)

def a_cst_12  : (⟨S_, .f32⟩ : BufTy).Contents (Elt F) :=
  ((constant S_ .f32 0x00000000#32) : (⟨S_, .f32⟩ : BufTy).Contents (Elt F))

def a_v75 (x_v65 : (⟨S1x32x16x1x128x256, .f32⟩ : BufTy).Contents (Elt F)) (x_v71 : (⟨S1x32x16x1x128x1, .f32⟩ : BufTy).Contents (Elt F)) : (⟨S1x32x16x1x128, .f32⟩ : BufTy).Contents (Elt F) :=
  ((fun x v => Host.reduceAdd x v reducesTo_S1x32x16x1x128x256_S1x32x16x1x128_d5 h_S_) : (⟨S1x32x16x1x128x256, .f32⟩ : BufTy).Contents (Elt F) → (⟨S_, .f32⟩ : BufTy).Contents (Elt F) → (⟨S1x32x16x1x128, .f32⟩ : BufTy).Contents (Elt F)) (a_v74 (F := F) x_v65 x_v71) (a_cst_12 (F := F))

def a_v76 (x_v65 : (⟨S1x32x16x1x128x256, .f32⟩ : BufTy).Contents (Elt F)) (x_v71 : (⟨S1x32x16x1x128x1, .f32⟩ : BufTy).Contents (Elt F)) : (⟨S1x32x16x1x128x1, .f32⟩ : BufTy).Contents (Elt F) :=
  (broadcastInDim S1x32x16x1x128x1 ![0, 1, 2, 3, 4] bcast_S1x32x16x1x128_S1x32x16x1x128x1_0_1_2_3_4 : (⟨S1x32x16x1x128, .f32⟩ : BufTy).Contents (Elt F) → (⟨S1x32x16x1x128x1, .f32⟩ : BufTy).Contents (Elt F)) (a_v75 (F := F) x_v65 x_v71)

def a_v77 (x_v68 : (⟨S16x1x1x1, .f32⟩ : BufTy).Contents (Elt F)) : (⟨S1x1x16x1x1x1, .f32⟩ : BufTy).Contents (Elt F) :=
  (broadcastInDim S1x1x16x1x1x1 ![2, 3, 4, 5] bcast_S16x1x1x1_S1x1x16x1x1x1_2_3_4_5 : (⟨S16x1x1x1, .f32⟩ : BufTy).Contents (Elt F) → (⟨S1x1x16x1x1x1, .f32⟩ : BufTy).Contents (Elt F)) x_v68

def a_v78 (x_v68 : (⟨S16x1x1x1, .f32⟩ : BufTy).Contents (Elt F)) : (⟨S1x32x16x1x128x1, .f32⟩ : BufTy).Contents (Elt F) :=
  (broadcastInDim S1x32x16x1x128x1 ![0, 1, 2, 3, 4, 5] bcast_S1x1x16x1x1x1_S1x32x16x1x128x1_0_1_2_3_4_5 : (⟨S1x1x16x1x1x1, .f32⟩ : BufTy).Contents (Elt F) → (⟨S1x32x16x1x128x1, .f32⟩ : BufTy).Contents (Elt F)) (a_v77 (F := F) x_v68)

def a_v79 (x_v68 : (⟨S16x1x1x1, .f32⟩ : BufTy).Contents (Elt F)) (x_v71 : (⟨S1x32x16x1x128x1, .f32⟩ : BufTy).Contents (Elt F)) : (⟨S1x32x16x1x128x1, .f32⟩ : BufTy).Contents (Elt F) :=
  (subf : (⟨S1x32x16x1x128x1, .f32⟩ : BufTy).Contents (Elt F) → (⟨S1x32x16x1x128x1, .f32⟩ : BufTy).Contents (Elt F) → (⟨S1x32x16x1x128x1, .f32⟩ : BufTy).Contents (Elt F)) (a_v78 (F := F) x_v68) x_v71

def a_v80 (x_v68 : (⟨S16x1x1x1, .f32⟩ : BufTy).Contents (Elt F)) (x_v71 : (⟨S1x32x16x1x128x1, .f32⟩ : BufTy).Contents (Elt F)) : (⟨S1x32x16x1x128x1, .f32⟩ : BufTy).Contents (Elt F) :=
  (Host.exp : (⟨S1x32x16x1x128x1, .f32⟩ : BufTy).Contents (Elt F) → (⟨S1x32x16x1x128x1, .f32⟩ : BufTy).Contents (Elt F)) (a_v79 (F := F) x_v68 x_v71)

def a_v81 (x_v65 : (⟨S1x32x16x1x128x256, .f32⟩ : BufTy).Contents (Elt F)) (x_v68 : (⟨S16x1x1x1, .f32⟩ : BufTy).Contents (Elt F)) (x_v71 : (⟨S1x32x16x1x128x1, .f32⟩ : BufTy).Contents (Elt F)) : (⟨S1x32x16x1x128x1, .f32⟩ : BufTy).Contents (Elt F) :=
  (addf : (⟨S1x32x16x1x128x1, .f32⟩ : BufTy).Contents (Elt F) → (⟨S1x32x16x1x128x1, .f32⟩ : BufTy).Contents (Elt F) → (⟨S1x32x16x1x128x1, .f32⟩ : BufTy).Contents (Elt F)) (a_v76 (F := F) x_v65 x_v71) (a_v80 (F := F) x_v68 x_v71)

def a_v82 (x_v81 : (⟨S1x32x16x1x128x1, .f32⟩ : BufTy).Contents (Elt F)) : (⟨S1x32x16x1x128x256, .f32⟩ : BufTy).Contents (Elt F) :=
  (broadcastInDim S1x32x16x1x128x256 ![0, 1, 2, 3, 4, 5] bcast_S1x32x16x1x128x1_S1x32x16x1x128x256_0_1_2_3_4_5 : (⟨S1x32x16x1x128x1, .f32⟩ : BufTy).Contents (Elt F) → (⟨S1x32x16x1x128x256, .f32⟩ : BufTy).Contents (Elt F)) x_v81

def a_v83 (x_v74 : (⟨S1x32x16x1x128x256, .f32⟩ : BufTy).Contents (Elt F)) (x_v81 : (⟨S1x32x16x1x128x1, .f32⟩ : BufTy).Contents (Elt F)) : (⟨S1x32x16x1x128x256, .f32⟩ : BufTy).Contents (Elt F) :=
  (Host.divf : (⟨S1x32x16x1x128x256, .f32⟩ : BufTy).Contents (Elt F) → (⟨S1x32x16x1x128x256, .f32⟩ : BufTy).Contents (Elt F) → (⟨S1x32x16x1x128x256, .f32⟩ : BufTy).Contents (Elt F)) x_v74 (a_v82 (F := F) x_v81)

def a_v84 (x_v23 : (⟨S1x32x256x16x64, .f32⟩ : BufTy).Contents (Elt F)) (x_v74 : (⟨S1x32x16x1x128x256, .f32⟩ : BufTy).Contents (Elt F)) (x_v81 : (⟨S1x32x16x1x128x1, .f32⟩ : BufTy).Contents (Elt F)) : (⟨S1x32x16x64x1x128, .f32⟩ : BufTy).Contents (Elt F) :=
  ((fun l r => Host.dotGeneral dot_S1x32x256x16x64_S1x32x16x1x128x256_S1x32x16x64x1x128_2_5_4_34_013_012 none l r) : (⟨S1x32x256x16x64, .f32⟩ : BufTy).Contents (Elt F) → (⟨S1x32x16x1x128x256, .f32⟩ : BufTy).Contents (Elt F) → (⟨S1x32x16x64x1x128, .f32⟩ : BufTy).Contents (Elt F)) x_v23 (a_v83 (F := F) x_v74 x_v81)

def a_v85 (x_v23 : (⟨S1x32x256x16x64, .f32⟩ : BufTy).Contents (Elt F)) (x_v74 : (⟨S1x32x16x1x128x256, .f32⟩ : BufTy).Contents (Elt F)) (x_v81 : (⟨S1x32x16x1x128x1, .f32⟩ : BufTy).Contents (Elt F)) : (⟨S1x32x128x16x1x64, .f32⟩ : BufTy).Contents (Elt F) :=
  ((transpose S1x32x128x16x1x64 [0, 1, 5, 2, 4, 3] · transposes_S1x32x16x64x1x128_S1x32x128x16x1x64_0_1_5_2_4_3) : (⟨S1x32x16x64x1x128, .f32⟩ : BufTy).Contents (Elt F) → (⟨S1x32x128x16x1x64, .f32⟩ : BufTy).Contents (Elt F)) (a_v84 (F := F) x_v23 x_v74 x_v81)

def a_v86 (x_v81 : (⟨S1x32x16x1x128x1, .f32⟩ : BufTy).Contents (Elt F)) : (⟨S1x32x16x1x128x1, .f32⟩ : BufTy).Contents (Elt F) :=
  (Host.log : (⟨S1x32x16x1x128x1, .f32⟩ : BufTy).Contents (Elt F) → (⟨S1x32x16x1x128x1, .f32⟩ : BufTy).Contents (Elt F)) x_v81

def a_v87 (x_v71 : (⟨S1x32x16x1x128x1, .f32⟩ : BufTy).Contents (Elt F)) (x_v81 : (⟨S1x32x16x1x128x1, .f32⟩ : BufTy).Contents (Elt F)) : (⟨S1x32x16x1x128x1, .f32⟩ : BufTy).Contents (Elt F) :=
  (addf : (⟨S1x32x16x1x128x1, .f32⟩ : BufTy).Contents (Elt F) → (⟨S1x32x16x1x128x1, .f32⟩ : BufTy).Contents (Elt F) → (⟨S1x32x16x1x128x1, .f32⟩ : BufTy).Contents (Elt F)) x_v71 (a_v86 (F := F) x_v81)

def a_v88 (x_v71 : (⟨S1x32x16x1x128x1, .f32⟩ : BufTy).Contents (Elt F)) (x_v81 : (⟨S1x32x16x1x128x1, .f32⟩ : BufTy).Contents (Elt F)) : (⟨S1x32x16x1x128, .f32⟩ : BufTy).Contents (Elt F) :=
  shapeCast S1x32x16x1x128 (a_v87 (F := F) x_v71 x_v81) shapeCasts_S1x32x16x1x128x1_S1x32x16x1x128

def a_v89 (x_v71 : (⟨S1x32x16x1x128x1, .f32⟩ : BufTy).Contents (Elt F)) (x_v81 : (⟨S1x32x16x1x128x1, .f32⟩ : BufTy).Contents (Elt F)) : (⟨S1x32x128x16x1, .f32⟩ : BufTy).Contents (Elt F) :=
  ((transpose S1x32x128x16x1 [0, 1, 4, 2, 3] · transposes_S1x32x16x1x128_S1x32x128x16x1_0_1_4_2_3) : (⟨S1x32x16x1x128, .f32⟩ : BufTy).Contents (Elt F) → (⟨S1x32x128x16x1, .f32⟩ : BufTy).Contents (Elt F)) (a_v88 (F := F) x_v71 x_v81)

def a_v90 (x_v85 : (⟨S1x32x128x16x1x64, .f32⟩ : BufTy).Contents (Elt F)) : (⟨S1x4096x16x1x64, .f32⟩ : BufTy).Contents (Elt F) :=
  shapeCast S1x4096x16x1x64 x_v85 shapeCasts_S1x32x128x16x1x64_S1x4096x16x1x64

def a_v91 (x_v71 : (⟨S1x32x16x1x128x1, .f32⟩ : BufTy).Contents (Elt F)) (x_v81 : (⟨S1x32x16x1x128x1, .f32⟩ : BufTy).Contents (Elt F)) : (⟨S1x4096x16x1, .f32⟩ : BufTy).Contents (Elt F) :=
  shapeCast S1x4096x16x1 (a_v89 (F := F) x_v71 x_v81) shapeCasts_S1x32x128x16x1_S1x4096x16x1

def a_v92 (x_v85 : (⟨S1x32x128x16x1x64, .f32⟩ : BufTy).Contents (Elt F)) : (⟨S4096x1024, .f32⟩ : BufTy).Contents (Elt F) :=
  shapeCast S4096x1024 (a_v90 (F := F) x_v85) shapeCasts_S1x4096x16x1x64_S4096x1024

def a_v93 (x_v71 : (⟨S1x32x16x1x128x1, .f32⟩ : BufTy).Contents (Elt F)) (x_v81 : (⟨S1x32x16x1x128x1, .f32⟩ : BufTy).Contents (Elt F)) : (⟨S4096x16, .f32⟩ : BufTy).Contents (Elt F) :=
  shapeCast S4096x16 (a_v91 (F := F) x_v71 x_v81) shapeCasts_S1x4096x16x1_S4096x16

def a_v94 (x_v71 : (⟨S1x32x16x1x128x1, .f32⟩ : BufTy).Contents (Elt F)) (x_v81 : (⟨S1x32x16x1x128x1, .f32⟩ : BufTy).Contents (Elt F)) : (⟨S4096x8x2x1, .f32⟩ : BufTy).Contents (Elt F) :=
  shapeCast S4096x8x2x1 (a_v93 (F := F) x_v71 x_v81) shapeCasts_S4096x16_S4096x8x2x1

def a_c_13  : (⟨S_, .i32⟩ : BufTy).Contents (Elt F) :=
  ((constantI S_ 32 0#32) : (⟨S_, .i32⟩ : BufTy).Contents (Elt F))

def a_v95 (x_v94 : (⟨S4096x8x2x1, .f32⟩ : BufTy).Contents (Elt F)) (x_c_13 : (⟨S_, .i32⟩ : BufTy).Contents (Elt F)) : (⟨S4096x8x2x64, .f32⟩ : BufTy).Contents (Elt F) :=
  pad S4096x8x2x64 ![0, 0, 0, 0] ![0, 0, 0, 63] ![0, 0, 0, 0] x_v94 (sitofp .f32 x_c_13) pads_S4096x8x2x1_S4096x8x2x64_000_000_000_0630 h_S_

def a_v96 (x_v95 : (⟨S4096x8x2x64, .f32⟩ : BufTy).Contents (Elt F)) : (⟨S4096x8x128, .f32⟩ : BufTy).Contents (Elt F) :=
  shapeCast S4096x8x128 x_v95 shapeCasts_S4096x8x2x64_S4096x8x128

def a_v97 (x_v95 : (⟨S4096x8x2x64, .f32⟩ : BufTy).Contents (Elt F)) : (⟨S8x4096x128, .f32⟩ : BufTy).Contents (Elt F) :=
  ((transpose S8x4096x128 [1, 0, 2] · transposes_S4096x8x128_S8x4096x128_1_0_2) : (⟨S4096x8x128, .f32⟩ : BufTy).Contents (Elt F) → (⟨S8x4096x128, .f32⟩ : BufTy).Contents (Elt F)) (a_v96 (F := F) x_v95)

def a_v98 (x_v92 : (⟨S4096x1024, .f32⟩ : BufTy).Contents (Elt F)) : (⟨S4096x1024, .bf16⟩ : BufTy).Contents (Elt F) :=
  ((truncf .bf16 · bitsLt_bf16_f32) : (⟨S4096x1024, .f32⟩ : BufTy).Contents (Elt F) → (⟨S4096x1024, .bf16⟩ : BufTy).Contents (Elt F)) x_v92

def a_v99 (x_v92 : (⟨S4096x1024, .f32⟩ : BufTy).Contents (Elt F)) : (⟨S1x4096x1024, .bf16⟩ : BufTy).Contents (Elt F) :=
  (broadcastInDim S1x4096x1024 ![1, 2] bcast_S4096x1024_S1x4096x1024_1_2 : (⟨S4096x1024, .bf16⟩ : BufTy).Contents (Elt F) → (⟨S1x4096x1024, .bf16⟩ : BufTy).Contents (Elt F)) (a_v98 (F := F) x_v92)

end Lists

/-! ## The stretches -/

variable (m : (ℓ : Loc nD τ sig) → Buf (Elt Ideal) ℓ) (c : Dev nD)

abbrev C0 : Valuation τ sig (Elt Ideal) := fun b => m (c, b)
def C1 : Valuation τ sig (Elt Ideal) := StableHlo.after ops1 (C0 m c)
def C2 : Valuation τ sig (Elt Ideal) := StableHlo.after ops2 (C1 m c)
def C3 : Valuation τ sig (Elt Ideal) := StableHlo.after ops3 (C2 m c)
def C4 : Valuation τ sig (Elt Ideal) := StableHlo.after ops4 (C3 m c)
def C5 : Valuation τ sig (Elt Ideal) := StableHlo.after hostOps0_1 (C4 m c)
def C6 : Valuation τ sig (Elt Ideal) := StableHlo.after opsB1 (C5 m c)
def C7 : Valuation τ sig (Elt Ideal) := StableHlo.after opsB2 (C6 m c)
def C8 : Valuation τ sig (Elt Ideal) := StableHlo.after opsB3 (C7 m c)
def C9 : Valuation τ sig (Elt Ideal) := StableHlo.after opsB4 (C8 m c)
def C10 : Valuation τ sig (Elt Ideal) := StableHlo.after hostOps0_3 (C9 m c)
def C11 : Valuation τ sig (Elt Ideal) := StableHlo.after hostOps0_4 (C10 m c)

theorem V_eq (b : Ref sig .tc) : V m c b = C11 m c (Proc.devRef .tc b) := by
  show StableHlo.after [hostOps0, hostOps0_1, hostOps0_2, hostOps0_3, hostOps0_4].flatten (fun b => m (c, b)) _ = _
  rw [hostOps0_eq, hostOps0_2_eq]
  unfold C11 C10 C9 C8 C7 C6 C5 C4 C3 C2 C1 C0
  simp only [List.flatten_cons, List.flatten_nil, List.append_nil, StableHlo.after_append]

end Cert.KernelIdeal.HostV
-- ==== Proof.Real.lean ====
module

public import Idealize.ShloMosaic.Lib.Pointwise
public import Idealize.ShloMosaic.Lib.IdealHost
public import Idealize.ShloMosaic.PureOps.Ideal
public import Mathlib.Analysis.SpecialFunctions.Log.Basic
public import Mathlib.Tactic.Ring
public import Mathlib.Tactic.FieldSimp
public import Mathlib.Tactic.Linarith

/-!
# The mathematics of the sliding-window attention's gradient

Over the real numbers: the weights of a query's window of 128 keys, what the host's log-sum is, and sums over a band
cut into blocks of 128 rows.
-/

@[expose] public section

set_option maxRecDepth 16384

noncomputable section

namespace Cert.Attn

open Idealize.ShloMosaic

/-- A sum of real numbers, read as an extended real. -/
theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

theorem coe_ite {p : Prop} [Decidable p] (a b : ℝ) : ((if p then a else b : ℝ) : EReal) = if p then (a : EReal) else (b : EReal) := by
  split <;> rfl

/-- A quotient of real numbers. -/
theorem div_real (a b : ℝ) (hb : b ≠ 0) : Ideal.div (a : EReal) (b : EReal) = ((a / b : ℝ) : EReal) := by
  rw [Ideal.div_coe hb, ← EReal.coe_mul]; congr 1; field_simp

theorem eighth : Ideal.ofBits .f32 0x3E000000#32 = (((1 : ℝ) / 8 : ℝ) : EReal) := by
  simp [Ideal.ofBits, Ideal.ieee, -EReal.coe_mul]; norm_num

theorem neg_inf : Ideal.ofBits .f32 0xFF800000#32 = ⊥ := by
  simp [Ideal.ofBits, Ideal.ieee]

theorem pos_inf : Ideal.ofBits .f32 0x7F800000#32 = ⊤ := by
  simp [Ideal.ofBits, Ideal.ieee]

/-! ## Rows, blocks, heads -/

/-- Row `r` of block `b`. -/
def row (b : Fin 32) (r : Fin 128) : Fin 4096 := ⟨128 * b.val + r.val, by omega⟩
/-- The key row that column `x` of block `b`'s window holds: the block before, then the block itself. Block 0 stands in
for the block before it. -/
def key (b : Fin 32) (x : Fin 256) : Fin 4096 :=
  ⟨if x.val < 128 then 128 * (b.val - 1) + x.val else 128 * b.val + (x.val - 128), by split <;> omega⟩

/-- The window: a query sees itself and the 127 keys before it. -/
def sees (i j : Fin 4096) : Prop := j.val ≤ i.val ∧ i.val ≤ j.val + 127
instance (i j : Fin 4096) : Decidable (sees i j) := by unfold sees; infer_instance

/-! ## Sums over a band -/

theorem sum_rows (f : Fin 4096 → ℝ) : ∑ i, f i = ∑ b : Fin 32, ∑ r : Fin 128, f (row b r) := by
  rw [Fin.sum_univ_tiles 32 128 rfl f]
  refine Finset.sum_congr rfl fun b _ => Finset.sum_congr rfl fun r _ => congrArg f (Fin.ext ?_)
  show b.val * 128 + r.val = 128 * b.val + r.val
  omega

/-- A sum over the keys a row of block `b` sees is a sum over the block's two windows. -/
theorem sum_keys (f : Fin 4096 → ℝ) (b : Fin 32) (r : Fin 128) (hf : ∀ j, ¬ sees (row b r) j → f j = 0) :
    ∑ j, f j = ∑ x : Fin 256, if b.val = 0 ∧ x.val < 128 then 0 else f (key b x) := by
  rw [sum_rows, Fin.sum_univ_two_halves 128 128 rfl]
  have h2 : ∀ t : Fin 128, (if b.val = 0 ∧ 128 + t.val < 128 then 0 else f (key b ⟨128 + t.val, by omega⟩)) = f (row b t) := fun t => by
    rw [if_neg (by omega)]
    refine congrArg f (Fin.ext ?_)
    show (if 128 + t.val < 128 then _ else 128 * b.val + (128 + t.val - 128)) = 128 * b.val + t.val
    rw [if_neg (by omega)]; omega
  have far : ∀ c : Fin 32, c ≠ b → c.val + 1 ≠ b.val → ∑ t : Fin 128, f (row c t) = 0 := fun c h1 h2 =>
    Finset.sum_eq_zero fun t _ => hf _ fun h => by
      have := Fin.val_ne_of_ne h1
      have ha : 128 * c.val + t.val ≤ 128 * b.val + r.val := h.1
      have hb : 128 * b.val + r.val ≤ 128 * c.val + t.val + 127 := h.2
      omega
  rw [show (∑ t : Fin 128, if b.val = 0 ∧ (128 + t.val) < 128 then 0 else f (key b ⟨128 + t.val, by omega⟩)) = ∑ t : Fin 128, f (row b t) from Finset.sum_congr rfl fun t _ => h2 t]
  by_cases h0 : b.val = 0
  · rw [Finset.sum_eq_single b (fun c _ h => far c h (by omega)) (fun h => absurd (Finset.mem_univ b) h)]
    rw [show (∑ t : Fin 128, if b.val = 0 ∧ t.val < 128 then (0 : ℝ) else f (key b ⟨t.val, by omega⟩)) = 0 from
      Finset.sum_eq_zero fun t _ => if_pos ⟨h0, t.isLt⟩, zero_add]
  · let a : Fin 32 := ⟨b.val - 1, by omega⟩
    have hab : a ≠ b := fun h => by have : b.val - 1 = b.val := congrArg Fin.val h; omega
    rw [Finset.sum_eq_add a b hab (fun c _ h => far c h.2 fun e => h.1 (Fin.ext (by show c.val = b.val - 1; omega)))
      (fun h => absurd (Finset.mem_univ a) h) (fun h => absurd (Finset.mem_univ b) h)]
    refine congrArg (· + _) (Finset.sum_congr rfl fun t _ => ?_)
    rw [if_neg (by omega)]
    refine congrArg f (Fin.ext ?_)
    show 128 * (b.val - 1) + t.val = if t.val < 128 then 128 * (b.val - 1) + t.val else _
    rw [if_pos t.isLt]

/-- A sum over the queries that see a key of block `b`: those of the block and of the next. -/
theorem sum_queries (g : Fin 4096 → ℝ) (b : Fin 32) (r : Fin 128) (hg : ∀ i, ¬ sees i (row b r) → g i = 0) :
    ∑ i, g i = (∑ t : Fin 128, g (row b t)) + if h : b.val + 1 < 32 then ∑ t : Fin 128, g (row ⟨b.val + 1, h⟩ t) else 0 := by
  rw [sum_rows]
  have far : ∀ c : Fin 32, c ≠ b → c.val ≠ b.val + 1 → ∑ t : Fin 128, g (row c t) = 0 := fun c h1 h2 =>
    Finset.sum_eq_zero fun t _ => hg _ fun h => by
      have := Fin.val_ne_of_ne h1
      have ha : 128 * b.val + r.val ≤ 128 * c.val + t.val := h.1
      have hb : 128 * c.val + t.val ≤ 128 * b.val + r.val + 127 := h.2
      omega
  by_cases h0 : b.val + 1 < 32
  · rw [dif_pos h0]
    have hab : b ≠ ⟨b.val + 1, h0⟩ := fun h => by have : b.val = b.val + 1 := congrArg Fin.val h; omega
    rw [Finset.sum_eq_add b ⟨b.val + 1, h0⟩ hab (fun c _ h => far c h.1 fun e => h.2 (Fin.ext e))
      (fun h => absurd (Finset.mem_univ _) h) (fun h => absurd (Finset.mem_univ _) h)]
  · rw [dif_neg h0, add_zero, Finset.sum_eq_single b (fun c _ h => far c h (by omega)) (fun h => absurd (Finset.mem_univ b) h)]

/-! ## The gradient -/

section

variable (Q K V D : Fin 4096 → Fin 16 → Fin 64 → ℝ) (sk sl : Fin 16 → ℝ)

/-- The biased score. -/
def score (h : Fin 16) (i j : Fin 4096) : ℝ := (∑ d, Q i h d * K j h d) * (1 / 8) - sl h * ((i.val : ℝ) - (j.val : ℝ))
/-- The weight before the division. -/
def wexp (h : Fin 16) (i j : Fin 4096) : ℝ := if sees i j then Real.exp (score Q K sl h i j) else 0
/-- The denominator, with the sink. -/
def den (h : Fin 16) (i : Fin 4096) : ℝ := (∑ j, wexp Q K sl h i j) + Real.exp (sk h)
/-- The attention weight. -/
def wgt (h : Fin 16) (i j : Fin 4096) : ℝ := wexp Q K sl h i j / den Q K sk sl h i
/-- The cotangent of a weight. -/
def dw (h : Fin 16) (i j : Fin 4096) : ℝ := ∑ d, D i h d * V j h d
/-- The inner product of a row's output and its cotangent. -/
def rowdot (h : Fin 16) (i : Fin 4096) : ℝ := ∑ j, wgt Q K sk sl h i j * dw V D h i j
/-- The cotangent of a score, scaled. -/
def dsc (h : Fin 16) (i j : Fin 4096) : ℝ := wgt Q K sk sl h i j * (dw V D h i j - rowdot Q K V D sk sl h i) * (1 / 8)
/-- The output. -/
def out (h : Fin 16) (i : Fin 4096) (d : Fin 64) : ℝ := ∑ j, wgt Q K sk sl h i j * V j h d

def gradQ (h : Fin 16) (i : Fin 4096) (d : Fin 64) : ℝ := ∑ j, dsc Q K V D sk sl h i j * K j h d
def gradK (h : Fin 16) (j : Fin 4096) (d : Fin 64) : ℝ := ∑ i, dsc Q K V D sk sl h i j * Q i h d
def gradV (h : Fin 16) (j : Fin 4096) (d : Fin 64) : ℝ := ∑ i, wgt Q K sk sl h i j * D i h d
def gradS (h : Fin 16) : ℝ := ∑ i, -(Real.exp (sk h) / den Q K sk sl h i) * rowdot Q K V D sk sl h i

theorem wexp_nonneg (h i j) : 0 ≤ wexp Q K sl h i j := by unfold wexp; split; exacts [(Real.exp_pos _).le, le_refl _]
theorem den_pos (h i) : 0 < den Q K sk sl h i :=
  add_pos_of_nonneg_of_pos (Finset.sum_nonneg fun j _ => wexp_nonneg Q K sl h i j) (Real.exp_pos _)
theorem wgt_off {h i j} (hs : ¬ sees i j) : wgt Q K sk sl h i j = 0 := by unfold wgt wexp; rw [if_neg hs, zero_div]
theorem dsc_off {h i j} (hs : ¬ sees i j) : dsc Q K V D sk sl h i j = 0 := by unfold dsc; rw [wgt_off Q K sk sl hs]; ring

/-- The weight from the row's log-sum. -/
theorem wgt_log (h i j) : (if sees i j then Real.exp (score Q K sl h i j - Real.log (den Q K sk sl h i)) else 0) = wgt Q K sk sl h i j := by
  unfold wgt wexp
  split
  · rw [Real.exp_sub, Real.exp_log (den_pos ..)]
  · rw [zero_div]

theorem sink_log (h i) : Real.exp (sk h - Real.log (den Q K sk sl h i)) = Real.exp (sk h) / den Q K sk sl h i := by
  rw [Real.exp_sub, Real.exp_log (den_pos ..)]

/-- The inner product taken over the lanes of the output. -/
theorem rowdot_out (h i) : ∑ d, D i h d * out Q K V sk sl h i d = rowdot Q K V D sk sl h i := by
  unfold rowdot out dw
  simp only [Finset.mul_sum]
  rw [Finset.sum_comm]
  exact Finset.sum_congr rfl fun j _ => Finset.sum_congr rfl fun d _ => by ring

end

end Cert.Attn
-- ==== Proof.Words.lean ====
module

public import Idealize.ShloMosaic.Lib.Pointwise

/-!
# Words of rows and columns
-/

@[expose] public section

set_option maxRecDepth 16384

namespace Cert.Words

open Idealize.ShloMosaic

theorem lane_lt : ∀ l : Fin 128, IntOp.cmpi .slt (BitVec.ofNat 32 l.val) 64#32 = if l.val < 64 then 1#1 else 0#1 := by decide +kernel
theorem row_lt : ∀ l : Fin 256, IntOp.cmpi .slt (BitVec.ofNat 32 l.val) 128#32 = if l.val < 128 then 1#1 else 0#1 := by decide +kernel
theorem row_mod : ∀ s : Fin 256, Scalar.select (if s.val < 128 then 1#1 else 0#1) (BitVec.ofNat 32 s.val) (IntOp.subi (BitVec.ofNat 32 s.val) 128#32) = BitVec.ofNat 32 (s.val % 128) := by decide +kernel
theorem dist_ok : ∀ (r : Fin 128) (x : Fin 256), IntOp.andi (IntOp.cmpi .sge (IntOp.subi (IntOp.addi (128#32) (BitVec.ofNat 32 r.val)) (BitVec.ofNat 32 x.val)) 0#32)
    (IntOp.cmpi .sle (IntOp.subi (IntOp.addi (128#32) (BitVec.ofNat 32 r.val)) (BitVec.ofNat 32 x.val)) 127#32)
    = if x.val ≤ 128 + r.val ∧ r.val + 1 ≤ x.val then 1#1 else 0#1 := by decide +kernel
theorem dist_int : ∀ (r : Fin 128) (x : Fin 256), (IntOp.subi (IntOp.addi (128#32) (BitVec.ofNat 32 r.val)) (BitVec.ofNat 32 x.val)).toInt = 128 + (r.val : ℤ) - x.val := by decide +kernel

theorem dist_ok' (r : ℕ) (hr : r < 128) (x : Fin 256) : IntOp.andi (IntOp.cmpi .sge (IntOp.subi (IntOp.addi (128#32) (BitVec.ofNat 32 r)) (BitVec.ofNat 32 x.val)) 0#32)
    (IntOp.cmpi .sle (IntOp.subi (IntOp.addi (128#32) (BitVec.ofNat 32 r)) (BitVec.ofNat 32 x.val)) 127#32)
    = if x.val ≤ 128 + r ∧ r + 1 ≤ x.val then 1#1 else 0#1 := dist_ok ⟨r, hr⟩ x
theorem dist_int' (r : ℕ) (hr : r < 128) (x : Fin 256) : (IntOp.subi (IntOp.addi (128#32) (BitVec.ofNat 32 r)) (BitVec.ofNat 32 x.val)).toInt = 128 + (r : ℤ) - x.val := dist_int ⟨r, hr⟩ x

end Cert.Words
-- ==== Proof.Words2.lean ====
module

public import proofs.«01_k».proof.Proof.Words

/-!
# The key position of a block's column, in 32-bit words
-/

@[expose] public section

set_option maxRecDepth 16384
set_option maxHeartbeats 4000000

namespace Cert.Words

open Idealize.ShloMosaic

theorem kpos : ∀ (n : Fin 32) (t : Fin 256), IntOp.cmpi .sge (IntOp.addi (IntOp.muli (IntOp.subi (BitVec.ofNat 32 n.val) 1#32) 128#32) (BitVec.ofNat 32 t.val)) 0#32
    = if n.val = 0 ∧ t.val < 128 then 0#1 else 1#1 := by decide +kernel

theorem dist_mul : ∀ x : BitVec 32, IntOp.muli x 1#32 = x := fun x => by show x * 1#32 = x; simp

end Cert.Words
-- ==== Proof.HostW.lean ====
module

public import proofs.«01_k».proof.Proof.HostV
public import proofs.«01_k».proof.Proof.Real
public import proofs.«01_k».proof.Proof.Words2
public import Idealize.ShloMosaic.Lib.Pointwise

@[expose] public section

set_option maxRecDepth 16384
set_option maxHeartbeats 4000000

noncomputable section

namespace Cert.KernelIdeal.HostV

open Cert.KernelIdeal Cert.KernelIdeal.Gen Cert.Attn Cert.Words
open Idealize.ShloMosaic

section Rank6

variable {n0 n1 n2 n3 n4 n5 : Nat} {t : Shape}

theorem rank6 (h : (⟨6, ![n0, n1, n2, n3, n4, n5]⟩ : Shape).ReducesTo [5] t) : t.rank = 5 := h.1
theorem lt6_0 (h : (⟨6, ![n0, n1, n2, n3, n4, n5]⟩ : Shape).ReducesTo [5] t) : 0 < t.rank := rank6 h ▸ (by decide)
theorem size6_0 (h : (⟨6, ![n0, n1, n2, n3, n4, n5]⟩ : Shape).ReducesTo [5] t) : t.size ⟨0, lt6_0 h⟩ = n0 := h.2 ⟨0, lt6_0 h⟩
theorem lt6_1 (h : (⟨6, ![n0, n1, n2, n3, n4, n5]⟩ : Shape).ReducesTo [5] t) : 1 < t.rank := rank6 h ▸ (by decide)
theorem size6_1 (h : (⟨6, ![n0, n1, n2, n3, n4, n5]⟩ : Shape).ReducesTo [5] t) : t.size ⟨1, lt6_1 h⟩ = n1 := h.2 ⟨1, lt6_1 h⟩
theorem lt6_2 (h : (⟨6, ![n0, n1, n2, n3, n4, n5]⟩ : Shape).ReducesTo [5] t) : 2 < t.rank := rank6 h ▸ (by decide)
theorem size6_2 (h : (⟨6, ![n0, n1, n2, n3, n4, n5]⟩ : Shape).ReducesTo [5] t) : t.size ⟨2, lt6_2 h⟩ = n2 := h.2 ⟨2, lt6_2 h⟩
theorem lt6_3 (h : (⟨6, ![n0, n1, n2, n3, n4, n5]⟩ : Shape).ReducesTo [5] t) : 3 < t.rank := rank6 h ▸ (by decide)
theorem size6_3 (h : (⟨6, ![n0, n1, n2, n3, n4, n5]⟩ : Shape).ReducesTo [5] t) : t.size ⟨3, lt6_3 h⟩ = n3 := h.2 ⟨3, lt6_3 h⟩
theorem lt6_4 (h : (⟨6, ![n0, n1, n2, n3, n4, n5]⟩ : Shape).ReducesTo [5] t) : 4 < t.rank := rank6 h ▸ (by decide)
theorem size6_4 (h : (⟨6, ![n0, n1, n2, n3, n4, n5]⟩ : Shape).ReducesTo [5] t) : t.size ⟨4, lt6_4 h⟩ = n4 := h.2 ⟨4, lt6_4 h⟩

theorem fiber6 (h : (⟨6, ![n0, n1, n2, n3, n4, n5]⟩ : Shape).ReducesTo [5] t) (j : t.Idx) (i : (⟨6, ![n0, n1, n2, n3, n4, n5]⟩ : Shape).Idx) :
    h.drop i = j ↔ ∃ k : Fin n5, ix6 ⟨(j ⟨0, lt6_0 h⟩).val, Shape.coordLt (j ⟨0, lt6_0 h⟩) (size6_0 h)⟩ ⟨(j ⟨1, lt6_1 h⟩).val, Shape.coordLt (j ⟨1, lt6_1 h⟩) (size6_1 h)⟩ ⟨(j ⟨2, lt6_2 h⟩).val, Shape.coordLt (j ⟨2, lt6_2 h⟩) (size6_2 h)⟩ ⟨(j ⟨3, lt6_3 h⟩).val, Shape.coordLt (j ⟨3, lt6_3 h⟩) (size6_3 h)⟩ ⟨(j ⟨4, lt6_4 h⟩).val, Shape.coordLt (j ⟨4, lt6_4 h⟩) (size6_4 h)⟩ k = i := by
  constructor
  · intro e
    refine ⟨i 5, ?_⟩
    funext a; apply Fin.ext
    match a with
    | ⟨0, _⟩ => exact (congrArg Fin.val (congrFun e ⟨0, lt6_0 h⟩)).symm
    | ⟨1, _⟩ => exact (congrArg Fin.val (congrFun e ⟨1, lt6_1 h⟩)).symm
    | ⟨2, _⟩ => exact (congrArg Fin.val (congrFun e ⟨2, lt6_2 h⟩)).symm
    | ⟨3, _⟩ => exact (congrArg Fin.val (congrFun e ⟨3, lt6_3 h⟩)).symm
    | ⟨4, _⟩ => exact (congrArg Fin.val (congrFun e ⟨4, lt6_4 h⟩)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl
    | ⟨_ + 5, hb⟩ => exact absurd hb (by have := rank6 h; omega)

theorem sum6 (h : (⟨6, ![n0, n1, n2, n3, n4, n5]⟩ : Shape).ReducesTo [5] t) (v : (⟨6, ![n0, n1, n2, n3, n4, n5]⟩ : Shape).Idx → EReal) (init : EReal) (j : t.Idx) :
    Ideal.hostReduceAdd h v init j = init + ∑ k : Fin n5, v (ix6 ⟨(j ⟨0, lt6_0 h⟩).val, Shape.coordLt (j ⟨0, lt6_0 h⟩) (size6_0 h)⟩ ⟨(j ⟨1, lt6_1 h⟩).val, Shape.coordLt (j ⟨1, lt6_1 h⟩) (size6_1 h)⟩ ⟨(j ⟨2, lt6_2 h⟩).val, Shape.coordLt (j ⟨2, lt6_2 h⟩) (size6_2 h)⟩ ⟨(j ⟨3, lt6_3 h⟩).val, Shape.coordLt (j ⟨3, lt6_3 h⟩) (size6_3 h)⟩ ⟨(j ⟨4, lt6_4 h⟩).val, Shape.coordLt (j ⟨4, lt6_4 h⟩) (size6_4 h)⟩ k) :=
  congrArg (init + ·) (Finset.sum_filter_eq_sum_of_fiber _ (fun k : Fin n5 => ix6 ⟨(j ⟨0, lt6_0 h⟩).val, Shape.coordLt (j ⟨0, lt6_0 h⟩) (size6_0 h)⟩ ⟨(j ⟨1, lt6_1 h⟩).val, Shape.coordLt (j ⟨1, lt6_1 h⟩) (size6_1 h)⟩ ⟨(j ⟨2, lt6_2 h⟩).val, Shape.coordLt (j ⟨2, lt6_2 h⟩) (size6_2 h)⟩ ⟨(j ⟨3, lt6_3 h⟩).val, Shape.coordLt (j ⟨3, lt6_3 h⟩) (size6_3 h)⟩ ⟨(j ⟨4, lt6_4 h⟩).val, Shape.coordLt (j ⟨4, lt6_4 h⟩) (size6_4 h)⟩ k) (fun _ _ e => congrFun e 5) (fiber6 h j) v)

end Rank6

/-- The head and the lane within it of a column. -/
def hd16 (l : Fin 1024) : Fin 16 := ⟨l.val / 64, by omega⟩
def dm16 (l : Fin 1024) : Fin 64 := ⟨l.val % 64, Nat.mod_lt _ (by decide)⟩
def arrX (X : Fin 3 → Fin 4096 → Fin 16 → Fin 64 → ℝ) : FVec Ideal S3x4096x1024 .f32 := fun y => ((X (y 0) (y 1) (hd16 (y 2)) (dm16 (y 2)) : ℝ) : EReal)
def arrS (sk : Fin 16 → ℝ) : FVec Ideal S16 .f32 := fun y => ((sk (y 0) : ℝ) : EReal)

variable (X : Fin 3 → Fin 4096 → Fin 16 → Fin 64 → ℝ) (sk sl : Fin 16 → ℝ)

theorem reduce_ind {s t u : Shape} {α : Type} {axes : List (Fin s.rank)} (f : α → α → α) (x : s.Idx → α) (init : u.Idx → α)
    (h : s.ReducesTo axes t) (hu : 0 < u.numel) (j : t.Idx) (P : α → Prop) (hf : ∀ a b, P a → P b → P (f a b)) (hi : ∀ i, P (init i)) (hx : ∀ i, P (x i)) :
    P (Host.reduce f x init h hu j) := by
  unfold Host.reduce
  generalize ((List.finRange s.numel).filter fun n => h.drop (s.rowMajor.symm n) = j) = l
  generalize hb : init (Shape.Idx.first hu) = b
  have hP : P b := hb ▸ hi _
  clear hb
  induction l generalizing b with
  | nil => exact hP
  | cons a l ih => exact ih _ (hf _ _ hP (hx _))

theorem v66_lt (x65 : FVec Ideal S1x32x16x1x128x256 .f32) (hx : ∀ i, x65 i < (⊤ : EReal)) (j : S1x32x16x1x128.Idx) : a_v66 (F := Ideal) x65 j < (⊤ : EReal) := by
  unfold a_v66
  refine reduce_ind (α := Ideal .f32) _ _ _ _ _ _ (fun a => (show EReal from a) < ⊤) (fun a b ha hb => ?_) (fun i => ?_) hx
  · exact max_lt ha hb
  · show Ideal.ofBits .f32 0xFF800000#32 < ⊤
    rw [neg_inf]; exact bot_lt_top

theorem v71_of (x66 : FVec Ideal S1x32x16x1x128 .f32) (x10) (n : Fin 32) (r : Fin 128) (h : Fin 16) :
    maximumf (broadcastInDim S1x32x16x1x128x1 ![0, 1, 2, 3, 4] bcast_S1x32x16x1x128_S1x32x16x1x128x1_0_1_2_3_4 x66) (a_v70 (F := Ideal) x10) (ix6 0 n h 0 r 0)
      = max (x66 (ix5 0 n h 0 r)) (x10 (ix2 h 0)) := by
  pointwise [a_v70, a_v69, a_v68]

theorem v71_at (x65 x10) (n : Fin 32) (r : Fin 128) (h : Fin 16) : a_v71 (F := Ideal) x10 x65 (ix6 0 n h 0 r 0) = max (a_v66 (F := Ideal) x65 (ix5 0 n h 0 r)) (x10 (ix2 h 0)) := by
  unfold a_v71 a_v67
  exact v71_of _ x10 n r h

theorem arrX_at (a : Fin 3) (i i' : Fin 4096) (l : Fin 1024) (h : Fin 16) (d : Fin 64) (hi : i.val = i'.val) (hl : l.val = h.val * 64 + d.val) :
    arrX X (ix3 a i l) = ((X a i' h d : ℝ) : EReal) := by
  obtain rfl : i = i' := Fin.ext hi
  obtain rfl : hd16 l = h := Fin.ext (by show l.val / 64 = h.val; omega)
  obtain rfl : dm16 l = d := Fin.ext (by show l.val % 64 = d.val; omega)
  rfl

theorem v11_at (n : Fin 32) (r : Fin 128) (h : Fin 16) (d : Fin 64) : a_v11 (F := Ideal) (arrX X) (ix6 0 n r h 0 d) = ((X 0 (row n r) h d : ℝ) : EReal) := by
  pointwise [a_v11, a_v3, a_v2, a_v1]
  exact arrX_at X 0 _ _ _ h d (by show n.val * 128 + r.val = 128 * n.val + r.val; omega) rfl

theorem v12_at (n : Fin 32) (r : Fin 128) (h : Fin 16) (d : Fin 64) : a_v12 (F := Ideal) (arrX X) (ix5 0 n r h d) = ((X 1 (row n r) h d : ℝ) : EReal) := by
  pointwise [a_v12, a_v6, a_v5, a_v4]
  exact arrX_at X 1 _ _ _ h d (by show n.val * 128 + r.val = 128 * n.val + r.val; omega) rfl

theorem v18_at (n : Fin 32) (r : Fin 128) (h : Fin 16) (d : Fin 64) : a_v18 (F := Ideal) (arrX X) (ix5 0 n r h d) = ((X 2 (row n r) h d : ℝ) : EReal) := by
  pointwise [a_v18, a_v9, a_v8, a_v7]
  exact arrX_at X 2 _ _ _ h d (by show n.val * 128 + r.val = 128 * n.val + r.val; omega) rfl

theorem key_prev (n : Fin 32) (t : Fin 256) (h1 : t.val < 128) (h2 : ¬ n.val < 1) : row ⟨n.val - 1, by omega⟩ ⟨t.val, h1⟩ = key n t := by
  apply Fin.ext; show 128 * (n.val - 1) + t.val = if t.val < 128 then 128 * (n.val - 1) + t.val else _; rw [if_pos h1]

theorem key_this (n : Fin 32) (t : Fin 256) (h1 : ¬ t.val < 128) : row n ⟨t.val - 128, by omega⟩ = key n t := by
  apply Fin.ext; show 128 * n.val + (t.val - 128) = if t.val < 128 then _ else 128 * n.val + (t.val - 128); rw [if_neg h1]

/-- A block's column before the first key. -/
def dead (n : Fin 32) (t : Fin 256) : Prop := n.val = 0 ∧ t.val < 128
instance (n : Fin 32) (t : Fin 256) : Decidable (dead n t) := by unfold dead; infer_instance

theorem v17_at (n : Fin 32) (t : Fin 256) (h : Fin 16) (d : Fin 64) :
    a_v17 (F := Ideal) (arrX X) (ix5 0 n t h d) = ((if dead n t then 0 else X 1 (key n t) h d : ℝ) : EReal) := by
  pointwise [a_v17, a_v16, a_v15, a_v14, a_cst_1]
  split
  · rename_i h1
    split
    · rename_i h2
      rw [if_pos (show dead n t from ⟨by omega, h1⟩)]; rfl
    · rename_i h2
      rw [if_neg (fun e : dead n t => h2 (by have := e.1; omega)), v12_at, key_prev n t h1 h2]
  · rename_i h1
    rw [if_neg (fun e : dead n t => h1 e.2), v12_at, key_this n t h1]

theorem v23_at (n : Fin 32) (t : Fin 256) (h : Fin 16) (d : Fin 64) :
    a_v23 (F := Ideal) (arrX X) (ix5 0 n t h d) = ((if dead n t then 0 else X 2 (key n t) h d : ℝ) : EReal) := by
  pointwise [a_v23, a_v22, a_v21, a_v20, a_cst_2]
  split
  · rename_i h1
    split
    · rename_i h2
      rw [if_pos (show dead n t from ⟨by omega, h1⟩)]; rfl
    · rename_i h2
      rw [if_neg (fun e : dead n t => h2 (by have := e.1; omega)), v18_at, key_prev n t h1 h2]
  · rename_i h1
    rw [if_neg (fun e : dead n t => h1 e.2), v18_at, key_this n t h1]

theorem v27_at (n : Fin 32) (r : Fin 128) (t : Fin 256) (h : Fin 16) : a_v27 (F := Ideal) (a_v11 (arrX X)) (a_v17 (arrX X)) (ix6 0 n h 0 r t)
    = (((∑ d, (if dead n t then 0 else X 1 (key n t) h d) * X 0 (row n r) h d) * (1 / 8) : ℝ) : EReal) := by
  pointwise [a_v27, a_v26, a_cst_3, a_v25, a_v24]
  simp only [v17_at, v11_at, eighth, ← EReal.coe_mul, ← coe_sum]

/-- The keys a row's block holds and the row sees. -/
def on (n : Fin 32) (r : Fin 128) (t : Fin 256) : Prop := ¬ dead n t ∧ sees (row n r) (key n t)
instance (n : Fin 32) (r : Fin 128) (t : Fin 256) : Decidable (on n r t) := by unfold on; infer_instance

theorem key_val (n : Fin 32) (t : Fin 256) (h : ¬ dead n t) : (key n t).val + 128 = 128 * n.val + t.val := by
  show (if t.val < 128 then 128 * (n.val - 1) + t.val else 128 * n.val + (t.val - 128)) + 128 = _
  unfold dead at h
  split <;> omega

theorem v51_at (n : Fin 32) (r : Fin 128) (t : Fin 256) : a_v51 (F := Ideal) (ix3 n r t) = if on n r t then 1#1 else 0#1 := by
  pointwise [a_v51, a_v50, a_v49, a_v48, a_v47, a_c_8, a_v46, a_v45, a_v44, a_c_7, a_v43, a_v42, a_c_6, a_v41, a_v40, a_v39, a_v38, a_v37, a_v36, a_c_5, a_v35, a_v34, a_c_4, a_v33, a_v32, a_v31, a_v30, a_c, a_v29, a_v28]
  rw [dist_ok, kpos]
  by_cases hd : dead n t
  · rw [if_pos (show n.val = 0 ∧ t.val < 128 from hd), if_neg (show ¬ on n r t from fun e => e.1 hd)]
    split <;> rfl
  · rw [if_neg (show ¬ (n.val = 0 ∧ t.val < 128) from hd)]
    have hk := key_val n t hd
    by_cases hs : t.val ≤ 128 + r.val ∧ r.val + 1 ≤ t.val
    · rw [if_pos hs, if_pos (show on n r t from ⟨hd, by
        constructor
        · show (key n t).val ≤ 128 * n.val + r.val; omega
        · show 128 * n.val + r.val ≤ (key n t).val + 127; omega⟩)]
      rfl
    · rw [if_neg hs, if_neg (show ¬ on n r t from fun e => hs (by
        have h1 : (key n t).val ≤ 128 * n.val + r.val := e.2.1
        have h2 : 128 * n.val + r.val ≤ (key n t).val + 127 := e.2.2
        omega))]
      rfl

theorem v64_at (x27) (x0) (s : ℝ) (n : Fin 32) (r : Fin 128) (t : Fin 256) (h : Fin 16) (h0 : x0 (ix2 h 0) = ((s : ℝ) : EReal)) :
    a_v64 (F := Ideal) x0 x27 a_v32 (ix6 0 n h 0 r t) = x27 (ix6 0 n h 0 r t) + ((-(s * (128 + (r.val : ℝ) - (t.val : ℝ))) : ℝ) : EReal) := by
  pointwise [a_v64, a_v63, a_v62, a_v60, a_v59, a_v58, a_v57, a_v56, a_v55, a_v54, a_v53, a_c_9, a_v52, a_v32, a_v31, a_v30, a_c, a_v29, a_v28]
  rw [dist_mul, show FloatOps.sitofp (F := Ideal) FTy.f32 (IntOp.subi (IntOp.addi (128#32) (BitVec.ofNat 32 r.val)) (BitVec.ofNat 32 t.val)) = ((((IntOp.subi (IntOp.addi (128#32) (BitVec.ofNat 32 r.val)) (BitVec.ofNat 32 t.val)).toInt : ℤ) : ℝ) : EReal) from rfl, dist_int, h0, ← EReal.coe_mul, ← EReal.coe_neg]
  push_cast
  rfl

/-- The masked scores. -/
def A65 : FVec Ideal S1x32x16x1x128x256 .f32 :=
  a_v65 (F := Ideal) (a_v61 a_v51) (a_v64 a_v0 (a_v27 (a_v11 (arrX X)) (a_v17 (arrX X))) a_v32) a_cst_10

theorem A65_at (hsl : ∀ h : Fin 16, a_v0 (F := Ideal) (ix2 h 0) = ((sl h : ℝ) : EReal)) (n : Fin 32) (r : Fin 128) (t : Fin 256) (h : Fin 16) :
    A65 X (ix6 0 n h 0 r t) = if on n r t then ((score (X 0) (X 1) sl h (row n r) (key n t) : ℝ) : EReal) else ⊥ := by
  unfold A65
  pointwise [a_v65, a_v61, a_cst_10]
  rw [v51_at, neg_inf]
  by_cases ho : on n r t
  · rw [if_pos ho, if_pos ho]
    show (if (1#1 : BitVec 1) = 1 then _ else _) = _
    rw [if_pos (by decide), v64_at _ _ (sl h) n r t h (hsl h), v27_at, ← EReal.coe_add]
    refine congrArg Real.toEReal ?_
    unfold score
    have hk := key_val n t ho.1
    have hk' : ((key n t).val : ℝ) + 128 = 128 * (n.val : ℝ) + (t.val : ℝ) := by exact_mod_cast hk
    have hr : ((row n r).val : ℝ) = 128 * (n.val : ℝ) + (r.val : ℝ) := by
      show ((128 * n.val + r.val : ℕ) : ℝ) = _
      push_cast; ring
    simp only [if_neg ho.1]
    rw [Finset.sum_congr rfl fun d _ => mul_comm (X 1 (key n t) h d) (X 0 (row n r) h d), hr]
    rw [show 128 * (n.val : ℝ) + (r.val : ℝ) - ((key n t).val : ℝ) = 128 + (r.val : ℝ) - (t.val : ℝ) by linarith]
    ring
  · rw [if_neg ho, if_neg ho]
    show (if (0#1 : BitVec 1) = 1 then _ else _) = _
    rw [if_neg (by decide)]

theorem A65_lt (hsl : ∀ h : Fin 16, a_v0 (F := Ideal) (ix2 h 0) = ((sl h : ℝ) : EReal)) (i : S1x32x16x1x128x256.Idx) : A65 X i < (⊤ : EReal) := by
  have e : i = ix6 0 (i 1) (i 2) 0 (i 4) (i 5) := by
    funext a
    match a with
    | ⟨0, _⟩ => exact Subsingleton.elim (α := Fin 1) _ _
    | ⟨1, _⟩ => rfl
    | ⟨2, _⟩ => rfl
    | ⟨3, _⟩ => exact Subsingleton.elim (α := Fin 1) _ _
    | ⟨4, _⟩ => rfl
    | ⟨5, _⟩ => rfl
  rw [e]
  refine (A65_at X sl hsl (i 1) (i 4) (i 5) (i 2)).trans_lt ?_
  split
  · exact EReal.coe_lt_top _
  · exact bot_lt_top

/-- The rows' maxima, the exponentials and the denominators. -/
def A71 : FVec Ideal S1x32x16x1x128x1 .f32 := a_v71 (F := Ideal) (a_v10 (arrS sk)) (A65 X)
def A74 : FVec Ideal S1x32x16x1x128x256 .f32 := a_v74 (F := Ideal) (A65 X) (A71 X sk)
def A81 : FVec Ideal S1x32x16x1x128x1 .f32 := a_v81 (F := Ideal) (A65 X) (a_v68 (a_v10 (arrS sk))) (A71 X sk)

theorem v10_at (h : Fin 16) : a_v10 (F := Ideal) (arrS sk) (ix2 h 0) = ((sk h : ℝ) : EReal) := by
  pointwise [a_v10]
  rfl

theorem v81_of (x65 x71 x10) (n : Fin 32) (r : Fin 128) (h : Fin 16) : a_v81 (F := Ideal) x65 (a_v68 x10) x71 (ix6 0 n h 0 r 0)
    = (∑ t, a_v74 (F := Ideal) x65 x71 (ix6 0 n h 0 r t)) + Ideal.exp (x10 (ix2 h 0) - x71 (ix6 0 n h 0 r 0)) := by
  pointwise [a_v81, a_v80, a_v79, a_v78, a_v77, a_v76, a_v75, a_cst_12, a_v74, a_v73, a_v72, a_v68, sum6]

theorem v97_of (x71 x81) (p : Fin 8) (i : Fin 4096) : a_v97 (F := Ideal) (a_v95 (a_v94 x71 x81) a_c_13) (ix3 p i 0)
    = x71 (ix6 0 ⟨i.val / 128, by omega⟩ ⟨2 * p.val, by omega⟩ 0 ⟨i.val % 128, Nat.mod_lt _ (by decide)⟩ 0)
      + Ideal.log (x81 (ix6 0 ⟨i.val / 128, by omega⟩ ⟨2 * p.val, by omega⟩ 0 ⟨i.val % 128, Nat.mod_lt _ (by decide)⟩ 0)) := by
  pointwise [a_v97, a_v96, a_v95, a_v94, a_v93, a_v91, a_v89, a_v88, a_v87, a_v86, a_c_13]
  simp only [mul_comm 2 p.val]

theorem v97_of' (x71 x81) (p : Fin 8) (i : Fin 4096) : a_v97 (F := Ideal) (a_v95 (a_v94 x71 x81) a_c_13) (ix3 p i 64)
    = x71 (ix6 0 ⟨i.val / 128, by omega⟩ ⟨2 * p.val + 1, by omega⟩ 0 ⟨i.val % 128, Nat.mod_lt _ (by decide)⟩ 0)
      + Ideal.log (x81 (ix6 0 ⟨i.val / 128, by omega⟩ ⟨2 * p.val + 1, by omega⟩ 0 ⟨i.val % 128, Nat.mod_lt _ (by decide)⟩ 0)) := by
  pointwise [a_v97, a_v96, a_v95, a_v94, a_v93, a_v91, a_v89, a_v88, a_v87, a_v86, a_c_13]
  simp only [mul_comm 2 p.val]

section Values

variable (hsl : ∀ h : Fin 16, a_v0 (F := Ideal) (ix2 h 0) = ((sl h : ℝ) : EReal))
include hsl

theorem A71_real (n : Fin 32) (r : Fin 128) (h : Fin 16) : ∃ M : ℝ, A71 X sk (ix6 0 n h 0 r 0) = (M : EReal) := by
  have e : A71 X sk (ix6 0 n h 0 r 0) = max (a_v66 (F := Ideal) (A65 X) (ix5 0 n h 0 r)) ((sk h : ℝ) : EReal) := by
    unfold A71
    rw [v71_at, v10_at]
  have h1 : a_v66 (F := Ideal) (A65 X) (ix5 0 n h 0 r) < (⊤ : EReal) := v66_lt _ (A65_lt X sl hsl) _
  have h2 : A71 X sk (ix6 0 n h 0 r 0) < (⊤ : EReal) := by rw [e]; exact max_lt h1 (EReal.coe_lt_top _)
  have h3 : (⊥ : EReal) < A71 X sk (ix6 0 n h 0 r 0) := by rw [e]; exact lt_of_lt_of_le (EReal.bot_lt_coe _) (le_max_right _ _)
  exact ⟨_, (EReal.coe_toReal (ne_of_lt h2) (ne_of_gt h3)).symm⟩

theorem A74_at (n : Fin 32) (r : Fin 128) (h : Fin 16) (M : ℝ) (hM : A71 X sk (ix6 0 n h 0 r 0) = (M : EReal)) (t : Fin 256) :
    A74 X sk (ix6 0 n h 0 r t) = ((if dead n t then 0 else Real.exp (-M) * wexp (X 0) (X 1) sl h (row n r) (key n t) : ℝ) : EReal) := by
  have e : A74 X sk (ix6 0 n h 0 r t) = Ideal.exp (A65 X (ix6 0 n h 0 r t) - (M : EReal)) := by
    rw [← hM]
    unfold A74
    pointwise [a_v74, a_v73, a_v72]
  rw [e, A65_at X sl hsl]
  unfold wexp
  by_cases ho : on n r t
  · rw [if_pos ho, if_neg ho.1, if_pos ho.2, ← EReal.coe_sub, Ideal.exp_coe]
    refine congrArg Real.toEReal ?_
    rw [← Real.exp_add]; ring_nf
  · rw [if_neg ho, EReal.bot_sub, Ideal.exp_bot]
    by_cases hd : dead n t
    · rw [if_pos hd]; rfl
    · rw [if_neg hd, if_neg (fun hs => ho ⟨hd, hs⟩), mul_zero]; rfl

theorem A81_at (n : Fin 32) (r : Fin 128) (h : Fin 16) (M : ℝ) (hM : A71 X sk (ix6 0 n h 0 r 0) = (M : EReal)) :
    A81 X sk (ix6 0 n h 0 r 0) = ((Real.exp (-M) * den (X 0) (X 1) sk sl h (row n r) : ℝ) : EReal) := by
  have e : A81 X sk (ix6 0 n h 0 r 0) = (∑ t, A74 X sk (ix6 0 n h 0 r t)) + Ideal.exp (((sk h : ℝ) : EReal) - (M : EReal)) := by
    rw [← hM, ← v10_at]
    exact v81_of _ _ _ n r h
  rw [e, Finset.sum_congr rfl fun t _ => A74_at X sk sl hsl n r h M hM t, ← coe_sum, ← EReal.coe_sub, Ideal.exp_coe, ← EReal.coe_add]
  refine congrArg Real.toEReal ?_
  unfold den
  rw [mul_add, Finset.mul_sum, sum_keys (fun j => Real.exp (-M) * wexp (X 0) (X 1) sl h (row n r) j) n r (fun j hj => by unfold wexp; rw [if_neg hj, mul_zero]), ← Real.exp_add]
  refine congrArg₂ (· + ·) (Finset.sum_congr rfl fun t _ => ?_) (congrArg Real.exp (by ring))
  by_cases hd : dead n t
  · rw [if_pos hd, if_pos (show n.val = 0 ∧ t.val < 128 from hd)]
  · rw [if_neg hd, if_neg (show ¬ (n.val = 0 ∧ t.val < 128) from hd)]

/-- The saved log-sum of a row. -/
theorem lse_at (n : Fin 32) (r : Fin 128) (h : Fin 16) :
    A71 X sk (ix6 0 n h 0 r 0) + Ideal.log (A81 X sk (ix6 0 n h 0 r 0)) = ((Real.log (den (X 0) (X 1) sk sl h (row n r)) : ℝ) : EReal) := by
  obtain ⟨M, hM⟩ := A71_real X sk sl hsl n r h
  have hd := den_pos (X 0) (X 1) sk sl h (row n r)
  rw [A81_at X sk sl hsl n r h M hM, hM, Ideal.log_coe, if_neg (not_le.mpr (mul_pos (Real.exp_pos _) hd)), ← EReal.coe_add,
    Real.log_mul (Real.exp_ne_zero _) hd.ne', Real.log_exp]
  refine congrArg Real.toEReal ?_
  ring

/-- The saved output of a row. -/
theorem o_at (n : Fin 32) (r : Fin 128) (h : Fin 16) (d : Fin 64) :
    ∑ t : Fin 256, a_v23 (F := Ideal) (arrX X) (ix5 0 n t h d) * Ideal.div (A74 X sk (ix6 0 n h 0 r t)) (A81 X sk (ix6 0 n h 0 r 0))
      = ((out (X 0) (X 1) (X 2) sk sl h (row n r) d : ℝ) : EReal) := by
  obtain ⟨M, hM⟩ := A71_real X sk sl hsl n r h
  have hd := den_pos (X 0) (X 1) sk sl h (row n r)
  rw [Finset.sum_congr rfl fun t _ => by
    rw [v23_at, A74_at X sk sl hsl n r h M hM t, A81_at X sk sl hsl n r h M hM, div_real _ _ (mul_pos (Real.exp_pos _) hd).ne', ← EReal.coe_mul], ← coe_sum]
  refine congrArg Real.toEReal ?_
  unfold out
  rw [sum_keys (fun j => wgt (X 0) (X 1) sk sl h (row n r) j * X 2 j h d) n r (fun j hj => by rw [wgt_off _ _ _ _ hj, zero_mul])]
  refine Finset.sum_congr rfl fun t _ => ?_
  by_cases hd' : dead n t
  · rw [if_pos hd', if_pos (show n.val = 0 ∧ t.val < 128 from hd'), zero_mul]
  · rw [if_neg hd', if_neg hd', if_neg (show ¬ (n.val = 0 ∧ t.val < 128) from hd')]
    unfold wgt
    rw [mul_div_mul_left _ _ (Real.exp_ne_zero _), mul_comm]

/-- The output and the log-sum as the kernel reads them. -/
theorem v99_at (i : Fin 4096) (l : Fin 1024) : a_v99 (F := Ideal) (a_v92 (a_v85 (a_v23 (arrX X)) (A74 X sk) (A81 X sk))) (ix3 0 i l)
    = ((out (X 0) (X 1) (X 2) sk sl (hd16 l) i (dm16 l) : ℝ) : EReal) := by
  pointwise [a_v99, a_v98, a_v92, a_v90, a_v85, a_v84, a_v83, a_v82]
  refine (o_at X sk sl hsl ⟨i.val / 128, by omega⟩ ⟨i.val % 128, Nat.mod_lt _ (by decide)⟩ (hd16 l) (dm16 l)).trans ?_
  rw [show row ⟨i.val / 128, by omega⟩ ⟨i.val % 128, Nat.mod_lt _ (by decide)⟩ = i from Fin.ext (Nat.div_add_mod _ _)]

theorem v97_0 (p : Fin 8) (i : Fin 4096) : a_v97 (F := Ideal) (a_v95 (a_v94 (A71 X sk) (A81 X sk)) a_c_13) (ix3 p i 0)
    = ((Real.log (den (X 0) (X 1) sk sl ⟨2 * p.val, by omega⟩ i) : ℝ) : EReal) := by
  refine (v97_of _ _ p i).trans ((lse_at X sk sl hsl _ _ _).trans ?_)
  rw [show row ⟨i.val / 128, by omega⟩ ⟨i.val % 128, Nat.mod_lt _ (by decide)⟩ = i from Fin.ext (Nat.div_add_mod _ _)]

theorem v97_1 (p : Fin 8) (i : Fin 4096) : a_v97 (F := Ideal) (a_v95 (a_v94 (A71 X sk) (A81 X sk)) a_c_13) (ix3 p i 64)
    = ((Real.log (den (X 0) (X 1) sk sl ⟨2 * p.val + 1, by omega⟩ i) : ℝ) : EReal) := by
  refine (v97_of' _ _ p i).trans ((lse_at X sk sl hsl _ _ _).trans ?_)
  rw [show row ⟨i.val / 128, by omega⟩ ⟨i.val % 128, Nat.mod_lt _ (by decide)⟩ = i from Fin.ext (Nat.div_add_mod _ _)]

end Values

end Cert.KernelIdeal.HostV
-- ==== Proof.HostR.lean ====
module

public import proofs.«01_k».proof.Proof.HostV
public import Idealize.ShloMosaic.Lib.StableHlo.RunRead

/-!
# What the host's operations leave in the buffers the kernel reads
-/

@[expose] public section

set_option maxRecDepth 16384
set_option maxHeartbeats 4000000

noncomputable section

namespace Cert.KernelIdeal.HostV

open Cert.KernelIdeal Cert.KernelIdeal.Gen Cert.KernelIdeal.Loop
open Idealize.ShloMosaic Idealize.ShloMosaic.TcCoe Idealize.SL.Sem

variable (m : (ℓ : Loc nD τ sig) → Buf (Elt Ideal) ℓ) (c : Dev nD)

theorem c1_v0 : C1 m c (Proc.devRef .tc main_v0) = a_v0 (F := Ideal) := rfl

theorem c1_v10 : C1 m c (Proc.devRef .tc main_v10) = a_v10 (F := Ideal) (C0 m c (Proc.devRef .tc main_arg1)) := rfl

theorem c1_v11 : C1 m c (Proc.devRef .tc main_v11) = a_v11 (F := Ideal) (C0 m c (Proc.devRef .tc main_arg0)) := rfl

theorem c1_v17 : C1 m c (Proc.devRef .tc main_v17) = a_v17 (F := Ideal) (C0 m c (Proc.devRef .tc main_arg0)) := rfl

theorem c1_v23 : C1 m c (Proc.devRef .tc main_v23) = a_v23 (F := Ideal) (C0 m c (Proc.devRef .tc main_arg0)) := rfl

theorem c2_v27 : C2 m c (Proc.devRef .tc main_v27) = a_v27 (F := Ideal) (C1 m c (Proc.devRef .tc main_v11)) (C1 m c (Proc.devRef .tc main_v17)) := rfl

theorem c3_v32 : C3 m c (Proc.devRef .tc main_v32) = a_v32 (F := Ideal) := rfl

theorem c3_v51 : C3 m c (Proc.devRef .tc main_v51) = a_v51 (F := Ideal) := rfl

theorem c4_v61 : C4 m c (Proc.devRef .tc main_v61) = a_v61 (F := Ideal) (C3 m c (Proc.devRef .tc main_v51)) := rfl

theorem c4_v64 : C4 m c (Proc.devRef .tc main_v64) = a_v64 (F := Ideal) (C3 m c (Proc.devRef .tc main_v0)) (C3 m c (Proc.devRef .tc main_v27)) (C3 m c (Proc.devRef .tc main_v32)) := rfl

theorem c4_cst_10 : C4 m c (Proc.devRef .tc main_cst_10) = a_cst_10 (F := Ideal) := rfl

theorem c5_v65 : C5 m c (Proc.devRef .tc main_v65) = a_v65 (F := Ideal) (C4 m c (Proc.devRef .tc main_v61)) (C4 m c (Proc.devRef .tc main_v64)) (C4 m c (Proc.devRef .tc main_cst_10)) := rfl

theorem c6_v71 : C6 m c (Proc.devRef .tc main_v71) = a_v71 (F := Ideal) (C5 m c (Proc.devRef .tc main_v10)) (C5 m c (Proc.devRef .tc main_v65)) := by
  unfold C6
  after_reads_simp
  rfl

theorem c6_v68 : C6 m c (Proc.devRef .tc main_v68) = a_v68 (F := Ideal) (C5 m c (Proc.devRef .tc main_v10)) := rfl

theorem c7_v74 : C7 m c (Proc.devRef .tc main_v74) = a_v74 (F := Ideal) (C6 m c (Proc.devRef .tc main_v65)) (C6 m c (Proc.devRef .tc main_v71)) := by
  unfold C7
  after_reads_simp
  rfl

theorem c7_v81 : C7 m c (Proc.devRef .tc main_v81) = a_v81 (F := Ideal) (C6 m c (Proc.devRef .tc main_v65)) (C6 m c (Proc.devRef .tc main_v68)) (C6 m c (Proc.devRef .tc main_v71)) := by
  unfold C7
  after_reads_simp
  rfl

theorem c8_v85 : C8 m c (Proc.devRef .tc main_v85) = a_v85 (F := Ideal) (C7 m c (Proc.devRef .tc main_v23)) (C7 m c (Proc.devRef .tc main_v74)) (C7 m c (Proc.devRef .tc main_v81)) := rfl

theorem c9_v94 : C9 m c (Proc.devRef .tc main_v94) = a_v94 (F := Ideal) (C8 m c (Proc.devRef .tc main_v71)) (C8 m c (Proc.devRef .tc main_v81)) := by
  unfold C9
  after_reads_simp
  rfl

theorem c9_v92 : C9 m c (Proc.devRef .tc main_v92) = a_v92 (F := Ideal) (C8 m c (Proc.devRef .tc main_v85)) := by
  unfold C9
  after_reads_simp
  rfl

theorem c9_c_13 : C9 m c (Proc.devRef .tc main_c_13) = a_c_13 (F := Ideal) := rfl

theorem c10_v95 : C10 m c (Proc.devRef .tc main_v95) = a_v95 (F := Ideal) (C9 m c (Proc.devRef .tc main_v94)) (C9 m c (Proc.devRef .tc main_c_13)) := rfl

theorem c11_v97 : C11 m c (Proc.devRef .tc main_v97) = a_v97 (F := Ideal) (C10 m c (Proc.devRef .tc main_v95)) := rfl

theorem c11_v99 : C11 m c (Proc.devRef .tc main_v99) = a_v99 (F := Ideal) (C10 m c (Proc.devRef .tc main_v92)) := by
  unfold C11
  after_reads_simp
  rfl

theorem k2_v0 : C2 m c (Proc.devRef .tc main_v0) = C1 m c (Proc.devRef .tc main_v0) := rfl

theorem k3_v0 : C3 m c (Proc.devRef .tc main_v0) = C2 m c (Proc.devRef .tc main_v0) := rfl

theorem k2_v10 : C2 m c (Proc.devRef .tc main_v10) = C1 m c (Proc.devRef .tc main_v10) := rfl

theorem k3_v10 : C3 m c (Proc.devRef .tc main_v10) = C2 m c (Proc.devRef .tc main_v10) := rfl

theorem k4_v10 : C4 m c (Proc.devRef .tc main_v10) = C3 m c (Proc.devRef .tc main_v10) := rfl

theorem k5_v10 : C5 m c (Proc.devRef .tc main_v10) = C4 m c (Proc.devRef .tc main_v10) := rfl

theorem k2_v23 : C2 m c (Proc.devRef .tc main_v23) = C1 m c (Proc.devRef .tc main_v23) := rfl

theorem k3_v23 : C3 m c (Proc.devRef .tc main_v23) = C2 m c (Proc.devRef .tc main_v23) := rfl

theorem k4_v23 : C4 m c (Proc.devRef .tc main_v23) = C3 m c (Proc.devRef .tc main_v23) := rfl

theorem k5_v23 : C5 m c (Proc.devRef .tc main_v23) = C4 m c (Proc.devRef .tc main_v23) := rfl

theorem k6_v23 : C6 m c (Proc.devRef .tc main_v23) = C5 m c (Proc.devRef .tc main_v23) := rfl

theorem k7_v23 : C7 m c (Proc.devRef .tc main_v23) = C6 m c (Proc.devRef .tc main_v23) := rfl

theorem k3_v27 : C3 m c (Proc.devRef .tc main_v27) = C2 m c (Proc.devRef .tc main_v27) := rfl

theorem k6_v65 : C6 m c (Proc.devRef .tc main_v65) = C5 m c (Proc.devRef .tc main_v65) := rfl

theorem k7_v71 : C7 m c (Proc.devRef .tc main_v71) = C6 m c (Proc.devRef .tc main_v71) := rfl

theorem k8_v71 : C8 m c (Proc.devRef .tc main_v71) = C7 m c (Proc.devRef .tc main_v71) := rfl

theorem k8_v81 : C8 m c (Proc.devRef .tc main_v81) = C7 m c (Proc.devRef .tc main_v81) := rfl

theorem k10_v92 : C10 m c (Proc.devRef .tc main_v92) = C9 m c (Proc.devRef .tc main_v92) := rfl

end Cert.KernelIdeal.HostV
-- ==== Proof.Slab.lean ====
module

public import proofs.«01_k».proof.Proof.Loop
public import proofs.«01_k».proof.Proof.Tiles
public import proofs.«01_k».proof.Proof.Real
public import proofs.«01_k».proof.Proof.Words

/-!
# One trip over the real numbers

A slab holds two heads of 64 lanes. What the trip's payloads are on blocks of real numbers, index by index.
-/

@[expose] public section

set_option maxRecDepth 16384
set_option maxHeartbeats 1000000

noncomputable section

namespace Cert.KernelIdeal.Slab

open Cert.KernelIdeal Cert.KernelIdeal.Gen Cert.KernelIdeal.Loop Cert.Blocks Cert.Attn Cert.Words
open Idealize.ShloMosaic Idealize.ShloMosaic.TcCoe Idealize.SL.Sem

/-! ## Lanes and stacked rows -/

/-- The head of a lane, within the slab. -/
def hd (l : Fin 128) : Fin 2 := ⟨l.val / 64, by omega⟩
/-- The place of a lane in its head. -/
def dm (l : Fin 128) : Fin 64 := ⟨l.val % 64, by omega⟩
/-- The head of a stacked row. -/
def hf (s : Fin 256) : Fin 2 := ⟨s.val / 128, by omega⟩
/-- The row of a stacked row. -/
def rw' (s : Fin 256) : Fin 128 := ⟨s.val % 128, by omega⟩

theorem sel_ite {α : Type} (p : Prop) [Decidable p] (a b : α) : Scalar.select (if p then 1#1 else 0#1) a b = if p then a else b := by
  split <;> rfl

theorem p30 (r l : Fin 128) : k0_pay30 (ix2 r l) = if l.val < 64 then 1#1 else 0#1 := by
  pointwise [k0_pay30]
  exact lane_lt l

theorem p35 (r l : Fin 256) : k0_pay35 (ix2 r l) = if r.val < 128 then 1#1 else 0#1 := by
  pointwise [k0_pay35]
  exact row_lt r

theorem p36 (r l : Fin 256) : k0_pay36 (ix2 r l) = BitVec.ofNat 32 (r.val % 128) := by
  pointwise [k0_pay36, p35]
  exact row_mod r

theorem mask_eq : Named.named (F := Ideal) (φ := .f32) κ "mask" 4048155338#32 = (⊥ : EReal) :=
  IdealRules.named_const.ideal_named_scalar _ _ _ _ rfl

/-- The columns. -/
abbrev cols : IVec S256x256 32 := iota .tc S256x256 32 [1] iota_S256x256_d1_w32

theorem p1 (a b : ℝ) (s x : Fin 256) : k0_pay1 (F := Ideal) (a : EReal) (b : EReal) cols k0_pay35 k0_pay36 128#32 (ix2 s x)
    = if x.val ≤ 128 + s.val % 128 ∧ s.val % 128 + 1 ≤ x.val then ((-((if s.val < 128 then a else b) * (128 + (s.val % 128 : ℕ) - x.val)) : ℝ) : EReal) else ⊥ := by
  pointwise [k0_pay1, p35, p36]
  rw [dist_ok' (s.val % 128) (by omega) x, sel_ite, sel_ite, mask_eq]
  refine if_congr Iff.rfl ?_ rfl
  show 0 - _ * ((_ : ℝ) : EReal) = _
  rw [dist_int' (s.val % 128) (by omega) x, ← coe_ite, ← EReal.coe_mul, ← EReal.coe_zero, ← EReal.coe_sub]
  congr 1
  push_cast
  rw [zero_sub]; rfl

/-- An array of real numbers over the lanes. -/
def arr3 {P : ℕ} (x : Fin P → Fin 4096 → Fin 2 → Fin 64 → ℝ) : FVec Ideal (⟨3, ![P, 4096, 128]⟩ : Shape) .f32 :=
  fun y => ((x (y 0) (y 1) (hd (y 2)) (dm (y 2)) : ℝ) : EReal)
def arr2 (x : Fin 4096 → Fin 2 → Fin 64 → ℝ) : FVec Ideal S4096x128 .f32 :=
  fun y => ((x (y 0) (hd (y 1)) (dm (y 1)) : ℝ) : EReal)

theorem row3_arr (x : Fin 3 → Fin 4096 → Fin 2 → Fin 64 → ℝ) (p : Fin 3) (b : ℕ) (hb : 128 * b + 128 ≤ 4096) (r l : Fin 128) :
    row3 (r := 128) (arr3 x) p b hb (ix3 0 r l) = ((x p ⟨128 * b + r.val, by omega⟩ (hd l) (dm l) : ℝ) : EReal) := rfl
theorem row2_arr (x : Fin 4096 → Fin 2 → Fin 64 → ℝ) (b : ℕ) (hb : 128 * b + 128 ≤ 4096) (r l : Fin 128) :
    row2 (r := 128) (arr2 x) b hb (ix2 r l) = ((x ⟨128 * b + r.val, by omega⟩ (hd l) (dm l) : ℝ) : EReal) := rfl

variable (x : Fin 3 → Fin 4096 → Fin 2 → Fin 64 → ℝ) (e : Fin 4096 → Fin 2 → Fin 64 → ℝ) (L B : Fin 4096 → Fin 2 → ℝ) (k : Fin 32)

/-- The lanes of one head in a stacked row. -/
theorem stack_at (q : Fin 128 → Fin 128 → ℝ) (s : Fin 256) (l : Fin 128) :
    (if h : s.val < 128 then Scalar.select (if l.val < 64 then 1#1 else 0#1) ((q ⟨s.val, h⟩ l : ℝ) : EReal) 0
      else Scalar.select (if l.val < 64 then 1#1 else 0#1) 0 ((q ⟨s.val - 128, by omega⟩ l : ℝ) : EReal))
    = ((if hf s = hd l then q (rw' s) l else 0 : ℝ) : EReal) := by
  have e : hf s = hd l ↔ s.val / 128 = l.val / 64 := Fin.ext_iff
  by_cases h : s.val < 128
  · rw [dif_pos h, sel_ite, coe_ite]
    by_cases h' : l.val < 64
    · rw [if_pos h', if_pos (e.2 (by omega))]; rw [show rw' s = ⟨s.val, h⟩ from Fin.ext (Nat.mod_eq_of_lt h)]
    · rw [if_neg h', if_neg (fun c => by have := e.1 c; omega)]; rfl
  · rw [dif_neg h, sel_ite, coe_ite]
    by_cases h' : l.val < 64
    · rw [if_pos h', if_neg (fun c => by have := e.1 c; omega)]; rfl
    · rw [if_neg h', if_pos (e.2 (by omega))]; rw [show rw' s = ⟨s.val - 128, by omega⟩ from Fin.ext (by show s.val % 128 = s.val - 128; omega)]

theorem tQ_at (s : Fin 256) (l : Fin 128) :
    tQ (F := Ideal) k0_pay30 (arr3 x) k (ix2 s l) = ((if hf s = hd l then x 0 (row k (rw' s)) (hd l) (dm l) else 0 : ℝ) : EReal) := by
  unfold tQ
  pointwise [k0_pay9, p30, row3_arr]
  exact stack_at (fun r l => x 0 (row k r) (hd l) (dm l)) s l

theorem tD_at (s : Fin 256) (l : Fin 128) :
    tD (F := Ideal) k0_pay30 (arr2 e) k (ix2 s l) = ((if hf s = hd l then e (row k (rw' s)) (hd l) (dm l) else 0 : ℝ) : EReal) := by
  unfold tD
  pointwise [k0_pay13, p30, row2_arr]
  exact stack_at (fun r l => e (row k r) (hd l) (dm l)) s l

theorem tK_at (t : Fin 256) (l : Fin 128) : tK (F := Ideal) (arr3 x) k (ix2 t l) = ((x 1 (key k t) (hd l) (dm l) : ℝ) : EReal) := by
  unfold tK
  pointwise [k0_pay10, k0_pay11, row3_arr]
  unfold key prev
  split
  · congr 3
  · congr 3

theorem tV_at (t : Fin 256) (l : Fin 128) : tV (F := Ideal) (arr3 x) k (ix2 t l) = ((x 2 (key k t) (hd l) (dm l) : ℝ) : EReal) := by
  unfold tV
  pointwise [k0_pay12, row3_arr]
  unfold key prev
  split
  · congr 3
  · congr 3

/-- One number for each row and head. -/
theorem cols_at (q : Fin 128 → Fin 2 → ℝ) (s : Fin 256) :
    (if h : s.val < 128 then ((q ⟨s.val, h⟩ (hd 0) : ℝ) : EReal) else ((q ⟨s.val - 128, by omega⟩ (hd 64) : ℝ) : EReal)) = ((q (rw' s) (hf s) : ℝ) : EReal) := by
  by_cases h : s.val < 128
  · rw [dif_pos h]; congr 2; exacts [Fin.ext (Nat.mod_eq_of_lt h).symm, Fin.ext (Nat.div_eq_of_lt h).symm]
  · rw [dif_neg h]; congr 2; exacts [Fin.ext (by show s.val - 128 = s.val % 128; omega), Fin.ext (by show 1 = s.val / 128; omega)]

theorem tL_at (s : Fin 256) : tL (F := Ideal) (fun y => ((L (y 1) (hd (y 2)) : ℝ) : EReal)) k (ix2 s 0) = ((L (row k (rw' s)) (hf s) : ℝ) : EReal) := by
  unfold tL
  pointwise [k0_pay14, row3]
  exact cols_at (fun r h => L (row k r) h) s

theorem tB_at (s : Fin 256) : tB (F := Ideal) (fun y => ((B (y 0) (hd (y 1)) : ℝ) : EReal)) k (ix2 s 0) = ((B (row k (rw' s)) (hf s) : ℝ) : EReal) := by
  unfold tB
  pointwise [k0_pay15, row2]
  exact cols_at (fun r h => B (row k r) h) s

/-- A product over the slab's lanes with one head's lanes alone is a product over the head. -/
theorem sum_head (h : Fin 2) (f : Fin 2 → Fin 64 → ℝ) : (∑ l : Fin 128, if h = hd l then f (hd l) (dm l) else 0) = ∑ d, f h d := by
  rw [Fin.sum_univ_tiles 2 64 rfl]
  rw [Finset.sum_eq_single h (fun g _ hg => Finset.sum_eq_zero fun d _ => if_neg fun c => hg (c.trans (Fin.ext (by show (g.val * 64 + d.val) / 64 = g.val; omega))).symm) (fun c => absurd (Finset.mem_univ h) c)]
  · refine Finset.sum_congr rfl fun d _ => ?_
    have e1 : hd ⟨h.val * 64 + d.val, by omega⟩ = h := Fin.ext (by show (h.val * 64 + d.val) / 64 = h.val; omega)
    have e2 : dm ⟨h.val * 64 + d.val, by omega⟩ = d := Fin.ext (by show (h.val * 64 + d.val) % 64 = d.val; omega)
    rw [e1, e2, if_pos rfl]

/-! ## Weights -/

section

variable (sl sk : Fin 2 → ℝ)

/-- The biased score. -/
def sc (h : Fin 2) (i j : Fin 4096) : ℝ := (∑ d, x 0 i h d * x 1 j h d) * (1 / 8) - sl h * ((i.val : ℝ) - (j.val : ℝ))
/-- The weight. -/
def pr (h : Fin 2) (i j : Fin 4096) : ℝ := if sees i j then Real.exp (sc x sl h i j - L i h) else 0
/-- The score's cotangent. -/
def ds (h : Fin 2) (i j : Fin 4096) : ℝ := pr x L sl h i j * ((∑ d, e i h d * x 2 j h d) - B i h) * (1 / 8)
/-- The weight at a row of block `k` and a column of its window. -/
def prB (h : Fin 2) (r : Fin 128) (t : Fin 256) : ℝ := if k.val = 0 ∧ t.val < 128 then 0 else pr x L sl h (row k r) (key k t)
def dsB (h : Fin 2) (r : Fin 128) (t : Fin 256) : ℝ := if k.val = 0 ∧ t.val < 128 then 0 else ds x e L B sl h (row k r) (key k t)

theorem pr_off {h i j} (hs : ¬ sees i j) : pr x L sl h i j = 0 := if_neg hs
theorem ds_off {h i j} (hs : ¬ sees i j) : ds x e L B sl h i j = 0 := by unfold ds; rw [pr_off x L sl hs]; ring

abbrev Lr : FVec Ideal S1x4096x128 .f32 := fun y => ((L (y 1) (hd (y 2)) : ℝ) : EReal)
abbrev Br : FVec Ideal S4096x128 .f32 := fun y => ((B (y 0) (hd (y 1)) : ℝ) : EReal)
abbrev tS' : FVec Ideal S256x256 .f32 := tS (F := Ideal) k0_pay30 ((sl 0 : ℝ) : EReal) ((sl 1 : ℝ) : EReal) cols k0_pay35 k0_pay36 128#32 (arr3 x) k

theorem mul_if (p : Prop) [Decidable p] (a b : ℝ) : (if p then a else 0) * b = if p then a * b else 0 := by split <;> simp

theorem tS_at (s t : Fin 256) : tS' x k sl (ix2 s t)
    = if t.val ≤ 128 + s.val % 128 ∧ s.val % 128 + 1 ≤ t.val then
        (((∑ d, x 0 (row k (rw' s)) (hf s) d * x 1 (key k t) (hf s) d) * (1 / 8) - sl (hf s) * (128 + (s.val % 128 : ℕ) - t.val) : ℝ) : EReal) else ⊥ := by
  have hK := tK_at x k t
  unfold tK at hK
  unfold tS' tS
  pointwise [k0_pay16]
  rw [p1]
  pointwise [tQ_at, hK]
  rw [eighth]
  simp only [← EReal.coe_mul, ← coe_sum, mul_if]
  rw [sum_head (hf s) (fun h d => x 0 (row k (rw' s)) h d * x 1 (key k t) h d)]
  split
  · rw [← EReal.coe_add]
    congr 1
    have e : (if s.val < 128 then sl 0 else sl 1) = sl (hf s) := by
      split
      · congr 1; exact Fin.ext (by show 0 = s.val / 128; omega)
      · congr 1; exact Fin.ext (by show 1 = s.val / 128; omega)
    rw [e]; ring
  · rw [EReal.add_bot]

theorem P_at (s t : Fin 256) : k0_pay17 (F := Ideal) (k0_pay2 cols) (tL (Lr L) k) (first k) (tS' x k sl) (ix2 s t) = ((prB x L k sl (hf s) (rw' s) t : ℝ) : EReal) := by
  have h2 : ∀ t : Fin 256, k0_pay2 cols (ix2 s t) = if t.val < 128 then 1#1 else 0#1 := fun t => by
    pointwise [k0_pay2]; exact row_lt t
  pointwise [k0_pay17, h2, tL_at]
  rw [tS_at, mask_eq]
  have hr : (row k (rw' s)).val = 128 * k.val + s.val % 128 := rfl
  have hk : (key k t).val = if t.val < 128 then 128 * (k.val - 1) + t.val else 128 * k.val + (t.val - 128) := rfl
  unfold prB pr first sc
  by_cases hc : k.val = 0 ∧ t.val < 128
  · rw [if_pos hc, if_pos hc.1, if_pos hc.2]
    show Ideal.exp (⊥ - _) = _
    rw [sub_eq_add_neg, EReal.bot_add]; rfl
  · rw [if_neg hc]
    have e1 : IntOp.andi (if t.val < 128 then 1#1 else 0#1) (if k.val = 0 then 1#1 else 0#1) = 0#1 := by
      by_cases h1 : t.val < 128
      · rw [if_pos h1, if_neg (fun h => hc ⟨h, h1⟩)]; rfl
      · rw [if_neg h1]; split <;> rfl
    rw [e1]
    show Ideal.exp ((if (0#1 : BitVec 1) = 1 then _ else _) - _) = _
    rw [if_neg (by decide)]
    have hs : sees (row k (rw' s)) (key k t) ↔ (t.val ≤ 128 + s.val % 128 ∧ s.val % 128 + 1 ≤ t.val) := by
      unfold sees
      rw [hr, hk]
      split <;> omega
    by_cases hb : t.val ≤ 128 + s.val % 128 ∧ s.val % 128 + 1 ≤ t.val
    · rw [if_pos hb, if_pos (hs.2 hb), ← EReal.coe_sub, Ideal.exp_coe]
      congr 4
      rw [hr, hk]
      by_cases h1 : t.val < 128
      · rw [if_pos h1]
        have : 1 ≤ k.val := by omega
        push_cast [Nat.cast_sub this]; ring
      · rw [if_neg h1]
        push_cast [Nat.cast_sub (by omega : 128 ≤ t.val)]; ring
    · rw [if_neg hb, if_neg (fun h => hb (hs.1 h)), sub_eq_add_neg, EReal.bot_add]; rfl

/-- The scores' cotangents. -/
abbrev DS : FVec Ideal S256x256 .bf16 := k0_pay18 (F := Ideal) (k0_pay2 cols) (tV (arr3 x) k) (tD k0_pay30 (arr2 e) k) (tL (Lr L) k) (tB (Br B) k) (first k) (tS' x k sl)

theorem DS_at (s t : Fin 256) : DS x e L B k sl (ix2 s t) = ((dsB x e L B k sl (hf s) (rw' s) t : ℝ) : EReal) := by
  unfold DS
  pointwise [k0_pay18, P_at, tV_at, tD_at, tB_at]
  rw [eighth]
  simp only [← EReal.coe_mul, ← coe_sum, mul_if]
  rw [sum_head (hf s) (fun h d => e (row k (rw' s)) h d * x 2 (key k t) h d), ← EReal.coe_sub, ← EReal.coe_mul, ← EReal.coe_mul]
  congr 1
  unfold dsB ds prB
  split
  · ring
  · rfl

/-! ## What a trip adds -/

/-- The queries' gradient. -/
theorem dq_at (Z : FVec Ideal S1x128x128 .f32) (r l : Fin 128) :
    k0_pay21 (F := Ideal) k0_pay30 (k0_pay2 cols) (tK (arr3 x) k) (tV (arr3 x) k) (tD k0_pay30 (arr2 e) k) (tL (Lr L) k) (tB (Br B) k) (first k) (tS' x k sl) Z (ix3 0 r l)
      = Z (ix3 0 r l) + ((∑ t, dsB x e L B k sl (hd l) r t * x 1 (key k t) (hd l) (dm l) : ℝ) : EReal) := by
  have hD := DS_at x e L B k sl
  unfold DS at hD
  pointwise [k0_pay21, p30, hD, tK_at]
  rw [sel_ite]
  simp only [← EReal.coe_mul, ← coe_sum, zero_add]
  congr 1
  by_cases h : l.val < 64
  · rw [if_pos h]
    have e1 : hf ⟨r.val, by omega⟩ = hd l := Fin.ext (by show r.val / 128 = l.val / 64; omega)
    have e2 : rw' ⟨r.val, by omega⟩ = r := Fin.ext (by show r.val % 128 = r.val; omega)
    rw [e1, e2]
  · rw [if_neg h]
    have e1 : hf ⟨128 + r.val, by omega⟩ = hd l := Fin.ext (by show (128 + r.val) / 128 = l.val / 64; omega)
    have e2 : rw' ⟨128 + r.val, by omega⟩ = r := Fin.ext (by show (128 + r.val) % 128 = r.val; omega)
    rw [e1, e2]

/-- A sum over stacked rows with one head's rows alone. -/
theorem sum_stack (h : Fin 2) (f : Fin 2 → Fin 128 → ℝ) : (∑ s : Fin 256, if hf s = h then f (hf s) (rw' s) else 0) = ∑ r, f h r := by
  rw [Fin.sum_univ_tiles 2 128 rfl]
  rw [Finset.sum_eq_single h (fun g _ hg => Finset.sum_eq_zero fun d _ => if_neg fun c => hg ((Fin.ext (by show g.val = (g.val * 128 + d.val) / 128; omega)).trans c)) (fun c => absurd (Finset.mem_univ h) c)]
  refine Finset.sum_congr rfl fun d _ => ?_
  have e1 : hf ⟨h.val * 128 + d.val, by omega⟩ = h := Fin.ext (by show (h.val * 128 + d.val) / 128 = h.val; omega)
  have e2 : rw' ⟨h.val * 128 + d.val, by omega⟩ = d := Fin.ext (by show (h.val * 128 + d.val) % 128 = d.val; omega)
  rw [e1, e2, if_pos rfl]

theorem if_mul' (p : Prop) [Decidable p] (a b : ℝ) : a * (if p then b else 0) = if p then a * b else 0 := by split <;> simp

/-- The keys' gradient, over the window. -/
theorem dk_at (t : Fin 256) (l : Fin 128) :
    k0_pay19 (F := Ideal) (k0_pay2 cols) (tQ k0_pay30 (arr3 x) k) (tV (arr3 x) k) (tD k0_pay30 (arr2 e) k) (tL (Lr L) k) (tB (Br B) k) (first k) (tS' x k sl) (ix2 t l)
      = ((∑ r, dsB x e L B k sl (hd l) r t * x 0 (row k r) (hd l) (dm l) : ℝ) : EReal) := by
  have hD := DS_at x e L B k sl
  unfold DS at hD
  pointwise [k0_pay19, hD, tQ_at]
  simp only [← EReal.coe_mul, ← coe_sum, zero_add, if_mul']
  rw [sum_stack (hd l) (fun h r => dsB x e L B k sl h r t * x 0 (row k r) (hd l) (dm l))]

/-- The values' gradient, over the window. -/
theorem dv_at (t : Fin 256) (l : Fin 128) :
    k0_pay20 (F := Ideal) (k0_pay2 cols) (tD k0_pay30 (arr2 e) k) (tL (Lr L) k) (first k) (tS' x k sl) (ix2 t l)
      = ((∑ r, prB x L k sl (hd l) r t * e (row k r) (hd l) (dm l) : ℝ) : EReal) := by
  pointwise [k0_pay20, P_at, tD_at]
  simp only [← EReal.coe_mul, ← coe_sum, zero_add, if_mul']
  rw [sum_stack (hd l) (fun h r => prB x L k sl h r t * e (row k r) (hd l) (dm l))]

/-- The sinks' gradient, row by row. -/
theorem step10_at (A : FVec Ideal S128x128 .f32) (r l : Fin 128) :
    step10 (F := Ideal) k0_pay30 (k0_pay32 ((sk 0 : ℝ) : EReal) ((sk 1 : ℝ) : EReal)) (Br B) (Lr L) k A (ix2 r l)
      = A (ix2 r l) + ((-(Real.exp (sk (hd l) - L (row k r) (hd l))) * B (row k r) (hd l) : ℝ) : EReal) := by
  unfold step10
  pointwise [k0_pay3, k0_pay28, k0_pay29, k0_pay27, k0_pay32, p30, tL_at, tB_at]
  rw [sel_ite]
  congr 1
  have c1 : IntOp.cmpi CmpIPredicate.slt (BitVec.ofNat 32 r.val) 128#32 = 1#1 := (row_lt ⟨r.val, by omega⟩).trans (if_pos r.isLt)
  have c2 : IntOp.cmpi CmpIPredicate.slt (BitVec.ofNat 32 (128 + r.val)) 128#32 = 0#1 := (row_lt ⟨128 + r.val, by omega⟩).trans (if_neg (by show ¬ (128 + r.val < 128); omega))
  by_cases h : l.val < 64
  · rw [if_pos h, c1]
    have e1 : hf ⟨r.val, by omega⟩ = hd l := Fin.ext (by show r.val / 128 = l.val / 64; omega)
    have e2 : rw' ⟨r.val, by omega⟩ = r := Fin.ext (by show r.val % 128 = r.val; omega)
    have e3 : hd l = 0 := Fin.ext (by show l.val / 64 = 0; omega)
    rw [e1, e2, e3]
    show (0 - Ideal.exp (((sk 0 : ℝ) : EReal) - _)) * _ = _
    rw [← EReal.coe_sub, Ideal.exp_coe, zero_sub, ← EReal.coe_neg, ← EReal.coe_mul]
  · rw [if_neg h, c2]
    have e1 : hf ⟨128 + r.val, by omega⟩ = hd l := Fin.ext (by show (128 + r.val) / 128 = l.val / 64; omega)
    have e2 : rw' ⟨128 + r.val, by omega⟩ = r := Fin.ext (by show (128 + r.val) % 128 = r.val; omega)
    have e3 : hd l = 1 := Fin.ext (by show l.val / 64 = 1; omega)
    rw [e1, e2, e3]
    show (0 - Ideal.exp (((sk 1 : ℝ) : EReal) - _)) * _ = _
    rw [← EReal.coe_sub, Ideal.exp_coe, zero_sub, ← EReal.coe_neg, ← EReal.coe_mul]

/-- Rows added to one block of one plane. -/
theorem put3_add (X : FVec Ideal S3x4096x128 .f32) (p : Fin 3) (b : ℕ) (hb : 128 * b + 128 ≤ 4096) (v : FVec Ideal S1x128x128 .f32) (d : Fin 128 → Fin 128 → ℝ)
    (hv : ∀ r l, v (ix3 0 r l) = X (ix3 p ⟨128 * b + r.val, by omega⟩ l) + ((d r l : ℝ) : EReal)) (p' : Fin 3) (n : Fin 4096) (l : Fin 128) :
    put3 (r := 128) (by decide) X p b v (ix3 p' n l)
      = X (ix3 p' n l) + ((if p' = p ∧ n.val / 128 = b then d ⟨n.val % 128, Nat.mod_lt _ (by decide)⟩ l else 0 : ℝ) : EReal) := by
  show (if p'.val = p.val ∧ n.val / 128 = b then v (ix3 0 ⟨n.val % 128, _⟩ l) else X (ix3 p' n l)) = _
  by_cases h : p' = p ∧ n.val / 128 = b
  · rw [if_pos ⟨congrArg _ h.1, h.2⟩, if_pos h, hv, h.1]
    congr 3
    exact Fin.ext (by show 128 * b + n.val % 128 = n.val; omega)
  · rw [if_neg (fun c => h ⟨Fin.ext c.1, c.2⟩), if_neg h, EReal.coe_zero, add_zero]

/-- A trip's parts. -/
def dQ (k : Fin 32) (r l : Fin 128) : ℝ := ∑ t, dsB x e L B k sl (hd l) r t * x 1 (key k t) (hd l) (dm l)
def dK (k : Fin 32) (t : Fin 256) (l : Fin 128) : ℝ := ∑ r, dsB x e L B k sl (hd l) r t * x 0 (row k r) (hd l) (dm l)
def dV (k : Fin 32) (t : Fin 256) (l : Fin 128) : ℝ := ∑ r, prB x L k sl (hd l) r t * e (row k r) (hd l) (dm l)

/-- The row within its block. -/
def rm (n : Fin 4096) : Fin 128 := ⟨n.val % 128, Nat.mod_lt _ (by decide)⟩
def lo (r : Fin 128) : Fin 256 := ⟨r.val, by omega⟩
def up (r : Fin 128) : Fin 256 := ⟨128 + r.val, by omega⟩

/-- What trip `k` adds. -/
def inc (k : Fin 32) (p : Fin 3) (n : Fin 4096) (l : Fin 128) : ℝ :=
  (if p = 0 ∧ n.val / 128 = k.val then dQ x e L B sl k (rm n) l else 0)
  + (if p = 1 ∧ n.val / 128 = k.val - 1 then dK x e L B sl k (lo (rm n)) l else 0)
  + (if p = 1 ∧ n.val / 128 = k.val then dK x e L B sl k (up (rm n)) l else 0)
  + (if p = 2 ∧ n.val / 128 = k.val - 1 then dV x e L sl k (lo (rm n)) l else 0)
  + (if p = 2 ∧ n.val / 128 = k.val then dV x e L sl k (up (rm n)) l else 0)

abbrev step12' (Z : FVec Ideal S3x4096x128 .f32) : FVec Ideal S3x4096x128 .f32 :=
  step12 (F := Ideal) k0_pay30 ((sl 0 : ℝ) : EReal) ((sl 1 : ℝ) : EReal) cols k0_pay35 k0_pay36 128#32 (arr3 x) (arr2 e) (Br B) (Lr L) k Z

/-- The planes after each of a trip's stores. -/
def Z1 (Z : FVec Ideal S3x4096x128 .f32) : FVec Ideal S3x4096x128 .f32 :=
  put3 (r := 128) (by decide) Z 0 k.val (k0_pay21 k0_pay30 (k0_pay2 cols) (tK (arr3 x) k) (tV (arr3 x) k) (tD k0_pay30 (arr2 e) k) (tL (Lr L) k) (tB (Br B) k) (first k) (tS' x k sl) (row3 Z 0 k.val (cur_le k)))
def Z2 (Z : FVec Ideal S3x4096x128 .f32) : FVec Ideal S3x4096x128 .f32 :=
  put3 (r := 128) (by decide) (Z1 x e L B k sl Z) 1 (prev k) (k0_pay22 (k0_pay2 cols) (tQ k0_pay30 (arr3 x) k) (tV (arr3 x) k) (tD k0_pay30 (arr2 e) k) (tL (Lr L) k) (tB (Br B) k) (first k) (tS' x k sl) (row3 Z 1 (prev k) (prev_le k)))
def Z3 (Z : FVec Ideal S3x4096x128 .f32) : FVec Ideal S3x4096x128 .f32 :=
  put3 (r := 128) (by decide) (Z2 x e L B k sl Z) 1 k.val (k0_pay24 (k0_pay23 (k0_pay2 cols) (tQ k0_pay30 (arr3 x) k) (tV (arr3 x) k) (tD k0_pay30 (arr2 e) k) (tL (Lr L) k) (tB (Br B) k) (first k) (tS' x k sl)) (row3 (Z2 x e L B k sl Z) 1 k.val (cur_le k)))
def Z4 (Z : FVec Ideal S3x4096x128 .f32) : FVec Ideal S3x4096x128 .f32 :=
  put3 (r := 128) (by decide) (Z3 x e L B k sl Z) 2 (prev k) (k0_pay25 (k0_pay20 (k0_pay2 cols) (tD k0_pay30 (arr2 e) k) (tL (Lr L) k) (first k) (tS' x k sl)) (row3 Z 2 (prev k) (prev_le k)))
def Z5 (Z : FVec Ideal S3x4096x128 .f32) : FVec Ideal S3x4096x128 .f32 :=
  put3 (r := 128) (by decide) (Z4 x e L B k sl Z) 2 k.val (k0_pay26 (k0_pay20 (k0_pay2 cols) (tD k0_pay30 (arr2 e) k) (tL (Lr L) k) (first k) (tS' x k sl)) (row3 (Z4 x e L B k sl Z) 2 k.val (cur_le k)))

theorem step12_eq (Z : FVec Ideal S3x4096x128 .f32) : step12' x e L B k sl Z = Z5 x e L B k sl Z := rfl

theorem step12_at (Z : FVec Ideal S3x4096x128 .f32) (p : Fin 3) (n : Fin 4096) (l : Fin 128) :
    step12' x e L B k sl Z (ix3 p n l) = Z (ix3 p n l) + ((inc x e L B sl k p n l : ℝ) : EReal) := by
  have e0 : ∀ (X : FVec Ideal S3x4096x128 .f32) (p : Fin 3) (b : ℕ) (hb : 128 * b + 128 ≤ 4096) (r l : Fin 128),
      row3 (r := 128) X p b hb (ix3 0 r l) = X (ix3 p ⟨128 * b + r.val, by omega⟩ l) := fun _ _ _ _ _ _ => rfl
  have h1 : ∀ p n l, Z1 x e L B k sl Z (ix3 p n l) = _ := put3_add Z 0 k.val (cur_le k) _ (dQ x e L B sl k) (fun r l => (dq_at x e L B k sl _ r l).trans (congrArg (· + _) (e0 _ _ _ _ _ _)))
  have z1 : ∀ (p : Fin 3) n l, p ≠ 0 → Z1 x e L B k sl Z (ix3 p n l) = Z (ix3 p n l) := fun p n l hp => (h1 p n l).trans (by rw [if_neg (fun c => hp c.1), EReal.coe_zero, add_zero])
  have h2 : ∀ p n l, Z2 x e L B k sl Z (ix3 p n l) = _ := put3_add (Z1 x e L B k sl Z) 1 (prev k) (prev_le k) _ (fun r l => dK x e L B sl k (lo r) l) (fun r l => by
    rw [z1 _ _ _ (by decide)]
    pointwise [k0_pay22, dk_at, e0]
    rfl)
  have z2 : ∀ n l, Z2 x e L B k sl Z (ix3 2 n l) = Z (ix3 2 n l) := fun n l => (h2 2 n l).trans (by rw [if_neg (fun c => absurd c.1 (by decide)), EReal.coe_zero, add_zero, z1 _ _ _ (by decide)])
  have h3 : ∀ p n l, Z3 x e L B k sl Z (ix3 p n l) = _ := put3_add (Z2 x e L B k sl Z) 1 k.val (cur_le k) _ (fun r l => dK x e L B sl k (up r) l) (fun r l => by
    pointwise [k0_pay24, k0_pay23, dk_at, e0]
    rfl)
  have z3 : ∀ n l, Z3 x e L B k sl Z (ix3 2 n l) = Z (ix3 2 n l) := fun n l => (h3 2 n l).trans (by rw [if_neg (fun c => absurd c.1 (by decide)), EReal.coe_zero, add_zero, z2])
  have h4 : ∀ p n l, Z4 x e L B k sl Z (ix3 p n l) = _ := put3_add (Z3 x e L B k sl Z) 2 (prev k) (prev_le k) _ (fun r l => dV x e L sl k (lo r) l) (fun r l => by
    rw [z3]
    pointwise [k0_pay25, dv_at, e0]
    rfl)
  have h5 : ∀ p n l, Z5 x e L B k sl Z (ix3 p n l) = _ := put3_add (Z4 x e L B k sl Z) 2 k.val (cur_le k) _ (fun r l => dV x e L sl k (up r) l) (fun r l => by
    pointwise [k0_pay26, dv_at, e0]
    rfl)
  rw [step12_eq, h5, h4, h3, h2, h1]
  unfold inc
  simp only [EReal.coe_add, add_assoc]
  rfl

end

end Cert.KernelIdeal.Slab
-- ==== Proof.Fold.lean ====
module

public import proofs.«01_k».proof.Proof.Slab

/-!
# The pass over a slab over the real numbers

The rows' inner products and log-sums the pass reads, and the sums its 32 trips leave.
-/

@[expose] public section

set_option maxRecDepth 16384
set_option maxHeartbeats 1000000

noncomputable section

namespace Cert.KernelIdeal.Slab

open Cert.KernelIdeal Cert.KernelIdeal.Gen Cert.KernelIdeal.Loop Cert.Blocks Cert.Attn Cert.Words
open Idealize.ShloMosaic Idealize.ShloMosaic.TcCoe Idealize.SL.Sem

/-- Whether two lanes are of one head. -/
theorem same_head : ∀ l l' : Fin 128, BitVec.setWidth 32 (IntOp.xori (IntOp.xori (IntOp.cmpi .slt (BitVec.ofNat 32 l.val) 64#32) (IntOp.cmpi .slt (BitVec.ofNat 32 l'.val) 64#32)) 1#1)
    = if hd l = hd l' then 1#32 else 0#32 := by decide +kernel

abbrev arr5 (o : Fin 4096 → Fin 2 → Fin 64 → ℝ) : FVec Ideal S1x4096x128 .bf16 := fun y => ((o (y 1) (hd (y 2)) (dm (y 2)) : ℝ) : EReal)

theorem dbar_at (e o : Fin 4096 → Fin 2 → Fin 64 → ℝ) (n : Fin 4096) (l : Fin 128) :
    dbar (F := Ideal) (arr2 e) (arr5 o) (ix2 n l) = ((∑ d, e n (hd l) d * o n (hd l) d : ℝ) : EReal) := by
  have hn : n.val / 256 < 16 := by omega
  have e2 : ∀ (r : Fin 256) (l : Fin 128), row2 (r := 256) (arr2 e) (n.val / 256) (by omega) (ix2 r l) = arr2 e (ix2 ⟨256 * (n.val / 256) + r.val, by omega⟩ l) := fun _ _ => rfl
  have e3 : ∀ (r : Fin 256) (l : Fin 128), row3 (r := 256) (arr5 o) 0 (n.val / 256) (by omega) (ix3 0 r l) = arr5 o (ix3 0 ⟨256 * (n.val / 256) + r.val, by omega⟩ l) := fun _ _ => rfl
  show k0_pay33 (F := Ideal) (k0_pay8 (row2 (r := 256) (arr2 e) (n.val / 256) _) (row3 (r := 256) (arr5 o) 0 (n.val / 256) _)) (ix2 ⟨n.val % 256, _⟩ l) = _
  pointwise [k0_pay33, k0_pay8, e2, e3]
  have hn' : (⟨256 * (n.val / 256) + n.val % 256, by omega⟩ : Fin 4096) = n := Fin.ext (by show 256 * (n.val / 256) + n.val % 256 = n.val; omega)
  rw [hn', ← sum_head (hd l) (fun h d => e n h d * o n h d), coe_sum]
  refine Finset.sum_congr rfl fun l' _ => ?_
  rw [same_head]
  show ((e n (hd l') (dm l') : ℝ) : EReal) * ((o n (hd l') (dm l') : ℝ) : EReal) * (((if hd l' = hd l then 1#32 else 0#32 : BitVec 32).toInt : ℝ) : EReal) = _
  rw [← EReal.coe_mul, ← EReal.coe_mul]
  congr 1
  by_cases h : hd l' = hd l
  · rw [if_pos h, if_pos h.symm]; simp
  · rw [if_neg h, if_neg (fun c => h c.symm)]; simp

theorem lrow_at (x6 : FVec Ideal S1x4096x128 .f32) (Ls : Fin 4096 → Fin 2 → ℝ) (h0 : ∀ n, x6 (ix3 0 n 0) = ((Ls n 0 : ℝ) : EReal)) (h1 : ∀ n, x6 (ix3 0 n 64) = ((Ls n 1 : ℝ) : EReal))
    (n : Fin 4096) (l : Fin 128) : lrow (F := Ideal) x6 (ix3 0 n l) = ((Ls n (hd l) : ℝ) : EReal) := by
  have hn : n.val / 256 < 16 := by omega
  have e3 : ∀ (r : Fin 256) (l : Fin 128), row3 (r := 256) x6 0 (n.val / 256) (by omega) (ix3 0 r l) = x6 (ix3 0 ⟨256 * (n.val / 256) + r.val, by omega⟩ l) := fun _ _ => rfl
  show k0_pay7 (F := Ideal) k0_pay31 (row3 (r := 256) x6 0 (n.val / 256) _) (ix3 0 ⟨n.val % 256, _⟩ l) = _
  pointwise [k0_pay7, k0_pay31, e3]
  have hn' : (⟨256 * (n.val / 256) + n.val % 256, by omega⟩ : Fin 4096) = n := Fin.ext (by show 256 * (n.val / 256) + n.val % 256 = n.val; omega)
  rw [hn', h0, h1, lane_lt, sel_ite]
  by_cases h : l.val < 64
  · rw [if_pos h, show hd l = 0 from Fin.ext (by show l.val / 64 = 0; omega)]
  · rw [if_neg h, show hd l = 1 from Fin.ext (by show l.val / 64 = 1; omega)]

theorem pay4_at (A : FVec Ideal S128x128 .f32) (a : Fin 8) (l : Fin 128) : k0_pay4 (F := Ideal) A (ix3 0 a l) = ∑ r : Fin 128, A (ix2 r l) := by
  pointwise [k0_pay4]

theorem sum_upto (f : Fin 32 → ℝ) (n : ℕ) (h : n < 32) : (∑ k : Fin 32, if k.val < n + 1 then f k else 0) = (∑ k : Fin 32, if k.val < n then f k else 0) + f ⟨n, h⟩ := by
  have e : ∀ k : Fin 32, (if k.val < n + 1 then f k else 0) = (if k.val < n then f k else 0) + (if k = ⟨n, h⟩ then f k else 0) := fun k => by
    by_cases h1 : k.val < n
    · rw [if_pos (by omega), if_pos h1, if_neg (fun c => by rw [c] at h1; exact absurd h1 (lt_irrefl _)), add_zero]
    · by_cases h2 : k = ⟨n, h⟩
      · rw [if_pos (by rw [h2]; exact Nat.lt_succ_self n), if_neg h1, if_pos h2, zero_add]
      · rw [if_neg (fun c => h2 (Fin.ext (by show k.val = n; omega))), if_neg h1, if_neg h2, zero_add]
  rw [Finset.sum_congr rfl fun k _ => e k, Finset.sum_add_distrib, Finset.sum_ite_eq' Finset.univ (⟨n, h⟩ : Fin 32) f, if_pos (Finset.mem_univ _)]

section

variable (x : Fin 3 → Fin 4096 → Fin 2 → Fin 64 → ℝ) (e : Fin 4096 → Fin 2 → Fin 64 → ℝ) (L B : Fin 4096 → Fin 2 → ℝ) (sl sk : Fin 2 → ℝ)

abbrev st' (n : ℕ) : FVec Ideal S128x128 .f32 × FVec Ideal S3x4096x128 .f32 :=
  st (F := Ideal) k0_pay30 (k0_pay32 ((sk 0 : ℝ) : EReal) ((sk 1 : ℝ) : EReal)) ((sl 0 : ℝ) : EReal) ((sl 1 : ℝ) : EReal) cols k0_pay35 k0_pay36 128#32
    (arr3 x) (arr2 e) (Br B) (Lr L) (k0_pay34 (F := Ideal)) (cleared (F := Ideal)) n

theorem st_at (n : ℕ) (hn : n ≤ 32) :
    (∀ r l : Fin 128, (st' x e L B sl sk n).1 (ix2 r l) = ((∑ k : Fin 32, if k.val < n then -(Real.exp (sk (hd l) - L (row k r) (hd l))) * B (row k r) (hd l) else 0 : ℝ) : EReal))
    ∧ ∀ (p : Fin 3) (i : Fin 4096) (l : Fin 128), (st' x e L B sl sk n).2 (ix3 p i l) = ((∑ k : Fin 32, if k.val < n then inc x e L B sl k p i l else 0 : ℝ) : EReal) := by
  induction n with
  | zero =>
    refine ⟨fun r l => ?_, fun p i l => ?_⟩
    · show k0_pay34 (F := Ideal) (ix2 r l) = _
      pointwise [k0_pay34]
      simp
    · show k0_pay6 (F := Ideal) (ix3 p ⟨i.val % 256, Nat.mod_lt _ (by decide)⟩ l) = _
      pointwise [k0_pay6]
      simp
  | succ n ih =>
    have h : n < 32 := by omega
    have ih := ih (by omega)
    have hs : st' x e L B sl sk (n + 1) = (step10 (F := Ideal) k0_pay30 (k0_pay32 ((sk 0 : ℝ) : EReal) ((sk 1 : ℝ) : EReal)) (Br B) (Lr L) ⟨n, h⟩ (st' x e L B sl sk n).1, step12' x e L B ⟨n, h⟩ sl (st' x e L B sl sk n).2) :=
      st_succ _ _ _ _ _ _ _ _ _ _ _ _ _ _ ⟨n, h⟩
    rw [hs]
    refine ⟨fun r l => ?_, fun p i l => ?_⟩
    · refine (step10_at L B _ sk _ r l).trans ?_
      rw [ih.1, ← EReal.coe_add, sum_upto _ n h]
    · refine (step12_at x e L B _ sl _ p i l).trans ?_
      rw [ih.2, ← EReal.coe_add, sum_upto _ n h]

/-- The slab's sums. -/
theorem sum_q (i : Fin 4096) (l : Fin 128) : ∑ k, inc x e L B sl k 0 i l = ∑ j, ds x e L B sl (hd l) i j * x 1 j (hd l) (dm l) := by
  let b : Fin 32 := ⟨i.val / 128, by omega⟩
  have hi : row b (rm i) = i := Fin.ext (by show 128 * (i.val / 128) + i.val % 128 = i.val; omega)
  have e1 : ∀ k, inc x e L B sl k 0 i l = if k = b then dQ x e L B sl b (rm i) l else 0 := fun k => by
    unfold inc
    simp only [show ¬ ((0 : Fin 3) = 1) from by decide, show ¬ ((0 : Fin 3) = 2) from by decide, false_and, if_false, add_zero, true_and]
    by_cases hk : k = b
    · rw [if_pos hk, hk, if_pos rfl]
    · rw [if_neg hk, if_neg (fun c => hk (Fin.ext c.symm))]
  rw [Finset.sum_congr rfl fun k _ => e1 k, Finset.sum_ite_eq' Finset.univ b (fun _ => dQ x e L B sl b (rm i) l), if_pos (Finset.mem_univ _)]
  have h2 := sum_keys (fun j => ds x e L B sl (hd l) i j * x 1 j (hd l) (dm l)) b (rm i) (fun j hj => by
    rw [hi] at hj; show ds x e L B sl (hd l) i j * _ = 0; rw [ds_off x e L B sl hj, zero_mul])
  rw [h2]
  unfold dQ dsB
  refine Finset.sum_congr rfl fun t _ => ?_
  rw [hi]
  split <;> simp

theorem key_up (b : Fin 32) (r : Fin 128) : key b (up r) = row b r := Fin.ext (by
  show (if 128 + r.val < 128 then _ else 128 * b.val + (128 + r.val - 128)) = 128 * b.val + r.val
  rw [if_neg (by omega)]; omega)
theorem key_lo (b : Fin 32) (h : b.val + 1 < 32) (r : Fin 128) : key ⟨b.val + 1, h⟩ (lo r) = row b r := Fin.ext (by
  show (if r.val < 128 then 128 * (b.val + 1 - 1) + r.val else _) = 128 * b.val + r.val
  rw [if_pos r.isLt]; omega)

/-- Two blocks' parts of a sum over queries. -/
theorem sum_two (f : Fin 32 → Fin 256 → ℝ) (g : Fin 4096 → ℝ) (j : Fin 4096) (hg : ∀ i, ¬ sees i j → g i = 0) (h0 : ∀ r, f 0 (lo r) = 0)
    (hu : f ⟨j.val / 128, by omega⟩ (up (rm j)) = ∑ t, g (row ⟨j.val / 128, by omega⟩ t))
    (hl : ∀ h : j.val / 128 + 1 < 32, f ⟨j.val / 128 + 1, h⟩ (lo (rm j)) = ∑ t, g (row ⟨j.val / 128 + 1, h⟩ t)) :
    (∑ k : Fin 32, ((if j.val / 128 = k.val - 1 then f k (lo (rm j)) else 0) + (if j.val / 128 = k.val then f k (up (rm j)) else 0))) = ∑ i, g i := by
  have hj : row (⟨j.val / 128, by omega⟩ : Fin 32) (rm j) = j := Fin.ext (by show 128 * (j.val / 128) + j.val % 128 = j.val; omega)
  rw [sum_queries g ⟨j.val / 128, by omega⟩ (rm j) (fun i hi => hg i (by rwa [hj] at hi)), Finset.sum_add_distrib, add_comm]
  congr 1
  · rw [← hu, Finset.sum_eq_single (⟨j.val / 128, by omega⟩ : Fin 32) (fun k _ hk => if_neg fun c => hk (Fin.ext c.symm)) (fun c => absurd (Finset.mem_univ _) c), if_pos rfl]
  · by_cases h : j.val / 128 + 1 < 32
    · rw [dif_pos h, ← hl h, Finset.sum_eq_single (⟨j.val / 128 + 1, h⟩ : Fin 32) (fun k _ hk => ?_) (fun c => absurd (Finset.mem_univ _) c), if_pos (by show j.val / 128 = j.val / 128 + 1 - 1; omega)]
      by_cases hk0 : k = 0
      · rw [hk0, h0, ite_self]
      · exact if_neg fun c => hk (Fin.ext (by
          have : k.val ≠ 0 := fun c => hk0 (Fin.ext c)
          show k.val = j.val / 128 + 1
          omega))
    · rw [dif_neg h]
      refine Finset.sum_eq_zero fun k _ => ?_
      by_cases hk0 : k = 0
      · rw [hk0, h0, ite_self]
      · exact if_neg fun c => by
          have : k.val ≠ 0 := fun c => hk0 (Fin.ext c)
          omega

theorem dsB_0 (h : Fin 2) (r t : Fin 128) : dsB x e L B 0 sl h r (lo t) = 0 := if_pos ⟨rfl, t.isLt⟩
theorem prB_0 (h : Fin 2) (r t : Fin 128) : prB x L 0 sl h r (lo t) = 0 := if_pos ⟨rfl, t.isLt⟩
theorem dsB_up (b : Fin 32) (h : Fin 2) (r t : Fin 128) : dsB x e L B b sl h r (up t) = ds x e L B sl h (row b r) (row b t) := by
  unfold dsB; rw [if_neg (fun c => absurd c.2 (by show ¬ (128 + t.val < 128); omega)), key_up]
theorem prB_up (b : Fin 32) (h : Fin 2) (r t : Fin 128) : prB x L b sl h r (up t) = pr x L sl h (row b r) (row b t) := by
  unfold prB; rw [if_neg (fun c => absurd c.2 (by show ¬ (128 + t.val < 128); omega)), key_up]
theorem dsB_lo (b : Fin 32) (hb : b.val + 1 < 32) (h : Fin 2) (r t : Fin 128) : dsB x e L B ⟨b.val + 1, hb⟩ sl h r (lo t) = ds x e L B sl h (row ⟨b.val + 1, hb⟩ r) (row b t) := by
  unfold dsB; rw [if_neg (fun c => absurd c.1 (Nat.succ_ne_zero _)), key_lo]
theorem prB_lo (b : Fin 32) (hb : b.val + 1 < 32) (h : Fin 2) (r t : Fin 128) : prB x L ⟨b.val + 1, hb⟩ sl h r (lo t) = pr x L sl h (row ⟨b.val + 1, hb⟩ r) (row b t) := by
  unfold prB; rw [if_neg (fun c => absurd c.1 (Nat.succ_ne_zero _)), key_lo]

theorem sum_k (j : Fin 4096) (l : Fin 128) : ∑ k, inc x e L B sl k 1 j l = ∑ i, ds x e L B sl (hd l) i j * x 0 i (hd l) (dm l) := by
  have hj : row (⟨j.val / 128, by omega⟩ : Fin 32) (rm j) = j := Fin.ext (by show 128 * (j.val / 128) + j.val % 128 = j.val; omega)
  refine (Finset.sum_congr rfl fun k _ => ?_).trans (sum_two (fun k t => dK x e L B sl k t l) (fun i => ds x e L B sl (hd l) i j * x 0 i (hd l) (dm l)) j (fun i hi => ?_) (fun r => ?_) ?_ (fun h => ?_))
  · unfold inc
    simp only [show ¬ ((1 : Fin 3) = 0) from by decide, show ¬ ((1 : Fin 3) = 2) from by decide, false_and, if_false, add_zero, zero_add, true_and]
  · show ds x e L B sl (hd l) i j * _ = 0
    rw [ds_off x e L B sl hi, zero_mul]
  · exact Finset.sum_eq_zero fun t _ => by rw [dsB_0, zero_mul]
  · exact Finset.sum_congr rfl fun t _ => by rw [dsB_up, hj]
  · exact Finset.sum_congr rfl fun t _ => by rw [dsB_lo x e L B sl ⟨j.val / 128, by omega⟩ h, hj]

theorem sum_v (j : Fin 4096) (l : Fin 128) : ∑ k, inc x e L B sl k 2 j l = ∑ i, pr x L sl (hd l) i j * e i (hd l) (dm l) := by
  have hj : row (⟨j.val / 128, by omega⟩ : Fin 32) (rm j) = j := Fin.ext (by show 128 * (j.val / 128) + j.val % 128 = j.val; omega)
  refine (Finset.sum_congr rfl fun k _ => ?_).trans (sum_two (fun k t => dV x e L sl k t l) (fun i => pr x L sl (hd l) i j * e i (hd l) (dm l)) j (fun i hi => ?_) (fun r => ?_) ?_ (fun h => ?_))
  · unfold inc
    simp only [show ¬ ((2 : Fin 3) = 0) from by decide, show ¬ ((2 : Fin 3) = 1) from by decide, false_and, if_false, add_zero, zero_add, true_and]
  · show pr x L sl (hd l) i j * _ = 0
    rw [pr_off x L sl hi, zero_mul]
  · exact Finset.sum_eq_zero fun t _ => by rw [prB_0, zero_mul]
  · exact Finset.sum_congr rfl fun t _ => by rw [prB_up, hj]
  · exact Finset.sum_congr rfl fun t _ => by rw [prB_lo x L sl ⟨j.val / 128, by omega⟩ h, hj]

/-- The planes after the pass. -/
theorem planes_at (p : Fin 3) (n : Fin 4096) (l : Fin 128) : rounded (F := Ideal) (st' x e L B sl sk 32).2 (ix3 p n l)
    = (((if p = 0 then ∑ j, ds x e L B sl (hd l) n j * x 1 j (hd l) (dm l) else if p = 1 then ∑ i, ds x e L B sl (hd l) i n * x 0 i (hd l) (dm l)
        else ∑ i, pr x L sl (hd l) i n * e i (hd l) (dm l)) : ℝ) : EReal) := by
  have h := (st_at x e L B sl sk 32 le_rfl).2 p n l
  rw [Finset.sum_congr rfl (fun (k : Fin 32) _ => if_pos k.isLt)] at h
  have hr : rounded (F := Ideal) (st' x e L B sl sk 32).2 (ix3 p n l) = (st' x e L B sl sk 32).2 (ix3 p n l) := by
    have e3 : ∀ (X : FVec Ideal S3x4096x128 .f32) (r : Fin 256) (l : Fin 128), rowsP (r := 256) X (n.val / 256) (by omega) (ix3 p r l) = X (ix3 p ⟨256 * (n.val / 256) + r.val, by omega⟩ l) := fun _ _ _ => rfl
    show k0_pay5 (F := Ideal) (rowsP (r := 256) (st' x e L B sl sk 32).2 (n.val / 256) _) (ix3 p ⟨n.val % 256, _⟩ l) = _
    pointwise [k0_pay5, e3]
    exact congrArg (fun n => (st' x e L B sl sk 32).2 (ix3 p n l)) (Fin.ext (by show 256 * (n.val / 256) + n.val % 256 = n.val; omega))
  rw [hr, h]
  have hp : p = 0 ∨ p = 1 ∨ p = 2 := (by decide : ∀ p : Fin 3, p = 0 ∨ p = 1 ∨ p = 2) p
  rcases hp with hp | hp | hp
  · rw [hp, if_pos rfl, sum_q]
  · rw [hp, if_neg (by decide), if_pos rfl, sum_k]
  · rw [hp, if_neg (by decide), if_neg (by decide), sum_v]

/-- The sinks' gradient after the pass. -/
theorem acc_at (a : Fin 8) (l : Fin 128) : k0_pay4 (F := Ideal) (st' x e L B sl sk 32).1 (ix3 0 a l) = ((∑ i, -(Real.exp (sk (hd l) - L i (hd l))) * B i (hd l) : ℝ) : EReal) := by
  rw [pay4_at, Finset.sum_congr rfl (fun r _ => (st_at x e L B sl sk 32 le_rfl).1 r l), ← coe_sum]
  congr 1
  rw [sum_rows, Finset.sum_comm]
  refine Finset.sum_congr rfl fun k _ => Finset.sum_congr rfl fun r _ => if_pos k.isLt

end

end Cert.KernelIdeal.Slab
-- ==== Proof.Kern.lean ====
module

public import proofs.«01_k».proof.Proof.HostW
public import proofs.«01_k».proof.Proof.HostR
public import proofs.«01_k».proof.Proof.Fold
public import Idealize.ShloMosaic.Lib.Pipeline.ValueKit
public import proofs.«01_k».proof.Proof.Body

/-!
# What the kernel is handed

The slopes, the arrays the host prepares, and where a block of a slab lies.
-/

@[expose] public section

set_option maxRecDepth 16384
set_option maxHeartbeats 4000000

noncomputable section

namespace Cert.KernelIdeal.End

open Cert.KernelIdeal Cert.KernelIdeal.Gen Cert.KernelIdeal.Loop Cert.KernelIdeal.Slab Cert.KernelIdeal.HostV Cert.Blocks Cert.Attn Cert.Words
open Idealize.ShloMosaic Idealize.ShloMosaic.TcCoe Idealize.SL.Sem
open Idealize.ShloMosaic.Pipeline (Dat)

variable (m : (ℓ : Loc nD τ sig) → Buf (Elt Ideal) ℓ) (c : Dev nD)
variable (X : Fin 3 → Fin 4096 → Fin 16 → Fin 64 → ℝ) (D : Fin 4096 → Fin 16 → Fin 64 → ℝ) (sk sl : Fin 16 → ℝ)

/-! ## The slopes -/

/-- A head's slope. -/
def slope (h : Fin 16) : ℝ := (Ideal.ofBits .f32 (lit1 h)).toReal

theorem finite_bits (b : BitVec 32) (hb : (b.extractLsb' 23 8).toNat ≠ 255) : ∃ r : ℝ, Ideal.ofBits .f32 b = (r : EReal) := by
  unfold Ideal.ofBits Ideal.ieee
  dsimp only
  rw [if_neg (show ¬ _ = 2 ^ 8 - 1 from hb)]
  split <;> exact ⟨_, rfl⟩

theorem bits_ne : ∀ h : Fin 16, ((lit1 h).extractLsb' 23 8).toNat ≠ 255 := by decide +kernel

theorem slope_coe (h : Fin 16) : Ideal.ofBits .f32 (lit1 h) = (slope h : EReal) := by
  obtain ⟨r, hr⟩ := finite_bits (lit1 h) (bits_ne h)
  unfold slope
  rw [hr, EReal.toReal_coe]

theorem rm16 (h : Fin 16) : S16.rowMajor (ix1 h) = h :=
  Fin.ext ((by decide +kernel : ∀ h : Fin 16, (S16.rowMajor (ix1 h)).val = h.val) h)

theorem hsl (h : Fin 16) : a_v0 (F := Ideal) (ix2 h 0) = (slope h : EReal) := by
  pointwise [a_v0, a_cst_0]
  rw [rm16]
  exact slope_coe h

/-! ## What the host hands over -/

/-- Head `hh` of slab `p`. -/
def head (p : Fin 8) (hh : Fin 2) : Fin 16 := ⟨2 * p.val + hh.val, by omega⟩

/-- The output's cotangent. -/
def arrD : FVec Ideal S4096x1024 .f32 := fun y => ((D (y 0) (hd16 (y 1)) (dm16 (y 1)) : ℝ) : EReal)

section Host

variable (hX : C0 m c (Proc.devRef .tc main_arg0) = arrX X) (hS : C0 m c (Proc.devRef .tc main_arg1) = arrS sk)
include hX

theorem v65_eq : C5 m c (Proc.devRef .tc main_v65) = A65 X := by
  rw [c5_v65, c4_v61, c4_v64, c4_cst_10, c3_v51, k3_v0, k2_v0, c1_v0, k3_v27, c2_v27, c1_v11, c1_v17, c3_v32, hX]
  rfl

include hS

theorem v71_eq : C6 m c (Proc.devRef .tc main_v71) = A71 X sk := by
  rw [c6_v71, v65_eq m c X hX, k5_v10, k4_v10, k3_v10, k2_v10, c1_v10, hS]
  rfl

theorem v68_eq : C6 m c (Proc.devRef .tc main_v68) = a_v68 (F := Ideal) (a_v10 (F := Ideal) (arrS sk)) := by
  rw [c6_v68, k5_v10, k4_v10, k3_v10, k2_v10, c1_v10, hS]

theorem v74_eq : C7 m c (Proc.devRef .tc main_v74) = A74 X sk := by
  rw [c7_v74, k6_v65, v65_eq m c X hX, v71_eq m c X sk hX hS]
  rfl

theorem v81_eq : C7 m c (Proc.devRef .tc main_v81) = A81 X sk := by
  rw [c7_v81, k6_v65, v65_eq m c X hX, v71_eq m c X sk hX hS, v68_eq m c X sk hX hS]
  rfl

theorem V_v99 : V m c main_v99 = a_v99 (F := Ideal) (a_v92 (a_v85 (a_v23 (arrX X)) (A74 X sk) (A81 X sk))) := by
  rw [V_eq, c11_v99, k10_v92, c9_v92, c8_v85, k7_v23, k6_v23, k5_v23, k4_v23, k3_v23, k2_v23, c1_v23, hX, v74_eq m c X sk hX hS, v81_eq m c X sk hX hS]

theorem V_v97 : V m c main_v97 = a_v97 (F := Ideal) (a_v95 (a_v94 (A71 X sk) (A81 X sk)) a_c_13) := by
  rw [V_eq, c11_v97, c10_v95, c9_v94, c9_c_13, k8_v71, k7_v71, v71_eq m c X sk hX hS, k8_v81, v81_eq m c X sk hX hS]

end Host

theorem V_cst (h : Fin 16) : V m c main_cst (ix1 h) = (slope h : EReal) := by
  rw [V_eq]
  refine Eq.trans (show _ = FloatOps.ofBits (F := Ideal) .f32 (lit0 (S16.rowMajor (ix1 h))) from rfl) ?_
  rw [rm16]
  exact slope_coe h

/-! ## The blocks of a slab -/

theorem ix2_eta {a b : ℕ} (y : (⟨2, ![a, b]⟩ : Shape).Idx) : y = ix2 (y 0) (y 1) := by
  funext k; fin_cases k <;> rfl
theorem ix3_eta {a b d : ℕ} (y : (⟨3, ![a, b, d]⟩ : Shape).Idx) : y = ix3 (y 0) (y 1) (y 2) := by
  funext k; fin_cases k <;> rfl
theorem ix3_eta0 {b d : ℕ} (y : (⟨3, ![1, b, d]⟩ : Shape).Idx) : y = ix3 0 (y 1) (y 2) := by
  funext k; fin_cases k
  · exact Fin.ext (by have := (y 0).isLt; change (y 0).val < 1 at this; show (y 0).val = 0; omega)
  · rfl
  · rfl

theorem idx : ∀ t : Fin cfg0.N, (win0_0.index t 0 = 0 ∧ win0_1.index t 0 = 0) ∧ (win0_2.index t 0 = 0 ∧ win0_2.index t 1 = 0 ∧ win0_2.index t 2 = t.val)
    ∧ (win0_3.index t 0 = 0 ∧ win0_3.index t 1 = t.val) ∧ (win0_4.index t 0 = 0 ∧ win0_4.index t 1 = 0 ∧ win0_4.index t 2 = t.val)
    ∧ (win0_5.index t 0 = t.val ∧ win0_5.index t 1 = 0 ∧ win0_5.index t 2 = 0) ∧ (win0_6.index t 0 = 0 ∧ win0_6.index t 1 = 0 ∧ win0_6.index t 2 = t.val)
    ∧ (win0_7.index t 0 = t.val ∧ win0_7.index t 1 = 0 ∧ win0_7.index t 2 = 0) ∧ (grid0.coords t 0).val = t.val :=
  (by decide +kernel : ∀ t : Fin grid0.N, _)

theorem emb0 (A : FVec Ideal S16 .f32) (t : Fin cfg0.N) (y : S16.Idx) : A ((win0_0.blk t).view.emb y) = A (y) := by
  obtain ⟨⟨a0, a1⟩, ⟨b0, b1, b2⟩, ⟨c0, c1⟩, ⟨d0, d1, d2⟩, ⟨e0, e1, e2⟩, ⟨f0, f1, f2⟩, ⟨g0, g1, g2⟩, hc⟩ := idx t
  have := t.isLt
  change t.val < 8 at this
  blk_ext [a0, a1, b0, b1, b2, c0, c1, d0, d1, d2, e0, e1, e2, f0, f1, f2, g0, g1, g2]

theorem emb1 (A : FVec Ideal S16 .f32) (t : Fin cfg0.N) (y : S16.Idx) : A ((win0_1.blk t).view.emb y) = A (y) := by
  obtain ⟨⟨a0, a1⟩, ⟨b0, b1, b2⟩, ⟨c0, c1⟩, ⟨d0, d1, d2⟩, ⟨e0, e1, e2⟩, ⟨f0, f1, f2⟩, ⟨g0, g1, g2⟩, hc⟩ := idx t
  have := t.isLt
  change t.val < 8 at this
  blk_ext [a0, a1, b0, b1, b2, c0, c1, d0, d1, d2, e0, e1, e2, f0, f1, f2, g0, g1, g2]

theorem emb2 (A : FVec Ideal S3x4096x1024 .f32) (t : Fin cfg0.N) (y : S3x4096x128.Idx) : A ((win0_2.blk t).view.emb y) = A (ix3 (y 0) (y 1) ⟨t.val * 128 + (y 2).val, by have := t.isLt; have := (y 2).isLt; change t.val < 8 at *; change (y 2).val < 128 at *; omega⟩) := by
  obtain ⟨⟨a0, a1⟩, ⟨b0, b1, b2⟩, ⟨c0, c1⟩, ⟨d0, d1, d2⟩, ⟨e0, e1, e2⟩, ⟨f0, f1, f2⟩, ⟨g0, g1, g2⟩, hc⟩ := idx t
  have := t.isLt
  change t.val < 8 at this
  blk_ext [a0, a1, b0, b1, b2, c0, c1, d0, d1, d2, e0, e1, e2, f0, f1, f2, g0, g1, g2]

theorem emb3 (A : FVec Ideal S4096x1024 .f32) (t : Fin cfg0.N) (y : S4096x128.Idx) : A ((win0_3.blk t).view.emb y) = A (ix2 (y 0) ⟨t.val * 128 + (y 1).val, by have := t.isLt; have := (y 1).isLt; change t.val < 8 at *; change (y 1).val < 128 at *; omega⟩) := by
  obtain ⟨⟨a0, a1⟩, ⟨b0, b1, b2⟩, ⟨c0, c1⟩, ⟨d0, d1, d2⟩, ⟨e0, e1, e2⟩, ⟨f0, f1, f2⟩, ⟨g0, g1, g2⟩, hc⟩ := idx t
  have := t.isLt
  change t.val < 8 at this
  blk_ext [a0, a1, b0, b1, b2, c0, c1, d0, d1, d2, e0, e1, e2, f0, f1, f2, g0, g1, g2]

theorem emb4 (A : FVec Ideal S1x4096x1024 .bf16) (t : Fin cfg0.N) (y : S1x4096x128.Idx) : A ((win0_4.blk t).view.emb y) = A (ix3 0 (y 1) ⟨t.val * 128 + (y 2).val, by have := t.isLt; have := (y 2).isLt; change t.val < 8 at *; change (y 2).val < 128 at *; omega⟩) := by
  obtain ⟨⟨a0, a1⟩, ⟨b0, b1, b2⟩, ⟨c0, c1⟩, ⟨d0, d1, d2⟩, ⟨e0, e1, e2⟩, ⟨f0, f1, f2⟩, ⟨g0, g1, g2⟩, hc⟩ := idx t
  have := t.isLt
  change t.val < 8 at this
  blk_ext [a0, a1, b0, b1, b2, c0, c1, d0, d1, d2, e0, e1, e2, f0, f1, f2, g0, g1, g2]

theorem emb5 (A : FVec Ideal S8x4096x128 .f32) (t : Fin cfg0.N) (y : S1x4096x128.Idx) : A ((win0_5.blk t).view.emb y) = A (ix3 t (y 1) (y 2)) := by
  obtain ⟨⟨a0, a1⟩, ⟨b0, b1, b2⟩, ⟨c0, c1⟩, ⟨d0, d1, d2⟩, ⟨e0, e1, e2⟩, ⟨f0, f1, f2⟩, ⟨g0, g1, g2⟩, hc⟩ := idx t
  have := t.isLt
  change t.val < 8 at this
  blk_ext [a0, a1, b0, b1, b2, c0, c1, d0, d1, d2, e0, e1, e2, f0, f1, f2, g0, g1, g2]

theorem emb6 (A : FVec Ideal S3x4096x1024 .bf16) (t : Fin cfg0.N) (y : S3x4096x128.Idx) : A ((win0_6.blk t).view.emb y) = A (ix3 (y 0) (y 1) ⟨t.val * 128 + (y 2).val, by have := t.isLt; have := (y 2).isLt; change t.val < 8 at *; change (y 2).val < 128 at *; omega⟩) := by
  obtain ⟨⟨a0, a1⟩, ⟨b0, b1, b2⟩, ⟨c0, c1⟩, ⟨d0, d1, d2⟩, ⟨e0, e1, e2⟩, ⟨f0, f1, f2⟩, ⟨g0, g1, g2⟩, hc⟩ := idx t
  have := t.isLt
  change t.val < 8 at this
  blk_ext [a0, a1, b0, b1, b2, c0, c1, d0, d1, d2, e0, e1, e2, f0, f1, f2, g0, g1, g2]

theorem emb7 (A : FVec Ideal S8x8x128 .f32) (t : Fin cfg0.N) (y : S1x8x128.Idx) : A ((win0_7.blk t).view.emb y) = A (ix3 t (y 1) (y 2)) := by
  obtain ⟨⟨a0, a1⟩, ⟨b0, b1, b2⟩, ⟨c0, c1⟩, ⟨d0, d1, d2⟩, ⟨e0, e1, e2⟩, ⟨f0, f1, f2⟩, ⟨g0, g1, g2⟩, hc⟩ := idx t
  have := t.isLt
  change t.val < 8 at this
  blk_ext [a0, a1, b0, b1, b2, c0, c1, d0, d1, d2, e0, e1, e2, f0, f1, f2, g0, g1, g2]

end Cert.KernelIdeal.End
-- ==== Proof.Final.lean ====
module

public import proofs.«01_k».proof.Proof.Kern
public import proofs.«01_k».proof.Proof.Fold
public import Idealize.ShloMosaic.Lib.Pipeline.ValueKit
public import proofs.«01_k».proof.Proof.Body

/-!
# What the kernel leaves

The blocks of a slab, and the arrays after the last slab.
-/

@[expose] public section

set_option maxRecDepth 16384
set_option maxHeartbeats 4000000

noncomputable section

namespace Cert.KernelIdeal.End

open Cert.KernelIdeal Cert.KernelIdeal.Gen Cert.KernelIdeal.Loop Cert.KernelIdeal.Slab Cert.KernelIdeal.HostV Cert.Blocks Cert.Attn Cert.Words
open Idealize.ShloMosaic Idealize.ShloMosaic.TcCoe Idealize.SL.Sem
open Idealize.ShloMosaic.Pipeline (Dat)

variable (m : (ℓ : Loc nD τ sig) → Buf (Elt Ideal) ℓ) (c : Dev nD)
variable (X : Fin 3 → Fin 4096 → Fin 16 → Fin 64 → ℝ) (D : Fin 4096 → Fin 16 → Fin 64 → ℝ) (sk sl : Fin 16 → ℝ)

section Slabs

variable (hX : C0 m c (Proc.devRef .tc main_arg0) = arrX X) (hS : C0 m c (Proc.devRef .tc main_arg1) = arrS sk)
  (hD : C0 m c (Proc.devRef .tc main_arg2) = arrD D)

/-- What a slab's blocks hold. -/
abbrev xs (t : Fin 8) : Fin 3 → Fin 4096 → Fin 2 → Fin 64 → ℝ := fun a i hh d => X a i (head t hh) d
abbrev es (t : Fin 8) : Fin 4096 → Fin 2 → Fin 64 → ℝ := fun i hh d => D i (head t hh) d
abbrev Ls (t : Fin 8) : Fin 4096 → Fin 2 → ℝ := fun i hh => Real.log (den (X 0) (X 1) sk slope (head t hh) i)
abbrev Bs (t : Fin 8) : Fin 4096 → Fin 2 → ℝ := fun i hh => rowdot (X 0) (X 1) (X 2) D sk slope (head t hh) i

theorem hd16_at (t : Fin 8) (l : Fin 128) (h) : hd16 ⟨t.val * 128 + l.val, h⟩ = head t (hd l) := Fin.ext (by
  show (t.val * 128 + l.val) / 64 = 2 * t.val + l.val / 64
  omega)
theorem dm16_at (t : Fin 8) (l : Fin 128) (h) : dm16 ⟨t.val * 128 + l.val, h⟩ = dm l := Fin.ext (by
  show (t.val * 128 + l.val) % 64 = l.val % 64
  omega)

theorem arrX_blk (t : Fin 8) (a : Fin 3) (i : Fin 4096) (l : Fin 128) (h) : arrX X (ix3 a i ⟨t.val * 128 + l.val, h⟩) = ((X a i (head t (hd l)) (dm l) : ℝ) : EReal) := by
  show ((X a i (hd16 ⟨t.val * 128 + l.val, h⟩) (dm16 ⟨t.val * 128 + l.val, h⟩) : ℝ) : EReal) = _
  rw [hd16_at, dm16_at]

theorem arrD_blk (t : Fin 8) (i : Fin 4096) (l : Fin 128) (h) : arrD D (ix2 i ⟨t.val * 128 + l.val, h⟩) = ((D i (head t (hd l)) (dm l) : ℝ) : EReal) := by
  show ((D i (hd16 ⟨t.val * 128 + l.val, h⟩) (dm16 ⟨t.val * 128 + l.val, h⟩) : ℝ) : EReal) = _
  rw [hd16_at, dm16_at]

include hX in
theorem blk2 (t : Fin cfg0.N) : iblk m c 2 t = arr3 (xs X t) := by
  have h := (V_main_arg0 m c).trans hX
  refine funext fun y => (emb2 (V m c main_arg0) t y).trans ?_
  rw [h]
  exact arrX_blk X t (y 0) (y 1) (y 2) _

include hD in
theorem blk3 (t : Fin cfg0.N) : iblk m c 3 t = arr2 (es D t) := by
  have h := (V_main_arg2 m c).trans hD
  refine funext fun y => (emb3 (V m c main_arg2) t y).trans ?_
  rw [h]
  exact arrD_blk D t (y 0) (y 1) _

theorem read4 (A : FVec Ideal S1x4096x1024 .bf16) (t : Fin cfg0.N) (n : Fin 4096) (l : Fin 128) (hl : t.val * 128 + l.val < 1024) :
    (win0_4.blk t).view.read (Elt Ideal) A (ix3 0 n l) = A (ix3 0 n ⟨t.val * 128 + l.val, hl⟩) :=
  Eq.trans (b := A ((win0_4.blk t).view.emb (ix3 0 n l))) rfl (emb4 A t (ix3 0 n l))

theorem iblk4 (t : Fin cfg0.N) (n : Fin 4096) (l : Fin 128) (hl : t.val * 128 + l.val < 1024) :
    iblk m c 4 t (ix3 0 n l) = V m c main_v99 (ix3 0 n ⟨t.val * 128 + l.val, hl⟩) := by
  unfold iblk
  generalize V m c = W
  show (win0_4.blk t).view.read (Elt Ideal) (W main_v99) (ix3 0 n l) = _
  exact read4 (W main_v99) t n l hl

include hX hS in
theorem blk4 (t : Fin cfg0.N) : iblk m c 4 t = arr5 (fun i hh d => out (X 0) (X 1) (X 2) sk slope (head t hh) i d) := by
  have key : ∀ (n : Fin 4096) (l : Fin 128), iblk m c 4 t (ix3 0 n l) = ((out (X 0) (X 1) (X 2) sk slope (head t (hd l)) n (dm l) : ℝ) : EReal) := fun n l => by
    have hl : t.val * 128 + l.val < 1024 := by have := t.isLt; change t.val < 8 at this; omega
    have e := v99_at X sk slope hsl n ⟨t.val * 128 + l.val, hl⟩
    rw [show hd16 ⟨t.val * 128 + l.val, hl⟩ = head t (hd l) from hd16_at t l hl, show dm16 ⟨t.val * 128 + l.val, hl⟩ = dm l from dm16_at t l hl] at e
    have h1 : iblk m c 4 t (ix3 0 n l) = V m c main_v99 (ix3 0 n ⟨t.val * 128 + l.val, hl⟩) := iblk4 m c t n l hl
    have h2 := congrFun (V_v99 m c X sk hX hS) (ix3 0 n ⟨t.val * 128 + l.val, hl⟩)
    exact h1.trans (h2.trans e)
  funext y
  rw [show y = ix3 0 (y 1) (y 2) from ix3_eta0 y]
  exact key (y 1) (y 2)

include hX hS in
theorem blk5_0 (t : Fin cfg0.N) (n : Fin 4096) : iblk m c 5 t (ix3 0 n 0) = ((Ls X sk t n 0 : ℝ) : EReal) := by
  refine (emb5 (V m c main_v97) t (ix3 0 n 0)).trans ?_
  exact (congrFun (V_v97 m c X sk hX hS) _).trans (v97_0 X sk slope hsl t n)

include hX hS in
theorem blk5_1 (t : Fin cfg0.N) (n : Fin 4096) : iblk m c 5 t (ix3 0 n 64) = ((Ls X sk t n 1 : ℝ) : EReal) := by
  refine (emb5 (V m c main_v97) t (ix3 0 n 64)).trans ?_
  exact (congrFun (V_v97 m c X sk hX hS) _).trans (v97_1 X sk slope hsl t n)

include hX hS hD in
theorem fin_eq (t : Fin cfg0.N) : fin (F := Ideal) (grid0.coords t) (iblk m c 0 t) (iblk m c 1 t) (iblk m c 2 t) (iblk m c 3 t) (iblk m c 4 t) (iblk m c 5 t)
    = st' (xs X t) (es D t) (Ls X sk t) (Bs X D sk t) (fun hh => slope (head t hh)) (fun hh => sk (head t hh)) 32 := by
  have hc := (idx t).2.2.2.2.2.2.2
  have hb : dbar (F := Ideal) (arr2 (es D t)) (arr5 (fun i hh d => out (X 0) (X 1) (X 2) sk slope (head t hh) i d)) = Br (Bs X D sk t) := by
    funext y
    have e := dbar_at (es D t) (fun i hh d => out (X 0) (X 1) (X 2) sk slope (head t hh) i d) (y 0) (y 1)
    rw [show ∑ d, es D t (y 0) (hd (y 1)) d * out (X 0) (X 1) (X 2) sk slope (head t (hd (y 1))) (y 0) d = Bs X D sk t (y 0) (hd (y 1)) from
      rowdot_out (X 0) (X 1) (X 2) D sk slope (head t (hd (y 1))) (y 0)] at e
    rw [show y = ix2 (y 0) (y 1) from ix2_eta y]
    exact e
  have hl : lrow (F := Ideal) (iblk m c 5 t) = Lr (Ls X sk t) := by
    funext y
    rw [show y = ix3 0 (y 1) (y 2) from ix3_eta0 y]
    exact lrow_at _ (Ls X sk t) (blk5_0 m c X sk hX hS t) (blk5_1 m c X sk hX hS t) (y 1) (y 2)
  have s0 : ∀ h : Fin 16, iblk m c 0 t (ValueIdx.ix1 h) = (slope h : EReal) := fun h => (emb0 (V m c main_cst) t (ix1 h)).trans (V_cst m c h)
  have k0 : ∀ h : Fin 16, iblk m c 1 t (ValueIdx.ix1 h) = (sk h : EReal) := fun h => (emb1 (V m c main_arg1) t (ix1 h)).trans (by
    rw [(V_main_arg1 m c).trans hS]; rfl)
  unfold fin
  dsimp only
  rw [s0, s0, k0, k0, hl, blk2 m c X hX, blk3 m c D hD, blk4 m c X sk hX hS, hb]
  rw [show (⟨2 * (grid0.coords t 0).val, by have : (grid0.coords t 0).val < 8 := (grid0.coords t 0).isLt; omega⟩ : Fin 16) = head t 0 from Fin.ext (congrArg (2 * ·) hc),
    show (⟨2 * (grid0.coords t 0).val + 1, by have : (grid0.coords t 0).val < 8 := (grid0.coords t 0).isLt; omega⟩ : Fin 16) = head t 1 from Fin.ext (congrArg (2 * · + 1) hc)]

/-! ## The slab's results are the gradients -/

theorem pr_eq (t : Fin 8) (hh i j) : pr (xs X t) (Ls X sk t) (fun hh => slope (head t hh)) hh i j = wgt (X 0) (X 1) sk slope (head t hh) i j :=
  wgt_log (X 0) (X 1) sk slope (head t hh) i j

theorem ds_eq (t : Fin 8) (hh i j) : ds (xs X t) (es D t) (Ls X sk t) (Bs X D sk t) (fun hh => slope (head t hh)) hh i j = dsc (X 0) (X 1) (X 2) D sk slope (head t hh) i j := by
  unfold ds dsc dw
  rw [pr_eq]

/-- The gradient of plane `p` (of the queries, the keys or the values). -/
def plane (p : Fin 3) (h : Fin 16) (n : Fin 4096) (d : Fin 64) : ℝ :=
  if p = 0 then gradQ (X 0) (X 1) (X 2) D sk slope h n d else if p = 1 then gradK (X 0) (X 1) (X 2) D sk slope h n d
  else gradV (X 0) (X 1) D sk slope h n d

/-- The planes' gradients as an array. -/
def res0 : FVec Ideal S3x4096x1024 .bf16 := fun y => ((plane X D sk (y 0) (hd16 (y 2)) (y 1) (dm16 (y 2)) : ℝ) : EReal)
theorem res0_blk (t : Fin 8) (a : Fin 3) (i : Fin 4096) (l : Fin 128) (h) : res0 X D sk (ix3 a i ⟨t.val * 128 + l.val, h⟩) = ((plane X D sk a (head t (hd l)) i (dm l) : ℝ) : EReal) := by
  show ((plane X D sk a (hd16 ⟨t.val * 128 + l.val, h⟩) i (dm16 ⟨t.val * 128 + l.val, h⟩) : ℝ) : EReal) = _
  rw [hd16_at, dm16_at]

/-- The sinks' gradients as an array: a head's over the 64 lanes of its half, in every row. -/
def res1 : FVec Ideal S8x8x128 .f32 := fun y => ((gradS (X 0) (X 1) (X 2) D sk slope (head (y 0) (hd (y 2))) : ℝ) : EReal)

theorem planes_eq (t : Fin 8) (p : Fin 3) (n : Fin 4096) (l : Fin 128) :
    rounded (F := Ideal) (st' (xs X t) (es D t) (Ls X sk t) (Bs X D sk t) (fun hh => slope (head t hh)) (fun hh => sk (head t hh)) 32).2 (ix3 p n l)
      = ((plane X D sk p (head t (hd l)) n (dm l) : ℝ) : EReal) := by
  rw [planes_at]
  simp only [ds_eq, pr_eq]
  rfl

include hX hS hD in
theorem final6 : (dats m 0 c).arrAt 6 cfg0.N = res0 X D sk := by
  refine (dats m 0 c).arrAt_eq_of_covers 6 _ (by decide +kernel) fun t _ y => ?_
  blk_simp
  rw [after0_6]
  refine Eq.trans ?_ (emb6 (res0 X D sk) t y).symm
  unfold out7
  rw [fin_eq m c X D sk hX hS hD]
  rw [show y = ix3 (y 0) (y 1) (y 2) from ix3_eta y]
  exact (planes_eq X D sk t (y 0) (y 1) (y 2)).trans (res0_blk X D sk t (y 0) (y 1) (y 2) _).symm

include hX hS hD in
theorem final7 : (dats m 0 c).arrAt 7 cfg0.N = res1 X D sk := by
  refine (dats m 0 c).arrAt_eq_of_covers 7 _ (by decide +kernel) fun t _ y => ?_
  blk_simp
  rw [after0_7]
  refine Eq.trans ?_ (emb7 (res1 X D sk) t y).symm
  unfold out8
  rw [fin_eq m c X D sk hX hS hD]
  rw [show y = ix3 0 (y 1) (y 2) from ix3_eta0 y]
  refine (acc_at _ _ _ _ _ _ (y 1) (y 2)).trans ?_
  show _ = ((gradS (X 0) (X 1) (X 2) D sk slope (head t (hd (y 2))) : ℝ) : EReal)
  unfold gradS
  simp only [sink_log]

end Slabs

end Cert.KernelIdeal.End
-- ==== Proof.Ref.lean ====
module

public import proofs.«01_k».proof.Proof.Gen.ReferenceIdeal.Run
public import proofs.«01_k».proof.Proof.Real
public import Idealize.ShloMosaic.Lib.Pointwise

/-!
# What the reference computes

The reference's operations in a few stages, each read on arrays of real numbers.
-/

@[expose] public section

set_option maxRecDepth 16384
set_option maxHeartbeats 4000000

noncomputable section

namespace Cert.ReferenceIdeal.Stages

open Cert.ReferenceIdeal Cert.ReferenceIdeal.Gen Cert.Attn
open Idealize.ShloMosaic Idealize.ShloMosaic.TcCoe Idealize.SL.Sem

/-! ## The stages -/

section Defs

variable {F : FTy → Type} [FloatOps F] [Named F]

def r_do (x : FVec F S4096x1024 .f32) : FVec F S16x64x4096 .f32 :=
  transpose S16x64x4096 [1, 2, 0] (shapeCast S4096x16x64 x shapeCasts_S4096x1024_S4096x16x64) transposes_S4096x16x64_S16x64x4096_1_2_0
def r_q (x : FVec F S3x4096x1024 .f32) : FVec F S4096x16x64 .f32 :=
  shapeCast S4096x16x64 (shapeCast S4096x1024 (extractStridedSlice S1x4096x1024 ![0, 0, 0] x slices_S3x4096x1024_S1x4096x1024_0_0_0) shapeCasts_S1x4096x1024_S4096x1024) shapeCasts_S4096x1024_S4096x16x64
def r_k (x : FVec F S3x4096x1024 .f32) : FVec F S4096x16x64 .f32 :=
  shapeCast S4096x16x64 (shapeCast S4096x1024 (extractStridedSlice S1x4096x1024 ![1, 0, 0] x slices_S3x4096x1024_S1x4096x1024_1_0_0) shapeCasts_S1x4096x1024_S4096x1024) shapeCasts_S4096x1024_S4096x16x64
def r_v (x : FVec F S3x4096x1024 .f32) : FVec F S4096x16x64 .f32 :=
  shapeCast S4096x16x64 (shapeCast S4096x1024 (extractStridedSlice S1x4096x1024 ![2, 0, 0] x slices_S3x4096x1024_S1x4096x1024_2_0_0) shapeCasts_S1x4096x1024_S4096x1024) shapeCasts_S4096x1024_S4096x16x64
def r_dist : IVec S4096x4096 32 := subi (iotaInDim S4096x4096 32 0) (iotaInDim S4096x4096 32 1)
def r_mask : IVec S16x4096x4096 1 :=
  broadcastInDim S16x4096x4096 ![1, 2] bcast_S4096x4096_S16x4096x4096_1_2 (andi (cmpi .sge r_dist (broadcastInDim S4096x4096 ![] bcast_S_S4096x4096 (constantI S_ 32 0#32))) (cmpi .sle r_dist (broadcastInDim S4096x4096 ![] bcast_S_S4096x4096 (constantI S_ 32 127#32))))
def r_slope : FVec F S16 .f32 := fun i => FloatOps.ofBits .f32 (lit0 (S16.rowMajor i))
def r_eighth : FVec F S16x4096x4096 .f32 := broadcastInDim S16x4096x4096 ![] bcast_S_S16x4096x4096 (constant S_ .f32 0x3E000000#32)
def r_s (q k : FVec F S4096x16x64 .f32) (a : FVec F S16 .f32) : FVec F S16x4096x4096 .f32 :=
  subf (mulf (Host.dotGeneral dot_S4096x16x64_S4096x16x64_S16x4096x4096_2_2_0_0_1_1 none q k) r_eighth)
    (mulf (broadcastInDim S16x4096x4096 ![0, 1, 2] bcast_S16x1x1_S16x4096x4096_0_1_2 (broadcastInDim S16x1x1 ![0] bcast_S16_S16x1x1_0 a))
      (broadcastInDim S16x4096x4096 ![0, 1, 2] bcast_S1x4096x4096_S16x4096x4096_0_1_2 (broadcastInDim S1x4096x4096 ![1, 2] bcast_S4096x4096_S1x4096x4096_1_2 (sitofp .f32 r_dist))))
def r_p (s : FVec F S16x4096x4096 .f32) : FVec F S16x4096x4096 .f32 :=
  Host.exp (select r_mask s (broadcastInDim S16x4096x4096 ![] bcast_S_S16x4096x4096 (id (constant S_ .f32 0xFF800000#32))))
def r_es (x : FVec F S16 .f32) : FVec F S16 .f32 := Host.exp x
def r_den (p : FVec F S16x4096x4096 .f32) (e : FVec F S16 .f32) : FVec F S16x4096x1 .f32 :=
  addf (broadcastInDim S16x4096x1 ![0, 1] bcast_S16x4096_S16x4096x1_0_1 (Host.reduceAdd p (constant S_ .f32 0x00000000#32) reducesTo_S16x4096x4096_S16x4096_d2 h_S_))
    (broadcastInDim S16x4096x1 ![0, 1, 2] bcast_S16x1x1_S16x4096x1_0_1_2 (broadcastInDim S16x1x1 ![0] bcast_S16_S16x1x1_0 e))
def r_wide (d : FVec F S16x4096x1 .f32) : FVec F S16x4096x4096 .f32 := broadcastInDim S16x4096x4096 ![0, 1, 2] bcast_S16x4096x1_S16x4096x4096_0_1_2 d
def r_inv (d : FVec F S16x4096x1 .f32) : FVec F S16x4096x1 .f32 :=
  Host.divf (broadcastInDim S16x4096x1 ![] bcast_S_S16x4096x1 (constant S_ .f32 0x3F800000#32)) (mulf d d)
def r_dp (o : FVec F S16x64x4096 .f32) (v : FVec F S4096x16x64 .f32) : FVec F S16x4096x4096 .f32 :=
  Host.dotGeneral dot_S16x64x4096_S4096x16x64_S16x4096x4096_1_2_2_0_0_1 none o v
def r_g (dp i p : FVec F S16x4096x4096 .f32) : FVec F S16x4096x1 .f32 :=
  Host.negf (shapeCast S16x4096x1 (Host.reduceAdd (mulf (mulf dp i) p) (constant S_ .f32 0x00000000#32) reducesTo_S16x4096x4096_S16x4096_d2 h_S_) shapeCasts_S16x4096_S16x4096x1)
def r_sink (g : FVec F S16x4096x1 .f32) (e : FVec F S16 .f32) : FVec F S16 .f32 :=
  mulf (Host.reduceAdd (shapeCast S16x1x1 (Host.reduceAdd g (constant S_ .f32 0x00000000#32) reducesTo_S16x4096x1_S16x1_d1 h_S_) shapeCasts_S16x1_S16x1x1) (constant S_ .f32 0x00000000#32) reducesTo_S16x1x1_S16_d1_2 h_S_) e
def r_spread (s : FVec F S16 .f32) : FVec F S8x8x128 .f32 :=
  shapeCast S8x8x128 (broadcastInDim S8x8x2x64 ![0, 1, 2, 3] bcast_S8x1x2x1_S8x8x2x64_0_1_2_3 (shapeCast S8x1x2x1 s shapeCasts_S16_S8x1x2x1)) shapeCasts_S8x8x2x64_S8x8x128
def r_dv (o : FVec F S16x64x4096 .f32) (p w : FVec F S16x4096x4096 .f32) : FVec F S1x4096x1024 .f32 :=
  broadcastInDim S1x4096x1024 ![1, 2] bcast_S4096x1024_S1x4096x1024_1_2 (shapeCast S4096x1024 (transpose S4096x16x64 [2, 0, 1] (Host.dotGeneral dot_S16x64x4096_S16x4096x4096_S16x64x4096_2_1_1_2_0_0 none o (Host.divf p w)) transposes_S16x64x4096_S4096x16x64_2_0_1) shapeCasts_S4096x16x64_S4096x1024)
def r_ds (dp w p : FVec F S16x4096x4096 .f32) (g : FVec F S16x4096x1 .f32) : FVec F S16x4096x4096 .f32 :=
  mulf (select r_mask (mulf (addf (Host.divf dp w) (broadcastInDim S16x4096x4096 ![0, 1] bcast_S16x4096_S16x4096x4096_0_1 (Host.reduceAdd g (constant S_ .f32 0x00000000#32) reducesTo_S16x4096x1_S16x4096_d2 h_S_))) p)
    (broadcastInDim S16x4096x4096 ![] bcast_S_S16x4096x4096 (constant S_ .f32 0x00000000#32))) r_eighth
def r_dk (ds : FVec F S16x4096x4096 .f32) (q : FVec F S4096x16x64 .f32) : FVec F S1x4096x1024 .f32 :=
  broadcastInDim S1x4096x1024 ![1, 2] bcast_S4096x1024_S1x4096x1024_1_2 (shapeCast S4096x1024 (transpose S4096x16x64 [1, 0, 2] (Host.dotGeneral dot_S16x4096x4096_S4096x16x64_S16x4096x64_1_0_2_2_0_1 none ds q) transposes_S16x4096x64_S4096x16x64_1_0_2) shapeCasts_S4096x16x64_S4096x1024)
def r_dq (ds : FVec F S16x4096x4096 .f32) (k : FVec F S4096x16x64 .f32) : FVec F S1x4096x1024 .f32 :=
  broadcastInDim S1x4096x1024 ![1, 2] bcast_S4096x1024_S1x4096x1024_1_2 (shapeCast S4096x1024 (transpose S4096x16x64 [1, 0, 2] (Host.dotGeneral dot_S16x4096x4096_S4096x16x64_S16x4096x64_2_0_1_2_0_1 none ds k) transposes_S16x4096x64_S4096x16x64_1_0_2) shapeCasts_S4096x16x64_S4096x1024)
def r_out (dq dk dv : FVec F S1x4096x1024 .f32) : FVec F S3x4096x1024 .bf16 :=
  truncf .bf16 (addf (addf (pad S3x4096x1024 ![2, 0, 0] ![0, 0, 0] ![0, 0, 0] dv (constant S_ .f32 0x00000000#32) pads_S1x4096x1024_S3x4096x1024_200_000_000 h_S_)
    (pad S3x4096x1024 ![1, 0, 0] ![1, 0, 0] ![0, 0, 0] dk (constant S_ .f32 0x00000000#32) pads_S1x4096x1024_S3x4096x1024_110_000_000 h_S_))
    (pad S3x4096x1024 ![0, 0, 0] ![2, 0, 0] ![0, 0, 0] dq (constant S_ .f32 0x00000000#32) pads_S1x4096x1024_S3x4096x1024_020_000_000 h_S_)) bitsLt_bf16_f32

/-- The gradients of the queries, keys and values, from the three arguments. -/
def planesOf (x : FVec F S3x4096x1024 .f32) (z : FVec F S16 .f32) (o : FVec F S4096x1024 .f32) : FVec F S3x4096x1024 .bf16 :=
  r_out
    (r_dq (r_ds (r_dp (r_do o) (r_v x)) (r_wide (r_den (r_p (r_s (r_q x) (r_k x) r_slope)) (r_es z))) (r_p (r_s (r_q x) (r_k x) r_slope))
      (r_g (r_dp (r_do o) (r_v x)) (r_wide (r_inv (r_den (r_p (r_s (r_q x) (r_k x) r_slope)) (r_es z)))) (r_p (r_s (r_q x) (r_k x) r_slope)))) (r_k x))
    (r_dk (r_ds (r_dp (r_do o) (r_v x)) (r_wide (r_den (r_p (r_s (r_q x) (r_k x) r_slope)) (r_es z))) (r_p (r_s (r_q x) (r_k x) r_slope))
      (r_g (r_dp (r_do o) (r_v x)) (r_wide (r_inv (r_den (r_p (r_s (r_q x) (r_k x) r_slope)) (r_es z)))) (r_p (r_s (r_q x) (r_k x) r_slope)))) (r_q x))
    (r_dv (r_do o) (r_p (r_s (r_q x) (r_k x) r_slope)) (r_wide (r_den (r_p (r_s (r_q x) (r_k x) r_slope)) (r_es z))))

/-- The gradients of the sinks. -/
def sinksOf (x : FVec F S3x4096x1024 .f32) (z : FVec F S16 .f32) (o : FVec F S4096x1024 .f32) : FVec F S8x8x128 .f32 :=
  r_spread (r_sink (r_g (r_dp (r_do o) (r_v x)) (r_wide (r_inv (r_den (r_p (r_s (r_q x) (r_k x) r_slope)) (r_es z)))) (r_p (r_s (r_q x) (r_k x) r_slope))) (r_es z))

variable (m : (ℓ : Loc nD τ sig) → Buf (Elt F) ℓ) (c : Dev nD)

end Defs

variable (m : (ℓ : Loc nD τ sig) → Buf (Elt Ideal) ℓ) (c : Dev nD)

theorem res84 : Cert.ReferenceIdeal.Value.res_main_v84 (F := Ideal) m c = planesOf (F := Ideal) (m ((c.tc : Thread nD τ).loc main_arg0)) (m ((c.tc : Thread nD τ).loc main_arg1)) (m ((c.tc : Thread nD τ).loc main_arg2)) := by
  rfl

theorem res85 : Cert.ReferenceIdeal.Value.res_main_v85 (F := Ideal) m c = sinksOf (F := Ideal) (m ((c.tc : Thread nD τ).loc main_arg0)) (m ((c.tc : Thread nD τ).loc main_arg1)) (m ((c.tc : Thread nD τ).loc main_arg2)) := by
  rfl

/-! ## Words -/

theorem sub_int (i j : Fin 4096) : (IntOp.subi (BitVec.ofNat 32 i.val) (BitVec.ofNat 32 j.val)).toInt = (i.val : ℤ) - j.val := by
  have hi := i.isLt
  have hj := j.isLt
  show (BitVec.ofNat 32 i.val - BitVec.ofNat 32 j.val).toInt = _
  rw [BitVec.toInt_sub, BitVec.toInt_ofNat', BitVec.toInt_ofNat']
  simp only [Int.bmod]
  omega

theorem window_bit (i j : Fin 4096) : IntOp.andi (IntOp.cmpi .sge (IntOp.subi (BitVec.ofNat 32 i.val) (BitVec.ofNat 32 j.val)) 0#32)
    (IntOp.cmpi .sle (IntOp.subi (BitVec.ofNat 32 i.val) (BitVec.ofNat 32 j.val)) 127#32) = if sees i j then 1#1 else 0#1 := by
  have h := sub_int i j
  revert h
  generalize IntOp.subi (BitVec.ofNat 32 i.val) (BitVec.ofNat 32 j.val) = x
  intro h
  have e1 : IntOp.cmpi .sge x 0#32 = BitVec.ofBool (decide ((0#32).toInt ≤ x.toInt)) := rfl
  have e2 : IntOp.cmpi .sle x 127#32 = BitVec.ofBool (decide (x.toInt ≤ (127#32).toInt)) := rfl
  rw [e1, e2, h, show (0#32 : BitVec 32).toInt = 0 from by decide, show (127#32 : BitVec 32).toInt = 127 from by decide]
  by_cases h1 : (0 : ℤ) ≤ (i.val : ℤ) - j.val <;> by_cases h2 : (i.val : ℤ) - j.val ≤ 127
  · rw [decide_eq_true h1, decide_eq_true h2, if_pos (show sees i j from ⟨by omega, by omega⟩)]; rfl
  · rw [decide_eq_true h1, decide_eq_false h2, if_neg (show ¬ sees i j from fun hs => by have a := hs.1; have b := hs.2; omega)]; rfl
  · rw [decide_eq_false h1, decide_eq_true h2, if_neg (show ¬ sees i j from fun hs => by have a := hs.1; have b := hs.2; omega)]; rfl
  · rw [decide_eq_false h1, decide_eq_false h2, if_neg (show ¬ sees i j from fun hs => by have a := hs.1; have b := hs.2; omega)]; rfl

/-! ## Arrays of real numbers -/

section Values

def h16 (l : Fin 1024) : Fin 16 := ⟨l.val / 64, by omega⟩
def d64 (l : Fin 1024) : Fin 64 := ⟨l.val % 64, by omega⟩
def aX (X : Fin 3 → Fin 4096 → Fin 16 → Fin 64 → ℝ) : FVec Ideal S3x4096x1024 .f32 := fun y => ((X (y 0) (y 1) (h16 (y 2)) (d64 (y 2)) : ℝ) : EReal)
def aD (D : Fin 4096 → Fin 16 → Fin 64 → ℝ) : FVec Ideal S4096x1024 .f32 := fun y => ((D (y 0) (h16 (y 1)) (d64 (y 1)) : ℝ) : EReal)
def a1 (s : Fin 16 → ℝ) : FVec Ideal S16 .f32 := fun y => ((s (y 0) : ℝ) : EReal)
def ten (Q : Fin 4096 → Fin 16 → Fin 64 → ℝ) : FVec Ideal S4096x16x64 .f32 := fun y => ((Q (y 0) (y 1) (y 2) : ℝ) : EReal)
def tnd (D : Fin 4096 → Fin 16 → Fin 64 → ℝ) : FVec Ideal S16x64x4096 .f32 := fun y => ((D (y 2) (y 0) (y 1) : ℝ) : EReal)
def mat (M : Fin 16 → Fin 4096 → Fin 4096 → ℝ) : FVec Ideal S16x4096x4096 .f32 := fun y => ((M (y 0) (y 1) (y 2) : ℝ) : EReal)
def col (d : Fin 16 → Fin 4096 → ℝ) : FVec Ideal S16x4096x1 .f32 := fun y => ((d (y 0) (y 1) : ℝ) : EReal)
def flat (G : Fin 4096 → Fin 16 → Fin 64 → ℝ) : FVec Ideal S1x4096x1024 .f32 := fun y => ((G (y 1) (h16 (y 2)) (d64 (y 2)) : ℝ) : EReal)

variable (X : Fin 3 → Fin 4096 → Fin 16 → Fin 64 → ℝ) (Q K V D : Fin 4096 → Fin 16 → Fin 64 → ℝ) (s sk sl : Fin 16 → ℝ) (M P W : Fin 16 → Fin 4096 → Fin 4096 → ℝ) (d g : Fin 16 → Fin 4096 → ℝ)

theorem h16_at (h : Fin 16) (e : Fin 64) (p) : h16 ⟨h.val * 64 + e.val, p⟩ = h := Fin.ext (by
  show (h.val * 64 + e.val) / 64 = h.val
  omega)
theorem d64_at (h : Fin 16) (e : Fin 64) (p) : d64 ⟨h.val * 64 + e.val, p⟩ = e := Fin.ext (by
  show (h.val * 64 + e.val) % 64 = e.val
  omega)

theorem do_at (h : Fin 16) (e : Fin 64) (i : Fin 4096) : r_do (F := Ideal) (aD D) (ix3 h e i) = ((D i h e : ℝ) : EReal) := by
  pointwise [r_do, aD]
  rw [h16_at, d64_at]

theorem q_at (h : Fin 16) (e : Fin 64) (i : Fin 4096) : r_q (F := Ideal) (aX X) (ix3 i h e) = ((X 0 i h e : ℝ) : EReal) := by
  pointwise [r_q, aX]
  rw [h16_at, d64_at]

theorem k_at (h : Fin 16) (e : Fin 64) (i : Fin 4096) : r_k (F := Ideal) (aX X) (ix3 i h e) = ((X 1 i h e : ℝ) : EReal) := by
  pointwise [r_k, aX]
  rw [h16_at, d64_at]

theorem v_at (h : Fin 16) (e : Fin 64) (i : Fin 4096) : r_v (F := Ideal) (aX X) (ix3 i h e) = ((X 2 i h e : ℝ) : EReal) := by
  pointwise [r_v, aX]
  rw [h16_at, d64_at]

theorem s_at (h : Fin 16) (i j : Fin 4096) : r_s (F := Ideal) (ten Q) (ten K) (a1 s) (ix3 h i j) = ((score Q K s h i j : ℝ) : EReal) := by
  pointwise [r_s, ten, a1, r_eighth, r_dist]
  have e : FloatOps.sitofp (F := Ideal) .f32 (IntOp.subi (BitVec.ofNat 32 i.val) (BitVec.ofNat 32 j.val)) = (((i.val : ℝ) - (j.val : ℝ) : ℝ) : EReal) := by
    show (((IntOp.subi (BitVec.ofNat 32 i.val) (BitVec.ofNat 32 j.val)).toInt : ℝ) : EReal) = _
    rw [sub_int]
    push_cast
    rfl
  rw [e, eighth]
  unfold score
  simp only [← EReal.coe_mul, ← coe_sum, ← EReal.coe_sub]

theorem p_at (h : Fin 16) (i j : Fin 4096) : r_p (F := Ideal) (mat M) (ix3 h i j) = ((if sees i j then Real.exp (M h i j) else 0 : ℝ) : EReal) := by
  pointwise [r_p, mat, r_mask, r_dist]
  rw [window_bit]
  by_cases h1 : sees i j
  · rw [if_pos h1, if_pos h1]
    exact Ideal.exp_coe _
  · rw [if_neg h1, if_neg h1]
    show Ideal.exp (Ideal.ofBits .f32 0xFF800000#32) = _
    rw [neg_inf, Ideal.exp_bot]
    rfl

theorem den_at (h : Fin 16) (i : Fin 4096) : r_den (F := Ideal) (mat P) (a1 s) (ix3 h i 0) = (((∑ j, P h i j) + s h : ℝ) : EReal) := by
  pointwise [r_den, mat, a1]
  rw [← coe_sum, ← EReal.coe_add]

theorem wide_at (h : Fin 16) (i j : Fin 4096) : r_wide (F := Ideal) (col d) (ix3 h i j) = ((d h i : ℝ) : EReal) := by
  pointwise [r_wide, col]

theorem inv_at (hd : ∀ h i, d h i ≠ 0) (h : Fin 16) (i : Fin 4096) : r_inv (F := Ideal) (col d) (ix3 h i 0) = ((1 / (d h i * d h i) : ℝ) : EReal) := by
  pointwise [r_inv, col]
  rw [← EReal.coe_mul]
  exact div_real 1 _ (mul_ne_zero (hd h i) (hd h i))

theorem dp_at (h : Fin 16) (i j : Fin 4096) : r_dp (F := Ideal) (tnd D) (ten V) (ix3 h i j) = ((∑ e, D i h e * V j h e : ℝ) : EReal) := by
  pointwise [r_dp, tnd, ten]
  simp only [← EReal.coe_mul, ← coe_sum]

theorem g_at (h : Fin 16) (i : Fin 4096) : r_g (F := Ideal) (mat M) (mat W) (mat P) (ix3 h i 0) = ((-(∑ j, M h i j * W h i j * P h i j) : ℝ) : EReal) := by
  pointwise [r_g, mat]
  simp only [← EReal.coe_mul, ← coe_sum, ← EReal.coe_neg]

theorem sink_at (h : Fin 16) : r_sink (F := Ideal) (col g) (a1 s) (ix1 h) = (((∑ i, g h i) * s h : ℝ) : EReal) := by
  pointwise [r_sink, col, a1]
  simp only [← EReal.coe_mul, ← coe_sum, Fin.sum_univ_one, Finset.univ_unique, Finset.sum_singleton]

theorem spread_at (p : Fin 8) (a : Fin 8) (l : Fin 128) : r_spread (F := Ideal) (a1 s) (ix3 p a l) = ((s ⟨2 * p.val + l.val / 64, by omega⟩ : ℝ) : EReal) := by
  pointwise [r_spread, a1]
  rw [show (⟨p.val * 2 + l.val / 64, by omega⟩ : Fin 16) = ⟨2 * p.val + l.val / 64, by omega⟩ from Fin.ext (by show p.val * 2 + l.val / 64 = 2 * p.val + l.val / 64; omega)]

theorem dv_at (hw : ∀ h i j, W h i j ≠ 0) (n : Fin 4096) (l : Fin 1024) : r_dv (F := Ideal) (tnd D) (mat P) (mat W) (ix3 0 n l) = ((∑ i, P (h16 l) i n / W (h16 l) i n * D i (h16 l) (d64 l) : ℝ) : EReal) := by
  pointwise [r_dv, tnd, mat]
  show ∑ x, ((D x (h16 l) (d64 l) : ℝ) : EReal) * Ideal.div ((P (h16 l) x n : ℝ) : EReal) ((W (h16 l) x n : ℝ) : EReal) = _
  simp only [fun x => div_real (P (h16 l) x n) (W (h16 l) x n) (hw _ _ _), ← EReal.coe_mul, ← coe_sum]
  congr 1
  exact Finset.sum_congr rfl fun i _ => mul_comm _ _

theorem ds_at (hw : ∀ h i j, W h i j ≠ 0) (h : Fin 16) (i j : Fin 4096) : r_ds (F := Ideal) (mat M) (mat W) (mat P) (col g) (ix3 h i j) = (((if sees i j then (M h i j / W h i j + g h i) * P h i j else 0) * (1 / 8) : ℝ) : EReal) := by
  pointwise [r_ds, mat, col, r_mask, r_eighth, r_dist]
  rw [window_bit, eighth, div_real _ _ (hw h i j)]
  by_cases h1 : sees i j
  · rw [if_pos h1, if_pos h1]
    show (((M h i j / W h i j : ℝ) : EReal) + ∑ x : Fin 1, ((g h i : ℝ) : EReal)) * ((P h i j : ℝ) : EReal) * (((1 / 8 : ℝ) : ℝ) : EReal) = _
    rw [Fin.sum_univ_one, ← EReal.coe_add, ← EReal.coe_mul, ← EReal.coe_mul]
  · rw [if_neg h1, if_neg h1, zero_mul]
    rfl

theorem dk_at (n : Fin 4096) (l : Fin 1024) : r_dk (F := Ideal) (mat M) (ten Q) (ix3 0 n l) = ((∑ i, M (h16 l) i n * Q i (h16 l) (d64 l) : ℝ) : EReal) := by
  pointwise [r_dk, ten, mat]
  simp only [← EReal.coe_mul, ← coe_sum]
  rfl

theorem dq_at (n : Fin 4096) (l : Fin 1024) : r_dq (F := Ideal) (mat M) (ten K) (ix3 0 n l) = ((∑ j, M (h16 l) n j * K j (h16 l) (d64 l) : ℝ) : EReal) := by
  pointwise [r_dq, ten, mat]
  simp only [← EReal.coe_mul, ← coe_sum]
  rfl

theorem out_at (p : Fin 3) (n : Fin 4096) (l : Fin 1024) : r_out (F := Ideal) (flat Q) (flat K) (flat V) (ix3 p n l)
    = ((if p = 0 then Q n (h16 l) (d64 l) else if p = 1 then K n (h16 l) (d64 l) else V n (h16 l) (d64 l) : ℝ) : EReal) := by
  pointwise [r_out, flat]
  have hp : p = 0 ∨ p = 1 ∨ p = 2 := by omega
  rcases hp with rfl | rfl | rfl
  · rw [dif_neg (by decide), dif_neg (by decide), dif_pos (by decide), if_pos rfl, zero_add, zero_add]
  · rw [dif_neg (by decide), dif_pos (by decide), dif_neg (by decide), if_neg (by decide), if_pos rfl, zero_add, add_zero]
  · rw [dif_pos (by decide), dif_neg (by decide), dif_neg (by decide), if_neg (by decide), if_neg (by decide), add_zero, add_zero]

/-! ## The reference's results are the gradients -/

theorem eta1 {a : ℕ} (y : (⟨1, ![a]⟩ : Shape).Idx) : y = ix1 (y 0) := by
  funext k; fin_cases k; rfl
theorem eta3 {a b e : ℕ} (y : (⟨3, ![a, b, e]⟩ : Shape).Idx) : y = ix3 (y 0) (y 1) (y 2) := by
  funext k; fin_cases k <;> rfl
theorem eta30 {b e : ℕ} (y : (⟨3, ![1, b, e]⟩ : Shape).Idx) : y = ix3 0 (y 1) (y 2) := by
  funext k; fin_cases k
  · exact Fin.ext (by have := (y 0).isLt; change (y 0).val < 1 at this; show (y 0).val = 0; omega)
  · rfl
  · rfl
theorem eta31 {a b : ℕ} (y : (⟨3, ![a, b, 1]⟩ : Shape).Idx) : y = ix3 (y 0) (y 1) 0 := by
  funext k; fin_cases k
  · rfl
  · rfl
  · exact Fin.ext (by have := (y 2).isLt; change (y 2).val < 1 at this; show (y 2).val = 0; omega)

theorem do_eq : r_do (F := Ideal) (aD D) = tnd D := by
  funext y
  rw [eta3 y]
  exact do_at D (y 0) (y 1) (y 2)
theorem q_eq : r_q (F := Ideal) (aX X) = ten (X 0) := by
  funext y
  rw [eta3 y]
  exact q_at X (y 1) (y 2) (y 0)
theorem k_eq : r_k (F := Ideal) (aX X) = ten (X 1) := by
  funext y
  rw [eta3 y]
  exact k_at X (y 1) (y 2) (y 0)
theorem v_eq : r_v (F := Ideal) (aX X) = ten (X 2) := by
  funext y
  rw [eta3 y]
  exact v_at X (y 1) (y 2) (y 0)
theorem es_eq : r_es (F := Ideal) (a1 sk) = a1 (fun h => Real.exp (sk h)) := by
  funext y
  exact Ideal.exp_coe _
theorem p_eq : r_p (F := Ideal) (r_s (ten Q) (ten K) (a1 sl)) = mat (wexp Q K sl) := by
  have h : r_s (F := Ideal) (ten Q) (ten K) (a1 sl) = mat (score Q K sl) := by
    funext y
    rw [eta3 y]
    exact s_at Q K sl (y 0) (y 1) (y 2)
  rw [h]
  funext y
  rw [eta3 y]
  exact p_at (score Q K sl) (y 0) (y 1) (y 2)
theorem den_eq : r_den (F := Ideal) (mat (wexp Q K sl)) (a1 (fun h => Real.exp (sk h))) = col (den Q K sk sl) := by
  funext y
  rw [eta31 y]
  exact den_at (fun h => Real.exp (sk h)) (wexp Q K sl) (y 0) (y 1)
theorem wide_eq : r_wide (F := Ideal) (col d) = mat (fun h i _ => d h i) := by
  funext y
  rw [eta3 y]
  exact wide_at d (y 0) (y 1) (y 2)
theorem inv_eq (hd : ∀ h i, d h i ≠ 0) : r_inv (F := Ideal) (col d) = col (fun h i => 1 / (d h i * d h i)) := by
  funext y
  rw [eta31 y]
  exact inv_at d hd (y 0) (y 1)
theorem dp_eq : r_dp (F := Ideal) (tnd D) (ten V) = mat (dw V D) := by
  funext y
  rw [eta3 y]
  exact dp_at V D (y 0) (y 1) (y 2)
theorem g_eq : r_g (F := Ideal) (mat M) (mat W) (mat P) = col (fun h i => -(∑ j, M h i j * W h i j * P h i j)) := by
  funext y
  rw [eta31 y]
  exact g_at M P W (y 0) (y 1)
theorem ds_eq (hw : ∀ h i j, W h i j ≠ 0) : r_ds (F := Ideal) (mat M) (mat W) (mat P) (col g)
    = mat (fun h i j => (if sees i j then (M h i j / W h i j + g h i) * P h i j else 0) * (1 / 8)) := by
  funext y
  rw [eta3 y]
  exact ds_at M P W g hw (y 0) (y 1) (y 2)
theorem dv_eq (hw : ∀ h i j, W h i j ≠ 0) : r_dv (F := Ideal) (tnd D) (mat P) (mat W) = flat (fun n h e => ∑ i, P h i n / W h i n * D i h e) := by
  funext y
  rw [eta30 y]
  exact dv_at D P W hw (y 1) (y 2)
theorem dk_eq : r_dk (F := Ideal) (mat M) (ten Q) = flat (fun n h e => ∑ i, M h i n * Q i h e) := by
  funext y
  rw [eta30 y]
  exact dk_at Q M (y 1) (y 2)
theorem dq_eq : r_dq (F := Ideal) (mat M) (ten K) = flat (fun n h e => ∑ j, M h n j * K j h e) := by
  funext y
  rw [eta30 y]
  exact dq_at K M (y 1) (y 2)

/-- The cotangent of a row's denominator. -/
theorem g_real (h : Fin 16) (i : Fin 4096) : -(∑ j, dw V D h i j * (1 / (den Q K sk sl h i * den Q K sk sl h i)) * wexp Q K sl h i j)
    = -(1 / den Q K sk sl h i) * rowdot Q K V D sk sl h i := by
  unfold rowdot wgt
  rw [neg_mul, Finset.mul_sum]
  refine congrArg Neg.neg (Finset.sum_congr rfl fun j _ => ?_)
  have := (den_pos Q K sk sl h i).ne'
  field_simp

theorem ds_real (h : Fin 16) (i j : Fin 4096) : (if sees i j then (dw V D h i j / den Q K sk sl h i + -(1 / den Q K sk sl h i) * rowdot Q K V D sk sl h i) * wexp Q K sl h i j else 0) * (1 / 8)
    = dsc Q K V D sk sl h i j := by
  unfold dsc
  by_cases hs : sees i j
  · rw [if_pos hs]
    unfold wgt
    have := (den_pos Q K sk sl h i).ne'
    field_simp
    ring
  · rw [if_neg hs, wgt_off Q K sk sl hs]
    simp only [zero_mul]

variable (hsl : r_slope (F := Ideal) = a1 sl)
include hsl

theorem planesOf_at (p : Fin 3) (n : Fin 4096) (l : Fin 1024) : planesOf (F := Ideal) (aX X) (a1 sk) (aD D) (ix3 p n l)
    = ((if p = 0 then gradQ (X 0) (X 1) (X 2) D sk sl (h16 l) n (d64 l) else if p = 1 then gradK (X 0) (X 1) (X 2) D sk sl (h16 l) n (d64 l)
        else gradV (X 0) (X 1) D sk sl (h16 l) n (d64 l) : ℝ) : EReal) := by
  have hd : ∀ h i, den (X 0) (X 1) sk sl h i ≠ 0 := fun h i => (den_pos ..).ne'
  unfold planesOf
  rw [hsl, do_eq, q_eq, k_eq, v_eq, es_eq, p_eq, den_eq, inv_eq _ hd, wide_eq, wide_eq, dp_eq, g_eq, ds_eq _ _ _ _ (fun h i _ => hd h i), dv_eq _ _ _ (fun h i _ => hd h i), dk_eq, dq_eq, out_at]
  simp only [g_real, ds_real]
  rfl

theorem sinksOf_at (p a : Fin 8) (l : Fin 128) : sinksOf (F := Ideal) (aX X) (a1 sk) (aD D) (ix3 p a l)
    = ((gradS (X 0) (X 1) (X 2) D sk sl ⟨2 * p.val + l.val / 64, by omega⟩ : ℝ) : EReal) := by
  have hd : ∀ h i, den (X 0) (X 1) sk sl h i ≠ 0 := fun h i => (den_pos ..).ne'
  have hs : ∀ (g : Fin 16 → Fin 4096 → ℝ) (s : Fin 16 → ℝ), r_sink (F := Ideal) (col g) (a1 s) = a1 (fun h => (∑ i, g h i) * s h) := fun g s => by
    funext y
    rw [eta1 y]
    exact sink_at s g (y 0)
  unfold sinksOf
  rw [hsl, do_eq, q_eq, k_eq, v_eq, es_eq, p_eq, den_eq, inv_eq _ hd, wide_eq, dp_eq, g_eq, hs, spread_at]
  simp only [g_real]
  unfold gradS
  rw [Finset.sum_mul]
  congr 1
  refine Finset.sum_congr rfl fun i _ => ?_
  ring

end Values

end Cert.ReferenceIdeal.Stages
-- ==== Proof.Pre.lean ====
module

public import proofs.«01_k».proof.Pre_finite
public import proofs.«01_k».proof.Proof.Real
public import Idealize.ShloMosaic.Lib.Pointwise
public import Idealize.ShloMosaic.Lib.ReduceAll

/-!
# Finite arguments are real numbers
-/

@[expose] public section

set_option maxRecDepth 16384
set_option maxHeartbeats 1000000

noncomputable section

namespace Cert.Pre_finite

open Idealize.ShloMosaic Cert.Attn

instance facts : Facts where
  bcast_S_S3x4096x1024 := by decide
  reducesTo_S3x4096x1024_S_d0_1_2 := by decide
  h_S_ := by decide
  bcast_S_S16 := by decide
  reducesTo_S16_S_d0 := by decide
  bcast_S_S4096x1024 := by decide
  reducesTo_S4096x1024_S_d0_1 := by decide

instance one_idx : Subsingleton S_.Idx := ⟨fun a b => funext fun k => k.elim0⟩

theorem real_of_lt (x : EReal) (h : FloatOps.cmpf (F := Ideal) (φ := .f32) .olt (FloatOps.hostAbsf (F := Ideal) (φ := .f32) x) (Ideal.ofBits .f32 0x7F800000#32) = 1#1) : ∃ r : ℝ, x = (r : EReal) := by
  rw [pos_inf] at h
  have h' : BitVec.ofBool (decide (max x (-x) < (⊤ : EReal))) = 1#1 := h
  have hlt : max x (-x) < (⊤ : EReal) := by
    by_contra hn
    rw [decide_eq_false hn] at h'
    exact absurd h' (by decide)
  obtain ⟨h1, h2⟩ := max_lt_iff.mp hlt
  refine ⟨x.toReal, (EReal.coe_toReal h1.ne fun hb => ?_).symm⟩
  rw [hb, EReal.neg_bot] at h2
  exact lt_irrefl _ h2

theorem and_one (a b : BitVec 1) (h : IntOp.andi a b = 1#1) : a = 1#1 ∧ b = 1#1 := by
  revert a b
  decide

theorem reals (a0 : FVec Ideal S3x4096x1024 .f32) (a1 : FVec Ideal S16 .f32) (a2 : FVec Ideal S4096x1024 .f32) (h : fn (F := Ideal) a0 a1 a2 = fun _ => 1#1) :
    (∀ i, ∃ r : ℝ, a0 i = (r : EReal)) ∧ (∀ i, ∃ r : ℝ, a1 i = (r : EReal)) ∧ ∀ i, ∃ r : ℝ, a2 i = (r : EReal) := by
  have h0 := congrFun h ix0
  unfold fn at h0
  dsimp only at h0
  obtain ⟨h1, h2⟩ := and_one _ _ h0
  obtain ⟨h3, h4⟩ := and_one _ _ h1
  refine ⟨fun i => real_of_lt _ ?_, fun i => real_of_lt _ ?_, fun i => real_of_lt _ ?_⟩
  · exact Host.reduce_andi_all _ _ _ _ _ h3 i
  · exact Host.reduce_andi_all _ _ _ _ _ h4 i
  · exact Host.reduce_andi_all _ _ _ _ _ h2 i

end Cert.Pre_finite
-- ==== Proof.Mm3.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise

/-!
# The gradient of the input weight

The product of the input's transpose and the hidden gradient, in two parts of 2048 positions added in the scratch.
-/

@[expose] public section

set_option maxRecDepth 16384
set_option maxHeartbeats 4000000

noncomputable section

namespace Cert.Kernel3Ideal.Prod

open Cert.Kernel3Ideal Cert.Kernel3Ideal.Gen Cert.Kernel3Ideal.Value
open Idealize.ShloMosaic Idealize.ShloMosaic.TcCoe Idealize.SL.Sem
open Idealize.ShloMosaic.Pipeline (Dat)

variable (m : (ℓ : Loc nD τ sig) → Buf (Elt Ideal) ℓ) (c : Dev nD)

/-- The product of a transposed matrix with another, element by element. -/
def prod (x : FVec Ideal S4096x1024 .f32) (d : FVec Ideal S4096x5632 .f32) : FVec Ideal S1024x5632 .bf16 :=
  fun y => ∑ s : Fin 4096, (x (ix2 s (y 0)) * d (ix2 s (y 1)) : EReal)

theorem eta2 {a b : ℕ} (y : (⟨2, ![a, b]⟩ : Shape).Idx) : y = ix2 (y 0) (y 1) := by
  funext k; fin_cases k <;> rfl

/-- One part: the sum over 2048 positions. -/
theorem part_at (x : Vec Ideal S2048x1024 .f32) (d : Vec Ideal S2048x1408 .bf16) (i : Fin 1024) (j : Fin 1408) :
    k0_pay1 (F := Ideal) x d (ix2 i j) = ∑ s : Fin 2048, (x (ix2 s i) * d (ix2 s j) : EReal) := by
  pointwise [k0_pay1]

theorem sum_two (f : Fin 4096 → EReal) : (∑ s : Fin 2048, f ⟨s.val, by omega⟩) + ∑ s : Fin 2048, f ⟨2048 + s.val, by omega⟩ = ∑ s, f s :=
  (Fin.sum_univ_add (show Fin (2048 + 2048) → EReal from f)).symm

theorem first_part (t : Fin cfg0.N) (h0 : t.val % 2 = 0) : (outsAt0 m c t.val t.isLt).2 = k0_pay1 (F := Ideal) (iblk m c 0 t) (iblk m c 1 t) := by
  rw [outsAt0_A m c t h0 (by omega) (by omega)]
  frame_out
  unfold k0_pay2
  simp only [shapeCast_self]

theorem second_part (t : Fin cfg0.N) (h0 : t.val % 2 = 1) (h1 : t.val - 1 < cfg0.N) : (outsAt0 m c t.val t.isLt).1
    = truncf (F := Ideal) .bf16 (addf (k0_pay1 (F := Ideal) (iblk m c 0 ⟨t.val - 1, h1⟩) (iblk m c 1 ⟨t.val - 1, h1⟩)) (k0_pay1 (F := Ideal) (iblk m c 0 t) (iblk m c 1 t))) bitsLt_bf16_f32 := by
  rw [outsAt0_B m c t (by omega) h0 h0]
  rw [first_part m c ⟨t.val - 1, h1⟩ (by show (t.val - 1) % 2 = 0; omega)]
  frame_out
  unfold k0_pay4 k0_pay3
  simp only [shapeCast_self]
  refine congrArg (fun a => truncf (F := Ideal) .bf16 (addf a _) bitsLt_bf16_f32) ?_
  exact read_unread_whole _ _ _

theorem idx : ∀ t : Fin cfg0.N, (win0_0.index t 0 = t.val % 2 ∧ win0_0.index t 1 = 0) ∧ (win0_1.index t 0 = t.val % 2 ∧ win0_1.index t 1 = t.val / 2)
    ∧ (win0_2.index t 0 = 0 ∧ win0_2.index t 1 = t.val / 2) :=
  (by decide +kernel : ∀ t : Fin grid0.N, _)

theorem lt8 (t : Fin cfg0.N) : t.val < 8 := lt_of_lt_of_eq t.isLt N_0

theorem emb0 (A : FVec Ideal S4096x1024 .f32) (t : Fin cfg0.N) (s : Fin 2048) (i : Fin 1024) :
    A ((win0_0.blk t).view.emb (ix2 s i)) = A (ix2 ⟨t.val % 2 * 2048 + s.val, by omega⟩ i) := by
  obtain ⟨⟨a0, a1⟩, ⟨b0, b1⟩, ⟨c0, c1⟩⟩ := idx t
  blk_ext [a0, a1, b0, b1, c0, c1]

theorem emb1 (A : FVec Ideal S4096x5632 .bf16) (t : Fin cfg0.N) (s : Fin 2048) (j : Fin 1408) :
    A ((win0_1.blk t).view.emb (ix2 s j)) = A (ix2 ⟨t.val % 2 * 2048 + s.val, by omega⟩ ⟨t.val / 2 * 1408 + j.val, by have := lt8 t; omega⟩) := by
  obtain ⟨⟨a0, a1⟩, ⟨b0, b1⟩, ⟨c0, c1⟩⟩ := idx t
  have := lt8 t
  blk_ext [a0, a1, b0, b1, c0, c1]

theorem emb2 (A : FVec Ideal S1024x5632 .bf16) (t : Fin cfg0.N) (i : Fin 1024) (j : Fin 1408) :
    A ((win0_2.blk t).view.emb (ix2 i j)) = A (ix2 i ⟨t.val / 2 * 1408 + j.val, by have := lt8 t; omega⟩) := by
  obtain ⟨⟨a0, a1⟩, ⟨b0, b1⟩, ⟨c0, c1⟩⟩ := idx t
  have := lt8 t
  blk_ext [a0, a1, b0, b1, c0, c1]

theorem V_left : V m c main_arg0 = m ((c.tc : Thread nD τ).loc main_arg0) := V_main_arg0 m c

theorem V_right : V m c main_v0 = truncf (F := Ideal) .bf16 (m ((c.tc : Thread nD τ).loc main_arg1)) bitsLt_bf16_f32 := by
  show StableHlo.after hostOps0 _ _ = _
  after_results

theorem left_at (t : Fin cfg0.N) (s : Fin 2048) (i : Fin 1024) :
    iblk m c 0 t (ix2 s i) = (m ((c.tc : Thread nD τ).loc main_arg0) : FVec Ideal S4096x1024 .f32) (ix2 ⟨t.val % 2 * 2048 + s.val, by omega⟩ i) := by
  rw [← V_left m c]
  unfold iblk
  generalize V m c = W
  show (win0_0.blk t).view.read (Elt Ideal) (W main_arg0) _ = _
  exact emb0 (W main_arg0) t s i

theorem right_at (t : Fin cfg0.N) (s : Fin 2048) (j : Fin 1408) :
    iblk m c 1 t (ix2 s j) = (m ((c.tc : Thread nD τ).loc main_arg1) : FVec Ideal S4096x5632 .f32) (ix2 ⟨t.val % 2 * 2048 + s.val, by omega⟩ ⟨t.val / 2 * 1408 + j.val, by have := lt8 t; omega⟩) := by
  have e : (truncf (F := Ideal) .bf16 (m ((c.tc : Thread nD τ).loc main_arg1)) bitsLt_bf16_f32 : FVec Ideal S4096x5632 .bf16) (ix2 ⟨t.val % 2 * 2048 + s.val, by omega⟩ ⟨t.val / 2 * 1408 + j.val, by have := lt8 t; omega⟩) = (m ((c.tc : Thread nD τ).loc main_arg1) : FVec Ideal S4096x5632 .f32) (ix2 ⟨t.val % 2 * 2048 + s.val, by omega⟩ ⟨t.val / 2 * 1408 + j.val, by have := lt8 t; omega⟩) := rfl
  rw [← e, ← V_right m c]
  unfold iblk
  generalize V m c = W
  show (win0_1.blk t).view.read (Elt Ideal) (W main_v0) _ = _
  exact emb1 (W main_v0) t s j

theorem flushed (t : Fin cfg0.N) (hf : (cfg0.win 2).flush t = true) :
    (dats m 0 c).flushed 2 t = ((cfg0.win 2).blk t).view.read (Elt Ideal) (prod (m ((c.tc : Thread nD τ).loc main_arg0)) (m ((c.tc : Thread nD τ).loc main_arg1))) := by
  have h1 : t.val % 2 = 1 := (flush0_2 t).mp hf
  have h8 := lt8 t
  have hp : t.val - 1 < cfg0.N := by have := t.isLt; omega
  have key : ∀ (i : Fin 1024) (j : Fin 1408), (outsAt0 m c t.val t.isLt).1 (ix2 i j) = prod (m ((c.tc : Thread nD τ).loc main_arg0)) (m ((c.tc : Thread nD τ).loc main_arg1)) ((win0_2.blk t).view.emb (ix2 i j)) := fun i j => by
    rw [emb2 (prod (m ((c.tc : Thread nD τ).loc main_arg0)) (m ((c.tc : Thread nD τ).loc main_arg1))) t i j, second_part m c t h1 hp]
    refine Eq.trans (show _ = (k0_pay1 (F := Ideal) (iblk m c 0 ⟨t.val - 1, hp⟩) (iblk m c 1 ⟨t.val - 1, hp⟩) (ix2 i j) + k0_pay1 (F := Ideal) (iblk m c 0 t) (iblk m c 1 t) (ix2 i j) : EReal) from rfl) ?_
    rw [part_at, part_at]
    refine Eq.trans ?_ (sum_two _)
    refine congrArg₂ (· + ·) (Finset.sum_congr rfl fun s _ => ?_) (Finset.sum_congr rfl fun s _ => ?_)
    · rw [left_at, right_at]
      have e1 : (⟨(t.val - 1) % 2 * 2048 + s.val, by omega⟩ : Fin 4096) = ⟨s.val, by omega⟩ := Fin.ext (by show (t.val - 1) % 2 * 2048 + s.val = s.val; omega)
      have e2 : (⟨(t.val - 1) / 2 * 1408 + j.val, by omega⟩ : Fin 5632) = ⟨t.val / 2 * 1408 + j.val, by omega⟩ := Fin.ext (by show (t.val - 1) / 2 * 1408 + j.val = t.val / 2 * 1408 + j.val; omega)
      simp only [e1, e2]
      rfl
    · rw [left_at, right_at]
      have e1 : (⟨t.val % 2 * 2048 + s.val, by omega⟩ : Fin 4096) = ⟨2048 + s.val, by omega⟩ := Fin.ext (by show t.val % 2 * 2048 + s.val = 2048 + s.val; omega)
      simp only [e1]
      rfl
  rw [flushed2]
  funext y
  rw [eta2 y]
  exact key (y 0) (y 1)

/-- The call leaves the product. -/
theorem final : (dats m 0 c).arrAt 2 cfg0.N = prod (m ((c.tc : Thread nD τ).loc main_arg0)) (m ((c.tc : Thread nD τ).loc main_arg1)) :=
  (dats m 0 c).arrAt_eq_of_cover 2 _ (flushed m c) fun i => (covered_iff2 i).2 (by
    have h0 : (i 0).val < 1024 := (i 0).isLt; have h1 : (i 1).val < 5632 := (i 1).isLt; omega)

/-- The reference's product, element by element. -/
theorem ref (x : FVec Ideal S4096x1024 .f32) (d : FVec Ideal S4096x5632 .f32) :
    truncf (F := Ideal) .bf16 (Host.dotGeneral Cert.Reference3Ideal.dot_S4096x1024_S4096x5632_S1024x5632_0_0_1_1_n_n none x d) bitsLt_bf16_f32 = prod x d := by
  funext y
  rw [eta2 y]
  have key : ∀ (i : Fin 1024) (j : Fin 5632), truncf (F := Ideal) .bf16 (Host.dotGeneral Cert.Reference3Ideal.dot_S4096x1024_S4096x5632_S1024x5632_0_0_1_1_n_n none x d) bitsLt_bf16_f32 (ix2 i j) = ∑ s : Fin 4096, (x (ix2 s i) * d (ix2 s j) : EReal) := fun i j => by
    pointwise []
  exact key (y 0) (y 1)

end Cert.Kernel3Ideal.Prod

end
-- ==== Proof.Mm4.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise

/-!
# The gradient of the output weight

The product of the hidden activations' transpose and the output gradient, in two parts of 2048 positions added in the scratch.
-/

@[expose] public section

set_option maxRecDepth 16384
set_option maxHeartbeats 4000000

noncomputable section

namespace Cert.Kernel4Ideal.Prod

open Cert.Kernel4Ideal Cert.Kernel4Ideal.Gen Cert.Kernel4Ideal.Value
open Idealize.ShloMosaic Idealize.ShloMosaic.TcCoe Idealize.SL.Sem
open Idealize.ShloMosaic.Pipeline (Dat)

variable (m : (ℓ : Loc nD τ sig) → Buf (Elt Ideal) ℓ) (c : Dev nD)

/-- The product of a transposed matrix with another, element by element. -/
def prod (x : FVec Ideal S4096x2816 .f32) (d : FVec Ideal S4096x1024 .f32) : FVec Ideal S2816x1024 .bf16 :=
  fun y => ∑ s : Fin 4096, (x (ix2 s (y 0)) * d (ix2 s (y 1)) : EReal)

theorem eta2 {a b : ℕ} (y : (⟨2, ![a, b]⟩ : Shape).Idx) : y = ix2 (y 0) (y 1) := by
  funext k; fin_cases k <;> rfl

/-- One part: the sum over 2048 positions. -/
theorem part_at (x : Vec Ideal S2048x1408 .bf16) (d : Vec Ideal S2048x1024 .bf16) (i : Fin 1408) (j : Fin 1024) :
    k0_pay1 (F := Ideal) x d (ix2 i j) = ∑ s : Fin 2048, (x (ix2 s i) * d (ix2 s j) : EReal) := by
  pointwise [k0_pay1]

theorem sum_two (f : Fin 4096 → EReal) : (∑ s : Fin 2048, f ⟨s.val, by omega⟩) + ∑ s : Fin 2048, f ⟨2048 + s.val, by omega⟩ = ∑ s, f s :=
  (Fin.sum_univ_add (show Fin (2048 + 2048) → EReal from f)).symm

theorem first_part (t : Fin cfg0.N) (h0 : t.val % 2 = 0) : (outsAt0 m c t.val t.isLt).2 = k0_pay1 (F := Ideal) (iblk m c 0 t) (iblk m c 1 t) := by
  rw [outsAt0_A m c t h0 (by omega) (by omega)]
  frame_out
  unfold k0_pay2
  simp only [shapeCast_self]

theorem second_part (t : Fin cfg0.N) (h0 : t.val % 2 = 1) (h1 : t.val - 1 < cfg0.N) : (outsAt0 m c t.val t.isLt).1
    = truncf (F := Ideal) .bf16 (addf (k0_pay1 (F := Ideal) (iblk m c 0 ⟨t.val - 1, h1⟩) (iblk m c 1 ⟨t.val - 1, h1⟩)) (k0_pay1 (F := Ideal) (iblk m c 0 t) (iblk m c 1 t))) bitsLt_bf16_f32 := by
  rw [outsAt0_B m c t (by omega) h0 h0]
  rw [first_part m c ⟨t.val - 1, h1⟩ (by show (t.val - 1) % 2 = 0; omega)]
  frame_out
  unfold k0_pay4 k0_pay3
  simp only [shapeCast_self]
  refine congrArg (fun a => truncf (F := Ideal) .bf16 (addf a _) bitsLt_bf16_f32) ?_
  exact read_unread_whole _ _ _

theorem idx : ∀ t : Fin cfg0.N, (win0_0.index t 0 = t.val % 2 ∧ win0_0.index t 1 = t.val / 2) ∧ (win0_1.index t 0 = t.val % 2 ∧ win0_1.index t 1 = 0)
    ∧ (win0_2.index t 0 = t.val / 2 ∧ win0_2.index t 1 = 0) :=
  (by decide +kernel : ∀ t : Fin grid0.N, _)

theorem lt4 (t : Fin cfg0.N) : t.val < 4 := lt_of_lt_of_eq t.isLt N_0

theorem emb0 (A : FVec Ideal S4096x2816 .bf16) (t : Fin cfg0.N) (s : Fin 2048) (i : Fin 1408) :
    A ((win0_0.blk t).view.emb (ix2 s i)) = A (ix2 ⟨t.val % 2 * 2048 + s.val, by omega⟩ ⟨t.val / 2 * 1408 + i.val, by have := lt4 t; omega⟩) := by
  obtain ⟨⟨a0, a1⟩, ⟨b0, b1⟩, ⟨c0, c1⟩⟩ := idx t
  have := lt4 t
  blk_ext [a0, a1, b0, b1, c0, c1]

theorem emb1 (A : FVec Ideal S4096x1024 .bf16) (t : Fin cfg0.N) (s : Fin 2048) (j : Fin 1024) :
    A ((win0_1.blk t).view.emb (ix2 s j)) = A (ix2 ⟨t.val % 2 * 2048 + s.val, by omega⟩ j) := by
  obtain ⟨⟨a0, a1⟩, ⟨b0, b1⟩, ⟨c0, c1⟩⟩ := idx t
  have := lt4 t
  blk_ext [a0, a1, b0, b1, c0, c1]

theorem emb2 (A : FVec Ideal S2816x1024 .bf16) (t : Fin cfg0.N) (i : Fin 1408) (j : Fin 1024) :
    A ((win0_2.blk t).view.emb (ix2 i j)) = A (ix2 ⟨t.val / 2 * 1408 + i.val, by have := lt4 t; omega⟩ j) := by
  obtain ⟨⟨a0, a1⟩, ⟨b0, b1⟩, ⟨c0, c1⟩⟩ := idx t
  have := lt4 t
  blk_ext [a0, a1, b0, b1, c0, c1]

theorem V_left : V m c main_v0 = truncf (F := Ideal) .bf16 (m ((c.tc : Thread nD τ).loc main_arg0)) bitsLt_bf16_f32 := by
  show StableHlo.after hostOps0 _ _ = _
  after_results

theorem V_right : V m c main_v1 = truncf (F := Ideal) .bf16 (m ((c.tc : Thread nD τ).loc main_arg1)) bitsLt_bf16_f32 := by
  show StableHlo.after hostOps0 _ _ = _
  after_results

theorem left_at (t : Fin cfg0.N) (s : Fin 2048) (i : Fin 1408) :
    iblk m c 0 t (ix2 s i) = (m ((c.tc : Thread nD τ).loc main_arg0) : FVec Ideal S4096x2816 .f32) (ix2 ⟨t.val % 2 * 2048 + s.val, by omega⟩ ⟨t.val / 2 * 1408 + i.val, by have := lt4 t; omega⟩) := by
  have e : (truncf (F := Ideal) .bf16 (m ((c.tc : Thread nD τ).loc main_arg0)) bitsLt_bf16_f32 : FVec Ideal S4096x2816 .bf16) (ix2 ⟨t.val % 2 * 2048 + s.val, by omega⟩ ⟨t.val / 2 * 1408 + i.val, by have := lt4 t; omega⟩) = (m ((c.tc : Thread nD τ).loc main_arg0) : FVec Ideal S4096x2816 .f32) (ix2 ⟨t.val % 2 * 2048 + s.val, by omega⟩ ⟨t.val / 2 * 1408 + i.val, by have := lt4 t; omega⟩) := rfl
  rw [← e, ← V_left m c]
  unfold iblk
  generalize V m c = W
  show (win0_0.blk t).view.read (Elt Ideal) (W main_v0) _ = _
  exact emb0 (W main_v0) t s i

theorem right_at (t : Fin cfg0.N) (s : Fin 2048) (j : Fin 1024) :
    iblk m c 1 t (ix2 s j) = (m ((c.tc : Thread nD τ).loc main_arg1) : FVec Ideal S4096x1024 .f32) (ix2 ⟨t.val % 2 * 2048 + s.val, by omega⟩ j) := by
  have e : (truncf (F := Ideal) .bf16 (m ((c.tc : Thread nD τ).loc main_arg1)) bitsLt_bf16_f32 : FVec Ideal S4096x1024 .bf16) (ix2 ⟨t.val % 2 * 2048 + s.val, by omega⟩ j) = (m ((c.tc : Thread nD τ).loc main_arg1) : FVec Ideal S4096x1024 .f32) (ix2 ⟨t.val % 2 * 2048 + s.val, by omega⟩ j) := rfl
  rw [← e, ← V_right m c]
  unfold iblk
  generalize V m c = W
  show (win0_1.blk t).view.read (Elt Ideal) (W main_v1) _ = _
  exact emb1 (W main_v1) t s j

theorem flushed (t : Fin cfg0.N) (hf : (cfg0.win 2).flush t = true) :
    (dats m 0 c).flushed 2 t = ((cfg0.win 2).blk t).view.read (Elt Ideal) (prod (m ((c.tc : Thread nD τ).loc main_arg0)) (m ((c.tc : Thread nD τ).loc main_arg1))) := by
  have h1 : t.val % 2 = 1 := (flush0_2 t).mp hf
  have h4 := lt4 t
  have hp : t.val - 1 < cfg0.N := by have := t.isLt; omega
  have key : ∀ (i : Fin 1408) (j : Fin 1024), (outsAt0 m c t.val t.isLt).1 (ix2 i j) = prod (m ((c.tc : Thread nD τ).loc main_arg0)) (m ((c.tc : Thread nD τ).loc main_arg1)) ((win0_2.blk t).view.emb (ix2 i j)) := fun i j => by
    rw [emb2 (prod (m ((c.tc : Thread nD τ).loc main_arg0)) (m ((c.tc : Thread nD τ).loc main_arg1))) t i j, second_part m c t h1 hp]
    refine Eq.trans (show _ = (k0_pay1 (F := Ideal) (iblk m c 0 ⟨t.val - 1, hp⟩) (iblk m c 1 ⟨t.val - 1, hp⟩) (ix2 i j) + k0_pay1 (F := Ideal) (iblk m c 0 t) (iblk m c 1 t) (ix2 i j) : EReal) from rfl) ?_
    rw [part_at, part_at]
    refine Eq.trans ?_ (sum_two _)
    refine congrArg₂ (· + ·) (Finset.sum_congr rfl fun s _ => ?_) (Finset.sum_congr rfl fun s _ => ?_)
    · rw [left_at, right_at]
      have e1 : (⟨(t.val - 1) % 2 * 2048 + s.val, by omega⟩ : Fin 4096) = ⟨s.val, by omega⟩ := Fin.ext (by show (t.val - 1) % 2 * 2048 + s.val = s.val; omega)
      have e2 : (⟨(t.val - 1) / 2 * 1408 + i.val, by omega⟩ : Fin 2816) = ⟨t.val / 2 * 1408 + i.val, by omega⟩ := Fin.ext (by show (t.val - 1) / 2 * 1408 + i.val = t.val / 2 * 1408 + i.val; omega)
      simp only [e1, e2]
      rfl
    · rw [left_at, right_at]
      have e1 : (⟨t.val % 2 * 2048 + s.val, by omega⟩ : Fin 4096) = ⟨2048 + s.val, by omega⟩ := Fin.ext (by show t.val % 2 * 2048 + s.val = 2048 + s.val; omega)
      simp only [e1]
      rfl
  rw [flushed2]
  funext y
  rw [eta2 y]
  exact key (y 0) (y 1)

/-- The call leaves the product. -/
theorem final : (dats m 0 c).arrAt 2 cfg0.N = prod (m ((c.tc : Thread nD τ).loc main_arg0)) (m ((c.tc : Thread nD τ).loc main_arg1)) :=
  (dats m 0 c).arrAt_eq_of_cover 2 _ (flushed m c) fun i => (covered_iff2 i).2 (by
    have h0 : (i 0).val < 2816 := (i 0).isLt; have h1 : (i 1).val < 1024 := (i 1).isLt; omega)

/-- The reference's product, element by element. -/
theorem ref (x : FVec Ideal S4096x2816 .f32) (d : FVec Ideal S4096x1024 .f32) :
    truncf (F := Ideal) .bf16 (Host.dotGeneral Cert.Reference4Ideal.dot_S4096x2816_S4096x1024_S2816x1024_0_0_1_1_n_n none x d) bitsLt_bf16_f32 = prod x d := by
  funext y
  rw [eta2 y]
  have key : ∀ (i : Fin 2816) (j : Fin 1024), truncf (F := Ideal) .bf16 (Host.dotGeneral Cert.Reference4Ideal.dot_S4096x2816_S4096x1024_S2816x1024_0_0_1_1_n_n none x d) bitsLt_bf16_f32 (ix2 i j) = ∑ s : Fin 4096, (x (ix2 s i) * d (ix2 s j) : EReal) := fun i j => by
    pointwise []
  exact key (y 0) (y 1)

end Cert.Kernel4Ideal.Prod

end
-- ==== Proof.Gate.lean ====
module

public import proofs.«01_k».proof.Reference5Ideal
public import proofs.«01_k».proof.Proof.Pre
public import Idealize.ShloMosaic.Lib.Pointwise

/-!
# The gated unit

The derivative of a gated unit by its two inputs, in the two forms the programs compute, and the order the halves stand in.
-/

@[expose] public section

set_option maxRecDepth 16384
set_option maxHeartbeats 4000000

noncomputable section

namespace Cert.Gate

open Idealize.ShloMosaic Cert.Reference5Ideal

/-- A number that is neither infinity. -/
abbrev IsReal (x : EReal) : Prop := ∃ r : ℝ, x = (r : EReal)

theorem real_sum {n : ℕ} (f h : Fin n → EReal) (hf : ∀ i, IsReal (f i)) (hh : ∀ i, IsReal (h i)) : IsReal (∑ i, f i * h i) := by
  refine Finset.sum_induction (fun i => f i * h i) IsReal ?_ ⟨0, rfl⟩ fun i _ => ?_
  · rintro _ _ ⟨a, rfl⟩ ⟨b, rfl⟩
    exact ⟨a + b, (EReal.coe_add a b).symm⟩
  · obtain ⟨a, ha⟩ := hf i
    obtain ⟨b, hb⟩ := hh i
    exact ⟨a * b, by simp only [ha, hb, EReal.coe_mul]⟩

/-- The gradient by the gate, in the two forms. -/
theorem gate_eq (g u d : EReal) (hg : IsReal g) (hu : IsReal u) (hd : IsReal d) :
    d * u * Ideal.logistic g + g * (d * u) * (Ideal.logistic g * (1 - Ideal.logistic g)) = d * (u * (Ideal.logistic g * (1 + g * (1 - Ideal.logistic g)))) := by
  obtain ⟨g, rfl⟩ := hg
  obtain ⟨u, rfl⟩ := hu
  obtain ⟨d, rfl⟩ := hd
  rw [Ideal.logistic_coe]
  generalize (1 + Real.exp (-g))⁻¹ = s
  rw [show (1 : EReal) = ((1 : ℝ) : EReal) from rfl]
  simp only [← EReal.coe_mul, ← EReal.coe_add, ← EReal.coe_sub]
  exact congrArg _ (by ring)

/-- The column of a half's gradient that stands in a column of the laid-out pair. -/
def src (j : Fin 5632) : Fin 2816 := ⟨j.val / 2816 * 1408 + j.val % 1408, by omega⟩

/-- A choice among four turns of 1408 is a choice between two by parity. -/
theorem turns (j : ℕ) (hj : j < 5632) {x y : EReal} {A : j < 1408 → EReal} {B : ¬ j < 1408 → j - 1408 < 1408 → EReal} {C : ¬ j < 1408 → ¬ j - 1408 < 1408 → j - 1408 - 1408 < 1408 → EReal}
    {D : ¬ j < 1408 → ¬ j - 1408 < 1408 → ¬ j - 1408 - 1408 < 1408 → EReal} (hA : ∀ h, A h = x) (hB : ∀ h h', B h h' = y) (hC : ∀ h h' h'', C h h' h'' = x) (hD : ∀ h h' h'', D h h' h'' = y) :
    (if h : j < 1408 then A h else if h' : j - 1408 < 1408 then B h h' else if h'' : j - 1408 - 1408 < 1408 then C h h' h'' else D h h' h'') = if j / 1408 % 2 = 0 then x else y := by
  by_cases h0 : j < 1408
  · rw [dif_pos h0, if_pos (by omega), hA]
  by_cases h1 : j - 1408 < 1408
  · rw [dif_neg h0, dif_pos h1, if_neg (by omega), hB]
  by_cases h2 : j - 1408 - 1408 < 1408
  · rw [dif_neg h0, dif_neg h1, dif_pos h2, if_pos (by omega), hC]
  · rw [dif_neg h0, dif_neg h1, dif_neg h2, if_neg (by omega), hD]

/-- Two arrays of 2816 columns by turns of 1408 columns. -/
theorem slots_at (hs0 : S4096x2816.Slices (![0, 0] : Fin 2 → ℕ) S4096x1408) (hs1 : S4096x2816.Slices (![0, 1408] : Fin 2 → ℕ) S4096x1408) (hc : Shape.Concatenates [S4096x1408, S4096x1408, S4096x1408, S4096x1408] S4096x5632 1) (g u : FVec Ideal S4096x2816 .f32) (r : Fin 4096) (j : Fin 5632) :
    concatenate S4096x5632 1 [⟨S4096x1408, extractStridedSlice S4096x1408 ![0, 0] g hs0⟩, ⟨S4096x1408, extractStridedSlice S4096x1408 ![0, 0] u hs0⟩,
      ⟨S4096x1408, extractStridedSlice S4096x1408 ![0, 1408] g hs1⟩, ⟨S4096x1408, extractStridedSlice S4096x1408 ![0, 1408] u hs1⟩] hc (ix2 r j)
      = if j.val / 1408 % 2 = 0 then g (ix2 r (src j)) else u (ix2 r (src j)) := by
  pointwise []
  have e : (src j).val = j.val / 2816 * 1408 + j.val % 1408 := rfl
  have at' : ∀ (f : FVec Ideal S4096x2816 .f32) (k : Fin 2816), k.val = j.val / 2816 * 1408 + j.val % 1408 → f (ix2 r k) = f (ix2 r (src j)) := fun f k h => by rw [show k = src j from Fin.ext (h.trans e.symm)]
  refine turns j.val j.isLt (fun h => ?_) (fun h h' => ?_) (fun h h' h'' => ?_) (fun h h' h'' => ?_)
  · exact at' g _ (by dsimp only; clear hc at' e; omega)
  · exact at' u _ (by dsimp only; clear hc at' e; omega)
  · exact at' g _ (by dsimp only; clear hc at' e; omega)
  · exact at' u _ (by dsimp only; clear hc at' e; omega)

end Cert.Gate

end
-- ==== Proof.Ffn5.lean ====
module

public import proofs.«01_k».proof.Proof.Gen.Kernel5Ideal.Value
public import proofs.«01_k».proof.Proof.Gen.Reference5Ideal.Run
public import proofs.«01_k».proof.Proof.Gate
public import Idealize.ShloMosaic.Lib.Pipeline.ValueKit

/-!
# The gradient through the gated unit

The output gradient by the output weight's transpose, times the unit's saved derivative, half by half.
-/

@[expose] public section

set_option maxRecDepth 16384
set_option maxHeartbeats 4000000

noncomputable section

namespace Cert.Kernel5Ideal.Back

open Cert.Kernel5Ideal Cert.Kernel5Ideal.Gen Cert.Kernel5Ideal.Value Cert.Gate
open Idealize.ShloMosaic Idealize.ShloMosaic.TcCoe Idealize.SL.Sem
open Idealize.ShloMosaic.Pipeline (Dat)

variable (m : (ℓ : Loc nD τ sig) → Buf (Elt Ideal) ℓ) (c : Dev nD)

/-- The gradient of the gated activations. -/
def dact (w : FVec Ideal S2816x1024 .f32) (d : FVec Ideal S4096x1024 .f32) (r : Fin 4096) (k : Fin 2816) : EReal :=
  ∑ e : Fin 1024, d (ix2 r e) * w (ix2 k e)

/-- The saved derivative: by the gate, or by the other input. -/
def saved (g u : FVec Ideal S4096x2816 .f32) (r : Fin 4096) (j : Fin 5632) : EReal :=
  if j.val / 1408 % 2 = 0 then u (ix2 r (src j)) * (Ideal.logistic (g (ix2 r (src j))) * (1 + g (ix2 r (src j)) * (1 - Ideal.logistic (g (ix2 r (src j))))))
  else g (ix2 r (src j)) * Ideal.logistic (g (ix2 r (src j)))

/-- What the call is to leave. -/
def back (g u : FVec Ideal S4096x2816 .f32) (w : FVec Ideal S2816x1024 .f32) (d : FVec Ideal S4096x1024 .f32) : FVec Ideal S4096x5632 .bf16 :=
  fun y => (dact w d (y 0) (src (y 1)) * saved g u (y 0) (y 1) : EReal)

theorem eta2 {a b : ℕ} (y : (⟨2, ![a, b]⟩ : Shape).Idx) : y = ix2 (y 0) (y 1) := by
  funext k; fin_cases k <;> rfl

/-- The slope at a gate. -/
def sig1 (g : FVec Ideal S4096x2816 .f32) : FVec Ideal S4096x2816 .f32 :=
  Host.divf (broadcastInDim S4096x2816 ![] bcast_S_S4096x2816 (constant S_ .f32 0x3F800000#32)) (addf (broadcastInDim S4096x2816 ![] bcast_S_S4096x2816 (constant S_ .f32 0x3F800000#32)) (Host.exp (Host.negf g)))

/-- The derivative by the gate, as the host computes it. -/
def dgate (g u : FVec Ideal S4096x2816 .f32) : FVec Ideal S4096x2816 .f32 :=
  mulf u (mulf (sig1 g) (addf (broadcastInDim S4096x2816 ![] bcast_S_S4096x2816 (constant S_ .f32 0x3F800000#32)) (mulf g (subf (broadcastInDim S4096x2816 ![] bcast_S_S4096x2816 (constant S_ .f32 0x3F800000#32)) (sig1 g)))))

theorem sig1_at (g : FVec Ideal S4096x2816 .f32) (r : Fin 4096) (k : Fin 2816) : sig1 g (ix2 r k) = Ideal.logistic (g (ix2 r k)) := by
  unfold Ideal.logistic
  pointwise [sig1]

theorem dgate_at (g u : FVec Ideal S4096x2816 .f32) (r : Fin 4096) (k : Fin 2816) :
    dgate g u (ix2 r k) = u (ix2 r k) * (Ideal.logistic (g (ix2 r k)) * (1 + g (ix2 r k) * (1 - Ideal.logistic (g (ix2 r k))))) := by
  rw [← sig1_at]
  pointwise [dgate]

theorem act_at (g : FVec Ideal S4096x2816 .f32) (r : Fin 4096) (k : Fin 2816) : mulf g (sig1 g) (ix2 r k) = g (ix2 r k) * Ideal.logistic (g (ix2 r k)) := by
  rw [← sig1_at]
  pointwise []

theorem V_saved : V m c main_v19 = truncf (F := Ideal) .bf16 (concatenate S4096x5632 1 [⟨S4096x1408, extractStridedSlice S4096x1408 ![0, 0] (dgate (m ((c.tc : Thread nD τ).loc main_arg0)) (m ((c.tc : Thread nD τ).loc main_arg1))) slices_S4096x2816_S4096x1408_0_0⟩,
      ⟨S4096x1408, extractStridedSlice S4096x1408 ![0, 0] (mulf (m ((c.tc : Thread nD τ).loc main_arg0)) (sig1 (m ((c.tc : Thread nD τ).loc main_arg0)))) slices_S4096x2816_S4096x1408_0_0⟩,
      ⟨S4096x1408, extractStridedSlice S4096x1408 ![0, 1408] (dgate (m ((c.tc : Thread nD τ).loc main_arg0)) (m ((c.tc : Thread nD τ).loc main_arg1))) slices_S4096x2816_S4096x1408_0_1408⟩,
      ⟨S4096x1408, extractStridedSlice S4096x1408 ![0, 1408] (mulf (m ((c.tc : Thread nD τ).loc main_arg0)) (sig1 (m ((c.tc : Thread nD τ).loc main_arg0)))) slices_S4096x2816_S4096x1408_0_1408⟩] concatenates_S4096x1408_S4096x1408_S4096x1408_S4096x1408_S4096x5632_d1) bitsLt_bf16_f32 := by
  show StableHlo.after hostOps0 _ _ = _
  unfold dgate sig1
  after_results_simp <;> rfl

theorem V_grad : V m c main_v20 = truncf (F := Ideal) .bf16 (m ((c.tc : Thread nD τ).loc main_arg3)) bitsLt_bf16_f32 := by
  show StableHlo.after hostOps0 _ _ = _
  after_results_simp <;> rfl

theorem V_weight : V m c main_v21 = truncf (F := Ideal) .bf16 (m ((c.tc : Thread nD τ).loc main_arg2)) bitsLt_bf16_f32 := by
  show StableHlo.after hostOps0 _ _ = _
  after_results_simp <;> rfl

theorem pay1_at (v0 : Vec Ideal S512x1024 .bf16) (v2 : Vec Ideal S1408x1024 .bf16) (r : Fin 512) (k : Fin 1408) :
    k0_pay1 (F := Ideal) v0 v2 (ix2 r k) = ∑ e : Fin 1024, (v0 (ix2 r e) * v2 (ix2 k e) : EReal) := by
  pointwise [k0_pay1]

theorem pay2_at (v0 : Vec Ideal S512x1024 .bf16) (v2 : Vec Ideal S1408x1024 .bf16) (v5 : Vec Ideal S512x1408 .bf16) (r : Fin 512) (k : Fin 1408) :
    k0_pay2 (F := Ideal) v0 v2 v5 (ix2 r k) = ((∑ e : Fin 1024, (v0 (ix2 r e) * v2 (ix2 k e) : EReal)) * v5 (ix2 r k) : EReal) := by
  rw [← pay1_at]
  pointwise [k0_pay2]

theorem pay3_at (v0 : Vec Ideal S512x1024 .bf16) (v2 : Vec Ideal S1408x1024 .bf16) (v5 : Vec Ideal S512x1408 .bf16) (r : Fin 512) (k : Fin 1408) :
    k0_pay3 (F := Ideal) v0 v2 v5 (ix2 r k) = ((∑ e : Fin 1024, (v0 (ix2 r e) * v2 (ix2 k e) : EReal)) * v5 (ix2 r k) : EReal) := by
  rw [← pay1_at]
  pointwise [k0_pay3]

theorem eta0 (f : Fin 2 → ℕ) (h0 : f 0 = 0) (h1 : f 1 = 0) : f = fun _ => 0 := by
  funext k; fin_cases k
  exacts [h0, h1]

/-- One block of the result. -/
def blkOut (x0 : Vec Ideal S512x1024 .bf16) (x1 : Vec Ideal S1408x1024 .bf16) (x2 : Vec Ideal S512x2816 .bf16) : Vec Ideal S512x2816 .bf16 :=
  fun y => ((∑ e : Fin 1024, (x0 (ix2 (y 0) e) * x1 (ix2 (⟨(y 1).val % 1408, by omega⟩ : Fin 1408) e) : EReal)) * x2 y : EReal)

theorem out_eq (x0 : Vec Ideal S512x1024 .bf16) (x1 : Vec Ideal S1408x1024 .bf16) (x2 : Vec Ideal S512x2816 .bf16) : out0_3 (F := Ideal) x0 x1 x2 = blkOut x0 x1 x2 := by
  have e0 : View.ld x0 r0_0 = x0 := View.ld_unit_zero (eta0 _ rfl rfl) _ _
  have e1 : View.ld x1 r0_1 = x1 := View.ld_unit_zero (eta0 _ rfl rfl) _ _
  funext y
  unfold out0_3
  rw [e0, e1]
  refine View.canon_apply_of_pieces (blkOut x0 x1 x2) _ ?_ y (cover0_3 _ _ y)
  intro pc hpc
  rcases List.mem_cons.mp hpc with rfl | hpc
  · intro x
    show k0_pay3 (F := Ideal) x0 x1 (View.ld x2 r0_3) x = _
    have hx : (x 1).val < 1408 := (x 1).isLt
    refine (congrArg _ (eta2 (a := 512) (b := 1408) x)).trans ?_
    refine (pay3_at x0 x1 _ (x 0) (x 1)).trans ?_
    refine congrArg₂ (· * ·) (Finset.sum_congr rfl fun e _ => congrArg₂ (fun a b => (x0 (ix2 a e) * x1 (ix2 b e) : EReal)) (Fin.ext ?_) (Fin.ext ?_)) (congrArg (View.ld x2 r0_3) (eta2 (a := 512) (b := 1408) x).symm)
    · show (x 0).val = 0 + 1 * (x 0).val; omega
    · show (x 1).val = (1408 + 1 * (x 1).val) % 1408; omega
  rcases List.mem_cons.mp hpc with rfl | hpc
  · intro x
    show k0_pay2 (F := Ideal) x0 x1 (View.ld x2 r0_2) x = _
    have hx : (x 1).val < 1408 := (x 1).isLt
    refine (congrArg _ (eta2 (a := 512) (b := 1408) x)).trans ?_
    refine (pay2_at x0 x1 _ (x 0) (x 1)).trans ?_
    refine congrArg₂ (· * ·) (Finset.sum_congr rfl fun e _ => congrArg₂ (fun a b => (x0 (ix2 a e) * x1 (ix2 b e) : EReal)) (Fin.ext ?_) (Fin.ext ?_)) (congrArg (View.ld x2 r0_2) (eta2 (a := 512) (b := 1408) x).symm)
    · show (x 0).val = 0 + 1 * (x 0).val; omega
    · show (x 1).val = (0 + 1 * (x 1).val) % 1408; omega
  nomatch hpc

theorem lt16 (t : Fin cfg0.N) : t.val < 16 := lt_of_lt_of_eq t.isLt N_0

theorem idx : ∀ t : Fin cfg0.N, (win0_0.index t 0 = t.val % 8 ∧ win0_0.index t 1 = 0) ∧ (win0_1.index t 0 = t.val / 8 ∧ win0_1.index t 1 = 0)
    ∧ (win0_2.index t 0 = t.val % 8 ∧ win0_2.index t 1 = t.val / 8) ∧ (win0_3.index t 0 = t.val % 8 ∧ win0_3.index t 1 = t.val / 8) :=
  (by decide +kernel : ∀ t : Fin grid0.N, _)

theorem emb0 (A : FVec Ideal S4096x1024 .bf16) (t : Fin cfg0.N) (r : Fin 512) (e : Fin 1024) :
    A ((win0_0.blk t).view.emb (ix2 r e)) = A (ix2 ⟨t.val % 8 * 512 + r.val, by omega⟩ e) := by
  obtain ⟨⟨a0, a1⟩, ⟨b0, b1⟩, ⟨c0, c1⟩, ⟨d0, d1⟩⟩ := idx t
  have := lt16 t
  blk_ext [a0, a1, b0, b1, c0, c1, d0, d1]

theorem emb1 (A : FVec Ideal S2816x1024 .bf16) (t : Fin cfg0.N) (k : Fin 1408) (e : Fin 1024) :
    A ((win0_1.blk t).view.emb (ix2 k e)) = A (ix2 ⟨t.val / 8 * 1408 + k.val, by have := lt16 t; omega⟩ e) := by
  obtain ⟨⟨a0, a1⟩, ⟨b0, b1⟩, ⟨c0, c1⟩, ⟨d0, d1⟩⟩ := idx t
  have := lt16 t
  blk_ext [a0, a1, b0, b1, c0, c1, d0, d1]

theorem emb2 (A : FVec Ideal S4096x5632 .bf16) (t : Fin cfg0.N) (r : Fin 512) (k : Fin 2816) :
    A ((win0_2.blk t).view.emb (ix2 r k)) = A (ix2 ⟨t.val % 8 * 512 + r.val, by omega⟩ ⟨t.val / 8 * 2816 + k.val, by have := lt16 t; omega⟩) := by
  obtain ⟨⟨a0, a1⟩, ⟨b0, b1⟩, ⟨c0, c1⟩, ⟨d0, d1⟩⟩ := idx t
  have := lt16 t
  blk_ext [a0, a1, b0, b1, c0, c1, d0, d1]

theorem emb3 (A : FVec Ideal S4096x5632 .bf16) (t : Fin cfg0.N) (r : Fin 512) (k : Fin 2816) :
    A ((win0_3.blk t).view.emb (ix2 r k)) = A (ix2 ⟨t.val % 8 * 512 + r.val, by omega⟩ ⟨t.val / 8 * 2816 + k.val, by have := lt16 t; omega⟩) := by
  obtain ⟨⟨a0, a1⟩, ⟨b0, b1⟩, ⟨c0, c1⟩, ⟨d0, d1⟩⟩ := idx t
  have := lt16 t
  blk_ext [a0, a1, b0, b1, c0, c1, d0, d1]

theorem grad_at (t : Fin cfg0.N) (r : Fin 512) (e : Fin 1024) :
    iblk m c 0 t (ix2 r e) = (m ((c.tc : Thread nD τ).loc main_arg3) : FVec Ideal S4096x1024 .f32) (ix2 ⟨t.val % 8 * 512 + r.val, by omega⟩ e) := by
  refine Eq.trans ?_ (congrFun (V_grad m c) (ix2 ⟨t.val % 8 * 512 + r.val, by omega⟩ e))
  unfold iblk
  generalize V m c = W
  show (win0_0.blk t).view.read (Elt Ideal) (W main_v20) _ = _
  exact emb0 (W main_v20) t r e

theorem weight_at (t : Fin cfg0.N) (k : Fin 1408) (e : Fin 1024) :
    iblk m c 1 t (ix2 k e) = (m ((c.tc : Thread nD τ).loc main_arg2) : FVec Ideal S2816x1024 .f32) (ix2 ⟨t.val / 8 * 1408 + k.val, by have := lt16 t; omega⟩ e) := by
  have := lt16 t
  refine Eq.trans ?_ (congrFun (V_weight m c) (ix2 ⟨t.val / 8 * 1408 + k.val, by omega⟩ e))
  unfold iblk
  generalize V m c = W
  show (win0_1.blk t).view.read (Elt Ideal) (W main_v21) _ = _
  exact emb1 (W main_v21) t k e

theorem saved_at (t : Fin cfg0.N) (r : Fin 512) (k : Fin 2816) :
    iblk m c 2 t (ix2 r k) = saved (m ((c.tc : Thread nD τ).loc main_arg0)) (m ((c.tc : Thread nD τ).loc main_arg1)) ⟨t.val % 8 * 512 + r.val, by omega⟩ ⟨t.val / 8 * 2816 + k.val, by have := lt16 t; omega⟩ := by
  have := lt16 t
  refine Eq.trans (b := (V m c main_v19 : FVec Ideal S4096x5632 .bf16) (ix2 ⟨t.val % 8 * 512 + r.val, by omega⟩ ⟨t.val / 8 * 2816 + k.val, by omega⟩)) ?_ ?_
  · unfold iblk
    generalize V m c = W
    show (win0_2.blk t).view.read (Elt Ideal) (W main_v19) _ = _
    exact emb2 (W main_v19) t r k
  · rw [V_saved m c]
    refine (slots_at slices_S4096x2816_S4096x1408_0_0 slices_S4096x2816_S4096x1408_0_1408 concatenates_S4096x1408_S4096x1408_S4096x1408_S4096x1408_S4096x5632_d1 (dgate (m ((c.tc : Thread nD τ).loc main_arg0)) (m ((c.tc : Thread nD τ).loc main_arg1))) (mulf (m ((c.tc : Thread nD τ).loc main_arg0)) (sig1 (m ((c.tc : Thread nD τ).loc main_arg0)))) _ _).trans ?_
    unfold saved
    exact ite_congr rfl (fun _ => dgate_at _ _ _ _) fun _ => act_at _ _ _

theorem flushed (t : Fin cfg0.N) (hf : (cfg0.win 3).flush t = true) :
    (dats m 0 c).flushed 3 t = ((cfg0.win 3).blk t).view.read (Elt Ideal) (back (m ((c.tc : Thread nD τ).loc main_arg0)) (m ((c.tc : Thread nD τ).loc main_arg1)) (m ((c.tc : Thread nD τ).loc main_arg2)) (m ((c.tc : Thread nD τ).loc main_arg3))) := by
  have h16 := lt16 t
  have key : ∀ (r : Fin 512) (k : Fin 2816), blkOut (iblk m c 0 t) (iblk m c 1 t) (iblk m c 2 t) (ix2 r k) = back (m ((c.tc : Thread nD τ).loc main_arg0)) (m ((c.tc : Thread nD τ).loc main_arg1)) (m ((c.tc : Thread nD τ).loc main_arg2)) (m ((c.tc : Thread nD τ).loc main_arg3)) ((win0_3.blk t).view.emb (ix2 r k)) := fun r k => by
    rw [emb3 (back (m ((c.tc : Thread nD τ).loc main_arg0)) (m ((c.tc : Thread nD τ).loc main_arg1)) (m ((c.tc : Thread nD τ).loc main_arg2)) (m ((c.tc : Thread nD τ).loc main_arg3))) t r k]
    refine congrArg₂ (· * ·) (Finset.sum_congr rfl fun e _ => congrArg₂ (· * ·) (grad_at m c t r e) ?_) (saved_at m c t r k)
    refine (weight_at m c t ⟨k.val % 1408, by omega⟩ e).trans ?_
    refine congrArg (fun k => (m ((c.tc : Thread nD τ).loc main_arg2) : FVec Ideal S2816x1024 .f32) (ix2 k e)) (Fin.ext ?_)
    show t.val / 8 * 1408 + k.val % 1408 = (t.val / 8 * 2816 + k.val) / 2816 * 1408 + (t.val / 8 * 2816 + k.val) % 1408
    omega
  rw [flushed3, out_eq]
  funext y
  rw [eta2 y]
  exact key (y 0) (y 1)

theorem covered (i : S4096x5632.Idx) : ∃ t : Fin cfg0.N, (cfg0.win 3).flush t = true ∧ i ∈ ((cfg0.win 3).blk t).view.set := by
  have h0 : (i 0).val < 4096 := (i 0).isLt
  have h1 : (i 1).val < 5632 := (i 1).isLt
  have ht : (i 1).val / 2816 * 8 + (i 0).val / 512 < cfg0.N := lt_of_lt_of_eq (show (i 1).val / 2816 * 8 + (i 0).val / 512 < 16 by omega) N_0.symm
  refine ⟨⟨_, ht⟩, flush0_3 _, ?_⟩
  show i ∈ ((View.whole main_v22).slice (win0_3.rect ⟨_, ht⟩)).set
  rw [View.set_slice_whole, Rect.mem_set_unit]
  obtain ⟨-, -, -, ⟨d0, d1⟩⟩ := idx ⟨_, ht⟩
  have d0' : win0_3.index ⟨_, ht⟩ (0 : Fin 2) = ((i 1).val / 2816 * 8 + (i 0).val / 512) % 8 := d0
  have d1' : win0_3.index ⟨_, ht⟩ (1 : Fin 2) = ((i 1).val / 2816 * 8 + (i 0).val / 512) / 8 := d1
  intro a
  fin_cases a
  · show win0_3.index ⟨_, ht⟩ (0 : Fin 2) * 512 ≤ (i 0).val ∧ (i 0).val < win0_3.index ⟨_, ht⟩ (0 : Fin 2) * 512 + 512
    rw [d0']; omega
  · show win0_3.index ⟨_, ht⟩ (1 : Fin 2) * 2816 ≤ (i 1).val ∧ (i 1).val < win0_3.index ⟨_, ht⟩ (1 : Fin 2) * 2816 + 2816
    rw [d1']; omega

/-- The call leaves the gradient. -/
theorem final : (dats m 0 c).arrAt 3 cfg0.N = back (m ((c.tc : Thread nD τ).loc main_arg0)) (m ((c.tc : Thread nD τ).loc main_arg1)) (m ((c.tc : Thread nD τ).loc main_arg2)) (m ((c.tc : Thread nD τ).loc main_arg3)) :=
  (dats m 0 c).arrAt_eq_of_cover 3 _ (flushed m c) covered

/-- The reference's gradient of the gated activations. -/
def dactV (w : FVec Ideal S2816x1024 .f32) (d : FVec Ideal S4096x1024 .f32) : FVec Ideal S4096x2816 .f32 :=
  Host.dotGeneral Cert.Reference5Ideal.dot_S4096x1024_S2816x1024_S4096x2816_1_1_0_0_n_n none d w

theorem dactV_at (w : FVec Ideal S2816x1024 .f32) (d : FVec Ideal S4096x1024 .f32) (r : Fin 4096) (k : Fin 2816) : dactV w d (ix2 r k) = dact w d r k := by
  unfold dact
  pointwise [dactV]

/-- The reference's gradient by the gate. -/
def gradG (g u h : FVec Ideal S4096x2816 .f32) : FVec Ideal S4096x2816 .f32 :=
  addf (mulf (mulf h u) (sig1 g)) (mulf (mulf g (mulf h u)) (mulf (sig1 g) (subf (broadcastInDim S4096x2816 ![] bcast_S_S4096x2816 (constant S_ .f32 0x3F800000#32)) (sig1 g))))

theorem gradG_at (g u h : FVec Ideal S4096x2816 .f32) (r : Fin 4096) (k : Fin 2816) (hg : IsReal (g (ix2 r k))) (hu : IsReal (u (ix2 r k))) (hh : IsReal (h (ix2 r k))) :
    gradG g u h (ix2 r k) = h (ix2 r k) * (u (ix2 r k) * (Ideal.logistic (g (ix2 r k)) * (1 + g (ix2 r k) * (1 - Ideal.logistic (g (ix2 r k)))))) := by
  rw [← gate_eq _ _ _ hg hu hh, ← sig1_at]
  pointwise [gradG]

/-- The reference's gradient by the other input. -/
def gradU (g h : FVec Ideal S4096x2816 .f32) : FVec Ideal S4096x2816 .f32 := mulf (mulf g (sig1 g)) h

theorem gradU_at (g h : FVec Ideal S4096x2816 .f32) (r : Fin 4096) (k : Fin 2816) :
    gradU g h (ix2 r k) = h (ix2 r k) * (g (ix2 r k) * Ideal.logistic (g (ix2 r k))) := by
  rw [← sig1_at, mul_comm]
  pointwise [gradU]

theorem ref (m : (ℓ : Loc Cert.Reference5Ideal.nD Cert.Reference5Ideal.τ Cert.Reference5Ideal.sig) → Buf (Elt Ideal) ℓ) (c : Dev Cert.Reference5Ideal.nD) (g u : FVec Ideal S4096x2816 .f32) (w : FVec Ideal S2816x1024 .f32) (d : FVec Ideal S4096x1024 .f32)
    (h0 : m ((c.tc : Thread Cert.Reference5Ideal.nD Cert.Reference5Ideal.τ).loc Cert.Reference5Ideal.main_arg0) = g) (h1 : m ((c.tc : Thread Cert.Reference5Ideal.nD Cert.Reference5Ideal.τ).loc Cert.Reference5Ideal.main_arg1) = u)
    (h2 : m ((c.tc : Thread Cert.Reference5Ideal.nD Cert.Reference5Ideal.τ).loc Cert.Reference5Ideal.main_arg2) = w) (h3 : m ((c.tc : Thread Cert.Reference5Ideal.nD Cert.Reference5Ideal.τ).loc Cert.Reference5Ideal.main_arg3) = d)
    (hg : ∀ i, IsReal (g i)) (hu : ∀ i, IsReal (u i)) (hw : ∀ i, IsReal (w i)) (hd : ∀ i, IsReal (d i)) :
    Cert.Reference5Ideal.Value.res_main_v12 (F := Ideal) m c = back g u w d := by
  have key : ∀ (r : Fin 4096) (j : Fin 5632), (Cert.Reference5Ideal.Value.res_main_v12 (F := Ideal) m c : FVec Ideal S4096x5632 .bf16) (ix2 r j) = back g u w d (ix2 r j) := fun r j => by
    unfold Cert.Reference5Ideal.Value.res_main_v12
    rw [h0, h1, h2, h3]
    refine (slots_at slices_S4096x2816_S4096x1408_0_0 slices_S4096x2816_S4096x1408_0_1408 concatenates_S4096x1408_S4096x1408_S4096x1408_S4096x1408_S4096x5632_d1 (gradG g u (dactV w d)) (gradU g (dactV w d)) r j).trans ?_
    have hh : IsReal (dactV w d (ix2 r (src j))) := by rw [dactV_at]; exact real_sum _ _ (fun _ => hd _) fun _ => hw _
    rw [gradG_at _ _ _ _ _ (hg _) (hu _) hh, gradU_at, dactV_at]
    show _ = dact w d r (src j) * saved g u r j
    unfold saved
    split_ifs <;> rfl
  funext y
  rw [eta2 y]
  exact key (y 0) (y 1)

end Cert.Kernel5Ideal.Back

end
-- ==== Proof.Ffn2.lean ====
module

public import proofs.«01_k».proof.Proof.Gen.Kernel2Ideal.Value
public import proofs.«01_k».proof.Proof.Gen.Reference2Ideal.Run
public import proofs.«01_k».proof.Proof.Ffn5
public import Idealize.ShloMosaic.Lib.Pipeline.ValueKit

/-!
# The gated unit, forward

The product with the input weight, the gated activations and the derivative they leave for the backward part.
-/

@[expose] public section

set_option maxRecDepth 16384
set_option maxHeartbeats 4000000

noncomputable section

namespace Cert.Kernel2Ideal.Fore

open Cert.Kernel2Ideal Cert.Kernel2Ideal.Gen Cert.Kernel2Ideal.Value Cert.Gate
open Cert.Kernel5Ideal.Back (saved eta0 eta2 sig1 sig1_at gradG gradG_at gradU gradU_at)
open Idealize.ShloMosaic Idealize.ShloMosaic.TcCoe Idealize.SL.Sem
open Idealize.ShloMosaic.Pipeline (Dat)

variable (m : (ℓ : Loc nD τ sig) → Buf (Elt Ideal) ℓ) (c : Dev nD)

/-- The gate before its nonlinearity. -/
def gateF (x : FVec Ideal S4096x1024 .f32) (w : FVec Ideal S1024x5632 .f32) : FVec Ideal S4096x2816 .f32 :=
  fun y => (∑ e : Fin 1024, (x (ix2 (y 0) e) * w (ix2 e (⟨(y 1).val, by have h : (y 1).val < 2816 := (y 1).isLt; omega⟩ : Fin 5632)) : EReal) : EReal)

/-- The input the gate multiplies. -/
def upF (x : FVec Ideal S4096x1024 .f32) (w : FVec Ideal S1024x5632 .f32) : FVec Ideal S4096x2816 .f32 :=
  fun y => (∑ e : Fin 1024, (x (ix2 (y 0) e) * w (ix2 e (⟨2816 + (y 1).val, by have h : (y 1).val < 2816 := (y 1).isLt; omega⟩ : Fin 5632)) : EReal) : EReal)

/-- The derivative the call is to leave. -/
def deriv (x : FVec Ideal S4096x1024 .f32) (w : FVec Ideal S1024x5632 .f32) : FVec Ideal S4096x5632 .bf16 :=
  fun y => saved (gateF x w) (upF x w) (y 0) (y 1)

/-- The activations the call is to leave. -/
def act (x : FVec Ideal S4096x1024 .f32) (w : FVec Ideal S1024x5632 .f32) : FVec Ideal S4096x2816 .bf16 :=
  fun y => (gateF x w y * Ideal.logistic (gateF x w y) * upF x w y : EReal)

/-- One block's product. -/
def P (x0 : Vec Ideal S512x1024 .f32) (x1 : Vec Ideal S1024x2816 .bf16) (r : Fin 512) (k : Fin 2816) : EReal :=
  ∑ e : Fin 1024, (x0 (ix2 r e) * x1 (ix2 e k) : EReal)

theorem pay1_at (x0 : Vec Ideal S512x1024 .f32) (x1 : Vec Ideal S1024x2816 .bf16) (r : Fin 512) (k : Fin 2816) :
    k0_pay1 (F := Ideal) x0 x1 (ix2 r k) = P x0 x1 r k := by
  unfold P
  pointwise [k0_pay1]

theorem pay2_at (x0 : Vec Ideal S512x1024 .f32) (x1 : Vec Ideal S1024x2816 .bf16) (r : Fin 512) (k : Fin 1408) :
    k0_pay2 (F := Ideal) x0 x1 (ix2 r k) = P x0 x1 r ⟨k.val, by omega⟩ := by
  rw [← pay1_at]
  pointwise [k0_pay2]

theorem pay3_at (x0 : Vec Ideal S512x1024 .f32) (x1 : Vec Ideal S1024x2816 .bf16) (r : Fin 512) (k : Fin 1408) :
    k0_pay3 (F := Ideal) x0 x1 (ix2 r k) = P x0 x1 r ⟨1408 + k.val, by omega⟩ := by
  rw [← pay1_at]
  pointwise [k0_pay3]

theorem pay4_at (x0 : Vec Ideal S512x1024 .f32) (x1 : Vec Ideal S1024x2816 .bf16) (r : Fin 512) (k : Fin 1408) :
    k0_pay4 (F := Ideal) x0 x1 (ix2 r k) = Ideal.logistic (P x0 x1 r ⟨k.val, by omega⟩) := by
  rw [← pay2_at]
  rfl

theorem pay6_at (x0 : Vec Ideal S512x1024 .f32) (x1 : Vec Ideal S1024x2816 .bf16) (r : Fin 512) (k : Fin 1408) :
    k0_pay6 (F := Ideal) x0 x1 (ix2 r k) = P x0 x1 r ⟨1408 + k.val, by omega⟩ * (Ideal.logistic (P x0 x1 r ⟨k.val, by omega⟩) * (1 + P x0 x1 r ⟨k.val, by omega⟩ * (1 - Ideal.logistic (P x0 x1 r ⟨k.val, by omega⟩)))) := by
  rw [← pay4_at, ← pay3_at, ← pay2_at]
  pointwise [k0_pay6]

theorem pay7_at (x0 : Vec Ideal S512x1024 .f32) (x1 : Vec Ideal S1024x2816 .bf16) (r : Fin 512) (k : Fin 1408) :
    k0_pay7 (F := Ideal) x0 x1 (ix2 r k) = P x0 x1 r ⟨k.val, by omega⟩ * Ideal.logistic (P x0 x1 r ⟨k.val, by omega⟩) := by
  rw [← pay4_at, ← pay2_at]
  pointwise [k0_pay7, k0_pay5]

theorem pay8_at (x0 : Vec Ideal S512x1024 .f32) (x1 : Vec Ideal S1024x2816 .bf16) (r : Fin 512) (k : Fin 1408) :
    k0_pay8 (F := Ideal) x0 x1 (ix2 r k) = P x0 x1 r ⟨k.val, by omega⟩ * Ideal.logistic (P x0 x1 r ⟨k.val, by omega⟩) * P x0 x1 r ⟨1408 + k.val, by omega⟩ := by
  rw [← pay4_at, ← pay3_at, ← pay2_at]
  pointwise [k0_pay8, k0_pay5]

/-- One block of the derivative. -/
def blkT (x0 : Vec Ideal S512x1024 .f32) (x1 : Vec Ideal S1024x2816 .bf16) : Vec Ideal S512x2816 .bf16 := fun y =>
  (if (y 1).val < 1408 then P x0 x1 (y 0) (⟨1408 + (y 1).val % 1408, by omega⟩ : Fin 2816) * (Ideal.logistic (P x0 x1 (y 0) (⟨(y 1).val % 1408, by omega⟩ : Fin 2816)) * (1 + P x0 x1 (y 0) (⟨(y 1).val % 1408, by omega⟩ : Fin 2816) * (1 - Ideal.logistic (P x0 x1 (y 0) (⟨(y 1).val % 1408, by omega⟩ : Fin 2816)))))
  else P x0 x1 (y 0) (⟨(y 1).val % 1408, by omega⟩ : Fin 2816) * Ideal.logistic (P x0 x1 (y 0) (⟨(y 1).val % 1408, by omega⟩ : Fin 2816)) : EReal)

theorem outT_eq (x0 : Vec Ideal S512x1024 .f32) (x1 : Vec Ideal S1024x2816 .bf16) : out0_2 (F := Ideal) x0 x1 = blkT x0 x1 := by
  have e0 : View.ld x0 r0_0 = x0 := View.ld_unit_zero (eta0 _ rfl rfl) _ _
  have e1 : View.ld x1 r0_1 = x1 := View.ld_unit_zero (eta0 _ rfl rfl) _ _
  funext y
  unfold out0_2
  rw [e0, e1]
  refine View.canon_apply_of_pieces (blkT x0 x1) _ ?_ y (cover0_2 _ _ y)
  intro pc hpc
  rcases List.mem_cons.mp hpc with rfl | hpc
  · intro x
    have hx : (x 1).val < 1408 := (x 1).isLt
    refine Eq.trans (b := k0_pay7 (F := Ideal) x0 x1 (ix2 (n0 := 512) (n1 := 1408) (x 0) (x 1))) (congrArg (k0_pay7 (F := Ideal) x0 x1) (eta2 (a := 512) (b := 1408) x)) ?_
    refine (pay7_at x0 x1 (x 0) (x 1)).trans ?_
    refine Eq.trans ?_ (if_neg (show ¬ (1408 + 1 * (x 1).val) < 1408 by omega)).symm
    have a0 : (⟨0 + 1 * (x 0).val, by have h : (x 0).val < 512 := (x 0).isLt; omega⟩ : Fin 512) = x 0 := Fin.ext (by show 0 + 1 * (x 0).val = (x 0).val; omega)
    have a1 : (⟨(1408 + 1 * (x 1).val) % 1408, by omega⟩ : Fin 2816) = ⟨(x 1).val, by omega⟩ := Fin.ext (by show (1408 + 1 * (x 1).val) % 1408 = (x 1).val; omega)
    exact congrArg₂ (fun a b => (P x0 x1 a b * Ideal.logistic (P x0 x1 a b) : EReal)) a0.symm a1.symm
  rcases List.mem_cons.mp hpc with rfl | hpc
  · intro x
    have hx : (x 1).val < 1408 := (x 1).isLt
    refine Eq.trans (b := k0_pay6 (F := Ideal) x0 x1 (ix2 (n0 := 512) (n1 := 1408) (x 0) (x 1))) (congrArg (k0_pay6 (F := Ideal) x0 x1) (eta2 (a := 512) (b := 1408) x)) ?_
    refine (pay6_at x0 x1 (x 0) (x 1)).trans ?_
    refine Eq.trans ?_ (if_pos (show (0 + 1 * (x 1).val) < 1408 by omega)).symm
    have a0 : (⟨0 + 1 * (x 0).val, by have h : (x 0).val < 512 := (x 0).isLt; omega⟩ : Fin 512) = x 0 := Fin.ext (by show 0 + 1 * (x 0).val = (x 0).val; omega)
    have a1 : (⟨(0 + 1 * (x 1).val) % 1408, by omega⟩ : Fin 2816) = ⟨(x 1).val, by omega⟩ := Fin.ext (by show (0 + 1 * (x 1).val) % 1408 = (x 1).val; omega)
    have a2 : (⟨1408 + (0 + 1 * (x 1).val) % 1408, by omega⟩ : Fin 2816) = ⟨1408 + (x 1).val, by omega⟩ := Fin.ext (by show 1408 + (0 + 1 * (x 1).val) % 1408 = 1408 + (x 1).val; omega)
    have q := congr (congrArg₂ (fun a b d => (P x0 x1 a d * (Ideal.logistic (P x0 x1 a b) * (1 + P x0 x1 a b * (1 - Ideal.logistic (P x0 x1 a b)))) : EReal)) a0.symm a1.symm) a2.symm
    exact q
  nomatch hpc

/-- One block of the activations. -/
def blkH (x0 : Vec Ideal S512x1024 .f32) (x1 : Vec Ideal S1024x2816 .bf16) : Vec Ideal S512x1408 .bf16 := k0_pay8 (F := Ideal) x0 x1

theorem outH_eq (x0 : Vec Ideal S512x1024 .f32) (x1 : Vec Ideal S1024x2816 .bf16) : out0_3 (F := Ideal) x0 x1 = blkH x0 x1 := by
  have e0 : View.ld x0 r0_0 = x0 := View.ld_unit_zero (eta0 _ rfl rfl) _ _
  have e1 : View.ld x1 r0_1 = x1 := View.ld_unit_zero (eta0 _ rfl rfl) _ _
  unfold out0_3
  rw [e0, e1]
  exact View.canon_unit_zero (eta0 _ rfl rfl) _ _

theorem lt16 (t : Fin cfg0.N) : t.val < 16 := lt_of_lt_of_eq t.isLt N_0

theorem idx : ∀ t : Fin cfg0.N, (win0_0.index t 0 = t.val % 8 ∧ win0_0.index t 1 = 0) ∧ (win0_1.index t 0 = 0 ∧ win0_1.index t 1 = t.val / 8)
    ∧ (win0_2.index t 0 = t.val % 8 ∧ win0_2.index t 1 = t.val / 8) ∧ (win0_3.index t 0 = t.val % 8 ∧ win0_3.index t 1 = t.val / 8) :=
  (by decide +kernel : ∀ t : Fin grid0.N, _)

theorem emb0 (A : FVec Ideal S4096x1024 .f32) (t : Fin cfg0.N) (r : Fin 512) (e : Fin 1024) :
    A ((win0_0.blk t).view.emb (ix2 r e)) = A (ix2 ⟨t.val % 8 * 512 + r.val, by omega⟩ e) := by
  obtain ⟨⟨a0, a1⟩, ⟨b0, b1⟩, ⟨c0, c1⟩, ⟨d0, d1⟩⟩ := idx t
  have := lt16 t
  blk_ext [a0, a1, b0, b1, c0, c1, d0, d1]

theorem emb1 (A : FVec Ideal S1024x5632 .bf16) (t : Fin cfg0.N) (e : Fin 1024) (k : Fin 2816) :
    A ((win0_1.blk t).view.emb (ix2 e k)) = A (ix2 e ⟨t.val / 8 * 2816 + k.val, by have := lt16 t; omega⟩) := by
  obtain ⟨⟨a0, a1⟩, ⟨b0, b1⟩, ⟨c0, c1⟩, ⟨d0, d1⟩⟩ := idx t
  have := lt16 t
  blk_ext [a0, a1, b0, b1, c0, c1, d0, d1]

theorem emb2 (A : FVec Ideal S4096x5632 .bf16) (t : Fin cfg0.N) (r : Fin 512) (k : Fin 2816) :
    A ((win0_2.blk t).view.emb (ix2 r k)) = A (ix2 ⟨t.val % 8 * 512 + r.val, by omega⟩ ⟨t.val / 8 * 2816 + k.val, by have := lt16 t; omega⟩) := by
  obtain ⟨⟨a0, a1⟩, ⟨b0, b1⟩, ⟨c0, c1⟩, ⟨d0, d1⟩⟩ := idx t
  have := lt16 t
  blk_ext [a0, a1, b0, b1, c0, c1, d0, d1]

theorem emb3 (A : FVec Ideal S4096x2816 .bf16) (t : Fin cfg0.N) (r : Fin 512) (k : Fin 1408) :
    A ((win0_3.blk t).view.emb (ix2 r k)) = A (ix2 ⟨t.val % 8 * 512 + r.val, by omega⟩ ⟨t.val / 8 * 1408 + k.val, by have := lt16 t; omega⟩) := by
  obtain ⟨⟨a0, a1⟩, ⟨b0, b1⟩, ⟨c0, c1⟩, ⟨d0, d1⟩⟩ := idx t
  have := lt16 t
  blk_ext [a0, a1, b0, b1, c0, c1, d0, d1]

theorem V_input : V m c main_arg0 = m ((c.tc : Thread nD τ).loc main_arg0) := V_main_arg0 m c

/-- The weight with its four column blocks in the order the call takes them. -/
def turned (w : FVec Ideal S1024x5632 .f32) : FVec Ideal S1024x5632 .bf16 :=
  concatenate S1024x5632 1 [⟨S1024x1408, extractStridedSlice S1024x1408 ![0, 0] (truncf (F := Ideal) .bf16 w bitsLt_bf16_f32) slices_S1024x5632_S1024x1408_0_0⟩,
    ⟨S1024x1408, extractStridedSlice S1024x1408 ![0, 2816] (truncf (F := Ideal) .bf16 w bitsLt_bf16_f32) slices_S1024x5632_S1024x1408_0_2816⟩,
    ⟨S1024x1408, extractStridedSlice S1024x1408 ![0, 1408] (truncf (F := Ideal) .bf16 w bitsLt_bf16_f32) slices_S1024x5632_S1024x1408_0_1408⟩,
    ⟨S1024x1408, extractStridedSlice S1024x1408 ![0, 4224] (truncf (F := Ideal) .bf16 w bitsLt_bf16_f32) slices_S1024x5632_S1024x1408_0_4224⟩] concatenates_S1024x1408_S1024x1408_S1024x1408_S1024x1408_S1024x5632_d1

theorem V_weight : V m c main_v5 = turned (m ((c.tc : Thread nD τ).loc main_arg1)) := by
  show StableHlo.after hostOps0 _ _ = _
  unfold turned
  after_results_simp <;> rfl

theorem turned_at (w : FVec Ideal S1024x5632 .f32) (e : Fin 1024) (j : Fin 5632) :
    turned w (ix2 e j) = if j.val / 1408 % 2 = 0 then w (ix2 e ⟨(src j).val, by omega⟩) else w (ix2 e ⟨2816 + (src j).val, by omega⟩) := by
  have s : (src j).val = j.val / 2816 * 1408 + j.val % 1408 := rfl
  have at' : ∀ (k k' : Fin 5632), k.val = k'.val → w (ix2 e k) = w (ix2 e k') := fun k k' h => by rw [Fin.ext h]
  pointwise [turned]
  refine turns j.val j.isLt (fun h => ?_) (fun h h' => ?_) (fun h h' h'' => ?_) (fun h h' h'' => ?_)
  · exact at' _ _ (by dsimp only; rw [s]; clear at'; omega)
  · exact at' _ _ (by dsimp only; rw [s]; clear at'; omega)
  · exact at' _ _ (by dsimp only; rw [s]; clear at'; omega)
  · exact at' _ _ (by dsimp only; rw [s]; clear at'; omega)

theorem input_at (t : Fin cfg0.N) (r : Fin 512) (e : Fin 1024) :
    iblk m c 0 t (ix2 r e) = (m ((c.tc : Thread nD τ).loc main_arg0) : FVec Ideal S4096x1024 .f32) (ix2 ⟨t.val % 8 * 512 + r.val, by omega⟩ e) := by
  refine Eq.trans ?_ (congrFun (V_input m c) (ix2 ⟨t.val % 8 * 512 + r.val, by omega⟩ e))
  unfold iblk
  generalize V m c = W
  show (win0_0.blk t).view.read (Elt Ideal) (W main_arg0) _ = _
  exact emb0 (W main_arg0) t r e

theorem weight_at (t : Fin cfg0.N) (e : Fin 1024) (k : Fin 2816) :
    iblk m c 1 t (ix2 e k) = turned (m ((c.tc : Thread nD τ).loc main_arg1)) (ix2 e ⟨t.val / 8 * 2816 + k.val, by have := lt16 t; omega⟩) := by
  have := lt16 t
  refine Eq.trans ?_ (congrFun (V_weight m c) (ix2 e ⟨t.val / 8 * 2816 + k.val, by omega⟩))
  unfold iblk
  generalize V m c = W
  show (win0_1.blk t).view.read (Elt Ideal) (W main_v5) _ = _
  exact emb1 (W main_v5) t e k

/-- A block's product, in its first half of columns, is the gate. -/
theorem P_gate (t : Fin cfg0.N) (r : Fin 512) (k : Fin 1408) : P (iblk m c 0 t) (iblk m c 1 t) r ⟨k.val, by omega⟩
    = gateF (m ((c.tc : Thread nD τ).loc main_arg0)) (m ((c.tc : Thread nD τ).loc main_arg1)) (ix2 ⟨t.val % 8 * 512 + r.val, by omega⟩ ⟨t.val / 8 * 1408 + k.val, by have := lt16 t; omega⟩) := by
  have := lt16 t
  refine Finset.sum_congr rfl fun e _ => congrArg₂ (· * ·) (input_at m c t r e) ?_
  refine (weight_at m c t e ⟨k.val, by omega⟩).trans ?_
  rw [turned_at, if_pos (by dsimp only; omega)]
  refine congrArg (fun k => (m ((c.tc : Thread nD τ).loc main_arg1) : FVec Ideal S1024x5632 .f32) (ix2 e k)) (Fin.ext ?_)
  show (t.val / 8 * 2816 + k.val) / 2816 * 1408 + (t.val / 8 * 2816 + k.val) % 1408 = t.val / 8 * 1408 + k.val
  omega

/-- A block's product, in its second half of columns, is the gate's partner. -/
theorem P_up (t : Fin cfg0.N) (r : Fin 512) (k : Fin 1408) : P (iblk m c 0 t) (iblk m c 1 t) r ⟨1408 + k.val, by omega⟩
    = upF (m ((c.tc : Thread nD τ).loc main_arg0)) (m ((c.tc : Thread nD τ).loc main_arg1)) (ix2 ⟨t.val % 8 * 512 + r.val, by omega⟩ ⟨t.val / 8 * 1408 + k.val, by have := lt16 t; omega⟩) := by
  have := lt16 t
  refine Finset.sum_congr rfl fun e _ => congrArg₂ (· * ·) (input_at m c t r e) ?_
  refine (weight_at m c t e ⟨1408 + k.val, by omega⟩).trans ?_
  rw [turned_at, if_neg (by dsimp only; omega)]
  refine congrArg (fun k => (m ((c.tc : Thread nD τ).loc main_arg1) : FVec Ideal S1024x5632 .f32) (ix2 e k)) (Fin.ext ?_)
  show 2816 + ((t.val / 8 * 2816 + (1408 + k.val)) / 2816 * 1408 + (t.val / 8 * 2816 + (1408 + k.val)) % 1408) = 2816 + (t.val / 8 * 1408 + k.val)
  omega

theorem flushedT (t : Fin cfg0.N) (hf : (cfg0.win 2).flush t = true) :
    (dats m 0 c).flushed 2 t = ((cfg0.win 2).blk t).view.read (Elt Ideal) (deriv (m ((c.tc : Thread nD τ).loc main_arg0)) (m ((c.tc : Thread nD τ).loc main_arg1))) := by
  have h16 := lt16 t
  have key : ∀ (r : Fin 512) (k : Fin 2816), blkT (iblk m c 0 t) (iblk m c 1 t) (ix2 r k) = deriv (m ((c.tc : Thread nD τ).loc main_arg0)) (m ((c.tc : Thread nD τ).loc main_arg1)) ((win0_2.blk t).view.emb (ix2 r k)) := fun r k => by
    rw [emb2 (deriv (m ((c.tc : Thread nD τ).loc main_arg0)) (m ((c.tc : Thread nD τ).loc main_arg1))) t r k]
    have hs : src ⟨t.val / 8 * 2816 + k.val, by omega⟩ = ⟨t.val / 8 * 1408 + k.val % 1408, by omega⟩ := Fin.ext (by
      show (t.val / 8 * 2816 + k.val) / 2816 * 1408 + (t.val / 8 * 2816 + k.val) % 1408 = t.val / 8 * 1408 + k.val % 1408; omega)
    have hG := P_gate m c t r ⟨k.val % 1408, by omega⟩
    have hU := P_up m c t r ⟨k.val % 1408, by omega⟩
    show (if k.val < 1408 then P (iblk m c 0 t) (iblk m c 1 t) r (⟨1408 + k.val % 1408, by omega⟩ : Fin 2816) * (Ideal.logistic (P (iblk m c 0 t) (iblk m c 1 t) r (⟨k.val % 1408, by omega⟩ : Fin 2816)) * (1 + P (iblk m c 0 t) (iblk m c 1 t) r (⟨k.val % 1408, by omega⟩ : Fin 2816) * (1 - Ideal.logistic (P (iblk m c 0 t) (iblk m c 1 t) r (⟨k.val % 1408, by omega⟩ : Fin 2816)))))
      else P (iblk m c 0 t) (iblk m c 1 t) r (⟨k.val % 1408, by omega⟩ : Fin 2816) * Ideal.logistic (P (iblk m c 0 t) (iblk m c 1 t) r (⟨k.val % 1408, by omega⟩ : Fin 2816)) : EReal) = saved (gateF (m ((c.tc : Thread nD τ).loc main_arg0)) (m ((c.tc : Thread nD τ).loc main_arg1))) (upF (m ((c.tc : Thread nD τ).loc main_arg0)) (m ((c.tc : Thread nD τ).loc main_arg1))) ⟨t.val % 8 * 512 + r.val, by omega⟩ ⟨t.val / 8 * 2816 + k.val, by omega⟩
    unfold saved
    rw [hs]
    have hp : (k.val < 1408) = ((t.val / 8 * 2816 + k.val) / 1408 % 2 = 0) := propext (by omega)
    refine ite_congr hp (fun _ => ?_) fun _ => ?_
    · rw [hG, hU]
    · rw [hG]
  rw [flushed2, outT_eq]
  funext y
  rw [eta2 y]
  exact key (y 0) (y 1)

theorem flushedH (t : Fin cfg0.N) (hf : (cfg0.win 3).flush t = true) :
    (dats m 0 c).flushed 3 t = ((cfg0.win 3).blk t).view.read (Elt Ideal) (act (m ((c.tc : Thread nD τ).loc main_arg0)) (m ((c.tc : Thread nD τ).loc main_arg1))) := by
  have key : ∀ (r : Fin 512) (k : Fin 1408), blkH (iblk m c 0 t) (iblk m c 1 t) (ix2 r k) = act (m ((c.tc : Thread nD τ).loc main_arg0)) (m ((c.tc : Thread nD τ).loc main_arg1)) ((win0_3.blk t).view.emb (ix2 r k)) := fun r k => by
    rw [emb3 (act (m ((c.tc : Thread nD τ).loc main_arg0)) (m ((c.tc : Thread nD τ).loc main_arg1))) t r k]
    refine (pay8_at _ _ r k).trans ?_
    rw [P_gate, P_up]
    rfl
  rw [flushed3, outH_eq]
  funext y
  rw [eta2 y]
  exact key (y 0) (y 1)

theorem coveredT (i : S4096x5632.Idx) : ∃ t : Fin cfg0.N, (cfg0.win 2).flush t = true ∧ i ∈ ((cfg0.win 2).blk t).view.set := by
  have h0 : (i 0).val < 4096 := (i 0).isLt
  have h1 : (i 1).val < 5632 := (i 1).isLt
  have ht : (i 1).val / 2816 * 8 + (i 0).val / 512 < cfg0.N := lt_of_lt_of_eq (show (i 1).val / 2816 * 8 + (i 0).val / 512 < 16 by omega) N_0.symm
  refine ⟨⟨_, ht⟩, flush0_2 _, ?_⟩
  show i ∈ ((View.whole main_v6_0).slice (win0_2.rect ⟨_, ht⟩)).set
  rw [View.set_slice_whole, Rect.mem_set_unit]
  obtain ⟨-, -, ⟨d0, d1⟩, -⟩ := idx ⟨_, ht⟩
  have d0' : win0_2.index ⟨_, ht⟩ (0 : Fin 2) = ((i 1).val / 2816 * 8 + (i 0).val / 512) % 8 := d0
  have d1' : win0_2.index ⟨_, ht⟩ (1 : Fin 2) = ((i 1).val / 2816 * 8 + (i 0).val / 512) / 8 := d1
  intro a
  fin_cases a
  · show win0_2.index ⟨_, ht⟩ (0 : Fin 2) * 512 ≤ (i 0).val ∧ (i 0).val < win0_2.index ⟨_, ht⟩ (0 : Fin 2) * 512 + 512
    rw [d0']; omega
  · show win0_2.index ⟨_, ht⟩ (1 : Fin 2) * 2816 ≤ (i 1).val ∧ (i 1).val < win0_2.index ⟨_, ht⟩ (1 : Fin 2) * 2816 + 2816
    rw [d1']; omega

theorem coveredH (i : S4096x2816.Idx) : ∃ t : Fin cfg0.N, (cfg0.win 3).flush t = true ∧ i ∈ ((cfg0.win 3).blk t).view.set := by
  have h0 : (i 0).val < 4096 := (i 0).isLt
  have h1 : (i 1).val < 2816 := (i 1).isLt
  have ht : (i 1).val / 1408 * 8 + (i 0).val / 512 < cfg0.N := lt_of_lt_of_eq (show (i 1).val / 1408 * 8 + (i 0).val / 512 < 16 by omega) N_0.symm
  refine ⟨⟨_, ht⟩, flush0_3 _, ?_⟩
  show i ∈ ((View.whole main_v6_1).slice (win0_3.rect ⟨_, ht⟩)).set
  rw [View.set_slice_whole, Rect.mem_set_unit]
  obtain ⟨-, -, -, ⟨d0, d1⟩⟩ := idx ⟨_, ht⟩
  have d0' : win0_3.index ⟨_, ht⟩ (0 : Fin 2) = ((i 1).val / 1408 * 8 + (i 0).val / 512) % 8 := d0
  have d1' : win0_3.index ⟨_, ht⟩ (1 : Fin 2) = ((i 1).val / 1408 * 8 + (i 0).val / 512) / 8 := d1
  intro a
  fin_cases a
  · show win0_3.index ⟨_, ht⟩ (0 : Fin 2) * 512 ≤ (i 0).val ∧ (i 0).val < win0_3.index ⟨_, ht⟩ (0 : Fin 2) * 512 + 512
    rw [d0']; omega
  · show win0_3.index ⟨_, ht⟩ (1 : Fin 2) * 1408 ≤ (i 1).val ∧ (i 1).val < win0_3.index ⟨_, ht⟩ (1 : Fin 2) * 1408 + 1408
    rw [d1']; omega

/-- The call leaves the derivative -/
theorem finalT : (dats m 0 c).arrAt 2 cfg0.N = deriv (m ((c.tc : Thread nD τ).loc main_arg0)) (m ((c.tc : Thread nD τ).loc main_arg1)) :=
  (dats m 0 c).arrAt_eq_of_cover 2 _ (flushedT m c) coveredT

/-- and the activations. -/
theorem finalH : (dats m 0 c).arrAt 3 cfg0.N = act (m ((c.tc : Thread nD τ).loc main_arg0)) (m ((c.tc : Thread nD τ).loc main_arg1)) :=
  (dats m 0 c).arrAt_eq_of_cover 3 _ (flushedH m c) coveredH

/-- The reference's gate. -/
def gateV (x : FVec Ideal S4096x1024 .f32) (w : FVec Ideal S1024x5632 .f32) : FVec Ideal S4096x2816 .f32 :=
  extractStridedSlice S4096x2816 ![0, 0] (Host.dotGeneral Cert.Reference2Ideal.dot_S4096x1024_S1024x5632_S4096x5632_1_0_0_1_n_n none x w) Cert.Reference2Ideal.Gen.facts.slices_S4096x5632_S4096x2816_0_0

/-- The reference's other input. -/
def upV (x : FVec Ideal S4096x1024 .f32) (w : FVec Ideal S1024x5632 .f32) : FVec Ideal S4096x2816 .f32 :=
  extractStridedSlice S4096x2816 ![0, 2816] (Host.dotGeneral Cert.Reference2Ideal.dot_S4096x1024_S1024x5632_S4096x5632_1_0_0_1_n_n none x w) Cert.Reference2Ideal.Gen.facts.slices_S4096x5632_S4096x2816_0_2816

theorem gateV_eq (x : FVec Ideal S4096x1024 .f32) (w : FVec Ideal S1024x5632 .f32) : gateV x w = gateF x w := by
  have key : ∀ (r : Fin 4096) (k : Fin 2816), gateV x w (ix2 r k) = ∑ e : Fin 1024, (x (ix2 r e) * w (ix2 e ⟨k.val, by omega⟩) : EReal) := fun r k => by
    pointwise [gateV]
  funext y
  rw [eta2 y]
  exact key (y 0) (y 1)

theorem upV_eq (x : FVec Ideal S4096x1024 .f32) (w : FVec Ideal S1024x5632 .f32) : upV x w = upF x w := by
  have key : ∀ (r : Fin 4096) (k : Fin 2816), upV x w (ix2 r k) = ∑ e : Fin 1024, (x (ix2 r e) * w (ix2 e ⟨2816 + k.val, by omega⟩) : EReal) := fun r k => by
    pointwise [upV]
  funext y
  rw [eta2 y]
  exact key (y 0) (y 1)

/-- All ones. -/
def ones : FVec Ideal S4096x2816 .f32 := broadcastInDim S4096x2816 ![] Cert.Reference2Ideal.Gen.facts.bcast_S_S4096x2816 (constant Cert.Reference2Ideal.S_ .f32 0x3F800000#32)

theorem ones_at (r : Fin 4096) (k : Fin 2816) : ones (ix2 r k) = 1 := by
  pointwise [ones]

theorem refT (m : (ℓ : Loc Cert.Reference2Ideal.nD Cert.Reference2Ideal.τ Cert.Reference2Ideal.sig) → Buf (Elt Ideal) ℓ) (c : Dev Cert.Reference2Ideal.nD) (x : FVec Ideal S4096x1024 .f32) (w : FVec Ideal S1024x5632 .f32)
    (h0 : m ((c.tc : Thread Cert.Reference2Ideal.nD Cert.Reference2Ideal.τ).loc Cert.Reference2Ideal.main_arg0) = x) (h1 : m ((c.tc : Thread Cert.Reference2Ideal.nD Cert.Reference2Ideal.τ).loc Cert.Reference2Ideal.main_arg1) = w)
    (hx : ∀ i, IsReal (x i)) (hw : ∀ i, IsReal (w i)) :
    Cert.Reference2Ideal.Value.res_main_v14 (F := Ideal) m c = deriv x w := by
  have key : ∀ (r : Fin 4096) (j : Fin 5632), (Cert.Reference2Ideal.Value.res_main_v14 (F := Ideal) m c : FVec Ideal S4096x5632 .bf16) (ix2 r j) = deriv x w (ix2 r j) := fun r j => by
    unfold Cert.Reference2Ideal.Value.res_main_v14
    rw [h0, h1]
    refine (slots_at Cert.Reference2Ideal.Gen.facts.slices_S4096x2816_S4096x1408_0_0 Cert.Reference2Ideal.Gen.facts.slices_S4096x2816_S4096x1408_0_1408 Cert.Reference2Ideal.Gen.facts.concatenates_S4096x1408_S4096x1408_S4096x1408_S4096x1408_S4096x5632_d1 (gradG (gateV x w) (upV x w) ones) (gradU (gateV x w) ones) r j).trans ?_
    rw [gateV_eq, upV_eq]
    have hg : IsReal (gateF x w (ix2 r (src j))) := real_sum _ _ (fun _ => hx _) fun _ => hw _
    have hu : IsReal (upF x w (ix2 r (src j))) := real_sum _ _ (fun _ => hx _) fun _ => hw _
    have ho : IsReal (ones (ix2 r (src j))) := ⟨1, by rw [ones_at]; rfl⟩
    rw [gradG_at _ _ _ _ _ hg hu ho, gradU_at, ones_at, one_mul, one_mul]
    rfl
  funext y
  rw [eta2 y]
  exact key (y 0) (y 1)

theorem refH (x : FVec Ideal S4096x1024 .f32) (w : FVec Ideal S1024x5632 .f32) :
    truncf (F := Ideal) .bf16 (mulf (mulf (gateV x w) (sig1 (gateV x w))) (upV x w)) bitsLt_bf16_f32 = act x w := by
  rw [gateV_eq, upV_eq]
  have key : ∀ (r : Fin 4096) (k : Fin 2816), truncf (F := Ideal) .bf16 (mulf (mulf (gateF x w) (sig1 (gateF x w))) (upF x w)) bitsLt_bf16_f32 (ix2 r k) = act x w (ix2 r k) := fun r k => by
    show _ = (gateF x w (ix2 r k) * Ideal.logistic (gateF x w (ix2 r k)) * upF x w (ix2 r k) : EReal)
    rw [← sig1_at]
    generalize gateF x w = g
    generalize upF x w = u
    pointwise []
  funext y
  rw [eta2 y]
  exact key (y 0) (y 1)

end Cert.Kernel2Ideal.Fore

end
-- ==== Proof.Pre2.lean ====
module

public import proofs.«01_k».proof.Pre_finite2
public import proofs.«01_k».proof.Proof.Pre

/-!
# Finite arguments are real numbers: the gated unit's input
-/

@[expose] public section

set_option maxRecDepth 16384
set_option maxHeartbeats 1000000

noncomputable section

namespace Cert.Pre_finite2

open Idealize.ShloMosaic
open Cert.Pre_finite (and_one real_of_lt)

instance facts : Facts where
  bcast_S_S4096x1024 := by decide
  reducesTo_S4096x1024_S_d0_1 := by decide
  h_S_ := by decide
  bcast_S_S1024x5632 := by decide
  reducesTo_S1024x5632_S_d0_1 := by decide

instance one_idx : Subsingleton S_.Idx := ⟨fun a b => funext fun k => k.elim0⟩

theorem reals (a0 : FVec Ideal S4096x1024 .f32) (a1 : FVec Ideal S1024x5632 .f32) (h : fn (F := Ideal) a0 a1 = fun _ => 1#1) :
    (∀ i, ∃ r : ℝ, a0 i = (r : EReal)) ∧ ∀ i, ∃ r : ℝ, a1 i = (r : EReal) := by
  have h0 := congrFun h ix0
  unfold fn at h0
  dsimp only at h0
  obtain ⟨h1, h2⟩ := and_one _ _ h0
  refine ⟨fun i => real_of_lt _ ?_, fun i => real_of_lt _ ?_⟩
  · exact Host.reduce_andi_all _ _ _ _ _ h1 i
  · exact Host.reduce_andi_all _ _ _ _ _ h2 i

end Cert.Pre_finite2

end
-- ==== Proof.Pre5.lean ====
module

public import proofs.«01_k».proof.Pre_finite5
public import proofs.«01_k».proof.Proof.Pre

/-!
# Finite arguments are real numbers: the gated unit, backward
-/

@[expose] public section

set_option maxRecDepth 16384
set_option maxHeartbeats 1000000

noncomputable section

namespace Cert.Pre_finite5

open Idealize.ShloMosaic
open Cert.Pre_finite (and_one real_of_lt)

instance facts : Facts where
  bcast_S_S4096x2816 := by decide
  reducesTo_S4096x2816_S_d0_1 := by decide
  h_S_ := by decide
  bcast_S_S2816x1024 := by decide
  reducesTo_S2816x1024_S_d0_1 := by decide
  bcast_S_S4096x1024 := by decide
  reducesTo_S4096x1024_S_d0_1 := by decide

instance one_idx : Subsingleton S_.Idx := ⟨fun a b => funext fun k => k.elim0⟩

theorem reals (a0 a1 : FVec Ideal S4096x2816 .f32) (a2 : FVec Ideal S2816x1024 .f32) (a3 : FVec Ideal S4096x1024 .f32) (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) ∧ ∀ i, ∃ r : ℝ, a3 i = (r : EReal) := by
  have h0 := congrFun h ix0
  unfold fn fn_part1 at h0
  dsimp only at h0
  obtain ⟨h1, h2⟩ := and_one _ _ h0
  obtain ⟨h3, h4⟩ := and_one _ _ h1
  obtain ⟨h5, h6⟩ := and_one _ _ h3
  refine ⟨fun i => real_of_lt _ ?_, fun i => real_of_lt _ ?_, fun i => real_of_lt _ ?_, fun i => real_of_lt _ ?_⟩
  · exact Host.reduce_andi_all _ _ _ _ _ h5 i
  · exact Host.reduce_andi_all _ _ _ _ _ h6 i
  · exact Host.reduce_andi_all _ _ _ _ _ h4 i
  · exact Host.reduce_andi_all _ _ _ _ _ h2 i

end Cert.Pre_finite5

end
-- ==== Proof.Ln6.lean ====
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

/-!
# The feed-forward layer's output and its norm

The product with the output weight, added to the residual, and the norm of each row.
-/

@[expose] public section

set_option maxRecDepth 16384
set_option maxHeartbeats 4000000

noncomputable section

namespace Cert.Kernel6Ideal.Norm

open Cert.Kernel6Ideal Cert.Kernel6Ideal.Gen Cert.Kernel6Ideal.Value
open Idealize.ShloMosaic Idealize.ShloMosaic.TcCoe Idealize.SL.Sem
open Idealize.ShloMosaic.Pipeline (Dat)

variable (m : (ℓ : Loc nD τ sig) → Buf (Elt Ideal) ℓ) (c : Dev nD)

theorem eta2 {a b : ℕ} (y : (⟨2, ![a, b]⟩ : Shape).Idx) : y = ix2 (y 0) (y 1) := by
  funext k; fin_cases k <;> rfl

theorem eta0 (off : Fin 2 → ℕ) (h0 : off 0 = 0) (h1 : off 1 = 0) : off = fun _ => 0 := by
  funext k; fin_cases k
  · exact h0
  · exact h1

/-- The mean of a row. -/
def mean (z : Fin 1024 → EReal) : EReal := Ideal.div (∑ j, z j) (Ideal.ofBits .f32 0x44800000#32)

/-- One element of a row's norm. -/
def normed (z : Fin 1024 → EReal) (g b : EReal) (k : Fin 1024) : EReal :=
  (z k - mean z) * Ideal.rsqrt (mean (fun j => (z j - mean z) * (z j - mean z)) + Ideal.ofBits .f32 0x3727C5AC#32) * g + b

/-- One element of the row before its norm. -/
def mixed (x s : EReal) : EReal := Ideal.ofBits .f32 0x3FB504F3#32 * x + Ideal.ofBits .f32 0x3F000000#32 * s

/-- The residual and the output, added. -/
def resid (h : FVec Ideal S4096x2816 .f32) (w : FVec Ideal S2816x1024 .f32) (x : FVec Ideal S4096x1024 .f32) : FVec Ideal S4096x1024 .f32 :=
  fun y => mixed (x y) (∑ e : Fin 2816, (h (ix2 (y 0) e) * w (ix2 e (y 1)) : EReal))

/-- The norm of each row. -/
def norm (z : FVec Ideal S4096x1024 .f32) (g b : FVec Ideal S1024 .f32) : FVec Ideal S4096x1024 .f32 :=
  fun y => normed (fun j => z (ix2 (y 0) j)) (g (ix1 (y 1))) (b (ix1 (y 1))) (y 1)

/-- The same in the narrower format. -/
def norm16 (z : FVec Ideal S4096x1024 .f32) (g b : FVec Ideal S1024 .f32) : FVec Ideal S4096x1024 .bf16 :=
  fun y => normed (fun j => z (ix2 (y 0) j)) (g (ix1 (y 1))) (b (ix1 (y 1))) (y 1)

theorem pay2_at (x2 : Vec Ideal S512x1024 .f32) (x0 : Vec Ideal S512x2816 .bf16) (x1 : Vec Ideal S2816x1024 .bf16) (r : Fin 512) (k : Fin 1024) :
    k0_pay2 (F := Ideal) x2 x0 x1 (ix2 r k) = mixed (x2 (ix2 r k)) (∑ e : Fin 2816, (x0 (ix2 r e) * x1 (ix2 e k) : EReal)) := by
  unfold mixed
  pointwise [k0_pay2]

theorem pay3_at (x2 : Vec Ideal S512x1024 .f32) (x0 : Vec Ideal S512x2816 .bf16) (x1 : Vec Ideal S2816x1024 .bf16) (x3 x4 : Vec Ideal S1x1024 .f32) (r : Fin 512) (k : Fin 1024) :
    k0_pay3 (F := Ideal) x2 x0 x1 x3 x4 (ix2 r k) = normed (fun j => k0_pay2 (F := Ideal) x2 x0 x1 (ix2 r j)) (x3 (ix2 0 k)) (x4 (ix2 0 k)) k := by
  unfold k0_pay3 normed mean
  generalize k0_pay2 (F := Ideal) x2 x0 x1 = z
  pointwise []

/-- The norm's reference. -/
def normR (z : FVec Ideal S4096x1024 .f32) (g b : FVec Ideal S1024 .f32) : FVec Ideal S4096x1024 .f32 :=
  addf (mulf (mulf (subf z (broadcastInDim S4096x1024 ![0, 1] Cert.Reference6Ideal.Gen.facts.bcast_S4096x1_S4096x1024_0_1 (Host.divf (broadcastInDim Cert.Reference6Ideal.S4096x1 ![0] Cert.Reference6Ideal.Gen.facts.bcast_S4096_S4096x1_0 (Host.reduceAdd z (constant Cert.Reference6Ideal.S_ .f32 0x00000000#32) Cert.Reference6Ideal.Gen.facts.reducesTo_S4096x1024_S4096_d1 Cert.Reference6Ideal.Gen.facts.h_S_)) (broadcastInDim Cert.Reference6Ideal.S4096x1 ![] Cert.Reference6Ideal.Gen.facts.bcast_S_S4096x1 (constant Cert.Reference6Ideal.S_ .f32 0x44800000#32))))) (broadcastInDim S4096x1024 ![0, 1] Cert.Reference6Ideal.Gen.facts.bcast_S4096x1_S4096x1024_0_1 (Host.rsqrt (addf (Host.divf (broadcastInDim Cert.Reference6Ideal.S4096x1 ![0] Cert.Reference6Ideal.Gen.facts.bcast_S4096_S4096x1_0 (Host.reduceAdd (mulf (subf z (broadcastInDim S4096x1024 ![0, 1] Cert.Reference6Ideal.Gen.facts.bcast_S4096x1_S4096x1024_0_1 (Host.divf (broadcastInDim Cert.Reference6Ideal.S4096x1 ![0] Cert.Reference6Ideal.Gen.facts.bcast_S4096_S4096x1_0 (Host.reduceAdd z (constant Cert.Reference6Ideal.S_ .f32 0x00000000#32) Cert.Reference6Ideal.Gen.facts.reducesTo_S4096x1024_S4096_d1 Cert.Reference6Ideal.Gen.facts.h_S_)) (broadcastInDim Cert.Reference6Ideal.S4096x1 ![] Cert.Reference6Ideal.Gen.facts.bcast_S_S4096x1 (constant Cert.Reference6Ideal.S_ .f32 0x44800000#32))))) (subf z (broadcastInDim S4096x1024 ![0, 1] Cert.Reference6Ideal.Gen.facts.bcast_S4096x1_S4096x1024_0_1 (Host.divf (broadcastInDim Cert.Reference6Ideal.S4096x1 ![0] Cert.Reference6Ideal.Gen.facts.bcast_S4096_S4096x1_0 (Host.reduceAdd z (constant Cert.Reference6Ideal.S_ .f32 0x00000000#32) Cert.Reference6Ideal.Gen.facts.reducesTo_S4096x1024_S4096_d1 Cert.Reference6Ideal.Gen.facts.h_S_)) (broadcastInDim Cert.Reference6Ideal.S4096x1 ![] Cert.Reference6Ideal.Gen.facts.bcast_S_S4096x1 (constant Cert.Reference6Ideal.S_ .f32 0x44800000#32)))))) (constant Cert.Reference6Ideal.S_ .f32 0x00000000#32) Cert.Reference6Ideal.Gen.facts.reducesTo_S4096x1024_S4096_d1 Cert.Reference6Ideal.Gen.facts.h_S_)) (broadcastInDim Cert.Reference6Ideal.S4096x1 ![] Cert.Reference6Ideal.Gen.facts.bcast_S_S4096x1 (constant Cert.Reference6Ideal.S_ .f32 0x44800000#32))) (broadcastInDim Cert.Reference6Ideal.S4096x1 ![] Cert.Reference6Ideal.Gen.facts.bcast_S_S4096x1 (constant Cert.Reference6Ideal.S_ .f32 0x3727C5AC#32)))))) (broadcastInDim S4096x1024 ![0, 1] Cert.Reference6Ideal.Gen.facts.bcast_S1x1024_S4096x1024_0_1 (broadcastInDim S1x1024 ![1] Cert.Reference6Ideal.Gen.facts.bcast_S1024_S1x1024_1 g))) (broadcastInDim S4096x1024 ![0, 1] Cert.Reference6Ideal.Gen.facts.bcast_S1x1024_S4096x1024_0_1 (broadcastInDim S1x1024 ![1] Cert.Reference6Ideal.Gen.facts.bcast_S1024_S1x1024_1 b))

theorem normR_eq (z : FVec Ideal S4096x1024 .f32) (g b : FVec Ideal S1024 .f32) : normR z g b = norm z g b := by
  have key : ∀ (r : Fin 4096) (k : Fin 1024), normR z g b (ix2 r k) = normed (fun j => z (ix2 r j)) (g (ix1 k)) (b (ix1 k)) k := fun r k => by
    unfold normed mean
    pointwise [normR]
  funext y
  rw [eta2 y]
  exact key (y 0) (y 1)

/-- The sum's reference. -/
def residR (h : FVec Ideal S4096x2816 .f32) (w : FVec Ideal S2816x1024 .f32) (x : FVec Ideal S4096x1024 .f32) : FVec Ideal S4096x1024 .f32 :=
  addf (mulf (broadcastInDim S4096x1024 ![] Cert.Reference6Ideal.Gen.facts.bcast_S_S4096x1024 (constant Cert.Reference6Ideal.S_ .f32 0x3FB504F3#32)) x) (mulf (broadcastInDim S4096x1024 ![] Cert.Reference6Ideal.Gen.facts.bcast_S_S4096x1024 (constant Cert.Reference6Ideal.S_ .f32 0x3F000000#32)) (Host.dotGeneral Cert.Reference6Ideal.dot_S4096x2816_S2816x1024_S4096x1024_1_0_0_1_n_n none h w))

theorem residR_eq (h : FVec Ideal S4096x2816 .f32) (w : FVec Ideal S2816x1024 .f32) (x : FVec Ideal S4096x1024 .f32) : residR h w x = resid h w x := by
  have key : ∀ (r : Fin 4096) (k : Fin 1024), residR h w x (ix2 r k) = mixed (x (ix2 r k)) (∑ e : Fin 2816, (h (ix2 r e) * w (ix2 e k) : EReal)) := fun r k => by
    unfold mixed
    pointwise [residR]
  funext y
  rw [eta2 y]
  exact key (y 0) (y 1)

theorem ref16 (z : FVec Ideal S4096x1024 .f32) (g b : FVec Ideal S1024 .f32) : truncf (F := Ideal) .bf16 (normR z g b) bitsLt_bf16_f32 = norm16 z g b := by
  rw [normR_eq]
  rfl

theorem ref_sum_norm (h : FVec Ideal S4096x2816 .f32) (w : FVec Ideal S2816x1024 .f32) (x : FVec Ideal S4096x1024 .f32) (g b : FVec Ideal S1024 .f32) :
    normR (residR h w x) g b = norm (resid h w x) g b := by
  rw [residR_eq, normR_eq]

theorem ref_sum_norm16 (h : FVec Ideal S4096x2816 .f32) (w : FVec Ideal S2816x1024 .f32) (x : FVec Ideal S4096x1024 .f32) (g b : FVec Ideal S1024 .f32) :
    truncf (F := Ideal) .bf16 (normR (residR h w x) g b) bitsLt_bf16_f32 = norm16 (resid h w x) g b := by
  rw [residR_eq, ref16]

theorem lt8 (t : Fin cfg0.N) : t.val < 8 := lt_of_lt_of_eq t.isLt N_0

theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = t.val ∧ win0_6.index t 1 = 0) ∧ (win0_7.index t 0 = t.val ∧ win0_7.index t 1 = 0) :=
  (by decide +kernel : ∀ t : Fin grid0.N, _)

theorem emb0 (A : FVec Ideal S4096x2816 .bf16) (t : Fin cfg0.N) (r : Fin 512) (k : Fin 2816) :
    A ((win0_0.blk t).view.emb (ix2 r k)) = A (ix2 ⟨t.val * 512 + r.val, by have := lt8 t; omega⟩ k) := by
  obtain ⟨⟨a0, a1⟩, ⟨b0, b1⟩, ⟨c0, c1⟩, ⟨d0, d1⟩, ⟨e0, e1⟩, ⟨f0, f1⟩, ⟨g0, g1⟩, ⟨h0, h1⟩⟩ := idx t
  have := lt8 t
  blk_ext [a0, a1, b0, b1, c0, c1, d0, d1, e0, e1, f0, f1, g0, g1, h0, h1]

theorem emb1 (A : FVec Ideal S2816x1024 .bf16) (t : Fin cfg0.N) (r : Fin 2816) (k : Fin 1024) :
    A ((win0_1.blk t).view.emb (ix2 r k)) = A (ix2 r k) := by
  obtain ⟨⟨a0, a1⟩, ⟨b0, b1⟩, ⟨c0, c1⟩, ⟨d0, d1⟩, ⟨e0, e1⟩, ⟨f0, f1⟩, ⟨g0, g1⟩, ⟨h0, h1⟩⟩ := idx t
  have := lt8 t
  blk_ext [a0, a1, b0, b1, c0, c1, d0, d1, e0, e1, f0, f1, g0, g1, h0, h1]

theorem emb2 (A : FVec Ideal S4096x1024 .f32) (t : Fin cfg0.N) (r : Fin 512) (k : Fin 1024) :
    A ((win0_2.blk t).view.emb (ix2 r k)) = A (ix2 ⟨t.val * 512 + r.val, by have := lt8 t; omega⟩ k) := by
  obtain ⟨⟨a0, a1⟩, ⟨b0, b1⟩, ⟨c0, c1⟩, ⟨d0, d1⟩, ⟨e0, e1⟩, ⟨f0, f1⟩, ⟨g0, g1⟩, ⟨h0, h1⟩⟩ := idx t
  have := lt8 t
  blk_ext [a0, a1, b0, b1, c0, c1, d0, d1, e0, e1, f0, f1, g0, g1, h0, h1]

theorem emb3 (A : FVec Ideal S1x1024 .f32) (t : Fin cfg0.N) (r : Fin 1) (k : Fin 1024) :
    A ((win0_3.blk t).view.emb (ix2 r k)) = A (ix2 r k) := by
  obtain ⟨⟨a0, a1⟩, ⟨b0, b1⟩, ⟨c0, c1⟩, ⟨d0, d1⟩, ⟨e0, e1⟩, ⟨f0, f1⟩, ⟨g0, g1⟩, ⟨h0, h1⟩⟩ := idx t
  have := lt8 t
  blk_ext [a0, a1, b0, b1, c0, c1, d0, d1, e0, e1, f0, f1, g0, g1, h0, h1]

theorem emb4 (A : FVec Ideal S1x1024 .f32) (t : Fin cfg0.N) (r : Fin 1) (k : Fin 1024) :
    A ((win0_4.blk t).view.emb (ix2 r k)) = A (ix2 r k) := by
  obtain ⟨⟨a0, a1⟩, ⟨b0, b1⟩, ⟨c0, c1⟩, ⟨d0, d1⟩, ⟨e0, e1⟩, ⟨f0, f1⟩, ⟨g0, g1⟩, ⟨h0, h1⟩⟩ := idx t
  have := lt8 t
  blk_ext [a0, a1, b0, b1, c0, c1, d0, d1, e0, e1, f0, f1, g0, g1, h0, h1]

theorem emb5 (A : FVec Ideal S4096x1024 .f32) (t : Fin cfg0.N) (r : Fin 512) (k : Fin 1024) :
    A ((win0_5.blk t).view.emb (ix2 r k)) = A (ix2 ⟨t.val * 512 + r.val, by have := lt8 t; omega⟩ k) := by
  obtain ⟨⟨a0, a1⟩, ⟨b0, b1⟩, ⟨c0, c1⟩, ⟨d0, d1⟩, ⟨e0, e1⟩, ⟨f0, f1⟩, ⟨g0, g1⟩, ⟨h0, h1⟩⟩ := idx t
  have := lt8 t
  blk_ext [a0, a1, b0, b1, c0, c1, d0, d1, e0, e1, f0, f1, g0, g1, h0, h1]

theorem emb6 (A : FVec Ideal S4096x1024 .bf16) (t : Fin cfg0.N) (r : Fin 512) (k : Fin 1024) :
    A ((win0_6.blk t).view.emb (ix2 r k)) = A (ix2 ⟨t.val * 512 + r.val, by have := lt8 t; omega⟩ k) := by
  obtain ⟨⟨a0, a1⟩, ⟨b0, b1⟩, ⟨c0, c1⟩, ⟨d0, d1⟩, ⟨e0, e1⟩, ⟨f0, f1⟩, ⟨g0, g1⟩, ⟨h0, h1⟩⟩ := idx t
  have := lt8 t
  blk_ext [a0, a1, b0, b1, c0, c1, d0, d1, e0, e1, f0, f1, g0, g1, h0, h1]

theorem emb7 (A : FVec Ideal S4096x1024 .f32) (t : Fin cfg0.N) (r : Fin 512) (k : Fin 1024) :
    A ((win0_7.blk t).view.emb (ix2 r k)) = A (ix2 ⟨t.val * 512 + r.val, by have := lt8 t; omega⟩ k) := by
  obtain ⟨⟨a0, a1⟩, ⟨b0, b1⟩, ⟨c0, c1⟩, ⟨d0, d1⟩, ⟨e0, e1⟩, ⟨f0, f1⟩, ⟨g0, g1⟩, ⟨h0, h1⟩⟩ := idx t
  have := lt8 t
  blk_ext [a0, a1, b0, b1, c0, c1, d0, d1, e0, e1, f0, f1, g0, g1, h0, h1]

theorem V_hidden : V m c main_v0 = truncf (F := Ideal) .bf16 (m ((c.tc : Thread nD τ).loc main_arg0)) bitsLt_bf16_f32 := by
  show StableHlo.after hostOps0 _ _ = _
  after_results

theorem V_weight : V m c main_v1 = truncf (F := Ideal) .bf16 (m ((c.tc : Thread nD τ).loc main_arg1)) bitsLt_bf16_f32 := by
  show StableHlo.after hostOps0 _ _ = _
  after_results

theorem V_gain : V m c main_v2 = shapeCast S1x1024 (m ((c.tc : Thread nD τ).loc main_arg3)) shapeCasts_S1024_S1x1024 := by
  show StableHlo.after hostOps0 _ _ = _
  after_results
  rfl

theorem V_bias : V m c main_v3 = shapeCast S1x1024 (m ((c.tc : Thread nD τ).loc main_arg4)) shapeCasts_S1024_S1x1024 := by
  show StableHlo.after hostOps0 _ _ = _
  after_results
  rfl

theorem row_at (g : FVec Ideal S1024 .f32) (k : Fin 1024) : shapeCast S1x1024 g shapeCasts_S1024_S1x1024 (ix2 0 k) = g (ix1 k) := by
  pointwise []

theorem hidden_at (t : Fin cfg0.N) (r : Fin 512) (e : Fin 2816) :
    iblk m c 0 t (ix2 r e) = ((m ((c.tc : Thread nD τ).loc main_arg0)) : FVec Ideal S4096x2816 .f32) (ix2 ⟨t.val * 512 + r.val, by have := lt8 t; omega⟩ e) := by
  have := lt8 t
  refine Eq.trans ?_ (congrFun (V_hidden m c) (ix2 ⟨t.val * 512 + r.val, by omega⟩ e))
  unfold iblk
  generalize V m c = W
  show (win0_0.blk t).view.read (Elt Ideal) (W main_v0) _ = _
  exact emb0 (W main_v0) t r e

theorem weight_at (t : Fin cfg0.N) (e : Fin 2816) (k : Fin 1024) :
    iblk m c 1 t (ix2 e k) = ((m ((c.tc : Thread nD τ).loc main_arg1)) : FVec Ideal S2816x1024 .f32) (ix2 e k) := by
  refine Eq.trans ?_ (congrFun (V_weight m c) (ix2 e k))
  unfold iblk
  generalize V m c = W
  show (win0_1.blk t).view.read (Elt Ideal) (W main_v1) _ = _
  exact emb1 (W main_v1) t e k

theorem input_at (t : Fin cfg0.N) (r : Fin 512) (k : Fin 1024) :
    iblk m c 2 t (ix2 r k) = ((m ((c.tc : Thread nD τ).loc main_arg2)) : FVec Ideal S4096x1024 .f32) (ix2 ⟨t.val * 512 + r.val, by have := lt8 t; omega⟩ k) := by
  have := lt8 t
  refine Eq.trans ?_ (congrFun (V_main_arg2 m c) (ix2 ⟨t.val * 512 + r.val, by omega⟩ k))
  unfold iblk
  generalize V m c = W
  show (win0_2.blk t).view.read (Elt Ideal) (W main_arg2) _ = _
  exact emb2 (W main_arg2) t r k

theorem gain_at (t : Fin cfg0.N) (k : Fin 1024) : iblk m c 3 t (ix2 0 k) = ((m ((c.tc : Thread nD τ).loc main_arg3)) : FVec Ideal S1024 .f32) (ix1 k) := by
  refine Eq.trans ?_ ((congrFun (V_gain m c) (ix2 0 k)).trans (row_at _ k))
  unfold iblk
  generalize V m c = W
  show (win0_3.blk t).view.read (Elt Ideal) (W main_v2) _ = _
  exact emb3 (W main_v2) t 0 k

theorem bias_at (t : Fin cfg0.N) (k : Fin 1024) : iblk m c 4 t (ix2 0 k) = ((m ((c.tc : Thread nD τ).loc main_arg4)) : FVec Ideal S1024 .f32) (ix1 k) := by
  refine Eq.trans ?_ ((congrFun (V_bias m c) (ix2 0 k)).trans (row_at _ k))
  unfold iblk
  generalize V m c = W
  show (win0_4.blk t).view.read (Elt Ideal) (W main_v3) _ = _
  exact emb4 (W main_v3) t 0 k

/-- One element of a block's sum. -/
theorem sum_at (t : Fin cfg0.N) (r : Fin 512) (k : Fin 1024) : k0_pay2 (F := Ideal) (iblk m c 2 t) (iblk m c 0 t) (iblk m c 1 t) (ix2 r k)
    = resid (m ((c.tc : Thread nD τ).loc main_arg0)) (m ((c.tc : Thread nD τ).loc main_arg1)) (m ((c.tc : Thread nD τ).loc main_arg2)) (ix2 ⟨t.val * 512 + r.val, by have := lt8 t; omega⟩ k) := by
  refine (pay2_at _ _ _ r k).trans ?_
  refine congrArg₂ mixed (input_at m c t r k) (Finset.sum_congr rfl fun e _ => ?_)
  rw [hidden_at, weight_at]
  rfl

/-- One element of a block's norm. -/
theorem norm_at (t : Fin cfg0.N) (r : Fin 512) (k : Fin 1024) : k0_pay3 (F := Ideal) (iblk m c 2 t) (iblk m c 0 t) (iblk m c 1 t) (iblk m c 3 t) (iblk m c 4 t) (ix2 r k)
    = norm (resid (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (ix2 ⟨t.val * 512 + r.val, by have := lt8 t; omega⟩ k) := by
  refine (pay3_at _ _ _ _ _ r k).trans ?_
  rw [gain_at, bias_at]
  exact congrArg (fun z => normed z _ _ k) (funext fun j => sum_at m c t r j)

theorem open4 (x0 : Vec Ideal S512x2816 .bf16) (x1 : Vec Ideal S2816x1024 .bf16) (x2 : Vec Ideal S512x1024 .f32) (x3 x4 : Vec Ideal S1x1024 .f32) :
    k0_pay4 (F := Ideal) x0 x1 x2 x3 x4 = k0_pay3 (F := Ideal) x2 x0 x1 x3 x4 := by
  have e0 : View.ld x0 r0_1 = x0 := View.ld_unit_zero (eta0 _ rfl rfl) _ _
  have e1 : View.ld x1 r0_2 = x1 := View.ld_unit_zero (eta0 _ rfl rfl) _ _
  have e2 : View.ld x2 r0_0 = x2 := View.ld_unit_zero (eta0 _ rfl rfl) _ _
  have e3 : View.ld x3 r0_3 = x3 := View.ld_unit_zero (eta0 _ rfl rfl) _ _
  have e4 : View.ld x4 r0_3 = x4 := View.ld_unit_zero (eta0 _ rfl rfl) _ _
  unfold k0_pay4
  rw [e0, e1, e2, e3, e4]

theorem out5 (x0 : Vec Ideal S512x2816 .bf16) (x1 : Vec Ideal S2816x1024 .bf16) (x2 : Vec Ideal S512x1024 .f32) (x3 x4 : Vec Ideal S1x1024 .f32) :
    out0_5 (F := Ideal) x0 x1 x2 x3 x4 = k0_pay3 (F := Ideal) x2 x0 x1 x3 x4 := by
  unfold out0_5
  rw [open4]
  exact View.canon_unit_zero (eta0 _ rfl rfl) _ _

theorem out6 (x0 : Vec Ideal S512x2816 .bf16) (x1 : Vec Ideal S2816x1024 .bf16) (x2 : Vec Ideal S512x1024 .f32) (x3 x4 : Vec Ideal S1x1024 .f32) :
    out0_6 (F := Ideal) x0 x1 x2 x3 x4 = k0_pay1 (F := Ideal) (k0_pay3 (F := Ideal) x2 x0 x1 x3 x4) := by
  unfold out0_6
  rw [open4]
  exact View.canon_unit_zero (eta0 _ rfl rfl) _ _

theorem out7 (x0 : Vec Ideal S512x2816 .bf16) (x1 : Vec Ideal S2816x1024 .bf16) (x2 : Vec Ideal S512x1024 .f32) (x3 x4 : Vec Ideal S1x1024 .f32) :
    out0_7 (F := Ideal) x0 x1 x2 x3 x4 = k0_pay2 (F := Ideal) x2 x0 x1 := by
  have e0 : View.ld x0 r0_1 = x0 := View.ld_unit_zero (eta0 _ rfl rfl) _ _
  have e1 : View.ld x1 r0_2 = x1 := View.ld_unit_zero (eta0 _ rfl rfl) _ _
  have e2 : View.ld x2 r0_0 = x2 := View.ld_unit_zero (eta0 _ rfl rfl) _ _
  unfold out0_7
  rw [e0, e1, e2]
  exact View.canon_unit_zero (eta0 _ rfl rfl) _ _

theorem wrote5 (t : Fin cfg0.N) (hf : (cfg0.win 5).flush t = true) :
    (dats m 0 c).flushed 5 t = ((cfg0.win 5).blk t).view.read (Elt Ideal) (norm (resid (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) := by
  have key : ∀ (r : Fin 512) (k : Fin 1024), k0_pay3 (F := Ideal) (iblk m c 2 t) (iblk m c 0 t) (iblk m c 1 t) (iblk m c 3 t) (iblk m c 4 t) (ix2 r k) = (norm (resid (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) ((win0_5.blk t).view.emb (ix2 r k)) := fun r k => by
    rw [emb5 (norm (resid (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) t r k]
    exact norm_at m c t r k
  rw [flushed5, out5]
  funext y
  rw [eta2 y]
  exact key (y 0) (y 1)

theorem covered5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  have ht : (i 0).val / 512 < cfg0.N := lt_of_lt_of_eq (show (i 0).val / 512 < 8 by omega) N_0.symm
  refine ⟨⟨_, ht⟩, flush0_5 _, ?_⟩
  show i ∈ ((View.whole main_v4_0).slice (win0_5.rect ⟨_, ht⟩)).set
  rw [View.set_slice_whole, Rect.mem_set_unit]
  obtain ⟨-, -, -, -, -, ⟨f0, f1⟩, ⟨g0, g1⟩, ⟨h0', h1'⟩⟩ := idx ⟨_, ht⟩
  have d0' : win0_5.index ⟨_, ht⟩ (0 : Fin 2) = (i 0).val / 512 := f0
  have d1' : win0_5.index ⟨_, ht⟩ (1 : Fin 2) = 0 := f1
  intro a
  fin_cases a
  · show win0_5.index ⟨_, ht⟩ (0 : Fin 2) * 512 ≤ (i 0).val ∧ (i 0).val < win0_5.index ⟨_, ht⟩ (0 : Fin 2) * 512 + 512
    rw [d0']; omega
  · show win0_5.index ⟨_, ht⟩ (1 : Fin 2) * 1024 ≤ (i 1).val ∧ (i 1).val < win0_5.index ⟨_, ht⟩ (1 : Fin 2) * 1024 + 1024
    rw [d1']; omega

/-- The call leaves the normed rows. -/
theorem final5 : (dats m 0 c).arrAt 5 cfg0.N = norm (resid (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) :=
  (dats m 0 c).arrAt_eq_of_cover 5 _ (wrote5 m c) covered5

theorem wrote6 (t : Fin cfg0.N) (hf : (cfg0.win 6).flush t = true) :
    (dats m 0 c).flushed 6 t = ((cfg0.win 6).blk t).view.read (Elt Ideal) (norm16 (resid (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) := by
  have key : ∀ (r : Fin 512) (k : Fin 1024), k0_pay1 (F := Ideal) (k0_pay3 (F := Ideal) (iblk m c 2 t) (iblk m c 0 t) (iblk m c 1 t) (iblk m c 3 t) (iblk m c 4 t)) (ix2 r k) = (norm16 (resid (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) ((win0_6.blk t).view.emb (ix2 r k)) := fun r k => by
    rw [emb6 (norm16 (resid (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) t r k]
    exact norm_at m c t r k
  rw [flushed6, out6]
  funext y
  rw [eta2 y]
  exact key (y 0) (y 1)

theorem covered6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  have ht : (i 0).val / 512 < cfg0.N := lt_of_lt_of_eq (show (i 0).val / 512 < 8 by omega) N_0.symm
  refine ⟨⟨_, ht⟩, flush0_6 _, ?_⟩
  show i ∈ ((View.whole main_v4_1).slice (win0_6.rect ⟨_, ht⟩)).set
  rw [View.set_slice_whole, Rect.mem_set_unit]
  obtain ⟨-, -, -, -, -, ⟨f0, f1⟩, ⟨g0, g1⟩, ⟨h0', h1'⟩⟩ := idx ⟨_, ht⟩
  have d0' : win0_6.index ⟨_, ht⟩ (0 : Fin 2) = (i 0).val / 512 := g0
  have d1' : win0_6.index ⟨_, ht⟩ (1 : Fin 2) = 0 := g1
  intro a
  fin_cases a
  · show win0_6.index ⟨_, ht⟩ (0 : Fin 2) * 512 ≤ (i 0).val ∧ (i 0).val < win0_6.index ⟨_, ht⟩ (0 : Fin 2) * 512 + 512
    rw [d0']; omega
  · show win0_6.index ⟨_, ht⟩ (1 : Fin 2) * 1024 ≤ (i 1).val ∧ (i 1).val < win0_6.index ⟨_, ht⟩ (1 : Fin 2) * 1024 + 1024
    rw [d1']; omega

/-- The call leaves the normed rows in the narrower format. -/
theorem final6 : (dats m 0 c).arrAt 6 cfg0.N = norm16 (resid (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) :=
  (dats m 0 c).arrAt_eq_of_cover 6 _ (wrote6 m c) covered6

theorem wrote7 (t : Fin cfg0.N) (hf : (cfg0.win 7).flush t = true) :
    (dats m 0 c).flushed 7 t = ((cfg0.win 7).blk t).view.read (Elt Ideal) (resid (m ((c.tc : Thread nD τ).loc main_arg0)) (m ((c.tc : Thread nD τ).loc main_arg1)) (m ((c.tc : Thread nD τ).loc main_arg2))) := by
  have key : ∀ (r : Fin 512) (k : Fin 1024), k0_pay2 (F := Ideal) (iblk m c 2 t) (iblk m c 0 t) (iblk m c 1 t) (ix2 r k) = (resid (m ((c.tc : Thread nD τ).loc main_arg0)) (m ((c.tc : Thread nD τ).loc main_arg1)) (m ((c.tc : Thread nD τ).loc main_arg2))) ((win0_7.blk t).view.emb (ix2 r k)) := fun r k => by
    rw [emb7 (resid (m ((c.tc : Thread nD τ).loc main_arg0)) (m ((c.tc : Thread nD τ).loc main_arg1)) (m ((c.tc : Thread nD τ).loc main_arg2))) t r k]
    exact sum_at m c t r k
  rw [flushed7, out7]
  funext y
  rw [eta2 y]
  exact key (y 0) (y 1)

theorem covered7 (i : S4096x1024.Idx) : ∃ t : Fin cfg0.N, (cfg0.win 7).flush t = true ∧ i ∈ ((cfg0.win 7).blk t).view.set := by
  have h0 : (i 0).val < 4096 := (i 0).isLt
  have h1 : (i 1).val < 1024 := (i 1).isLt
  have ht : (i 0).val / 512 < cfg0.N := lt_of_lt_of_eq (show (i 0).val / 512 < 8 by omega) N_0.symm
  refine ⟨⟨_, ht⟩, flush0_7 _, ?_⟩
  show i ∈ ((View.whole main_v4_2).slice (win0_7.rect ⟨_, ht⟩)).set
  rw [View.set_slice_whole, Rect.mem_set_unit]
  obtain ⟨-, -, -, -, -, ⟨f0, f1⟩, ⟨g0, g1⟩, ⟨h0', h1'⟩⟩ := idx ⟨_, ht⟩
  have d0' : win0_7.index ⟨_, ht⟩ (0 : Fin 2) = (i 0).val / 512 := h0'
  have d1' : win0_7.index ⟨_, ht⟩ (1 : Fin 2) = 0 := h1'
  intro a
  fin_cases a
  · show win0_7.index ⟨_, ht⟩ (0 : Fin 2) * 512 ≤ (i 0).val ∧ (i 0).val < win0_7.index ⟨_, ht⟩ (0 : Fin 2) * 512 + 512
    rw [d0']; omega
  · show win0_7.index ⟨_, ht⟩ (1 : Fin 2) * 1024 ≤ (i 1).val ∧ (i 1).val < win0_7.index ⟨_, ht⟩ (1 : Fin 2) * 1024 + 1024
    rw [d1']; omega

/-- The call leaves the sum before the norm. -/
theorem final7 : (dats m 0 c).arrAt 7 cfg0.N = resid (m ((c.tc : Thread nD τ).loc main_arg0)) (m ((c.tc : Thread nD τ).loc main_arg1)) (m ((c.tc : Thread nD τ).loc main_arg2)) :=
  (dats m 0 c).arrAt_eq_of_cover 7 _ (wrote7 m c) covered7

end Cert.Kernel6Ideal.Norm

end
-- ==== Proof.Dx7.lean ====
module

public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

/-!
# The gradient of the feed-forward layer's input

The product with the transposed input weight, added to the scaled incoming gradient.
-/

@[expose] public section

set_option maxRecDepth 16384
set_option maxHeartbeats 4000000

noncomputable section

namespace Cert.Kernel7Ideal.Dx

open Cert.Kernel7Ideal Cert.Kernel7Ideal.Gen Cert.Kernel7Ideal.Value
open Idealize.ShloMosaic Idealize.ShloMosaic.TcCoe Idealize.SL.Sem
open Idealize.ShloMosaic.Pipeline (Dat)

variable (m : (ℓ : Loc nD τ sig) → Buf (Elt Ideal) ℓ) (c : Dev nD)

theorem eta2 {a b : ℕ} (y : (⟨2, ![a, b]⟩ : Shape).Idx) : y = ix2 (y 0) (y 1) := by
  funext k; fin_cases k <;> rfl

theorem eta0 (off : Fin 2 → ℕ) (h0 : off 0 = 0) (h1 : off 1 = 0) : off = fun _ => 0 := by
  funext k; fin_cases k
  · exact h0
  · exact h1

/-- One element of the input's gradient. -/
def joined (s z : EReal) : EReal := s + Ideal.ofBits .f32 0x3FB504F3#32 * z

/-- The input's gradient. -/
def grad (d : FVec Ideal S4096x5632 .f32) (w : FVec Ideal S1024x5632 .f32) (z : FVec Ideal S4096x1024 .f32) : FVec Ideal S4096x1024 .f32 :=
  fun y => joined (∑ e : Fin 5632, (d (ix2 (y 0) e) * w (ix2 (y 1) e) : EReal)) (z y)

theorem pay2_at (x0 : Vec Ideal S512x5632 .bf16) (x1 : Vec Ideal S1024x5632 .bf16) (x2 : Vec Ideal S512x1024 .f32) (r : Fin 512) (k : Fin 1024) :
    k0_pay2 (F := Ideal) x0 x1 x2 (ix2 r k) = joined (∑ e : Fin 5632, (x0 (ix2 r e) * x1 (ix2 k e) : EReal)) (x2 (ix2 r k)) := by
  unfold joined
  pointwise [k0_pay2, k0_pay1]

/-- The reference's array. -/
def gradR (d : FVec Ideal S4096x5632 .f32) (w : FVec Ideal S1024x5632 .f32) (z : FVec Ideal S4096x1024 .f32) : FVec Ideal S4096x1024 .f32 :=
  addf (Host.dotGeneral Cert.Reference7Ideal.dot_S4096x5632_S1024x5632_S4096x1024_1_1_0_0_n_n none d w) (mulf (broadcastInDim S4096x1024 ![] Cert.Reference7Ideal.Gen.facts.bcast_S_S4096x1024 (constant Cert.Reference7Ideal.S_ .f32 0x3FB504F3#32)) z)

theorem gradR_eq (d : FVec Ideal S4096x5632 .f32) (w : FVec Ideal S1024x5632 .f32) (z : FVec Ideal S4096x1024 .f32) : gradR d w z = grad d w z := by
  have key : ∀ (r : Fin 4096) (k : Fin 1024), gradR d w z (ix2 r k) = joined (∑ e : Fin 5632, (d (ix2 r e) * w (ix2 k e) : EReal)) (z (ix2 r k)) := fun r k => by
    unfold joined
    pointwise [gradR]
  funext y
  rw [eta2 y]
  exact key (y 0) (y 1)

theorem lt8 (t : Fin cfg0.N) : t.val < 8 := lt_of_lt_of_eq t.isLt N_0

theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0) :=
  (by decide +kernel : ∀ t : Fin grid0.N, _)

theorem emb0 (A : FVec Ideal S4096x5632 .bf16) (t : Fin cfg0.N) (r : Fin 512) (k : Fin 5632) :
    A ((win0_0.blk t).view.emb (ix2 r k)) = A (ix2 ⟨t.val * 512 + r.val, by have := lt8 t; omega⟩ k) := by
  obtain ⟨⟨a0, a1⟩, ⟨b0, b1⟩, ⟨c0, c1⟩, ⟨d0, d1⟩⟩ := idx t
  have := lt8 t
  blk_ext [a0, a1, b0, b1, c0, c1, d0, d1]

theorem emb1 (A : FVec Ideal S1024x5632 .bf16) (t : Fin cfg0.N) (r : Fin 1024) (k : Fin 5632) :
    A ((win0_1.blk t).view.emb (ix2 r k)) = A (ix2 r k) := by
  obtain ⟨⟨a0, a1⟩, ⟨b0, b1⟩, ⟨c0, c1⟩, ⟨d0, d1⟩⟩ := idx t
  have := lt8 t
  blk_ext [a0, a1, b0, b1, c0, c1, d0, d1]

theorem emb2 (A : FVec Ideal S4096x1024 .f32) (t : Fin cfg0.N) (r : Fin 512) (k : Fin 1024) :
    A ((win0_2.blk t).view.emb (ix2 r k)) = A (ix2 ⟨t.val * 512 + r.val, by have := lt8 t; omega⟩ k) := by
  obtain ⟨⟨a0, a1⟩, ⟨b0, b1⟩, ⟨c0, c1⟩, ⟨d0, d1⟩⟩ := idx t
  have := lt8 t
  blk_ext [a0, a1, b0, b1, c0, c1, d0, d1]

theorem emb3 (A : FVec Ideal S4096x1024 .f32) (t : Fin cfg0.N) (r : Fin 512) (k : Fin 1024) :
    A ((win0_3.blk t).view.emb (ix2 r k)) = A (ix2 ⟨t.val * 512 + r.val, by have := lt8 t; omega⟩ k) := by
  obtain ⟨⟨a0, a1⟩, ⟨b0, b1⟩, ⟨c0, c1⟩, ⟨d0, d1⟩⟩ := idx t
  have := lt8 t
  blk_ext [a0, a1, b0, b1, c0, c1, d0, d1]

theorem V_up : V m c main_v0 = truncf (F := Ideal) .bf16 (m ((c.tc : Thread nD τ).loc main_arg0)) bitsLt_bf16_f32 := by
  show StableHlo.after hostOps0 _ _ = _
  after_results

theorem V_weight : V m c main_v1 = truncf (F := Ideal) .bf16 (m ((c.tc : Thread nD τ).loc main_arg1)) bitsLt_bf16_f32 := by
  show StableHlo.after hostOps0 _ _ = _
  after_results

theorem up_at (t : Fin cfg0.N) (r : Fin 512) (e : Fin 5632) :
    iblk m c 0 t (ix2 r e) = ((m ((c.tc : Thread nD τ).loc main_arg0)) : FVec Ideal S4096x5632 .f32) (ix2 ⟨t.val * 512 + r.val, by have := lt8 t; omega⟩ e) := by
  have := lt8 t
  refine Eq.trans ?_ (congrFun (V_up m c) (ix2 ⟨t.val * 512 + r.val, by omega⟩ e))
  unfold iblk
  generalize V m c = W
  show (win0_0.blk t).view.read (Elt Ideal) (W main_v0) _ = _
  exact emb0 (W main_v0) t r e

theorem weight_at (t : Fin cfg0.N) (k : Fin 1024) (e : Fin 5632) :
    iblk m c 1 t (ix2 k e) = ((m ((c.tc : Thread nD τ).loc main_arg1)) : FVec Ideal S1024x5632 .f32) (ix2 k e) := by
  refine Eq.trans ?_ (congrFun (V_weight m c) (ix2 k e))
  unfold iblk
  generalize V m c = W
  show (win0_1.blk t).view.read (Elt Ideal) (W main_v1) _ = _
  exact emb1 (W main_v1) t k e

theorem add_at (t : Fin cfg0.N) (r : Fin 512) (k : Fin 1024) :
    iblk m c 2 t (ix2 r k) = ((m ((c.tc : Thread nD τ).loc main_arg2)) : FVec Ideal S4096x1024 .f32) (ix2 ⟨t.val * 512 + r.val, by have := lt8 t; omega⟩ k) := by
  have := lt8 t
  refine Eq.trans ?_ (congrFun (V_main_arg2 m c) (ix2 ⟨t.val * 512 + r.val, by omega⟩ k))
  unfold iblk
  generalize V m c = W
  show (win0_2.blk t).view.read (Elt Ideal) (W main_arg2) _ = _
  exact emb2 (W main_arg2) t r k

theorem wrote3 (t : Fin cfg0.N) (hf : (cfg0.win 3).flush t = true) :
    (dats m 0 c).flushed 3 t = ((cfg0.win 3).blk t).view.read (Elt Ideal) (grad (m ((c.tc : Thread nD τ).loc main_arg0)) (m ((c.tc : Thread nD τ).loc main_arg1)) (m ((c.tc : Thread nD τ).loc main_arg2))) := by
  have key : ∀ (r : Fin 512) (k : Fin 1024), k0_pay2 (F := Ideal) (iblk m c 0 t) (iblk m c 1 t) (iblk m c 2 t) (ix2 r k) = (grad (m ((c.tc : Thread nD τ).loc main_arg0)) (m ((c.tc : Thread nD τ).loc main_arg1)) (m ((c.tc : Thread nD τ).loc main_arg2))) ((win0_3.blk t).view.emb (ix2 r k)) := fun r k => by
    rw [emb3 (grad (m ((c.tc : Thread nD τ).loc main_arg0)) (m ((c.tc : Thread nD τ).loc main_arg1)) (m ((c.tc : Thread nD τ).loc main_arg2))) t r k]
    refine (pay2_at _ _ _ r k).trans ?_
    refine congrArg₂ joined (Finset.sum_congr rfl fun e _ => ?_) (add_at m c t r k)
    rw [up_at, weight_at]
    rfl
  rw [flushed3_A]
  frame_out
  funext y
  rw [eta2 y]
  exact key (y 0) (y 1)

theorem covered3 (i : S4096x1024.Idx) : ∃ t : Fin cfg0.N, (cfg0.win 3).flush t = true ∧ i ∈ ((cfg0.win 3).blk t).view.set := by
  have h0 : (i 0).val < 4096 := (i 0).isLt
  have h1 : (i 1).val < 1024 := (i 1).isLt
  have ht : (i 0).val / 512 < cfg0.N := lt_of_lt_of_eq (show (i 0).val / 512 < 8 by omega) N_0.symm
  refine ⟨⟨_, ht⟩, flush0_3 _, ?_⟩
  show i ∈ ((View.whole main_v2).slice (win0_3.rect ⟨_, ht⟩)).set
  rw [View.set_slice_whole, Rect.mem_set_unit]
  obtain ⟨-, -, -, ⟨d0, d1⟩⟩ := idx ⟨_, ht⟩
  have d0' : win0_3.index ⟨_, ht⟩ (0 : Fin 2) = (i 0).val / 512 := d0
  have d1' : win0_3.index ⟨_, ht⟩ (1 : Fin 2) = 0 := d1
  intro a
  fin_cases a
  · show win0_3.index ⟨_, ht⟩ (0 : Fin 2) * 512 ≤ (i 0).val ∧ (i 0).val < win0_3.index ⟨_, ht⟩ (0 : Fin 2) * 512 + 512
    rw [d0']; omega
  · show win0_3.index ⟨_, ht⟩ (1 : Fin 2) * 1024 ≤ (i 1).val ∧ (i 1).val < win0_3.index ⟨_, ht⟩ (1 : Fin 2) * 1024 + 1024
    rw [d1']; omega

/-- The call leaves the input's gradient. -/
theorem final3 : (dats m 0 c).arrAt 3 cfg0.N = grad (m ((c.tc : Thread nD τ).loc main_arg0)) (m ((c.tc : Thread nD τ).loc main_arg1)) (m ((c.tc : Thread nD τ).loc main_arg2)) :=
  (dats m 0 c).arrAt_eq_of_cover 3 _ (wrote3 m c) covered3

end Cert.Kernel7Ideal.Dx

end
-- ==== Proof.lean ====
/- The claims: the programs run and leave their arguments as they were, each idealized kernel is its kernel (the first with
   its mask constant named), and each idealized kernel and its reference leave the same results (three of them on finite arguments). -/
module

public import proofs.«01_k».proof.Defs
public import proofs.«01_k».proof.Proof.Gen.Kernel2.Value
public import proofs.«01_k».proof.Proof.Gen.Kernel2Ideal.Value
public import proofs.«01_k».proof.Proof.Gen.Reference2Ideal.Run
public import proofs.«01_k».proof.Proof.Gen.Kernel3.Value
public import proofs.«01_k».proof.Proof.Gen.Kernel3Ideal.Value
public import proofs.«01_k».proof.Proof.Gen.Reference3Ideal.Run
public import proofs.«01_k».proof.Proof.Gen.Kernel4.Value
public import proofs.«01_k».proof.Proof.Gen.Kernel4Ideal.Value
public import proofs.«01_k».proof.Proof.Gen.Reference4Ideal.Run
public import proofs.«01_k».proof.Proof.Gen.Kernel5.Value
public import proofs.«01_k».proof.Proof.Gen.Kernel5Ideal.Value
public import proofs.«01_k».proof.Proof.Gen.Reference5Ideal.Run
public import proofs.«01_k».proof.Proof.Gen.Kernel6.Value
public import proofs.«01_k».proof.Proof.Gen.Kernel6Ideal.Value
public import proofs.«01_k».proof.Proof.Gen.Reference6Ideal.Run
public import proofs.«01_k».proof.Proof.Gen.Kernel7.Value
public import proofs.«01_k».proof.Proof.Gen.Kernel7Ideal.Value
public import proofs.«01_k».proof.Proof.Gen.Reference7Ideal.Run
public import proofs.«01_k».proof.Proof.Final
public import proofs.«01_k».proof.Proof.Ref
public import proofs.«01_k».proof.Proof.Pre
public import proofs.«01_k».proof.Proof.Bits.Body
public import proofs.«01_k».proof.Proof.Mm3
public import proofs.«01_k».proof.Proof.Mm4
public import proofs.«01_k».proof.Proof.Ffn2
public import proofs.«01_k».proof.Proof.Ffn5
public import proofs.«01_k».proof.Proof.Pre2
public import proofs.«01_k».proof.Proof.Pre5
public import proofs.«01_k».proof.Proof.Ln6
public import proofs.«01_k».proof.Proof.Dx7

@[expose] public section

set_option maxRecDepth 16384
set_option maxHeartbeats 1600000

noncomputable section

namespace Cert.Proof

open Idealize.ShloMosaic Idealize.SL.Sem Cert.Kernel

theorem frame_kernel : Cert.quiescent_Kernel := fun m ρ _ => Cert.Kernel.Loop.run_args (F := Bits) m ρ

theorem frame_ideal : Cert.quiescent_KernelIdeal := fun m ρ _ => Cert.KernelIdeal.Loop.run_args (F := Ideal) m ρ

theorem frame_ideal_finite : Cert.quiescent_KernelIdeal_pre_finite := fun m ρ _ => Cert.KernelIdeal.Loop.run_args (F := Ideal) m ρ

theorem run_reference (m ρ) : θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => ⟨(h c).2.2.1, (h c).2.2.2.1, (h c).2.2.2.2⟩, sem_eq_zero_of_no_sems (by decide) r.2⟩)
    (Cert.ReferenceIdeal.Value.run (F := Ideal) m ρ)

theorem frame_reference : Cert.quiescent_ReferenceIdeal := fun m ρ _ => run_reference m ρ

theorem frame_reference_finite : Cert.quiescent_ReferenceIdeal_pre_finite := fun m ρ _ => run_reference m ρ

theorem preserves : Cert.preserves_Kernel_KernelIdeal :=
  IdealRules.named_const.statement Cert.KernelIdeal.κ "mask" .f32 0xF149F2CA#32 ⊥ rfl

/-! ## The values -/

section Values

open Cert.KernelIdeal.End Cert.KernelIdeal.HostV Cert.ReferenceIdeal.Stages

variable (X : Fin 3 → Fin 4096 → Fin 16 → Fin 64 → ℝ) (D : Fin 4096 → Fin 16 → Fin 64 → ℝ) (sk : Fin 16 → ℝ)

theorem lane_back (l : Fin 1024) : (⟨(l.val / 64) * 64 + l.val % 64, by omega⟩ : Fin 1024) = l := Fin.ext (by
  show (l.val / 64) * 64 + l.val % 64 = l.val
  omega)

theorem real_X (a : FVec Ideal Cert.KernelIdeal.S3x4096x1024 .f32) (h : ∀ i, ∃ r : ℝ, a i = (r : EReal)) : ∃ X, a = arrX X := by
  have key : ∀ (p : Fin 3) (i : Fin 4096) (l : Fin 1024), a (ix3 p i l) = (((a (ix3 p i ⟨(l.val / 64) * 64 + l.val % 64, by omega⟩)).toReal : ℝ) : EReal) := fun p i l => by
    obtain ⟨r, hr⟩ := h (ix3 p i l)
    rw [lane_back l, hr, EReal.toReal_coe]
  refine ⟨fun p i hh d => (a (ix3 p i ⟨hh.val * 64 + d.val, by omega⟩)).toReal, funext fun y => ?_⟩
  rw [Cert.KernelIdeal.End.ix3_eta y]
  exact key (y 0) (y 1) (y 2)

theorem real_D (a : FVec Ideal Cert.KernelIdeal.S4096x1024 .f32) (h : ∀ i, ∃ r : ℝ, a i = (r : EReal)) : ∃ D, a = arrD D := by
  have key : ∀ (i : Fin 4096) (l : Fin 1024), a (ix2 i l) = (((a (ix2 i ⟨(l.val / 64) * 64 + l.val % 64, by omega⟩)).toReal : ℝ) : EReal) := fun i l => by
    obtain ⟨r, hr⟩ := h (ix2 i l)
    rw [lane_back l, hr, EReal.toReal_coe]
  refine ⟨fun i hh d => (a (ix2 i ⟨hh.val * 64 + d.val, by omega⟩)).toReal, funext fun y => ?_⟩
  rw [Cert.KernelIdeal.End.ix2_eta y]
  exact key (y 0) (y 1)

theorem real_S (a : FVec Ideal Cert.KernelIdeal.S16 .f32) (h : ∀ i, ∃ r : ℝ, a i = (r : EReal)) : ∃ sk, a = arrS sk := by
  refine ⟨fun hh => (a (ix1 hh)).toReal, funext fun y => ?_⟩
  obtain ⟨r, hr⟩ := h y
  have e : a (ix1 (y 0)) = (r : EReal) := by
    rw [← hr]
    exact congrArg a (eta1 y).symm
  rw [hr]
  exact (congrArg (fun v : EReal => ((v.toReal : ℝ) : EReal)) e).symm

/-- Both programs hold the same slopes. -/
theorem slopes : r_slope (F := Ideal) = a1 slope := by
  funext y
  rw [eta1 y]
  have key : ∀ h : Fin 16, Ideal.ofBits .f32 (Cert.ReferenceIdeal.lit0 (Cert.KernelIdeal.S16.rowMajor (ix1 h))) = (slope h : EReal) := fun h => by
    rw [rm16]
    exact slope_coe h
  exact key (y 0)

theorem planes_ref : planesOf (F := Ideal) (aX X) (a1 sk) (aD D) = res0 X D sk := by
  funext y
  rw [Cert.ReferenceIdeal.Stages.eta3 y]
  exact planesOf_at X D sk slope slopes (y 0) (y 1) (y 2)

theorem sinks_ref : sinksOf (F := Ideal) (aX X) (a1 sk) (aD D) = res1 X D sk := by
  funext y
  rw [Cert.ReferenceIdeal.Stages.eta3 y]
  exact sinksOf_at X D sk slope slopes (y 0) (y 1) (y 2)

end Values

theorem algebraic : Cert.algebraic_KernelIdeal_ReferenceIdeal_pre_finite := by
  intro m g m' g' hpre hag
  have hr := fun c => Cert.Pre_finite.reals _ _ _ (hpre c)
  choose X hX using fun c => real_X _ (hr c).1
  choose sk hS using fun c => real_S _ (hr c).2.1
  choose D hD using fun c => real_D _ (hr c).2.2
  refine ⟨fun c => Cert.KernelIdeal.End.res0 (X c) (D c) (sk c), fun c => Cert.KernelIdeal.End.res1 (X c) (D c) (sk c), ?_, ?_⟩
  · refine (θ_run Cert.KernelIdeal.defs _ _).mono (fun r h c => ?_) (Cert.KernelIdeal.Loop.run_main (F := Ideal) m g)
    exact ⟨((h.1 c).1 6).trans (Cert.KernelIdeal.End.final6 m c (X c) (D c) (sk c) (hX c) (hS c) (hD c)),
      ((h.1 c).1 7).trans (Cert.KernelIdeal.End.final7 m c (X c) (D c) (sk c) (hX c) (hS c) (hD c)),
      ((h.1 c).1 2).trans (((Cert.KernelIdeal.Loop.dats m 0 c).arrAt_in 2 rfl _).trans (Cert.KernelIdeal.Gen.V_main_arg0 m c)),
      ((h.1 c).1 1).trans (((Cert.KernelIdeal.Loop.dats m 0 c).arrAt_in 1 rfl _).trans (Cert.KernelIdeal.Gen.V_main_arg1 m c)),
      ((h.1 c).1 3).trans (((Cert.KernelIdeal.Loop.dats m 0 c).arrAt_in 3 rfl _).trans (Cert.KernelIdeal.Gen.V_main_arg2 m c))⟩
  · refine (θ_run Cert.ReferenceIdeal.defs _ _).mono (fun r h c => ?_) (Cert.ReferenceIdeal.Value.run (F := Ideal) m' g')
    have e0 := (hag c).1.trans (hX c)
    have e1 := (hag c).2.1.trans (hS c)
    have e2 := (hag c).2.2.trans (hD c)
    refine ⟨(h c).1.trans ?_, (h c).2.1.trans ?_, (h c).2.2⟩
    · rw [Cert.ReferenceIdeal.Stages.res84, e0, e1, e2]
      exact planes_ref (X c) (D c) (sk c)
    · rw [Cert.ReferenceIdeal.Stages.res85, e0, e1, e2]
      exact sinks_ref (X c) (D c) (sk c)

/-! ## The feed-forward calls -/

theorem frame_kernel2 : Cert.quiescent_Kernel2 := fun m ρ _ => Cert.Kernel2.Gen.frame (F := Bits) m ρ

theorem frame_ideal2 : Cert.quiescent_Kernel2Ideal := fun m ρ _ => Cert.Kernel2Ideal.Gen.frame (F := Ideal) m ρ

theorem frame_ideal2_finite : Cert.quiescent_Kernel2Ideal_pre_finite2 := fun m ρ _ => Cert.Kernel2Ideal.Gen.frame (F := Ideal) m ρ

theorem run_reference2 (m ρ) : θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0) :=
  (θ_run Cert.Reference2Ideal.defs _ _).mono (fun r h => ⟨fun c => (h c).2.2, sem_eq_zero_of_no_sems (by decide) r.2⟩)
    (Cert.Reference2Ideal.Value.run (F := Ideal) m ρ)

theorem frame_reference2 : Cert.quiescent_Reference2Ideal := fun m ρ _ => run_reference2 m ρ

theorem frame_reference2_finite : Cert.quiescent_Reference2Ideal_pre_finite2 := fun m ρ _ => run_reference2 m ρ

theorem preserves2 : Cert.preserves_Kernel2_Kernel2Ideal := trivial

theorem frame_kernel3 : Cert.quiescent_Kernel3 := fun m ρ _ => Cert.Kernel3.Gen.frame (F := Bits) m ρ

theorem frame_ideal3 : Cert.quiescent_Kernel3Ideal := fun m ρ _ => Cert.Kernel3Ideal.Gen.frame (F := Ideal) m ρ

theorem run_reference3 (m ρ) : θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run Cert.Reference3Ideal.defs _ _).mono (fun r h => ⟨fun c => (h c).2, sem_eq_zero_of_no_sems (by decide) r.2⟩)
    (Cert.Reference3Ideal.Value.run (F := Ideal) m ρ)

theorem frame_reference3 : Cert.quiescent_Reference3Ideal := fun m ρ _ => run_reference3 m ρ

theorem preserves3 : Cert.preserves_Kernel3_Kernel3Ideal := trivial

theorem frame_kernel4 : Cert.quiescent_Kernel4 := fun m ρ _ => Cert.Kernel4.Gen.frame (F := Bits) m ρ

theorem frame_ideal4 : Cert.quiescent_Kernel4Ideal := fun m ρ _ => Cert.Kernel4Ideal.Gen.frame (F := Ideal) m ρ

theorem run_reference4 (m ρ) : θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run Cert.Reference4Ideal.defs _ _).mono (fun r h => ⟨fun c => (h c).2, sem_eq_zero_of_no_sems (by decide) r.2⟩)
    (Cert.Reference4Ideal.Value.run (F := Ideal) m ρ)

theorem frame_reference4 : Cert.quiescent_Reference4Ideal := fun m ρ _ => run_reference4 m ρ

theorem preserves4 : Cert.preserves_Kernel4_Kernel4Ideal := trivial

theorem frame_kernel5 : Cert.quiescent_Kernel5 := fun m ρ _ => Cert.Kernel5.Gen.frame (F := Bits) m ρ

theorem frame_ideal5 : Cert.quiescent_Kernel5Ideal := fun m ρ _ => Cert.Kernel5Ideal.Gen.frame (F := Ideal) m ρ

theorem frame_ideal5_finite : Cert.quiescent_Kernel5Ideal_pre_finite5 := fun m ρ _ => Cert.Kernel5Ideal.Gen.frame (F := Ideal) m ρ

theorem run_reference5 (m ρ) : θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0) :=
  (θ_run Cert.Reference5Ideal.defs _ _).mono (fun r h => ⟨fun c => (h c).2, sem_eq_zero_of_no_sems (by decide) r.2⟩)
    (Cert.Reference5Ideal.Value.run (F := Ideal) m ρ)

theorem frame_reference5 : Cert.quiescent_Reference5Ideal := fun m ρ _ => run_reference5 m ρ

theorem frame_reference5_finite : Cert.quiescent_Reference5Ideal_pre_finite5 := fun m ρ _ => run_reference5 m ρ

theorem preserves5 : Cert.preserves_Kernel5_Kernel5Ideal := trivial

theorem frame_kernel6 : Cert.quiescent_Kernel6 := fun m ρ _ => Cert.Kernel6.Gen.frame (F := Bits) m ρ

theorem frame_ideal6 : Cert.quiescent_Kernel6Ideal := fun m ρ _ => Cert.Kernel6Ideal.Gen.frame (F := Ideal) m ρ

theorem run_reference6 (m ρ) : θ_run (Cert.Reference6Ideal.defs (F := Ideal)) (onTc (τ := Cert.Reference6Ideal.τ) (Cert.Reference6Ideal.main (F := Ideal))) ⟨m, fun _ => 0, ρ⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0) :=
  (θ_run Cert.Reference6Ideal.defs _ _).mono (fun r h => ⟨fun c => (h c).2.2.2, sem_eq_zero_of_no_sems (by decide) r.2⟩)
    (Cert.Reference6Ideal.Value.run (F := Ideal) m ρ)

theorem frame_reference6 : Cert.quiescent_Reference6Ideal := fun m ρ _ => run_reference6 m ρ

theorem preserves6 : Cert.preserves_Kernel6_Kernel6Ideal := trivial

theorem frame_kernel7 : Cert.quiescent_Kernel7 := fun m ρ _ => Cert.Kernel7.Gen.frame (F := Bits) m ρ

theorem frame_ideal7 : Cert.quiescent_Kernel7Ideal := fun m ρ _ => Cert.Kernel7Ideal.Gen.frame (F := Ideal) m ρ

theorem run_reference7 (m ρ) : θ_run (Cert.Reference7Ideal.defs (F := Ideal)) (onTc (τ := Cert.Reference7Ideal.τ) (Cert.Reference7Ideal.main (F := Ideal))) ⟨m, fun _ => 0, ρ⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0) :=
  (θ_run Cert.Reference7Ideal.defs _ _).mono (fun r h => ⟨fun c => (h c).2, sem_eq_zero_of_no_sems (by decide) r.2⟩)
    (Cert.Reference7Ideal.Value.run (F := Ideal) m ρ)

theorem frame_reference7 : Cert.quiescent_Reference7Ideal := fun m ρ _ => run_reference7 m ρ

theorem preserves7 : Cert.preserves_Kernel7_Kernel7Ideal := trivial

theorem algebraic2 : Cert.algebraic_Kernel2Ideal_Reference2Ideal_pre_finite2 := by
  intro m g m' g' hpre hag
  have hr := fun c => Cert.Pre_finite2.reals _ _ (hpre c)
  refine ⟨fun c => Cert.Kernel2Ideal.Fore.deriv (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), fun c => Cert.Kernel2Ideal.Fore.act (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), ?_, ?_⟩
  · refine (θ_run Cert.Kernel2Ideal.defs _ _).mono (fun r h c => ?_) (Cert.Kernel2Ideal.Value.run_blocks (F := Ideal) m g)
    exact ⟨(h c).1.trans (Cert.Kernel2Ideal.Fore.finalT m c), (h c).2.1.trans (Cert.Kernel2Ideal.Fore.finalH m c), (h c).2.2⟩
  · refine (θ_run Cert.Reference2Ideal.defs _ _).mono (fun r h c => ?_) (Cert.Reference2Ideal.Value.run (F := Ideal) m' g')
    refine ⟨(h c).1.trans ?_, (h c).2.1.trans ?_, (h c).2.2⟩
    · exact Cert.Kernel2Ideal.Fore.refT m' c _ _ (hag c).1 (hag c).2 (hr c).1 (hr c).2
    · rw [(hag c).1, (hag c).2]
      exact Cert.Kernel2Ideal.Fore.refH _ _

theorem algebraic3 : Cert.algebraic_Kernel3Ideal_Reference3Ideal := by
  intro m g m' g' _ hag
  refine ⟨fun c => Cert.Kernel3Ideal.Prod.prod (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · refine (θ_run Cert.Kernel3Ideal.defs _ _).mono (fun r h c => ?_) (Cert.Kernel3Ideal.Value.run_blocks (F := Ideal) m g)
    exact ⟨(h c).1.trans (Cert.Kernel3Ideal.Prod.final m c), (h c).2⟩
  · refine (θ_run Cert.Reference3Ideal.defs _ _).mono (fun r h c => ?_) (Cert.Reference3Ideal.Value.run (F := Ideal) m' g')
    refine ⟨(h c).1.trans ?_, (h c).2⟩
    rw [(hag c).1, (hag c).2]
    exact Cert.Kernel3Ideal.Prod.ref _ _

theorem algebraic4 : Cert.algebraic_Kernel4Ideal_Reference4Ideal := by
  intro m g m' g' _ hag
  refine ⟨fun c => Cert.Kernel4Ideal.Prod.prod (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · refine (θ_run Cert.Kernel4Ideal.defs _ _).mono (fun r h c => ?_) (Cert.Kernel4Ideal.Value.run_blocks (F := Ideal) m g)
    exact ⟨(h c).1.trans (Cert.Kernel4Ideal.Prod.final m c), (h c).2⟩
  · refine (θ_run Cert.Reference4Ideal.defs _ _).mono (fun r h c => ?_) (Cert.Reference4Ideal.Value.run (F := Ideal) m' g')
    refine ⟨(h c).1.trans ?_, (h c).2⟩
    rw [(hag c).1, (hag c).2]
    exact Cert.Kernel4Ideal.Prod.ref _ _

theorem algebraic5 : Cert.algebraic_Kernel5Ideal_Reference5Ideal_pre_finite5 := by
  intro m g m' g' hpre hag
  have hr := fun c => Cert.Pre_finite5.reals _ _ _ _ (hpre c)
  refine ⟨fun c => Cert.Kernel5Ideal.Back.back (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)), ?_, ?_⟩
  · refine (θ_run Cert.Kernel5Ideal.defs _ _).mono (fun r h c => ?_) (Cert.Kernel5Ideal.Value.run_blocks (F := Ideal) m g)
    exact ⟨(h c).1.trans (Cert.Kernel5Ideal.Back.final m c), (h c).2⟩
  · refine (θ_run Cert.Reference5Ideal.defs _ _).mono (fun r h c => ?_) (Cert.Reference5Ideal.Value.run (F := Ideal) m' g')
    refine ⟨(h c).1.trans ?_, (h c).2⟩
    exact Cert.Kernel5Ideal.Back.ref m' c _ _ _ _ (hag c).1 (hag c).2.1 (hag c).2.2.1 (hag c).2.2.2 (hr c).1 (hr c).2.1 (hr c).2.2.1 (hr c).2.2.2

theorem algebraic6 : Cert.algebraic_Kernel6Ideal_Reference6Ideal := by
  intro m g m' g' _ hag
  refine ⟨fun c => Cert.Kernel6Ideal.Norm.norm (Cert.Kernel6Ideal.Norm.resid (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)), fun c => Cert.Kernel6Ideal.Norm.norm16 (Cert.Kernel6Ideal.Norm.resid (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)), fun c => Cert.Kernel6Ideal.Norm.resid (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)), ?_, ?_⟩
  · refine (θ_run Cert.Kernel6Ideal.defs _ _).mono (fun r h c => ?_) (Cert.Kernel6Ideal.Value.run_blocks (F := Ideal) m g)
    exact ⟨(h c).1.trans (Cert.Kernel6Ideal.Norm.final5 m c), (h c).2.1.trans (Cert.Kernel6Ideal.Norm.final6 m c), (h c).2.2.1.trans (Cert.Kernel6Ideal.Norm.final7 m c), (h c).2.2.2⟩
  · refine (θ_run Cert.Reference6Ideal.defs _ _).mono (fun r h c => ?_) (Cert.Reference6Ideal.Value.run (F := Ideal) m' g')
    refine ⟨(h c).1.trans ?_, (h c).2.1.trans ?_, (h c).2.2.1.trans ?_, (h c).2.2.2⟩
    · rw [(hag c).1, (hag c).2.1, (hag c).2.2.1, (hag c).2.2.2.1, (hag c).2.2.2.2]
      exact Cert.Kernel6Ideal.Norm.ref_sum_norm _ _ _ _ _
    · rw [(hag c).1, (hag c).2.1, (hag c).2.2.1, (hag c).2.2.2.1, (hag c).2.2.2.2]
      exact Cert.Kernel6Ideal.Norm.ref_sum_norm16 _ _ _ _ _
    · rw [(hag c).1, (hag c).2.1, (hag c).2.2.1]
      exact Cert.Kernel6Ideal.Norm.residR_eq _ _ _

theorem algebraic7 : Cert.algebraic_Kernel7Ideal_Reference7Ideal := by
  intro m g m' g' _ hag
  refine ⟨fun c => Cert.Kernel7Ideal.Dx.grad (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)), ?_, ?_⟩
  · refine (θ_run Cert.Kernel7Ideal.defs _ _).mono (fun r h c => ?_) (Cert.Kernel7Ideal.Value.run_blocks (F := Ideal) m g)
    exact ⟨(h c).1.trans (Cert.Kernel7Ideal.Dx.final3 m c), (h c).2⟩
  · refine (θ_run Cert.Reference7Ideal.defs _ _).mono (fun r h c => ?_) (Cert.Reference7Ideal.Value.run (F := Ideal) m' g')
    refine ⟨(h c).1.trans ?_, (h c).2⟩
    rw [(hag c).1, (hag c).2.1, (hag c).2.2]
    exact Cert.Kernel7Ideal.Dx.gradR_eq _ _ _

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite.facts, Cert.Pre_finite2.facts, Cert.Pre_finite5.facts,
  frame_kernel, frame_ideal, frame_ideal_finite, frame_reference, frame_reference_finite,
  frame_kernel2, frame_ideal2, frame_ideal2_finite, frame_reference2, frame_reference2_finite,
  frame_kernel3, frame_ideal3, frame_reference3,
  frame_kernel4, frame_ideal4, frame_reference4,
  frame_kernel5, frame_ideal5, frame_ideal5_finite, frame_reference5, frame_reference5_finite,
  frame_kernel6, frame_ideal6, frame_reference6,
  frame_kernel7, frame_ideal7, frame_reference7,
  preserves, algebraic, preserves2, algebraic2, preserves3, algebraic3, preserves4, algebraic4, preserves5, algebraic5, preserves6, algebraic6, preserves7, algebraic7⟩

end Cert.Proof

end
